-- ==== Defs.lean ====
def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradIdeal_scales_finite [hPre_scales_finite : Cert.Pre_scales_finite.Facts] (m : (ℓ : Loc Cert.WgradIdeal.nD Cert.WgradIdeal.τ Cert.WgradIdeal.sig) → Buf (Elt Ideal) ℓ) : Prop :=
  ∀ c : Dev Cert.WgradIdeal.nD,
    (Cert.Pre_scales_finite.fn (F := Ideal) (m ((c.tc : Thread Cert.WgradIdeal.nD Cert.WgradIdeal.τ).loc Cert.WgradIdeal.main_arg0)) (m ((c.tc : Thread Cert.WgradIdeal.nD Cert.WgradIdeal.τ).loc Cert.WgradIdeal.main_arg1)) (m ((c.tc : Thread Cert.WgradIdeal.nD Cert.WgradIdeal.τ).loc Cert.WgradIdeal.main_arg2)) (m ((c.tc : Thread Cert.WgradIdeal.nD Cert.WgradIdeal.τ).loc Cert.WgradIdeal.main_arg3))) = (fun _ => 1#1)

def Pre_WgradRefIdeal (m : (ℓ : Loc Cert.WgradRefIdeal.nD Cert.WgradRefIdeal.τ Cert.WgradRefIdeal.sig) → Buf (Elt Ideal) ℓ) : Prop :=
  True

def Pre_WgradRefIdeal_scales_finite [hPre_scales_finite : Cert.Pre_scales_finite.Facts] (m : (ℓ : Loc Cert.WgradRefIdeal.nD Cert.WgradRefIdeal.τ Cert.WgradRefIdeal.sig) → Buf (Elt Ideal) ℓ) : Prop :=
  ∀ c : Dev Cert.WgradRefIdeal.nD,
    (Cert.Pre_scales_finite.fn (F := Ideal) (m ((c.tc : Thread Cert.WgradRefIdeal.nD Cert.WgradRefIdeal.τ).loc Cert.WgradRefIdeal.main_arg0)) (m ((c.tc : Thread Cert.WgradRefIdeal.nD Cert.WgradRefIdeal.τ).loc Cert.WgradRefIdeal.main_arg1)) (m ((c.tc : Thread Cert.WgradRefIdeal.nD Cert.WgradRefIdeal.τ).loc Cert.WgradRefIdeal.main_arg2)) (m ((c.tc : Thread Cert.WgradRefIdeal.nD Cert.WgradRefIdeal.τ).loc Cert.WgradRefIdeal.main_arg3))) = (fun _ => 1#1)

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesIdeal_scales_normal [hPre_scales_normal : Cert.Pre_scales_normal.Facts] (m : (ℓ : Loc Cert.CodesIdeal.nD Cert.CodesIdeal.τ Cert.CodesIdeal.sig) → Buf (Elt Ideal) ℓ) : Prop :=
  ∀ c : Dev Cert.CodesIdeal.nD,
    (Cert.Pre_scales_normal.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3))) = (fun _ => 1#1)

def Pre_CodesRefIdeal (m : (ℓ : Loc Cert.CodesRefIdeal.nD Cert.CodesRefIdeal.τ Cert.CodesRefIdeal.sig) → Buf (Elt Ideal) ℓ) : Prop :=
  True

def Pre_CodesRefIdeal_scales_normal [hPre_scales_normal : Cert.Pre_scales_normal.Facts] (m : (ℓ : Loc Cert.CodesRefIdeal.nD Cert.CodesRefIdeal.τ Cert.CodesRefIdeal.sig) → Buf (Elt Ideal) ℓ) : Prop :=
  ∀ c : Dev Cert.CodesRefIdeal.nD,
    (Cert.Pre_scales_normal.fn (F := Ideal) (m ((c.tc : Thread Cert.CodesRefIdeal.nD Cert.CodesRefIdeal.τ).loc Cert.CodesRefIdeal.main_arg0)) (m ((c.tc : Thread Cert.CodesRefIdeal.nD Cert.CodesRefIdeal.τ).loc Cert.CodesRefIdeal.main_arg1)) (m ((c.tc : Thread Cert.CodesRefIdeal.nD Cert.CodesRefIdeal.τ).loc Cert.CodesRefIdeal.main_arg2)) (m ((c.tc : Thread Cert.CodesRefIdeal.nD Cert.CodesRefIdeal.τ).loc Cert.CodesRefIdeal.main_arg3))) = (fun _ => 1#1)

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_x_in_range [hPre_x_in_range : Cert.Pre_x_in_range.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_x_in_range.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1))) = (fun _ => 1#1)

def Pre_QuantXRefIdeal (m : (ℓ : Loc Cert.QuantXRefIdeal.nD Cert.QuantXRefIdeal.τ Cert.QuantXRefIdeal.sig) → Buf (Elt Ideal) ℓ) : Prop :=
  True

def Pre_QuantXRefIdeal_x_in_range [hPre_x_in_range : Cert.Pre_x_in_range.Facts] (m : (ℓ : Loc Cert.QuantXRefIdeal.nD Cert.QuantXRefIdeal.τ Cert.QuantXRefIdeal.sig) → Buf (Elt Ideal) ℓ) : Prop :=
  ∀ c : Dev Cert.QuantXRefIdeal.nD,
    (Cert.Pre_x_in_range.fn (F := Ideal) (m ((c.tc : Thread Cert.QuantXRefIdeal.nD Cert.QuantXRefIdeal.τ).loc Cert.QuantXRefIdeal.main_arg0)) (m ((c.tc : Thread Cert.QuantXRefIdeal.nD Cert.QuantXRefIdeal.τ).loc Cert.QuantXRefIdeal.main_arg1))) = (fun _ => 1#1)

def Pre_QuantDy (m : (ℓ : Loc Cert.QuantDy.nD Cert.QuantDy.τ Cert.QuantDy.sig) → Buf (Elt Bits) ℓ) : Prop :=
  True

def Pre_QuantDyIdeal (m : (ℓ : Loc Cert.QuantDyIdeal.nD Cert.QuantDyIdeal.τ Cert.QuantDyIdeal.sig) → Buf (Elt Ideal) ℓ) : Prop :=
  True

def Pre_QuantDyIdeal_dy_in_range [hPre_dy_in_range : Cert.Pre_dy_in_range.Facts] (m : (ℓ : Loc Cert.QuantDyIdeal.nD Cert.QuantDyIdeal.τ Cert.QuantDyIdeal.sig) → Buf (Elt Ideal) ℓ) : Prop :=
  ∀ c : Dev Cert.QuantDyIdeal.nD,
    (Cert.Pre_dy_in_range.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2))) = (fun _ => 1#1)

def Pre_QuantDyRefIdeal (m : (ℓ : Loc Cert.QuantDyRefIdeal.nD Cert.QuantDyRefIdeal.τ Cert.QuantDyRefIdeal.sig) → Buf (Elt Ideal) ℓ) : Prop :=
  True

def Pre_QuantDyRefIdeal_dy_in_range [hPre_dy_in_range : Cert.Pre_dy_in_range.Facts] (m : (ℓ : Loc Cert.QuantDyRefIdeal.nD Cert.QuantDyRefIdeal.τ Cert.QuantDyRefIdeal.sig) → Buf (Elt Ideal) ℓ) : Prop :=
  ∀ c : Dev Cert.QuantDyRefIdeal.nD,
    (Cert.Pre_dy_in_range.fn (F := Ideal) (m ((c.tc : Thread Cert.QuantDyRefIdeal.nD Cert.QuantDyRefIdeal.τ).loc Cert.QuantDyRefIdeal.main_arg0)) (m ((c.tc : Thread Cert.QuantDyRefIdeal.nD Cert.QuantDyRefIdeal.τ).loc Cert.QuantDyRefIdeal.main_arg1)) (m ((c.tc : Thread Cert.QuantDyRefIdeal.nD Cert.QuantDyRefIdeal.τ).loc Cert.QuantDyRefIdeal.main_arg2))) = (fun _ => 1#1)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradIdeal_pre_scales_finite [hWgradIdeal : Cert.WgradIdeal.Facts] [hPre_scales_finite : Cert.Pre_scales_finite.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal_scales_finite m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3))
      ∧ r.2.sem = fun _ => 0)

def quiescent_WgradRefIdeal_pre_scales_finite [hWgradRefIdeal : Cert.WgradRefIdeal.Facts] [hPre_scales_finite : Cert.Pre_scales_finite.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal_scales_finite m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ r.2.sem = fun _ => 0)

def quiescent_CodesIdeal_pre_scales_normal [hCodesIdeal : Cert.CodesIdeal.Facts] [hPre_scales_normal : Cert.Pre_scales_normal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal_scales_normal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ r.2.sem = fun _ => 0)

def quiescent_CodesRefIdeal [hCodesRefIdeal : Cert.CodesRefIdeal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1)
      ∧ r.2.mem ((c.tc : Thread Cert.CodesRefIdeal.nD Cert.CodesRefIdeal.τ).loc Cert.CodesRefIdeal.main_arg2) = m ((c.tc : Thread Cert.CodesRefIdeal.nD Cert.CodesRefIdeal.τ).loc Cert.CodesRefIdeal.main_arg2)
      ∧ r.2.mem ((c.tc : Thread Cert.CodesRefIdeal.nD Cert.CodesRefIdeal.τ).loc Cert.CodesRefIdeal.main_arg3) = m ((c.tc : Thread Cert.CodesRefIdeal.nD Cert.CodesRefIdeal.τ).loc Cert.CodesRefIdeal.main_arg3))
      ∧ r.2.sem = fun _ => 0)

def quiescent_CodesRefIdeal_pre_scales_normal [hCodesRefIdeal : Cert.CodesRefIdeal.Facts] [hPre_scales_normal : Cert.Pre_scales_normal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal_scales_normal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0)
      ∧ r.2.mem ((c.tc : Thread Cert.CodesRefIdeal.nD Cert.CodesRefIdeal.τ).loc Cert.CodesRefIdeal.main_arg1) = m ((c.tc : Thread Cert.CodesRefIdeal.nD Cert.CodesRefIdeal.τ).loc Cert.CodesRefIdeal.main_arg1)
      ∧ r.2.mem ((c.tc : Thread Cert.CodesRefIdeal.nD Cert.CodesRefIdeal.τ).loc Cert.CodesRefIdeal.main_arg2) = m ((c.tc : Thread Cert.CodesRefIdeal.nD Cert.CodesRefIdeal.τ).loc Cert.CodesRefIdeal.main_arg2)
      ∧ r.2.mem ((c.tc : Thread Cert.CodesRefIdeal.nD Cert.CodesRefIdeal.τ).loc Cert.CodesRefIdeal.main_arg3) = m ((c.tc : Thread Cert.CodesRefIdeal.nD Cert.CodesRefIdeal.τ).loc Cert.CodesRefIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantXIdeal_pre_x_in_range [hQuantXIdeal : Cert.QuantXIdeal.Facts] [hPre_x_in_range : Cert.Pre_x_in_range.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_x_in_range m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0)
      ∧ r.2.mem ((c.tc : Thread Cert.QuantXRefIdeal.nD Cert.QuantXRefIdeal.τ).loc Cert.QuantXRefIdeal.main_arg1) = m ((c.tc : Thread Cert.QuantXRefIdeal.nD Cert.QuantXRefIdeal.τ).loc Cert.QuantXRefIdeal.main_arg1))
      ∧ r.2.sem = fun _ => 0)

def quiescent_QuantXRefIdeal_pre_x_in_range [hQuantXRefIdeal : Cert.QuantXRefIdeal.Facts] [hPre_x_in_range : Cert.Pre_x_in_range.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal_x_in_range m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0)
      ∧ r.2.mem ((c.tc : Thread Cert.QuantXRefIdeal.nD Cert.QuantXRefIdeal.τ).loc Cert.QuantXRefIdeal.main_arg1) = m ((c.tc : Thread Cert.QuantXRefIdeal.nD Cert.QuantXRefIdeal.τ).loc Cert.QuantXRefIdeal.main_arg1))
      ∧ r.2.sem = fun _ => 0)

def quiescent_QuantDy [hQuantDy : Cert.QuantDy.Facts] : Prop :=
  ∀ (m : (ℓ : Loc Cert.QuantDy.nD Cert.QuantDy.τ Cert.QuantDy.sig) → Buf (Elt Bits) ℓ) (g : Dev Cert.QuantDy.nD → PrngReg), Pre_QuantDy m →
    θ_run (Cert.QuantDy.defs (F := Bits)) (onTc (τ := Cert.QuantDy.τ) (Cert.QuantDy.main (F := Bits))) ⟨m, fun _ => 0, g⟩ (fun r => (∀ c : Dev Cert.QuantDy.nD,
      r.2.mem ((c.tc : Thread Cert.QuantDy.nD Cert.QuantDy.τ).loc Cert.QuantDy.main_arg0) = m ((c.tc : Thread Cert.QuantDy.nD Cert.QuantDy.τ).loc Cert.QuantDy.main_arg0)
      ∧ r.2.mem ((c.tc : Thread Cert.QuantDy.nD Cert.QuantDy.τ).loc Cert.QuantDy.main_arg1) = m ((c.tc : Thread Cert.QuantDy.nD Cert.QuantDy.τ).loc Cert.QuantDy.main_arg1)
      ∧ r.2.mem ((c.tc : Thread Cert.QuantDy.nD Cert.QuantDy.τ).loc Cert.QuantDy.main_arg2) = m ((c.tc : Thread Cert.QuantDy.nD Cert.QuantDy.τ).loc Cert.QuantDy.main_arg2))
      ∧ r.2.sem = fun _ => 0)

def quiescent_QuantDyIdeal [hQuantDyIdeal : Cert.QuantDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2))
      ∧ r.2.sem = fun _ => 0)

def quiescent_QuantDyIdeal_pre_dy_in_range [hQuantDyIdeal : Cert.QuantDyIdeal.Facts] [hPre_dy_in_range : Cert.Pre_dy_in_range.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal_dy_in_range m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2))
      ∧ r.2.sem = fun _ => 0)

def quiescent_QuantDyRefIdeal [hQuantDyRefIdeal : Cert.QuantDyRefIdeal.Facts] : Prop :=
  ∀ (m : (ℓ : Loc Cert.QuantDyRefIdeal.nD Cert.QuantDyRefIdeal.τ Cert.QuantDyRefIdeal.sig) → Buf (Elt Ideal) ℓ) (g : Dev Cert.QuantDyRefIdeal.nD → PrngReg), Pre_QuantDyRefIdeal m →
    θ_run (Cert.QuantDyRefIdeal.defs (F := Ideal)) (onTc (τ := Cert.QuantDyRefIdeal.τ) (Cert.QuantDyRefIdeal.main (F := Ideal))) ⟨m, fun _ => 0, g⟩ (fun r => (∀ c : Dev Cert.QuantDyRefIdeal.nD,
      r.2.mem ((c.tc : Thread Cert.QuantDyRefIdeal.nD Cert.QuantDyRefIdeal.τ).loc Cert.QuantDyRefIdeal.main_arg0) = m ((c.tc : Thread Cert.QuantDyRefIdeal.nD Cert.QuantDyRefIdeal.τ).loc Cert.QuantDyRefIdeal.main_arg0)
      ∧ r.2.mem ((c.tc : Thread Cert.QuantDyRefIdeal.nD Cert.QuantDyRefIdeal.τ).loc Cert.QuantDyRefIdeal.main_arg1) = m ((c.tc : Thread Cert.QuantDyRefIdeal.nD Cert.QuantDyRefIdeal.τ).loc Cert.QuantDyRefIdeal.main_arg1)
      ∧ r.2.mem ((c.tc : Thread Cert.QuantDyRefIdeal.nD Cert.QuantDyRefIdeal.τ).loc Cert.QuantDyRefIdeal.main_arg2) = m ((c.tc : Thread Cert.QuantDyRefIdeal.nD Cert.QuantDyRefIdeal.τ).loc Cert.QuantDyRefIdeal.main_arg2))
      ∧ r.2.sem = fun _ => 0)

def quiescent_QuantDyRefIdeal_pre_dy_in_range [hQuantDyRefIdeal : Cert.QuantDyRefIdeal.Facts] [hPre_dy_in_range : Cert.Pre_dy_in_range.Facts] : Prop :=
  ∀ (m : (ℓ : Loc Cert.QuantDyRefIdeal.nD Cert.QuantDyRefIdeal.τ Cert.QuantDyRefIdeal.sig) → Buf (Elt Ideal) ℓ) (g : Dev Cert.QuantDyRefIdeal.nD → PrngReg), Pre_QuantDyRefIdeal_dy_in_range m →
    θ_run (Cert.QuantDyRefIdeal.defs (F := Ideal)) (onTc (τ := Cert.QuantDyRefIdeal.τ) (Cert.QuantDyRefIdeal.main (F := Ideal))) ⟨m, fun _ => 0, g⟩ (fun r => (∀ c : Dev Cert.QuantDyRefIdeal.nD,
      r.2.mem ((c.tc : Thread Cert.QuantDyRefIdeal.nD Cert.QuantDyRefIdeal.τ).loc Cert.QuantDyRefIdeal.main_arg0) = m ((c.tc : Thread Cert.QuantDyRefIdeal.nD Cert.QuantDyRefIdeal.τ).loc Cert.QuantDyRefIdeal.main_arg0)
      ∧ r.2.mem ((c.tc : Thread Cert.QuantDyRefIdeal.nD Cert.QuantDyRefIdeal.τ).loc Cert.QuantDyRefIdeal.main_arg1) = m ((c.tc : Thread Cert.QuantDyRefIdeal.nD Cert.QuantDyRefIdeal.τ).loc Cert.QuantDyRefIdeal.main_arg1)
      ∧ r.2.mem ((c.tc : Thread Cert.QuantDyRefIdeal.nD Cert.QuantDyRefIdeal.τ).loc Cert.QuantDyRefIdeal.main_arg2) = m ((c.tc : Thread Cert.QuantDyRefIdeal.nD Cert.QuantDyRefIdeal.τ).loc Cert.QuantDyRefIdeal.main_arg2))
      ∧ r.2.sem = fun _ => 0)

def preserves_Wgrad_WgradIdeal : Prop :=
  True

def algebraic_WgradIdeal_WgradRefIdeal_pre_scales_finite [hWgradIdeal : Cert.WgradIdeal.Facts] [hWgradRefIdeal : Cert.WgradRefIdeal.Facts] [hPre_scales_finite : Cert.Pre_scales_finite.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal_scales_finite m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v0) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3))

def preserves_Codes_CodesIdeal : Prop :=
  True

def algebraic_CodesIdeal_CodesRefIdeal_pre_scales_normal [hCodesIdeal : Cert.CodesIdeal.Facts] [hCodesRefIdeal : Cert.CodesRefIdeal.Facts] [hPre_scales_normal : Cert.Pre_scales_normal.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal_scales_normal m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)
      ∧ m' ((c.tc : Thread Cert.CodesRefIdeal.nD Cert.CodesRefIdeal.τ).loc Cert.CodesRefIdeal.main_arg1) = m ((c.tc : Thread Cert.CodesIdeal.nD Cert.CodesIdeal.τ).loc Cert.CodesIdeal.main_arg1)
      ∧ m' ((c.tc : Thread Cert.CodesRefIdeal.nD Cert.CodesRefIdeal.τ).loc Cert.CodesRefIdeal.main_arg2) = m ((c.tc : Thread Cert.CodesIdeal.nD Cert.CodesIdeal.τ).loc Cert.CodesIdeal.main_arg2)
      ∧ m' ((c.tc : Thread Cert.CodesRefIdeal.nD Cert.CodesRefIdeal.τ).loc Cert.CodesRefIdeal.main_arg3) = m ((c.tc : Thread Cert.CodesIdeal.nD Cert.CodesIdeal.τ).loc Cert.CodesIdeal.main_arg3)) →
    ∃ (v0 : (c : Dev Cert.CodesIdeal.nD) → Buf (Elt Ideal) ((c.tc : Thread Cert.CodesIdeal.nD Cert.CodesIdeal.τ).loc Cert.CodesIdeal.main_v9)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v9) = v0 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v146) = v0 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0)
          ∧ r.2.mem ((c.tc : Thread Cert.CodesRefIdeal.nD Cert.CodesRefIdeal.τ).loc Cert.CodesRefIdeal.main_arg1) = m' ((c.tc : Thread Cert.CodesRefIdeal.nD Cert.CodesRefIdeal.τ).loc Cert.CodesRefIdeal.main_arg1)
          ∧ r.2.mem ((c.tc : Thread Cert.CodesRefIdeal.nD Cert.CodesRefIdeal.τ).loc Cert.CodesRefIdeal.main_arg2) = m' ((c.tc : Thread Cert.CodesRefIdeal.nD Cert.CodesRefIdeal.τ).loc Cert.CodesRefIdeal.main_arg2)
          ∧ r.2.mem ((c.tc : Thread Cert.CodesRefIdeal.nD Cert.CodesRefIdeal.τ).loc Cert.CodesRefIdeal.main_arg3) = m' ((c.tc : Thread Cert.CodesRefIdeal.nD Cert.CodesRefIdeal.τ).loc Cert.CodesRefIdeal.main_arg3))

def preserves_QuantX_QuantXIdeal : Prop :=
  True

def algebraic_QuantXIdeal_QuantXRefIdeal_pre_x_in_range [hQuantXIdeal : Cert.QuantXIdeal.Facts] [hQuantXRefIdeal : Cert.QuantXRefIdeal.Facts] [hPre_x_in_range : Cert.Pre_x_in_range.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal_x_in_range m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)
      ∧ m' ((c.tc : Thread Cert.QuantXRefIdeal.nD Cert.QuantXRefIdeal.τ).loc Cert.QuantXRefIdeal.main_arg1) = m ((c.tc : Thread Cert.QuantXIdeal.nD Cert.QuantXIdeal.τ).loc Cert.QuantXIdeal.main_arg1)) →
    ∃ (v0 : (c : Dev Cert.QuantXIdeal.nD) → Buf (Elt Ideal) ((c.tc : Thread Cert.QuantXIdeal.nD Cert.QuantXIdeal.τ).loc Cert.QuantXIdeal.main_v26_0)) (v1 : (c : Dev Cert.QuantXIdeal.nD) → Buf (Elt Ideal) ((c.tc : Thread Cert.QuantXIdeal.nD Cert.QuantXIdeal.τ).loc Cert.QuantXIdeal.main_v26_1)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v26_0) = v0 c
          ∧ r.2.mem ((c.tc : Thread Cert.QuantXIdeal.nD Cert.QuantXIdeal.τ).loc Cert.QuantXIdeal.main_v26_1) = v1 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v92) = v0 c
          ∧ r.2.mem ((c.tc : Thread Cert.QuantXRefIdeal.nD Cert.QuantXRefIdeal.τ).loc Cert.QuantXRefIdeal.main_v96) = v1 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0)
          ∧ r.2.mem ((c.tc : Thread Cert.QuantXRefIdeal.nD Cert.QuantXRefIdeal.τ).loc Cert.QuantXRefIdeal.main_arg1) = m' ((c.tc : Thread Cert.QuantXRefIdeal.nD Cert.QuantXRefIdeal.τ).loc Cert.QuantXRefIdeal.main_arg1))

def preserves_QuantDy_QuantDyIdeal : Prop :=
  True

def algebraic_QuantDyIdeal_QuantDyRefIdeal_pre_dy_in_range [hQuantDyIdeal : Cert.QuantDyIdeal.Facts] [hQuantDyRefIdeal : Cert.QuantDyRefIdeal.Facts] [hPre_dy_in_range : Cert.Pre_dy_in_range.Facts] : Prop :=
  ∀ (m : (ℓ : Loc Cert.QuantDyIdeal.nD Cert.QuantDyIdeal.τ Cert.QuantDyIdeal.sig) → Buf (Elt Ideal) ℓ) (g : Dev Cert.QuantDyIdeal.nD → PrngReg)
    (m' : (ℓ : Loc Cert.QuantDyRefIdeal.nD Cert.QuantDyRefIdeal.τ Cert.QuantDyRefIdeal.sig) → Buf (Elt Ideal) ℓ) (g' : Dev Cert.QuantDyRefIdeal.nD → PrngReg), Pre_QuantDyIdeal_dy_in_range m →
    (∀ c : Dev Cert.QuantDyIdeal.nD,
      m' ((c.tc : Thread Cert.QuantDyRefIdeal.nD Cert.QuantDyRefIdeal.τ).loc Cert.QuantDyRefIdeal.main_arg0) = m ((c.tc : Thread Cert.QuantDyIdeal.nD Cert.QuantDyIdeal.τ).loc Cert.QuantDyIdeal.main_arg0)
      ∧ m' ((c.tc : Thread Cert.QuantDyRefIdeal.nD Cert.QuantDyRefIdeal.τ).loc Cert.QuantDyRefIdeal.main_arg1) = m ((c.tc : Thread Cert.QuantDyIdeal.nD Cert.QuantDyIdeal.τ).loc Cert.QuantDyIdeal.main_arg1)
      ∧ m' ((c.tc : Thread Cert.QuantDyRefIdeal.nD Cert.QuantDyRefIdeal.τ).loc Cert.QuantDyRefIdeal.main_arg2) = m ((c.tc : Thread Cert.QuantDyIdeal.nD Cert.QuantDyIdeal.τ).loc Cert.QuantDyIdeal.main_arg2)) →
    ∃ (v0 : (c : Dev Cert.QuantDyIdeal.nD) → Buf (Elt Ideal) ((c.tc : Thread Cert.QuantDyIdeal.nD Cert.QuantDyIdeal.τ).loc Cert.QuantDyIdeal.main_v27_0)) (v1 : (c : Dev Cert.QuantDyIdeal.nD) → Buf (Elt Ideal) ((c.tc : Thread Cert.QuantDyIdeal.nD Cert.QuantDyIdeal.τ).loc Cert.QuantDyIdeal.main_v27_1)),
      θ_run (Cert.QuantDyIdeal.defs (F := Ideal)) (onTc (τ := Cert.QuantDyIdeal.τ) (Cert.QuantDyIdeal.main (F := Ideal))) ⟨m, fun _ => 0, g⟩ (fun r => ∀ c : Dev Cert.QuantDyIdeal.nD,
          r.2.mem ((c.tc : Thread Cert.QuantDyIdeal.nD Cert.QuantDyIdeal.τ).loc Cert.QuantDyIdeal.main_v27_0) = v0 c
          ∧ r.2.mem ((c.tc : Thread Cert.QuantDyIdeal.nD Cert.QuantDyIdeal.τ).loc Cert.QuantDyIdeal.main_v27_1) = v1 c
          ∧ r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
          ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
          ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2))
      ∧ θ_run (Cert.QuantDyRefIdeal.defs (F := Ideal)) (onTc (τ := Cert.QuantDyRefIdeal.τ) (Cert.QuantDyRefIdeal.main (F := Ideal))) ⟨m', fun _ => 0, g'⟩ (fun r => ∀ c : Dev Cert.QuantDyRefIdeal.nD,
          r.2.mem ((c.tc : Thread Cert.QuantDyRefIdeal.nD Cert.QuantDyRefIdeal.τ).loc Cert.QuantDyRefIdeal.main_v156) = v0 c
          ∧ r.2.mem ((c.tc : Thread Cert.QuantDyRefIdeal.nD Cert.QuantDyRefIdeal.τ).loc Cert.QuantDyRefIdeal.main_v160) = v1 c
          ∧ r.2.mem ((c.tc : Thread Cert.QuantDyRefIdeal.nD Cert.QuantDyRefIdeal.τ).loc Cert.QuantDyRefIdeal.main_arg0) = m' ((c.tc : Thread Cert.QuantDyRefIdeal.nD Cert.QuantDyRefIdeal.τ).loc Cert.QuantDyRefIdeal.main_arg0)
          ∧ r.2.mem ((c.tc : Thread Cert.QuantDyRefIdeal.nD Cert.QuantDyRefIdeal.τ).loc Cert.QuantDyRefIdeal.main_arg1) = m' ((c.tc : Thread Cert.QuantDyRefIdeal.nD Cert.QuantDyRefIdeal.τ).loc Cert.QuantDyRefIdeal.main_arg1)
          ∧ r.2.mem ((c.tc : Thread Cert.QuantDyRefIdeal.nD Cert.QuantDyRefIdeal.τ).loc Cert.QuantDyRefIdeal.main_arg2) = m' ((c.tc : Thread Cert.QuantDyRefIdeal.nD Cert.QuantDyRefIdeal.τ).loc Cert.QuantDyRefIdeal.main_arg2))

def Claim : Prop :=
  ∃ (hWgrad : Cert.Wgrad.Facts) (hWgradIdeal : Cert.WgradIdeal.Facts) (hWgradRefIdeal : Cert.WgradRefIdeal.Facts) (hCodes : Cert.Codes.Facts) (hCodesIdeal : Cert.CodesIdeal.Facts) (hCodesRefIdeal : Cert.CodesRefIdeal.Facts) (hQuantX : Cert.QuantX.Facts) (hQuantXIdeal : Cert.QuantXIdeal.Facts) (hQuantXRefIdeal : Cert.QuantXRefIdeal.Facts) (hQuantDy : Cert.QuantDy.Facts) (hQuantDyIdeal : Cert.QuantDyIdeal.Facts) (hQuantDyRefIdeal : Cert.QuantDyRefIdeal.Facts) (hPre_scales_finite : Cert.Pre_scales_finite.Facts) (hPre_scales_normal : Cert.Pre_scales_normal.Facts) (hPre_x_in_range : Cert.Pre_x_in_range.Facts) (hPre_dy_in_range : Cert.Pre_dy_in_range.Facts),
    quiescent_Wgrad (hWgrad := hWgrad)
    ∧ quiescent_WgradIdeal (hWgradIdeal := hWgradIdeal)
    ∧ quiescent_WgradIdeal_pre_scales_finite (hWgradIdeal := hWgradIdeal) (hPre_scales_finite := hPre_scales_finite)
    ∧ quiescent_WgradRefIdeal (hWgradRefIdeal := hWgradRefIdeal)
    ∧ quiescent_WgradRefIdeal_pre_scales_finite (hWgradRefIdeal := hWgradRefIdeal) (hPre_scales_finite := hPre_scales_finite)
    ∧ quiescent_Codes (hCodes := hCodes)
    ∧ quiescent_CodesIdeal (hCodesIdeal := hCodesIdeal)
    ∧ quiescent_CodesIdeal_pre_scales_normal (hCodesIdeal := hCodesIdeal) (hPre_scales_normal := hPre_scales_normal)
    ∧ quiescent_CodesRefIdeal (hCodesRefIdeal := hCodesRefIdeal)
    ∧ quiescent_CodesRefIdeal_pre_scales_normal (hCodesRefIdeal := hCodesRefIdeal) (hPre_scales_normal := hPre_scales_normal)
    ∧ quiescent_QuantX (hQuantX := hQuantX)
    ∧ quiescent_QuantXIdeal (hQuantXIdeal := hQuantXIdeal)
    ∧ quiescent_QuantXIdeal_pre_x_in_range (hQuantXIdeal := hQuantXIdeal) (hPre_x_in_range := hPre_x_in_range)
    ∧ quiescent_QuantXRefIdeal (hQuantXRefIdeal := hQuantXRefIdeal)
    ∧ quiescent_QuantXRefIdeal_pre_x_in_range (hQuantXRefIdeal := hQuantXRefIdeal) (hPre_x_in_range := hPre_x_in_range)
    ∧ quiescent_QuantDy (hQuantDy := hQuantDy)
    ∧ quiescent_QuantDyIdeal (hQuantDyIdeal := hQuantDyIdeal)
    ∧ quiescent_QuantDyIdeal_pre_dy_in_range (hQuantDyIdeal := hQuantDyIdeal) (hPre_dy_in_range := hPre_dy_in_range)
    ∧ quiescent_QuantDyRefIdeal (hQuantDyRefIdeal := hQuantDyRefIdeal)
    ∧ quiescent_QuantDyRefIdeal_pre_dy_in_range (hQuantDyRefIdeal := hQuantDyRefIdeal) (hPre_dy_in_range := hPre_dy_in_range)
    ∧ preserves_Wgrad_WgradIdeal
    ∧ algebraic_WgradIdeal_WgradRefIdeal_pre_scales_finite (hWgradIdeal := hWgradIdeal) (hWgradRefIdeal := hWgradRefIdeal) (hPre_scales_finite := hPre_scales_finite)
    ∧ preserves_Codes_CodesIdeal
    ∧ algebraic_CodesIdeal_CodesRefIdeal_pre_scales_normal (hCodesIdeal := hCodesIdeal) (hCodesRefIdeal := hCodesRefIdeal) (hPre_scales_normal := hPre_scales_normal)
    ∧ preserves_QuantX_QuantXIdeal
    ∧ algebraic_QuantXIdeal_QuantXRefIdeal_pre_x_in_range (hQuantXIdeal := hQuantXIdeal) (hQuantXRefIdeal := hQuantXRefIdeal) (hPre_x_in_range := hPre_x_in_range)
    ∧ preserves_QuantDy_QuantDyIdeal
    ∧ algebraic_QuantDyIdeal_QuantDyRefIdeal_pre_dy_in_range (hQuantDyIdeal := hQuantDyIdeal) (hQuantDyRefIdeal := hQuantDyRefIdeal) (hPre_dy_in_range := hPre_dy_in_range)
-- ==== Pre_dy_in_range.lean ====
abbrev S8x6144x5632 : Shape := ⟨3, ![8, 6144, 5632]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1536x32x5632 : Shape := ⟨3, ![1536, 32, 5632]⟩
abbrev S1536x5632x32 : Shape := ⟨3, ![1536, 5632, 32]⟩
abbrev S1536x5632 : Shape := ⟨2, ![1536, 5632]⟩

class Facts : Prop where
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bitsLt_bf16_f32 : FTy.bits .bf16 < FTy.bits .f32
  shapeCasts_S8x6144x5632_S1536x32x5632 : S8x6144x5632.ShapeCasts S1536x32x5632
  transposes_S1536x5632x32_S1536x32x5632_0_2_1 : S1536x5632x32.Transposes [0, 2, 1] S1536x32x5632
  reducesTo_S1536x32x5632_S1536x5632_d1 : S1536x32x5632.ReducesTo [1] S1536x5632
  h_S_ : 0 < S_.numel
  bcast_S_S1536x5632 : S_.BroadcastsInDim S1536x5632 (![] : Fin 0 → Fin S1536x5632.rank)
  reducesTo_S1536x5632_S_d0_1 : S1536x5632.ReducesTo [0, 1] S_
  dot_S1536x32x5632_S32x32_S1536x5632x32_1_1_02_0_n_n_wf : DotDims.WF S1536x32x5632 S32x32 S1536x5632x32 [1] [1] [0, 2] [0] [] []

variable [Facts]

def dot_S1536x32x5632_S32x32_S1536x5632x32_1_1_02_0_n_n : DotDims S1536x32x5632 S32x32 S1536x5632x32 where
  lhsContracting := [1]
  rhsContracting := [1]
  lhsNonContracting := [0, 2]
  rhsNonContracting := [0]
  lhsBatch := []
  rhsBatch := []
  wf := dot_S1536x32x5632_S32x32_S1536x5632x32_1_1_02_0_n_n_wf
def fn_where {F : FTy → Type} [FloatOps F] (arg0 : IVec S32x32 1) (arg1 : FVec F S_ .f32) (arg2 : FVec F S_ .f32) : FVec F S32x32 .f32 :=
  let v0 : FVec F S32x32 .f32 := broadcastInDim S32x32 ![] bcast_S_S32x32 arg1
  let v1 : FVec F S32x32 .f32 := broadcastInDim S32x32 ![] bcast_S_S32x32 arg2
  let v2 : FVec F S32x32 .f32 := select arg0 v0 v1
  v2

def fn_part1 {F : FTy → Type} [FloatOps F] (main_v16 : FVec F S32x32 .f32) (main_v18 : FVec F S1536x32x5632 .f32) : IVec S_ 1 :=
  let main_v19 : FVec F S1536x5632x32 .f32 := (fun l r => Host.dotGeneral dot_S1536x32x5632_S32x32_S1536x5632x32_1_1_02_0_n_n (some .fp32) l r) main_v18 main_v16
  let main_v20 : FVec F S1536x32x5632 .f32 := (transpose S1536x32x5632 [0, 2, 1] · transposes_S1536x5632x32_S1536x32x5632_0_2_1) main_v19
  let main_v21 : FVec F S1536x32x5632 .f32 := Host.absf main_v20
  let main_cst_3 : FVec F S_ .f32 := constant S_ .f32 0xFF800000#32
  let main_v22 : FVec F S1536x5632 .f32 := (fun x v => Host.reduce FloatOps.maximumf x v reducesTo_S1536x32x5632_S1536x5632_d1 h_S_) main_v21 main_cst_3
  let main_cst_4 : FVec F S_ .f32 := constant S_ .f32 0x3E2AAAAB#32
  let main_v23 : FVec F S1536x5632 .f32 := broadcastInDim S1536x5632 ![] bcast_S_S1536x5632 main_cst_4
  let main_v24 : FVec F S1536x5632 .f32 := mulf main_v22 main_v23
  let main_cst_5 : FVec F S_ .f32 := constant S_ .f32 0x00000000#32
  let main_v25 : FVec F S1536x5632 .f32 := broadcastInDim S1536x5632 ![] bcast_S_S1536x5632 main_cst_5
  let main_v26 : IVec S1536x5632 1 := cmpf .oeq main_v24 main_v25
  let main_cst_6 : FVec F S_ .f32 := constant S_ .f32 0x00800000#32
  let main_v27 : FVec F S1536x5632 .f32 := broadcastInDim S1536x5632 ![] bcast_S_S1536x5632 main_cst_6
  let main_v28 : IVec S1536x5632 1 := cmpf .oge main_v24 main_v27
  let main_cst_7 : FVec F S_ .f32 := constant S_ .f32 0x7E800000#32
  let main_v29 : FVec F S1536x5632 .f32 := broadcastInDim S1536x5632 ![] bcast_S_S1536x5632 main_cst_7
  let main_v30 : IVec S1536x5632 1 := cmpf .olt main_v24 main_v29
  let main_v31 : IVec S1536x5632 1 := andi main_v28 main_v30
  let main_v32 : IVec S1536x5632 1 := ori main_v26 main_v31
  let main_c_8 : IVec S_ 1 := constantI S_ 1 1#1
  let main_v33 : IVec S_ 1 := (fun x v => Host.reduce IntOp.andi x v reducesTo_S1536x5632_S_d0_1 h_S_) main_v32 main_c_8
  main_v33

def fn {F : FTy → Type} [FloatOps F] (main_arg0 : FVec F S8x6144x5632 .bf16) (main_arg1 : FVec F S32 .f32) (main_arg2 : IVec S8x6144x5632 8) : IVec S_ 1 :=
  let main_v0 : IVec S32 32 := iotaInDim S32 32 0
  let main_v1 : IVec S32x1 32 := broadcastInDim S32x1 ![0] bcast_S32_S32x1_0 main_v0
  let main_v2 : IVec S1x32 32 := broadcastInDim S1x32 ![1] bcast_S32_S1x32_1 main_v0
  let main_v3 : IVec S32x32 32 := broadcastInDim S32x32 ![0, 1] bcast_S32x1_S32x32_0_1 main_v1
  let main_v4 : IVec S32x32 32 := broadcastInDim S32x32 ![0, 1] bcast_S1x32_S32x32_0_1 main_v2
  let main_v5 : IVec S32x32 32 := andi main_v3 main_v4
  let main_v6 : IVec S32x32 32 := ctpop main_v5
  let main_c : IVec S_ 32 := constantI S_ 32 1#32
  let main_v7 : IVec S32x32 32 := broadcastInDim S32x32 ![] bcast_S_S32x32 main_c
  let main_v8 : IVec S32x32 32 := andi main_v6 main_v7
  let main_c_0 : IVec S_ 32 := constantI S_ 32 0#32
  let main_v9 : IVec S32x32 32 := broadcastInDim S32x32 ![] bcast_S_S32x32 main_c_0
  let main_v10 : IVec S32x32 1 := cmpi .eq main_v8 main_v9
  let main_cst : FVec F S_ .f32 := constant S_ .f32 0x3F800000#32
  let main_cst_1 : FVec F S_ .f32 := constant S_ .f32 0xBF800000#32
  let main_v11 : FVec F S32x32 .f32 := fn_where (F := F) main_v10 main_cst main_cst_1
  let main_v12 : FVec F S1x32 .f32 := broadcastInDim S1x32 ![1] bcast_S32_S1x32_1 main_arg1
  let main_v13 : FVec F S32x32 .f32 := broadcastInDim S32x32 ![0, 1] bcast_S1x32_S32x32_0_1 main_v12
  let main_v14 : FVec F S32x32 .f32 := mulf main_v11 main_v13
  let main_cst_2 : FVec F S_ .f32 := constant S_ .f32 0x3E3504F3#32
  let main_v15 : FVec F S32x32 .f32 := broadcastInDim S32x32 ![] bcast_S_S32x32 main_cst_2
  let main_v16 : FVec F S32x32 .f32 := mulf main_v14 main_v15
  let main_v17 : FVec F S8x6144x5632 .f32 := (extf .f32 · bitsLt_bf16_f32) main_arg0
  let main_v18 : FVec F S1536x32x5632 .f32 := shapeCast S1536x32x5632 main_v17 shapeCasts_S8x6144x5632_S1536x32x5632
  fn_part1 (F := F) main_v16 main_v18
-- ==== Pre_scales_finite.lean ====
abbrev S49152x5632 : Shape := ⟨2, ![49152, 5632]⟩
abbrev S49152x2048 : Shape := ⟨2, ![49152, 2048]⟩
abbrev S5632x1 : Shape := ⟨2, ![5632, 1]⟩
abbrev S1x2048 : Shape := ⟨2, ![1, 2048]⟩
abbrev S_ : Shape := ⟨0, ![]⟩

class Facts : Prop where
  bcast_S_S5632x1 : S_.BroadcastsInDim S5632x1 (![] : Fin 0 → Fin S5632x1.rank)
  reducesTo_S5632x1_S_d0_1 : S5632x1.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S49152x5632 .fp8e5m2) (main_arg1 : FVec F S49152x2048 .fp8e5m2) (main_arg2 : FVec F S5632x1 .f32) (main_arg3 : FVec F S1x2048 .f32) : IVec S_ 1 :=
  let main_cst : FVec F S_ .f32 := constant S_ .f32 0x00000000#32
  let main_v0 : FVec F S5632x1 .f32 := broadcastInDim S5632x1 ![] bcast_S_S5632x1 main_cst
  let main_v1 : IVec S5632x1 1 := cmpf .oge main_arg2 main_v0
  let main_c : IVec S_ 1 := constantI S_ 1 1#1
  let main_v2 : IVec S_ 1 := (fun x v => Host.reduce IntOp.andi x v reducesTo_S5632x1_S_d0_1 h_S_) main_v1 main_c
  let main_cst_0 : FVec F S_ .f32 := constant S_ .f32 0x7F800000#32
  let main_v3 : FVec F S5632x1 .f32 := broadcastInDim S5632x1 ![] bcast_S_S5632x1 main_cst_0
  let main_v4 : IVec S5632x1 1 := cmpf .olt main_arg2 main_v3
  let main_c_1 : IVec S_ 1 := constantI S_ 1 1#1
  let main_v5 : IVec S_ 1 := (fun x v => Host.reduce IntOp.andi x v reducesTo_S5632x1_S_d0_1 h_S_) main_v4 main_c_1
  let main_v6 : IVec S_ 1 := andi main_v2 main_v5
  let main_cst_2 : FVec F S_ .f32 := constant S_ .f32 0x00000000#32
  let main_v7 : FVec F S1x2048 .f32 := broadcastInDim S1x2048 ![] bcast_S_S1x2048 main_cst_2
  let main_v8 : IVec S1x2048 1 := cmpf .oge main_arg3 main_v7
  let main_c_3 : IVec S_ 1 := constantI S_ 1 1#1
  let main_v9 : IVec S_ 1 := (fun x v => Host.reduce IntOp.andi x v reducesTo_S1x2048_S_d0_1 h_S_) main_v8 main_c_3
  let main_v10 : IVec S_ 1 := andi main_v6 main_v9
  let main_cst_4 : FVec F S_ .f32 := constant S_ .f32 0x7F800000#32
  let main_v11 : FVec F S1x2048 .f32 := broadcastInDim S1x2048 ![] bcast_S_S1x2048 main_cst_4
  let main_v12 : IVec S1x2048 1 := cmpf .olt main_arg3 main_v11
  let main_c_5 : IVec S_ 1 := constantI S_ 1 1#1
  let main_v13 : IVec S_ 1 := (fun x v => Host.reduce IntOp.andi x v reducesTo_S1x2048_S_d0_1 h_S_) main_v12 main_c_5
  let main_v14 : IVec S_ 1 := andi main_v10 main_v13
  main_v14
-- ==== Pre_scales_normal.lean ====
abbrev S5632x24576 : Shape := ⟨2, ![5632, 24576]⟩
abbrev S5632x1536 : Shape := ⟨2, ![5632, 1536]⟩
abbrev S2048x24576 : Shape := ⟨2, ![2048, 24576]⟩
abbrev S2048x1536 : Shape := ⟨2, ![2048, 1536]⟩
abbrev S_ : Shape := ⟨0, ![]⟩

class Facts : Prop where
  natLt_8_32 : 8 < 32
  bcast_S_S5632x1536 : S_.BroadcastsInDim S5632x1536 (![] : Fin 0 → Fin S5632x1536.rank)
  reducesTo_S5632x1536_S_d0_1 : S5632x1536.ReducesTo [0, 1] S_
  h_S_ : 0 < S_.numel
  bcast_S_S2048x1536 : S_.BroadcastsInDim S2048x1536 (![] : Fin 0 → Fin S2048x1536.rank)
  reducesTo_S2048x1536_S_d0_1 : S2048x1536.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S5632x24576 8) (main_arg1 : IVec S5632x1536 8) (main_arg2 : IVec S2048x24576 8) (main_arg3 : IVec S2048x1536 8) : IVec S_ 1 :=
  let main_v0 : IVec S5632x1536 32 := (extui 32 · natLt_8_32) main_arg1
  let main_v1 : IVec S2048x1536 32 := (extui 32 · natLt_8_32) main_arg3
  let main_c : IVec S_ 32 := constantI S_ 32 0#32
  let main_v2 : IVec S5632x1536 32 := broadcastInDim S5632x1536 ![] bcast_S_S5632x1536 main_c
  let main_v3 : IVec S5632x1536 1 := cmpi .sgt main_v0 main_v2
  let main_c_0 : IVec S_ 1 := constantI S_ 1 1#1
  let main_v4 : IVec S_ 1 := (fun x v => Host.reduce IntOp.andi x v reducesTo_S5632x1536_S_d0_1 h_S_) main_v3 main_c_0
  let main_c_1 : IVec S_ 32 := constantI S_ 32 255#32
  let main_v5 : IVec S5632x1536 32 := broadcastInDim S5632x1536 ![] bcast_S_S5632x1536 main_c_1
  let main_v6 : IVec S5632x1536 1 := cmpi .slt main_v0 main_v5
  let main_c_2 : IVec S_ 1 := constantI S_ 1 1#1
  let main_v7 : IVec S_ 1 := (fun x v => Host.reduce IntOp.andi x v reducesTo_S5632x1536_S_d0_1 h_S_) main_v6 main_c_2
  let main_v8 : IVec S_ 1 := andi main_v4 main_v7
  let main_c_3 : IVec S_ 32 := constantI S_ 32 0#32
  let main_v9 : IVec S2048x1536 32 := broadcastInDim S2048x1536 ![] bcast_S_S2048x1536 main_c_3
  let main_v10 : IVec S2048x1536 1 := cmpi .sgt main_v1 main_v9
  let main_c_4 : IVec S_ 1 := constantI S_ 1 1#1
  let main_v11 : IVec S_ 1 := (fun x v => Host.reduce IntOp.andi x v reducesTo_S2048x1536_S_d0_1 h_S_) main_v10 main_c_4
  let main_v12 : IVec S_ 1 := andi main_v8 main_v11
  let main_c_5 : IVec S_ 32 := constantI S_ 32 255#32
  let main_v13 : IVec S2048x1536 32 := broadcastInDim S2048x1536 ![] bcast_S_S2048x1536 main_c_5
  let main_v14 : IVec S2048x1536 1 := cmpi .slt main_v1 main_v13
  let main_c_6 : IVec S_ 1 := constantI S_ 1 1#1
  let main_v15 : IVec S_ 1 := (fun x v => Host.reduce IntOp.andi x v reducesTo_S2048x1536_S_d0_1 h_S_) main_v14 main_c_6
  fn_part1 (F := F) main_v12 main_v15
-- ==== Pre_x_in_range.lean ====
abbrev S8x6144x2048 : Shape := ⟨3, ![8, 6144, 2048]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1536x32x2048 : Shape := ⟨3, ![1536, 32, 2048]⟩
abbrev S1536x2048x32 : Shape := ⟨3, ![1536, 2048, 32]⟩
abbrev S1536x2048 : Shape := ⟨2, ![1536, 2048]⟩

class Facts : Prop where
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bitsLt_bf16_f32 : FTy.bits .bf16 < FTy.bits .f32
  shapeCasts_S8x6144x2048_S1536x32x2048 : S8x6144x2048.ShapeCasts S1536x32x2048
  transposes_S1536x2048x32_S1536x32x2048_0_2_1 : S1536x2048x32.Transposes [0, 2, 1] S1536x32x2048
  reducesTo_S1536x32x2048_S1536x2048_d1 : S1536x32x2048.ReducesTo [1] S1536x2048
  h_S_ : 0 < S_.numel
  bcast_S_S1536x2048 : S_.BroadcastsInDim S1536x2048 (![] : Fin 0 → Fin S1536x2048.rank)
  reducesTo_S1536x2048_S_d0_1 : S1536x2048.ReducesTo [0, 1] S_
  dot_S1536x32x2048_S32x32_S1536x2048x32_1_1_02_0_n_n_wf : DotDims.WF S1536x32x2048 S32x32 S1536x2048x32 [1] [1] [0, 2] [0] [] []

variable [Facts]

def dot_S1536x32x2048_S32x32_S1536x2048x32_1_1_02_0_n_n : DotDims S1536x32x2048 S32x32 S1536x2048x32 where
  lhsContracting := [1]
  rhsContracting := [1]
  lhsNonContracting := [0, 2]
  rhsNonContracting := [0]
  lhsBatch := []
  rhsBatch := []
  wf := dot_S1536x32x2048_S32x32_S1536x2048x32_1_1_02_0_n_n_wf
def fn_where {F : FTy → Type} [FloatOps F] (arg0 : IVec S32x32 1) (arg1 : FVec F S_ .f32) (arg2 : FVec F S_ .f32) : FVec F S32x32 .f32 :=
  let v0 : FVec F S32x32 .f32 := broadcastInDim S32x32 ![] bcast_S_S32x32 arg1
  let v1 : FVec F S32x32 .f32 := broadcastInDim S32x32 ![] bcast_S_S32x32 arg2
  let v2 : FVec F S32x32 .f32 := select arg0 v0 v1
  v2

def fn_part1 {F : FTy → Type} [FloatOps F] (main_v16 : FVec F S32x32 .f32) (main_v18 : FVec F S1536x32x2048 .f32) : IVec S_ 1 :=
  let main_v19 : FVec F S1536x2048x32 .f32 := (fun l r => Host.dotGeneral dot_S1536x32x2048_S32x32_S1536x2048x32_1_1_02_0_n_n (some .fp32) l r) main_v18 main_v16
  let main_v20 : FVec F S1536x32x2048 .f32 := (transpose S1536x32x2048 [0, 2, 1] · transposes_S1536x2048x32_S1536x32x2048_0_2_1) main_v19
  let main_v21 : FVec F S1536x32x2048 .f32 := Host.absf main_v20
  let main_cst_3 : FVec F S_ .f32 := constant S_ .f32 0xFF800000#32
  let main_v22 : FVec F S1536x2048 .f32 := (fun x v => Host.reduce FloatOps.maximumf x v reducesTo_S1536x32x2048_S1536x2048_d1 h_S_) main_v21 main_cst_3
  let main_cst_4 : FVec F S_ .f32 := constant S_ .f32 0x3E2AAAAB#32
  let main_v23 : FVec F S1536x2048 .f32 := broadcastInDim S1536x2048 ![] bcast_S_S1536x2048 main_cst_4
  let main_v24 : FVec F S1536x2048 .f32 := mulf main_v22 main_v23
  let main_cst_5 : FVec F S_ .f32 := constant S_ .f32 0x00000000#32
  let main_v25 : FVec F S1536x2048 .f32 := broadcastInDim S1536x2048 ![] bcast_S_S1536x2048 main_cst_5
  let main_v26 : IVec S1536x2048 1 := cmpf .oeq main_v24 main_v25
  let main_cst_6 : FVec F S_ .f32 := constant S_ .f32 0x00800000#32
  let main_v27 : FVec F S1536x2048 .f32 := broadcastInDim S1536x2048 ![] bcast_S_S1536x2048 main_cst_6
  let main_v28 : IVec S1536x2048 1 := cmpf .oge main_v24 main_v27
  let main_cst_7 : FVec F S_ .f32 := constant S_ .f32 0x7E800000#32
  let main_v29 : FVec F S1536x2048 .f32 := broadcastInDim S1536x2048 ![] bcast_S_S1536x2048 main_cst_7
  let main_v30 : IVec S1536x2048 1 := cmpf .olt main_v24 main_v29
  let main_v31 : IVec S1536x2048 1 := andi main_v28 main_v30
  let main_v32 : IVec S1536x2048 1 := ori main_v26 main_v31
  let main_c_8 : IVec S_ 1 := constantI S_ 1 1#1
  let main_v33 : IVec S_ 1 := (fun x v => Host.reduce IntOp.andi x v reducesTo_S1536x2048_S_d0_1 h_S_) main_v32 main_c_8
  main_v33

def fn {F : FTy → Type} [FloatOps F] (main_arg0 : FVec F S8x6144x2048 .bf16) (main_arg1 : FVec F S32 .f32) : IVec S_ 1 :=
  let main_v0 : IVec S32 32 := iotaInDim S32 32 0
  let main_v1 : IVec S32x1 32 := broadcastInDim S32x1 ![0] bcast_S32_S32x1_0 main_v0
  let main_v2 : IVec S1x32 32 := broadcastInDim S1x32 ![1] bcast_S32_S1x32_1 main_v0
  let main_v3 : IVec S32x32 32 := broadcastInDim S32x32 ![0, 1] bcast_S32x1_S32x32_0_1 main_v1
  let main_v4 : IVec S32x32 32 := broadcastInDim S32x32 ![0, 1] bcast_S1x32_S32x32_0_1 main_v2
  let main_v5 : IVec S32x32 32 := andi main_v3 main_v4
  let main_v6 : IVec S32x32 32 := ctpop main_v5
  let main_c : IVec S_ 32 := constantI S_ 32 1#32
  let main_v7 : IVec S32x32 32 := broadcastInDim S32x32 ![] bcast_S_S32x32 main_c
  let main_v8 : IVec S32x32 32 := andi main_v6 main_v7
  let main_c_0 : IVec S_ 32 := constantI S_ 32 0#32
  let main_v9 : IVec S32x32 32 := broadcastInDim S32x32 ![] bcast_S_S32x32 main_c_0
  let main_v10 : IVec S32x32 1 := cmpi .eq main_v8 main_v9
  let main_cst : FVec F S_ .f32 := constant S_ .f32 0x3F800000#32
  let main_cst_1 : FVec F S_ .f32 := constant S_ .f32 0xBF800000#32
  let main_v11 : FVec F S32x32 .f32 := fn_where (F := F) main_v10 main_cst main_cst_1
  let main_v12 : FVec F S1x32 .f32 := broadcastInDim S1x32 ![1] bcast_S32_S1x32_1 main_arg1
  let main_v13 : FVec F S32x32 .f32 := broadcastInDim S32x32 ![0, 1] bcast_S1x32_S32x32_0_1 main_v12
  let main_v14 : FVec F S32x32 .f32 := mulf main_v11 main_v13
  let main_cst_2 : FVec F S_ .f32 := constant S_ .f32 0x3E3504F3#32
  let main_v15 : FVec F S32x32 .f32 := broadcastInDim S32x32 ![] bcast_S_S32x32 main_cst_2
  let main_v16 : FVec F S32x32 .f32 := mulf main_v14 main_v15
  let main_v17 : FVec F S8x6144x2048 .f32 := (extf .f32 · bitsLt_bf16_f32) main_arg0
  let main_v18 : FVec F S1536x32x2048 .f32 := shapeCast S1536x32x2048 main_v17 shapeCasts_S8x6144x2048_S1536x32x2048
  fn_part1 (F := F) main_v16 main_v18
-- ==== Wgrad.lean ====
abbrev S49152x5632 : Shape := ⟨2, ![49152, 5632]⟩
abbrev S49152x2048 : Shape := ⟨2, ![49152, 2048]⟩
abbrev S5632x1 : Shape := ⟨2, ![5632, 1]⟩
abbrev S1x2048 : Shape := ⟨2, ![1, 2048]⟩
abbrev S5632x2048 : Shape := ⟨2, ![5632, 2048]⟩
abbrev S2048x512 : Shape := ⟨2, ![2048, 512]⟩
abbrev S2048x2048 : Shape := ⟨2, ![2048, 2048]⟩
abbrev S512x1 : Shape := ⟨2, ![512, 1]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S49152x5632, .fp8e5m2⟩
  | .hbm, ⟨1, _⟩ => ⟨S49152x2048, .fp8e5m2⟩
  | .hbm, ⟨2, _⟩ => ⟨S5632x1, .f32⟩
  | .hbm, ⟨3, _⟩ => ⟨S1x2048, .f32⟩
  | .hbm, ⟨4, _⟩ => ⟨S5632x2048, .f32⟩
  | .local _ .vmem, ⟨0, _⟩ => ⟨S2048x512, .fp8e5m2⟩
  | .local _ .vmem, ⟨1, _⟩ => ⟨S2048x512, .fp8e5m2⟩
  | .local _ .vmem, ⟨2, _⟩ => ⟨S2048x2048, .fp8e5m2⟩
  | .local _ .vmem, ⟨3, _⟩ => ⟨S2048x2048, .fp8e5m2⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S49152x5632, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![11, 1, 24], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== WgradRefIdeal.lean ====
abbrev S49152x5632 : Shape := ⟨2, ![49152, 5632]⟩
abbrev S49152x2048 : Shape := ⟨2, ![49152, 2048]⟩
abbrev S5632x1 : Shape := ⟨2, ![5632, 1]⟩
abbrev S1x2048 : Shape := ⟨2, ![1, 2048]⟩
abbrev S5632x2048 : Shape := ⟨2, ![5632, 2048]⟩
abbrev S1x5632 : Shape := ⟨2, ![1, 5632]⟩

abbrev nBuf : Space → Nat
  | .hbm => 5
  | .vmem => 5
  | .smem => 0
  | _ => 0

abbrev bufTy : (tb : Table) → Fin (tcTables nBuf tb) → BufTy
  | .hbm, ⟨0, _⟩ => ⟨S49152x5632, .fp8e5m2⟩
  | .hbm, ⟨1, _⟩ => ⟨S49152x2048, .fp8e5m2⟩
  | .hbm, ⟨2, _⟩ => ⟨S5632x1, .f32⟩
  | .hbm, ⟨3, _⟩ => ⟨S1x2048, .f32⟩
  | .hbm, ⟨4, _⟩ => ⟨S5632x2048, .f32⟩
  | .local _ .vmem, ⟨0, _⟩ => ⟨S49152x5632, .fp8e5m2⟩
  | .local _ .vmem, ⟨1, _⟩ => ⟨S49152x2048, .fp8e5m2⟩
  | .local _ .vmem, ⟨2, _⟩ => ⟨S5632x1, .f32⟩
  | .local _ .vmem, ⟨3, _⟩ => ⟨S1x2048, .f32⟩
  | .local _ .vmem, ⟨4, _⟩ => ⟨S5632x2048, .f32⟩
  | _, _ => ⟨S49152x5632, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S49152x5632 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Codes.lean ====
abbrev S5632x24576 : Shape := ⟨2, ![5632, 24576]⟩
abbrev S5632x1536 : Shape := ⟨2, ![5632, 1536]⟩
abbrev S2048x24576 : Shape := ⟨2, ![2048, 24576]⟩
abbrev S2048x1536 : Shape := ⟨2, ![2048, 1536]⟩
abbrev S128x128 : Shape := ⟨2, ![128, 128]⟩
abbrev S_ : Shape := ⟨0, ![]⟩
abbrev S1x16 : Shape := ⟨2, ![1, 16]⟩
abbrev S128x1x128x1 : Shape := ⟨4, ![128, 1, 128, 1]⟩
abbrev S1x1x1x16 : Shape := ⟨4, ![1, 1, 1, 16]⟩
abbrev S128x1x128x16 : Shape := ⟨4, ![128, 1, 128, 16]⟩
abbrev S128x2048 : Shape := ⟨2, ![128, 2048]⟩
abbrev S5632x2048 : Shape := ⟨2, ![5632, 2048]⟩
abbrev S256x2048 : Shape := ⟨2, ![256, 2048]⟩
abbrev S256x128 : Shape := ⟨2, ![256, 128]⟩
abbrev S512x2048 : Shape := ⟨2, ![512, 2048]⟩
abbrev S512x128 : Shape := ⟨2, ![512, 128]⟩
abbrev S256x512 : Shape := ⟨2, ![256, 512]⟩

abbrev nBuf : Space → Nat
  | .hbm => 21
  | .vmem => 11
  | .smem => 0
  | _ => 0

abbrev bufTy : (tb : Table) → Fin (tcTables nBuf tb) → BufTy
  | .hbm, ⟨0, _⟩ => ⟨S5632x24576, .i8⟩
  | .hbm, ⟨1, _⟩ => ⟨S5632x1536, .i8⟩
  | .hbm, ⟨2, _⟩ => ⟨S2048x24576, .i8⟩
  | .hbm, ⟨3, _⟩ => ⟨S2048x1536, .i8⟩
  | .hbm, ⟨4, _⟩ => ⟨S128x128, .i32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .f32⟩
  | .hbm, ⟨11, _⟩ => ⟨S_, .f32⟩
  | .hbm, ⟨12, _⟩ => ⟨S1x16, .f32⟩
  | .hbm, ⟨13, _⟩ => ⟨S128x1x128x1, .f32⟩
  | .hbm, ⟨14, _⟩ => ⟨S1x1x1x16, .f32⟩
  | .hbm, ⟨15, _⟩ => ⟨S128x1x128x16, .f32⟩
  | .hbm, ⟨16, _⟩ => ⟨S128x1x128x16, .f32⟩
  | .hbm, ⟨17, _⟩ => ⟨S128x1x128x16, .f32⟩
  | .hbm, ⟨18, _⟩ => ⟨S128x2048, .f32⟩
  | .hbm, ⟨19, _⟩ => ⟨S128x2048, .bf16⟩
  | .hbm, ⟨20, _⟩ => ⟨S5632x2048, .f32⟩
  | .local _ .vmem, ⟨0, _⟩ => ⟨S256x2048, .i8⟩
  | .local _ .vmem, ⟨1, _⟩ => ⟨S256x2048, .i8⟩
  | .local _ .vmem, ⟨2, _⟩ => ⟨S256x128, .i8⟩
  | .local _ .vmem, ⟨3, _⟩ => ⟨S256x128, .i8⟩
  | .local _ .vmem, ⟨4, _⟩ => ⟨S512x2048, .i8⟩
  | .local _ .vmem, ⟨5, _⟩ => ⟨S512x2048, .i8⟩
  | .local _ .vmem, ⟨6, _⟩ => ⟨S512x128, .i8⟩
  | .local _ .vmem, ⟨7, _⟩ => ⟨S512x128, .i8⟩
  | .local _ .vmem, ⟨8, _⟩ => ⟨S128x2048, .bf16⟩
  | .local _ .vmem, ⟨9, _⟩ => ⟨S256x512, .f32⟩
  | .local _ .vmem, ⟨10, _⟩ => ⟨S256x512, .f32⟩
  | _, _ => ⟨S5632x24576, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![22, 4, 12], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== CodesRefIdeal.lean ====
abbrev S5632x24576 : Shape := ⟨2, ![5632, 24576]⟩
abbrev S5632x1536 : Shape := ⟨2, ![5632, 1536]⟩
abbrev S2048x24576 : Shape := ⟨2, ![2048, 24576]⟩
abbrev S2048x1536 : Shape := ⟨2, ![2048, 1536]⟩
abbrev S_ : Shape := ⟨0, ![]⟩
abbrev S2048x1536x16 : Shape := ⟨3, ![2048, 1536, 16]⟩
abbrev S2048x1536x1 : Shape := ⟨3, ![2048, 1536, 1]⟩
abbrev S5632x1536x16 : Shape := ⟨3, ![5632, 1536, 16]⟩
abbrev S5632x1536x1 : Shape := ⟨3, ![5632, 1536, 1]⟩
abbrev S5632x2048 : Shape := ⟨2, ![5632, 2048]⟩

abbrev nBuf : Space → Nat
  | .hbm => 255
  | .vmem => 0
  | .smem => 0
  | _ => 0

abbrev hbmTy0_0 (i : Nat) : BufTy := match i % 128 with
  | 0 => ⟨S5632x24576, .i8⟩
  | 1 => ⟨S5632x1536, .i8⟩
  | 2 => ⟨S2048x24576, .i8⟩
  | 3 => ⟨S2048x1536, .i8⟩
  | 4 => ⟨S2048x1536, .i32⟩
  | 5 => ⟨S_, .i32⟩
  | 6 => ⟨S2048x1536, .i32⟩
  | 7 => ⟨S2048x1536, .i32⟩
  | 8 => ⟨S2048x1536, .f32⟩
  | 9 => ⟨S_, .f32⟩
  | 10 => ⟨S2048x1536, .f32⟩
  | 11 => ⟨S2048x1536, .f32⟩
  | 12 => ⟨S2048x1536, .bf16⟩
  | 13 => ⟨S2048x24576, .i32⟩
  | 14 => ⟨S_, .i32⟩
  | 15 => ⟨S2048x24576, .i32⟩
  | 16 => ⟨S2048x24576, .i32⟩
  | 17 => ⟨S_, .i32⟩
  | 18 => ⟨S2048x24576, .i32⟩
  | 19 => ⟨S2048x24576, .i32⟩
  | 20 => ⟨S_, .i32⟩
  | 21 => ⟨S2048x24576, .i32⟩
  | 22 => ⟨S2048x24576, .i1⟩
  | 23 => ⟨S_, .i32⟩
  | 24 => ⟨S2048x24576, .i32⟩
  | 25 => ⟨S2048x24576, .i32⟩
  | 26 => ⟨S_, .i32⟩
  | 27 => ⟨S2048x24576, .i32⟩
  | 28 => ⟨S2048x24576, .i1⟩
  | 29 => ⟨S_, .i32⟩
  | 30 => ⟨S2048x24576, .i32⟩
  | 31 => ⟨S2048x24576, .i32⟩
  | 32 => ⟨S_, .i32⟩
  | 33 => ⟨S2048x24576, .i32⟩
  | 34 => ⟨S2048x24576, .i1⟩
  | 35 => ⟨S_, .i32⟩
  | 36 => ⟨S2048x24576, .i32⟩
  | 37 => ⟨S2048x24576, .i32⟩
  | 38 => ⟨S_, .i32⟩
  | 39 => ⟨S2048x24576, .i32⟩
  | 40 => ⟨S2048x24576, .i1⟩
  | 41 => ⟨S_, .bf16⟩
  | 42 => ⟨S_, .bf16⟩
  | 43 => ⟨S2048x24576, .bf16⟩
  | 44 => ⟨S2048x24576, .bf16⟩
  | 45 => ⟨S2048x24576, .bf16⟩
  | 46 => ⟨S_, .bf16⟩
  | 47 => ⟨S_, .bf16⟩
  | 48 => ⟨S2048x24576, .bf16⟩
  | 49 => ⟨S2048x24576, .bf16⟩
  | 50 => ⟨S2048x24576, .bf16⟩
  | 51 => ⟨S2048x24576, .bf16⟩
  | 52 => ⟨S_, .bf16⟩
  | 53 => ⟨S_, .bf16⟩
  | 54 => ⟨S2048x24576, .bf16⟩
  | 55 => ⟨S2048x24576, .bf16⟩
  | 56 => ⟨S2048x24576, .bf16⟩
  | 57 => ⟨S_, .bf16⟩
  | 58 => ⟨S_, .bf16⟩
  | 59 => ⟨S2048x24576, .bf16⟩
  | 60 => ⟨S2048x24576, .bf16⟩
  | 61 => ⟨S2048x24576, .bf16⟩
  | 62 => ⟨S2048x24576, .bf16⟩
  | 63 => ⟨S2048x24576, .bf16⟩
  | 64 => ⟨S2048x24576, .bf16⟩
  | 65 => ⟨S2048x24576, .bf16⟩
  | 66 => ⟨S2048x1536x16, .bf16⟩
  | 67 => ⟨S2048x1536x1, .bf16⟩
  | 68 => ⟨S2048x1536x16, .bf16⟩
  | 69 => ⟨S2048x1536x16, .bf16⟩
  | 70 => ⟨S2048x24576, .bf16⟩
  | 71 => ⟨S_, .i32⟩
  | 72 => ⟨S2048x24576, .i32⟩
  | 73 => ⟨S2048x24576, .i32⟩
  | 74 => ⟨S_, .i32⟩
  | 75 => ⟨S2048x24576, .i32⟩
  | 76 => ⟨S2048x24576, .i32⟩
  | 77 => ⟨S_, .i32⟩
  | 78 => ⟨S2048x24576, .i32⟩
  | 79 => ⟨S2048x24576, .i1⟩
  | 80 => ⟨S_, .i32⟩
  | 81 => ⟨S2048x24576, .i32⟩
  | 82 => ⟨S2048x24576, .i32⟩
  | 83 => ⟨S_, .i32⟩
  | 84 => ⟨S2048x24576, .i32⟩
  | 85 => ⟨S2048x24576, .i1⟩
  | 86 => ⟨S_, .i32⟩
  | 87 => ⟨S2048x24576, .i32⟩
  | 88 => ⟨S2048x24576, .i32⟩
  | 89 => ⟨S_, .i32⟩
  | 90 => ⟨S2048x24576, .i32⟩
  | 91 => ⟨S2048x24576, .i1⟩
  | 92 => ⟨S_, .i32⟩
  | 93 => ⟨S2048x24576, .i32⟩
  | 94 => ⟨S2048x24576, .i32⟩
  | 95 => ⟨S_, .i32⟩
  | 96 => ⟨S2048x24576, .i32⟩
  | 97 => ⟨S2048x24576, .i1⟩
  | 98 => ⟨S_, .bf16⟩
  | 99 => ⟨S_, .bf16⟩
  | 100 => ⟨S2048x24576, .bf16⟩
  | 101 => ⟨S2048x24576, .bf16⟩
  | 102 => ⟨S2048x24576, .bf16⟩
  | 103 => ⟨S_, .bf16⟩
  | 104 => ⟨S_, .bf16⟩
  | 105 => ⟨S2048x24576, .bf16⟩
  | 106 => ⟨S2048x24576, .bf16⟩
  | 107 => ⟨S2048x24576, .bf16⟩
  | 108 => ⟨S2048x24576, .bf16⟩
  | 109 => ⟨S_, .bf16⟩
  | 110 => ⟨S_, .bf16⟩
  | 111 => ⟨S2048x24576, .bf16⟩
  | 112 => ⟨S2048x24576, .bf16⟩
  | 113 => ⟨S2048x24576, .bf16⟩
  | 114 => ⟨S_, .bf16⟩
  | 115 => ⟨S_, .bf16⟩
  | 116 => ⟨S2048x24576, .bf16⟩
  | 117 => ⟨S2048x24576, .bf16⟩
  | 118 => ⟨S2048x24576, .bf16⟩
  | 119 => ⟨S2048x24576, .bf16⟩
  | 120 => ⟨S2048x24576, .bf16⟩
  | 121 => ⟨S2048x24576, .bf16⟩
  | 122 => ⟨S2048x24576, .bf16⟩
  | 123 => ⟨S2048x1536x16, .bf16⟩
  | 124 => ⟨S2048x1536x1, .bf16⟩
  | 125 => ⟨S2048x1536x16, .bf16⟩
  | 126 => ⟨S2048x1536x16, .bf16⟩
  | 127 => ⟨S2048x24576, .bf16⟩
  | _ => ⟨S5632x24576, .i8⟩

abbrev hbmTy0_1 (i : Nat) : BufTy := match i % 128 with
  | 0 => ⟨S5632x1536, .i32⟩
  | 1 => ⟨S_, .i32⟩
  | 2 => ⟨S5632x1536, .i32⟩
  | 3 => ⟨S5632x1536, .i32⟩
  | 4 => ⟨S5632x1536, .f32⟩
  | 5 => ⟨S_, .f32⟩
  | 6 => ⟨S5632x1536, .f32⟩
  | 7 => ⟨S5632x1536, .f32⟩
  | 8 => ⟨S5632x1536, .bf16⟩
  | 9 => ⟨S5632x24576, .i32⟩
  | 10 => ⟨S_, .i32⟩
  | 11 => ⟨S5632x24576, .i32⟩
  | 12 => ⟨S5632x24576, .i32⟩
  | 13 => ⟨S_, .i32⟩
  | 14 => ⟨S5632x24576, .i32⟩
  | 15 => ⟨S5632x24576, .i32⟩
  | 16 => ⟨S_, .i32⟩
  | 17 => ⟨S5632x24576, .i32⟩
  | 18 => ⟨S5632x24576, .i1⟩
  | 19 => ⟨S_, .i32⟩
  | 20 => ⟨S5632x24576, .i32⟩
  | 21 => ⟨S5632x24576, .i32⟩
  | 22 => ⟨S_, .i32⟩
  | 23 => ⟨S5632x24576, .i32⟩
  | 24 => ⟨S5632x24576, .i1⟩
  | 25 => ⟨S_, .i32⟩
  | 26 => ⟨S5632x24576, .i32⟩
  | 27 => ⟨S5632x24576, .i32⟩
  | 28 => ⟨S_, .i32⟩
  | 29 => ⟨S5632x24576, .i32⟩
  | 30 => ⟨S5632x24576, .i1⟩
  | 31 => ⟨S_, .i32⟩
  | 32 => ⟨S5632x24576, .i32⟩
  | 33 => ⟨S5632x24576, .i32⟩
  | 34 => ⟨S_, .i32⟩
  | 35 => ⟨S5632x24576, .i32⟩
  | 36 => ⟨S5632x24576, .i1⟩
  | 37 => ⟨S_, .bf16⟩
  | 38 => ⟨S_, .bf16⟩
  | 39 => ⟨S5632x24576, .bf16⟩
  | 40 => ⟨S5632x24576, .bf16⟩
  | 41 => ⟨S5632x24576, .bf16⟩
  | 42 => ⟨S_, .bf16⟩
  | 43 => ⟨S_, .bf16⟩
  | 44 => ⟨S5632x24576, .bf16⟩
  | 45 => ⟨S5632x24576, .bf16⟩
  | 46 => ⟨S5632x24576, .bf16⟩
  | 47 => ⟨S5632x24576, .bf16⟩
  | 48 => ⟨S_, .bf16⟩
  | 49 => ⟨S_, .bf16⟩
  | 50 => ⟨S5632x24576, .bf16⟩
  | 51 => ⟨S5632x24576, .bf16⟩
  | 52 => ⟨S5632x24576, .bf16⟩
  | 53 => ⟨S_, .bf16⟩
  | 54 => ⟨S_, .bf16⟩
  | 55 => ⟨S5632x24576, .bf16⟩
  | 56 => ⟨S5632x24576, .bf16⟩
  | 57 => ⟨S5632x24576, .bf16⟩
  | 58 => ⟨S5632x24576, .bf16⟩
  | 59 => ⟨S5632x24576, .bf16⟩
  | 60 => ⟨S5632x24576, .bf16⟩
  | 61 => ⟨S5632x24576, .bf16⟩
  | 62 => ⟨S5632x1536x16, .bf16⟩
  | 63 => ⟨S5632x1536x1, .bf16⟩
  | 64 => ⟨S5632x1536x16, .bf16⟩
  | 65 => ⟨S5632x1536x16, .bf16⟩
  | 66 => ⟨S5632x24576, .bf16⟩
  | 67 => ⟨S_, .i32⟩
  | 68 => ⟨S5632x24576, .i32⟩
  | 69 => ⟨S5632x24576, .i32⟩
  | 70 => ⟨S_, .i32⟩
  | 71 => ⟨S5632x24576, .i32⟩
  | 72 => ⟨S5632x24576, .i32⟩
  | 73 => ⟨S_, .i32⟩
  | 74 => ⟨S5632x24576, .i32⟩
  | 75 => ⟨S5632x24576, .i1⟩
  | 76 => ⟨S_, .i32⟩
  | 77 => ⟨S5632x24576, .i32⟩
  | 78 => ⟨S5632x24576, .i32⟩
  | 79 => ⟨S_, .i32⟩
  | 80 => ⟨S5632x24576, .i32⟩
  | 81 => ⟨S5632x24576, .i1⟩
  | 82 => ⟨S_, .i32⟩
  | 83 => ⟨S5632x24576, .i32⟩
  | 84 => ⟨S5632x24576, .i32⟩
  | 85 => ⟨S_, .i32⟩
  | 86 => ⟨S5632x24576, .i32⟩
  | 87 => ⟨S5632x24576, .i1⟩
  | 88 => ⟨S_, .i32⟩
  | 89 => ⟨S5632x24576, .i32⟩
  | 90 => ⟨S5632x24576, .i32⟩
  | 91 => ⟨S_, .i32⟩
  | 92 => ⟨S5632x24576, .i32⟩
  | 93 => ⟨S5632x24576, .i1⟩
  | 94 => ⟨S_, .bf16⟩
  | 95 => ⟨S_, .bf16⟩
  | 96 => ⟨S5632x24576, .bf16⟩
  | 97 => ⟨S5632x24576, .bf16⟩
  | 98 => ⟨S5632x24576, .bf16⟩
  | 99 => ⟨S_, .bf16⟩
  | 100 => ⟨S_, .bf16⟩
  | 101 => ⟨S5632x24576, .bf16⟩
  | 102 => ⟨S5632x24576, .bf16⟩
  | 103 => ⟨S5632x24576, .bf16⟩
  | 104 => ⟨S5632x24576, .bf16⟩
  | 105 => ⟨S_, .bf16⟩
  | 106 => ⟨S_, .bf16⟩
  | 107 => ⟨S5632x24576, .bf16⟩
  | 108 => ⟨S5632x24576, .bf16⟩
  | 109 => ⟨S5632x24576, .bf16⟩
  | 110 => ⟨S_, .bf16⟩
  | 111 => ⟨S_, .bf16⟩
  | 112 => ⟨S5632x24576, .bf16⟩
  | 113 => ⟨S5632x24576, .bf16⟩
  | 114 => ⟨S5632x24576, .bf16⟩
  | 115 => ⟨S5632x24576, .bf16⟩
  | 116 => ⟨S5632x24576, .bf16⟩
  | 117 => ⟨S5632x24576, .bf16⟩
  | 118 => ⟨S5632x24576, .bf16⟩
  | 119 => ⟨S5632x1536x16, .bf16⟩
  | 120 => ⟨S5632x1536x1, .bf16⟩
  | 121 => ⟨S5632x1536x16, .bf16⟩
  | 122 => ⟨S5632x1536x16, .bf16⟩
  | 123 => ⟨S5632x24576, .bf16⟩
  | 124 => ⟨S5632x2048, .f32⟩
  | 125 => ⟨S5632x2048, .f32⟩
  | 126 => ⟨S5632x2048, .f32⟩
  | _ => ⟨S5632x24576, .i8⟩

abbrev hbmTy (i : Nat) : BufTy := match i / 128 with
  | 0 => hbmTy0_0 i
  | 1 => hbmTy0_1 i
  | _ => ⟨S5632x24576, .i8⟩

abbrev bufTy : (tb : Table) → Fin (tcTables nBuf tb) → BufTy
  | .hbm, ⟨i, _⟩ => hbmTy i
  | _, _ => ⟨S5632x24576, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_cst_10 : Ref sig .tc := ⟨.hbm, 42, rfl⟩
abbrev main_call0_v0 : Ref sig .tc := ⟨.hbm, 43, rfl⟩
abbrev main_call0_v1 : Ref sig .tc := ⟨.hbm, 44, rfl⟩
abbrev main_v26 : Ref sig .tc := ⟨.hbm, 45, rfl⟩
abbrev main_cst_11 : Ref sig .tc := ⟨.hbm, 46, rfl⟩
abbrev main_cst_12 : Ref sig .tc := ⟨.hbm, 47, rfl⟩
abbrev main_call1_v0 : Ref sig .tc := ⟨.hbm, 48, rfl⟩
abbrev main_call1_v1 : Ref sig .tc := ⟨.hbm, 49, rfl⟩
abbrev main_v27 : Ref sig .tc := ⟨.hbm, 50, rfl⟩
abbrev main_v28 : Ref sig .tc := ⟨.hbm, 51, rfl⟩
abbrev main_cst_13 : Ref sig .tc := ⟨.hbm, 52, rfl⟩
abbrev main_cst_14 : Ref sig .tc := ⟨.hbm, 53, rfl⟩
abbrev main_call3_v0 : Ref sig .tc := ⟨.hbm, 54, rfl⟩
abbrev main_call3_v1 : Ref sig .tc := ⟨.hbm, 55, rfl⟩
abbrev main_v29 : Ref sig .tc := ⟨.hbm, 56, rfl⟩
abbrev main_cst_15 : Ref sig .tc := ⟨.hbm, 57, rfl⟩
abbrev main_cst_16 : Ref sig .tc := ⟨.hbm, 58, rfl⟩
abbrev main_call4_v0 : Ref sig .tc := ⟨.hbm, 59, rfl⟩
abbrev main_call4_v1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_17 : Ref sig .tc := ⟨.hbm, 71, rfl⟩
abbrev main_v40 : Ref sig .tc := ⟨.hbm, 72, rfl⟩
abbrev main_v41 : Ref sig .tc := ⟨.hbm, 73, rfl⟩
abbrev main_c_18 : Ref sig .tc := ⟨.hbm, 74, rfl⟩
abbrev main_v42 : Ref sig .tc := ⟨.hbm, 75, rfl⟩
abbrev main_v43 : Ref sig .tc := ⟨.hbm, 76, rfl⟩
abbrev main_c_19 : Ref sig .tc := ⟨.hbm, 77, rfl⟩
abbrev main_v44 : Ref sig .tc := ⟨.hbm, 78, rfl⟩
abbrev main_v45 : Ref sig .tc := ⟨.hbm, 79, rfl⟩
abbrev main_c_20 : Ref sig .tc := ⟨.hbm, 80, rfl⟩
abbrev main_v46 : Ref sig .tc := ⟨.hbm, 81, rfl⟩
abbrev main_v47 : Ref sig .tc := ⟨.hbm, 82, rfl⟩
abbrev main_c_21 : Ref sig .tc := ⟨.hbm, 83, rfl⟩
abbrev main_v48 : Ref sig .tc := ⟨.hbm, 84, rfl⟩
abbrev main_v49 : Ref sig .tc := ⟨.hbm, 85, rfl⟩
abbrev main_c_22 : Ref sig .tc := ⟨.hbm, 86, rfl⟩
abbrev main_v50 : Ref sig .tc := ⟨.hbm, 87, rfl⟩
abbrev main_v51 : Ref sig .tc := ⟨.hbm, 88, rfl⟩
abbrev main_c_23 : Ref sig .tc := ⟨.hbm, 89, rfl⟩
abbrev main_v52 : Ref sig .tc := ⟨.hbm, 90, rfl⟩
abbrev main_v53 : Ref sig .tc := ⟨.hbm, 91, rfl⟩
abbrev main_c_24 : Ref sig .tc := ⟨.hbm, 92, rfl⟩
abbrev main_v54 : Ref sig .tc := ⟨.hbm, 93, rfl⟩
abbrev main_v55 : Ref sig .tc := ⟨.hbm, 94, rfl⟩
abbrev main_c_25 : Ref sig .tc := ⟨.hbm, 95, rfl⟩
abbrev main_v56 : Ref sig .tc := ⟨.hbm, 96, rfl⟩
abbrev main_v57 : Ref sig .tc := ⟨.hbm, 97, rfl⟩
abbrev main_cst_26 : Ref sig .tc := ⟨.hbm, 98, rfl⟩
abbrev main_cst_27 : Ref sig .tc := ⟨.hbm, 99, rfl⟩
abbrev main_call8_v0 : Ref sig .tc := ⟨.hbm, 100, rfl⟩
abbrev main_call8_v1 : Ref sig .tc := ⟨.hbm, 101, rfl⟩
abbrev main_v58 : Ref sig .tc := ⟨.hbm, 102, rfl⟩
abbrev main_cst_28 : Ref sig .tc := ⟨.hbm, 103, rfl⟩
abbrev main_cst_29 : Ref sig .tc := ⟨.hbm, 104, rfl⟩
abbrev main_call9_v0 : Ref sig .tc := ⟨.hbm, 105, rfl⟩
abbrev main_call9_v1 : Ref sig .tc := ⟨.hbm, 106, rfl⟩
abbrev main_v59 : Ref sig .tc := ⟨.hbm, 107, rfl⟩
abbrev main_v60 : Ref sig .tc := ⟨.hbm, 108, rfl⟩
abbrev main_cst_30 : Ref sig .tc := ⟨.hbm, 109, rfl⟩
abbrev main_cst_31 : Ref sig .tc := ⟨.hbm, 110, rfl⟩
abbrev main_call11_v0 : Ref sig .tc := ⟨.hbm, 111, rfl⟩
abbrev main_call11_v1 : Ref sig .tc := ⟨.hbm, 112, rfl⟩
abbrev main_v61 : Ref sig .tc := ⟨.hbm, 113, rfl⟩
abbrev main_cst_32 : Ref sig .tc := ⟨.hbm, 114, rfl⟩
abbrev main_cst_33 : Ref sig .tc := ⟨.hbm, 115, rfl⟩
abbrev main_call12_v0 : Ref sig .tc := ⟨.hbm, 116, rfl⟩
abbrev main_call12_v1 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_c_34 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_35 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_c_36 : Ref sig .tc := ⟨.hbm, 138, rfl⟩
abbrev main_v80 : Ref sig .tc := ⟨.hbm, 139, rfl⟩
abbrev main_v81 : Ref sig .tc := ⟨.hbm, 140, rfl⟩
abbrev main_c_37 : Ref sig .tc := ⟨.hbm, 141, rfl⟩
abbrev main_v82 : Ref sig .tc := ⟨.hbm, 142, rfl⟩
abbrev main_v83 : Ref sig .tc := ⟨.hbm, 143, rfl⟩
abbrev main_c_38 : Ref sig .tc := ⟨.hbm, 144, rfl⟩
abbrev main_v84 : Ref sig .tc := ⟨.hbm, 145, rfl⟩
abbrev main_v85 : Ref sig .tc := ⟨.hbm, 146, rfl⟩
abbrev main_c_39 : Ref sig .tc := ⟨.hbm, 147, rfl⟩
abbrev main_v86 : Ref sig .tc := ⟨.hbm, 148, rfl⟩
abbrev main_v87 : Ref sig .tc := ⟨.hbm, 149, rfl⟩
abbrev main_c_40 : Ref sig .tc := ⟨.hbm, 150, rfl⟩
abbrev main_v88 : Ref sig .tc := ⟨.hbm, 151, rfl⟩
abbrev main_v89 : Ref sig .tc := ⟨.hbm, 152, rfl⟩
abbrev main_c_41 : Ref sig .tc := ⟨.hbm, 153, rfl⟩
abbrev main_v90 : Ref sig .tc := ⟨.hbm, 154, rfl⟩
abbrev main_v91 : Ref sig .tc := ⟨.hbm, 155, rfl⟩
abbrev main_c_42 : Ref sig .tc := ⟨.hbm, 156, rfl⟩
abbrev main_v92 : Ref sig .tc := ⟨.hbm, 157, rfl⟩
abbrev main_v93 : Ref sig .tc := ⟨.hbm, 158, rfl⟩
abbrev main_c_43 : Ref sig .tc := ⟨.hbm, 159, rfl⟩
abbrev main_v94 : Ref sig .tc := ⟨.hbm, 160, rfl⟩
abbrev main_v95 : Ref sig .tc := ⟨.hbm, 161, rfl⟩
abbrev main_c_44 : Ref sig .tc := ⟨.hbm, 162, rfl⟩
abbrev main_v96 : Ref sig .tc := ⟨.hbm, 163, rfl⟩
abbrev main_v97 : Ref sig .tc := ⟨.hbm, 164, rfl⟩
abbrev main_cst_45 : Ref sig .tc := ⟨.hbm, 165, rfl⟩
abbrev main_cst_46 : Ref sig .tc := ⟨.hbm, 166, rfl⟩
abbrev main_call16_v0 : Ref sig .tc := ⟨.hbm, 167, rfl⟩
abbrev main_call16_v1 : Ref sig .tc := ⟨.hbm, 168, rfl⟩
abbrev main_v98 : Ref sig .tc := ⟨.hbm, 169, rfl⟩
abbrev main_cst_47 : Ref sig .tc := ⟨.hbm, 170, rfl⟩
abbrev main_cst_48 : Ref sig .tc := ⟨.hbm, 171, rfl⟩
abbrev main_call17_v0 : Ref sig .tc := ⟨.hbm, 172, rfl⟩
abbrev main_call17_v1 : Ref sig .tc := ⟨.hbm, 173, rfl⟩
abbrev main_v99 : Ref sig .tc := ⟨.hbm, 174, rfl⟩
abbrev main_v100 : Ref sig .tc := ⟨.hbm, 175, rfl⟩
abbrev main_cst_49 : Ref sig .tc := ⟨.hbm, 176, rfl⟩
abbrev main_cst_50 : Ref sig .tc := ⟨.hbm, 177, rfl⟩
abbrev main_call19_v0 : Ref sig .tc := ⟨.hbm, 178, rfl⟩
abbrev main_call19_v1 : Ref sig .tc := ⟨.hbm, 179, rfl⟩
abbrev main_v101 : Ref sig .tc := ⟨.hbm, 180, rfl⟩
abbrev main_cst_51 : Ref sig .tc := ⟨.hbm, 181, rfl⟩
abbrev main_cst_52 : Ref sig .tc := ⟨.hbm, 182, rfl⟩
abbrev main_call20_v0 : Ref sig .tc := ⟨.hbm, 183, rfl⟩
abbrev main_call20_v1 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_c_53 : Ref sig .tc := ⟨.hbm, 195, rfl⟩
abbrev main_v112 : Ref sig .tc := ⟨.hbm, 196, rfl⟩
abbrev main_v113 : Ref sig .tc := ⟨.hbm, 197, rfl⟩
abbrev main_c_54 : Ref sig .tc := ⟨.hbm, 198, rfl⟩
abbrev main_v114 : Ref sig .tc := ⟨.hbm, 199, rfl⟩
abbrev main_v115 : Ref sig .tc := ⟨.hbm, 200, rfl⟩
abbrev main_c_55 : Ref sig .tc := ⟨.hbm, 201, rfl⟩
abbrev main_v116 : Ref sig .tc := ⟨.hbm, 202, rfl⟩
abbrev main_v117 : Ref sig .tc := ⟨.hbm, 203, rfl⟩
abbrev main_c_56 : Ref sig .tc := ⟨.hbm, 204, rfl⟩
abbrev main_v118 : Ref sig .tc := ⟨.hbm, 205, rfl⟩
abbrev main_v119 : Ref sig .tc := ⟨.hbm, 206, rfl⟩
abbrev main_c_57 : Ref sig .tc := ⟨.hbm, 207, rfl⟩
abbrev main_v120 : Ref sig .tc := ⟨.hbm, 208, rfl⟩
abbrev main_v121 : Ref sig .tc := ⟨.hbm, 209, rfl⟩
abbrev main_c_58 : Ref sig .tc := ⟨.hbm, 210, rfl⟩
abbrev main_v122 : Ref sig .tc := ⟨.hbm, 211, rfl⟩
abbrev main_v123 : Ref sig .tc := ⟨.hbm, 212, rfl⟩
abbrev main_c_59 : Ref sig .tc := ⟨.hbm, 213, rfl⟩
abbrev main_v124 : Ref sig .tc := ⟨.hbm, 214, rfl⟩
abbrev main_v125 : Ref sig .tc := ⟨.hbm, 215, rfl⟩
abbrev main_c_60 : Ref sig .tc := ⟨.hbm, 216, rfl⟩
abbrev main_v126 : Ref sig .tc := ⟨.hbm, 217, rfl⟩
abbrev main_v127 : Ref sig .tc := ⟨.hbm, 218, rfl⟩
abbrev main_c_61 : Ref sig .tc := ⟨.hbm, 219, rfl⟩
abbrev main_v128 : Ref sig .tc := ⟨.hbm, 220, rfl⟩
abbrev main_v129 : Ref sig .tc := ⟨.hbm, 221, rfl⟩
abbrev main_cst_62 : Ref sig .tc := ⟨.hbm, 222, rfl⟩
abbrev main_cst_63 : Ref sig .tc := ⟨.hbm, 223, rfl⟩
abbrev main_call24_v0 : Ref sig .tc := ⟨.hbm, 224, rfl⟩
abbrev main_call24_v1 : Ref sig .tc := ⟨.hbm, 225, rfl⟩
abbrev main_v130 : Ref sig .tc := ⟨.hbm, 226, rfl⟩
abbrev main_cst_64 : Ref sig .tc := ⟨.hbm, 227, rfl⟩
abbrev main_cst_65 : Ref sig .tc := ⟨.hbm, 228, rfl⟩
abbrev main_call25_v0 : Ref sig .tc := ⟨.hbm, 229, rfl⟩
abbrev main_call25_v1 : Ref sig .tc := ⟨.hbm, 230, rfl⟩
abbrev main_v131 : Ref sig .tc := ⟨.hbm, 231, rfl⟩
abbrev main_v132 : Ref sig .tc := ⟨.hbm, 232, rfl⟩
abbrev main_cst_66 : Ref sig .tc := ⟨.hbm, 233, rfl⟩
abbrev main_cst_67 : Ref sig .tc := ⟨.hbm, 234, rfl⟩
abbrev main_call27_v0 : Ref sig .tc := ⟨.hbm, 235, rfl⟩
abbrev main_call27_v1 : Ref sig .tc := ⟨.hbm, 236, rfl⟩
abbrev main_v133 : Ref sig .tc := ⟨.hbm, 237, rfl⟩
abbrev main_cst_68 : Ref sig .tc := ⟨.hbm, 238, rfl⟩
abbrev main_cst_69 : Ref sig .tc := ⟨.hbm, 239, rfl⟩
abbrev main_call28_v0 : Ref sig .tc := ⟨.hbm, 240, rfl⟩
abbrev main_call28_v1 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩

abbrev nD : Nat := 1
abbrev τ : Topo := Topo.v7x

variable {F : FTy → Type} [FloatOps F]
-- ==== QuantX.lean ====
abbrev S8x6144x2048 : Shape := ⟨3, ![8, 6144, 2048]⟩
abbrev S32 : Shape := ⟨1, ![32]⟩
abbrev S256x256 : Shape := ⟨2, ![256, 256]⟩
abbrev S_ : Shape := ⟨0, ![]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S49152x2048 : Shape := ⟨2, ![49152, 2048]⟩
abbrev S2048x24576 : Shape := ⟨2, ![2048, 24576]⟩
abbrev S2048x1536 : Shape := ⟨2, ![2048, 1536]⟩
abbrev S8x2048 : Shape := ⟨2, ![8, 2048]⟩
abbrev S4096x256 : Shape := ⟨2, ![4096, 256]⟩
abbrev S256x2048 : Shape := ⟨2, ![256, 2048]⟩
abbrev S256x128 : Shape := ⟨2, ![256, 128]⟩
abbrev S8x256 : Shape := ⟨2, ![8, 256]⟩
abbrev S64x128 : Shape := ⟨2, ![64, 128]⟩
abbrev S8x128 : Shape := ⟨2, ![8, 128]⟩
abbrev S128x256 : Shape := ⟨2, ![128, 256]⟩
abbrev S8x4x8x128 : Shape := ⟨4, ![8, 4, 8, 128]⟩
abbrev S8x8x128 : Shape := ⟨3, ![8, 8, 128]⟩
abbrev S128 : Shape := ⟨1, ![128]⟩
abbrev S1x128 : Shape := ⟨2, ![1, 128]⟩
abbrev S32x128 : Shape := ⟨2, ![32, 128]⟩
abbrev S32x8x128 : Shape := ⟨3, ![32, 8, 128]⟩
abbrev S32x1x128 : Shape := ⟨3, ![32, 1, 128]⟩
abbrev S128x128 : Shape := ⟨2, ![128, 128]⟩
abbrev S16x128 : Shape := ⟨2, ![16, 128]⟩

abbrev nBuf : Space → Nat
  | .hbm => 44
  | .vmem => 17
  | .smem => 0
  | _ => 0

abbrev bufTy : (tb : Table) → Fin (tcTables nBuf tb) → BufTy
  | .hbm, ⟨0, _⟩ => ⟨S8x6144x2048, .bf16⟩
  | .hbm, ⟨1, _⟩ => ⟨S32, .f32⟩
  | .hbm, ⟨2, _⟩ => ⟨S256x256, .i32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S1x32, .f32⟩
  | .hbm, ⟨32, _⟩ => ⟨S8x32, .f32⟩
  | .hbm, ⟨33, _⟩ => ⟨S256, .f32⟩
  | .hbm, ⟨34, _⟩ => ⟨S1x256, .f32⟩
  | .hbm, ⟨35, _⟩ => ⟨S256x256, .f32⟩
  | .hbm, ⟨36, _⟩ => ⟨S256x256, .f32⟩
  | .hbm, ⟨37, _⟩ => ⟨S256x256, .bf16⟩
  | .hbm, ⟨38, _⟩ => ⟨S49152x2048, .bf16⟩
  | .hbm, ⟨39, _⟩ => ⟨S2048x24576, .i8⟩
  | .hbm, ⟨40, _⟩ => ⟨S2048x1536, .i8⟩
  | .hbm, ⟨41, _⟩ => ⟨S49152x2048, .fp8e5m2⟩
  | .hbm, ⟨42, _⟩ => ⟨S8x2048, .i32⟩
  | .hbm, ⟨43, _⟩ => ⟨S8x2048, .i32⟩
  | .local _ .vmem, ⟨0, _⟩ => ⟨S4096x256, .bf16⟩
  | .local _ .vmem, ⟨1, _⟩ => ⟨S4096x256, .bf16⟩
  | .local _ .vmem, ⟨2, _⟩ => ⟨S256x256, .bf16⟩
  | .local _ .vmem, ⟨3, _⟩ => ⟨S256x2048, .i8⟩
  | .local _ .vmem, ⟨4, _⟩ => ⟨S256x2048, .i8⟩
  | .local _ .vmem, ⟨5, _⟩ => ⟨S256x128, .i8⟩
  | .local _ .vmem, ⟨6, _⟩ => ⟨S256x128, .i8⟩
  | .local _ .vmem, ⟨7, _⟩ => ⟨S4096x256, .fp8e5m2⟩
  | .local _ .vmem, ⟨8, _⟩ => ⟨S4096x256, .fp8e5m2⟩
  | .local _ .vmem, ⟨9, _⟩ => ⟨S8x256, .i32⟩
  | .local _ .vmem, ⟨10, _⟩ => ⟨S8x256, .i32⟩
  | .local _ .vmem, ⟨11, _⟩ => ⟨S8x256, .i32⟩
  | .local _ .vmem, ⟨12, _⟩ => ⟨S8x256, .i32⟩
  | .local _ .vmem, ⟨13, _⟩ => ⟨S64x128, .f32⟩
  | .local _ .vmem, ⟨14, _⟩ => ⟨S8x128, .f32⟩
  | .local _ .vmem, ⟨15, _⟩ => ⟨S8x128, .i32⟩
  | .local _ .vmem, ⟨16, _⟩ => ⟨S128x256, .i32⟩
  | _, _ => ⟨S8x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_5 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 12], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32 : BitVec 32 := 256#32
  let v12 : BitVec 32 := Scalar.muli arg13 c256_i32
  v12
def k0_off1 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v12 : BitVec 32 := Scalar.muli arg13 c256_i32
  let v13 : BitVec 32 := v12
  let v16 : Index := Scalar.indexCast v13
  let c0_11 : Index := 0#32
  ![v16.toNat, 0]
def k0_off2 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_56 : BitVec 32 := 8#32
  let v148 : BitVec 32 := Scalar.muli arg13 c8_i32_56
  let v149 : Index := Scalar.indexCast v148
  let c0_57 : Index := 0#32
  ![v149.toNat, 0]
def k0_mult2 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c128_i32_115 : BitVec 32 := 128#32
  let v318 : BitVec 32 := Scalar.muli arg13 c128_i32_115
  v318
def k0_off3 (k0_t1 : Fin k0_t1_loop.trips) : Fin 2 → Nat :=
  let c0_116 : Index := 0#32
  let c0_i32_1 : BitVec 32 := 0#32
  let c1_i32 : BitVec 32 := 1#32
  let arg13 : BitVec 32 := Scf.iv c0_i32_1 c1_i32 k0_t1
  let c128_i32_115 : BitVec 32 := 128#32
  let v318 : BitVec 32 := Scalar.muli arg13 c128_i32_115
  let v319 : BitVec 32 := v318
  let v322 : Index := Scalar.indexCast v319
  ![0, v322.toNat]
def k0_off4 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v12 : BitVec 32 := Scalar.muli arg13 c256_i32
  let v13 : BitVec 32 := v12
  let v403 : Index := Scalar.indexCast v13
  let c0_138 : Index := 0#32
  ![v403.toNat, 0]
def k0_off5 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c8_i32_201 : BitVec 32 := 8#32
  let v533 : BitVec 32 := Scalar.muli arg13 c8_i32_201
  let v534 : Index := Scalar.indexCast v533
  let c128_202 : Index := 128#32
  ![v534.toNat, 128]
def k0_mult3 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c128_i32_265 : BitVec 32 := 128#32
  let v703 : BitVec 32 := Scalar.muli arg13 c128_i32_265
  v703
def k0_off6 (k0_t1 : Fin k0_t1_loop.trips) : Fin 2 → Nat :=
  let c128_266 : Index := 128#32
  let c0_i32_1 : BitVec 32 := 0#32
  let c1_i32 : BitVec 32 := 1#32
  let arg13 : BitVec 32 := Scf.iv c0_i32_1 c1_i32 k0_t1
  let c128_i32_265 : BitVec 32 := 128#32
  let v703 : BitVec 32 := Scalar.muli arg13 c128_i32_265
  let v704 : BitVec 32 := v703
  let v707 : Index := Scalar.indexCast v704
  ![128, v707.toNat]
def k0_off7 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v12 : BitVec 32 := Scalar.muli arg13 c256_i32
  let v13 : BitVec 32 := v12
  let v788 : Index := Scalar.indexCast v13
  let c128_292 : Index := 128#32
  ![v788.toNat, 128]
def k0_cond2 (i : grid0.Coords) (k0_t1 : Fin k0_t1_loop.trips) : BitVec 1 :=
  let arg1 : BitVec 32 := BitVec.ofNat 32 (i 1).val
  let c0_i32 : BitVec 32 := 0#32
  let v0 : BitVec 1 := Scalar.cmpi .eq arg1 c0_i32
  let c0_i32_1 : BitVec 32 := 0#32
  let c1_i32 : BitVec 32 := 1#32
  let arg13 : BitVec 32 := Scf.iv c0_i32_1 c1_i32 k0_t1
  let c0_i32_47 : BitVec 32 := 0#32
  let v128 : BitVec 1 := Scalar.cmpi .eq arg13 c0_i32_47
  let v129 : BitVec 1 := Scalar.andi v0 v128
  let v130 : BitVec 32 := Scalar.extui v129
  let c0_i32_48 : BitVec 32 := 0#32
  let v131 : BitVec 1 := Scalar.cmpi .ne v130 c0_i32_48
  v131

def k0_cond3 (i : grid0.Coords) (k0_t1 : Fin k0_t1_loop.trips) : BitVec 1 :=
  let arg1 : BitVec 32 := BitVec.ofNat 32 (i 1).val
  let c0_i32 : BitVec 32 := 0#32
  let v0 : BitVec 1 := Scalar.cmpi .eq arg1 c0_i32
  let c0_i32_1 : BitVec 32 := 0#32
  let c1_i32 : BitVec 32 := 1#32
  let arg13 : BitVec 32 := Scf.iv c0_i32_1 c1_i32 k0_t1
  let c0_i32_189 : BitVec 32 := 0#32
  let v513 : BitVec 1 := Scalar.cmpi .eq arg13 c0_i32_189
  let v514 : BitVec 1 := Scalar.andi v0 v513
  let v515 : BitVec 32 := Scalar.extui v514
  let c0_i32_190 : BitVec 32 := 0#32
  let v516 : BitVec 1 := Scalar.cmpi .ne v515 c0_i32_190
  v516

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QuantXRefIdeal.lean ====
abbrev S8x6144x2048 : Shape := ⟨3, ![8, 6144, 2048]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1536x32x2048 : Shape := ⟨3, ![1536, 32, 2048]⟩
abbrev S1536x2048x32 : Shape := ⟨3, ![1536, 2048, 32]⟩
abbrev S1536x2048 : Shape := ⟨2, ![1536, 2048]⟩
abbrev S1536x1x2048 : Shape := ⟨3, ![1536, 1, 2048]⟩
abbrev S1536x16x2x2048 : Shape := ⟨4, ![1536, 16, 2, 2048]⟩
abbrev S1536x16x1x2048 : Shape := ⟨4, ![1536, 16, 1, 2048]⟩
abbrev S1536x16x2048 : Shape := ⟨3, ![1536, 16, 2048]⟩
abbrev S2048x1536x16 : Shape := ⟨3, ![2048, 1536, 16]⟩
abbrev S2048x24576 : Shape := ⟨2, ![2048, 24576]⟩
abbrev S2048x1536 : Shape := ⟨2, ![2048, 1536]⟩

abbrev nBuf : Space → Nat
  | .hbm => 128
  | .vmem => 0
  | .smem => 0
  | _ => 0

abbrev bufTy : (tb : Table) → Fin (tcTables nBuf tb) → BufTy
  | .hbm, ⟨0, _⟩ => ⟨S8x6144x2048, .bf16⟩
  | .hbm, ⟨1, _⟩ => ⟨S32, .f32⟩
  | .hbm, ⟨2, _⟩ => ⟨S32, .i32⟩
  | .hbm, ⟨3, _⟩ => ⟨S32x1, .i32⟩
  | .hbm, ⟨4, _⟩ => ⟨S1x32, .i32⟩
  | .hbm, ⟨5, _⟩ => ⟨S32x32, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S_, .i32⟩
  | .hbm, ⟨13, _⟩ => ⟨S32x32, .i32⟩
  | .hbm, ⟨14, _⟩ => ⟨S32x32, .i1⟩
  | .hbm, ⟨15, _⟩ => ⟨S_, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S1x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32x32, .f32⟩
  | .hbm, ⟨25, _⟩ => ⟨S32x32, .f32⟩
  | .hbm, ⟨26, _⟩ => ⟨S8x6144x2048, .f32⟩
  | .hbm, ⟨27, _⟩ => ⟨S1536x32x2048, .f32⟩
  | .hbm, ⟨28, _⟩ => ⟨S1536x2048x32, .f32⟩
  | .hbm, ⟨29, _⟩ => ⟨S1536x32x2048, .f32⟩
  | .hbm, ⟨30, _⟩ => ⟨S1536x32x2048, .f32⟩
  | .hbm, ⟨31, _⟩ => ⟨S_, .f32⟩
  | .hbm, ⟨32, _⟩ => ⟨S1536x2048, .f32⟩
  | .hbm, ⟨33, _⟩ => ⟨S_, .f32⟩
  | .hbm, ⟨34, _⟩ => ⟨S1536x2048, .f32⟩
  | .hbm, ⟨35, _⟩ => ⟨S1536x2048, .f32⟩
  | .hbm, ⟨36, _⟩ => ⟨S1536x2048, .f32⟩
  | .hbm, ⟨37, _⟩ => ⟨S_, .f32⟩
  | .hbm, ⟨38, _⟩ => ⟨S_, .f32⟩
  | .hbm, ⟨39, _⟩ => ⟨S1536x2048, .f32⟩
  | .hbm, ⟨40, _⟩ => ⟨S1536x2048, .f32⟩
  | .hbm, ⟨41, _⟩ => ⟨S_, .f32⟩
  | .hbm, ⟨42, _⟩ => ⟨S1536x2048, .f32⟩
  | .hbm, ⟨43, _⟩ => ⟨S1536x2048, .i1⟩
  | .hbm, ⟨44, _⟩ => ⟨S1536x2048, .f32⟩
  | .hbm, ⟨45, _⟩ => ⟨S_, .f32⟩
  | .hbm, ⟨46, _⟩ => ⟨S1536x2048, .f32⟩
  | .hbm, ⟨47, _⟩ => ⟨S1536x2048, .f32⟩
  | .hbm, ⟨48, _⟩ => ⟨S1536x2048, .i32⟩
  | .hbm, ⟨49, _⟩ => ⟨S_, .i32⟩
  | .hbm, ⟨50, _⟩ => ⟨S_, .i32⟩
  | .hbm, ⟨51, _⟩ => ⟨S1536x2048, .i32⟩
  | .hbm, ⟨52, _⟩ => ⟨S1536x2048, .i32⟩
  | .hbm, ⟨53, _⟩ => ⟨S1536x2048, .i32⟩
  | .hbm, ⟨54, _⟩ => ⟨S1536x2048, .f32⟩
  | .hbm, ⟨55, _⟩ => ⟨S_, .f32⟩
  | .hbm, ⟨56, _⟩ => ⟨S1536x2048, .f32⟩
  | .hbm, ⟨57, _⟩ => ⟨S1536x2048, .f32⟩
  | .hbm, ⟨58, _⟩ => ⟨S1536x1x2048, .f32⟩
  | .hbm, ⟨59, _⟩ => ⟨S1536x32x2048, .f32⟩
  | .hbm, ⟨60, _⟩ => ⟨S1536x32x2048, .f32⟩
  | .hbm, ⟨61, _⟩ => ⟨S1536x32x2048, .f32⟩
  | .hbm, ⟨62, _⟩ => ⟨S_, .f32⟩
  | .hbm, ⟨63, _⟩ => ⟨S1536x32x2048, .f32⟩
  | .hbm, ⟨64, _⟩ => ⟨S1536x32x2048, .f32⟩
  | .hbm, ⟨65, _⟩ => ⟨S_, .f32⟩
  | .hbm, ⟨66, _⟩ => ⟨S1536x32x2048, .f32⟩
  | .hbm, ⟨67, _⟩ => ⟨S1536x32x2048, .i1⟩
  | .hbm, ⟨68, _⟩ => ⟨S1536x32x2048, .i32⟩
  | .hbm, ⟨69, _⟩ => ⟨S_, .f32⟩
  | .hbm, ⟨70, _⟩ => ⟨S1536x32x2048, .f32⟩
  | .hbm, ⟨71, _⟩ => ⟨S1536x32x2048, .i1⟩
  | .hbm, ⟨72, _⟩ => ⟨S1536x32x2048, .i32⟩
  | .hbm, ⟨73, _⟩ => ⟨S1536x32x2048, .i32⟩
  | .hbm, ⟨74, _⟩ => ⟨S_, .f32⟩
  | .hbm, ⟨75, _⟩ => ⟨S1536x32x2048, .f32⟩
  | .hbm, ⟨76, _⟩ => ⟨S1536x32x2048, .i1⟩
  | .hbm, ⟨77, _⟩ => ⟨S1536x32x2048, .i32⟩
  | .hbm, ⟨78, _⟩ => ⟨S1536x32x2048, .i32⟩
  | .hbm, ⟨79, _⟩ => ⟨S_, .f32⟩
  | .hbm, ⟨80, _⟩ => ⟨S1536x32x2048, .f32⟩
  | .hbm, ⟨81, _⟩ => ⟨S1536x32x2048, .i1⟩
  | .hbm, ⟨82, _⟩ => ⟨S1536x32x2048, .i32⟩
  | .hbm, ⟨83, _⟩ => ⟨S1536x32x2048, .i32⟩
  | .hbm, ⟨84, _⟩ => ⟨S_, .f32⟩
  | .hbm, ⟨85, _⟩ => ⟨S1536x32x2048, .f32⟩
  | .hbm, ⟨86, _⟩ => ⟨S1536x32x2048, .i1⟩
  | .hbm, ⟨87, _⟩ => ⟨S1536x32x2048, .i32⟩
  | .hbm, ⟨88, _⟩ => ⟨S1536x32x2048, .i32⟩
  | .hbm, ⟨89, _⟩ => ⟨S_, .f32⟩
  | .hbm, ⟨90, _⟩ => ⟨S1536x32x2048, .f32⟩
  | .hbm, ⟨91, _⟩ => ⟨S1536x32x2048, .i1⟩
  | .hbm, ⟨92, _⟩ => ⟨S1536x32x2048, .i32⟩
  | .hbm, ⟨93, _⟩ => ⟨S1536x32x2048, .i32⟩
  | .hbm, ⟨94, _⟩ => ⟨S_, .f32⟩
  | .hbm, ⟨95, _⟩ => ⟨S1536x32x2048, .f32⟩
  | .hbm, ⟨96, _⟩ => ⟨S1536x32x2048, .i1⟩
  | .hbm, ⟨97, _⟩ => ⟨S1536x32x2048, .i32⟩
  | .hbm, ⟨98, _⟩ => ⟨S1536x32x2048, .i32⟩
  | .hbm, ⟨99, _⟩ => ⟨S_, .f32⟩
  | .hbm, ⟨100, _⟩ => ⟨S1536x32x2048, .f32⟩
  | .hbm, ⟨101, _⟩ => ⟨S1536x32x2048, .i1⟩
  | .hbm, ⟨102, _⟩ => ⟨S_, .i32⟩
  | .hbm, ⟨103, _⟩ => ⟨S1536x32x2048, .i32⟩
  | .hbm, ⟨104, _⟩ => ⟨S1536x32x2048, .i1⟩
  | .hbm, ⟨105, _⟩ => ⟨S1536x32x2048, .i1⟩
  | .hbm, ⟨106, _⟩ => ⟨S1536x32x2048, .i32⟩
  | .hbm, ⟨107, _⟩ => ⟨S_, .i32⟩
  | .hbm, ⟨108, _⟩ => ⟨S1536x32x2048, .i32⟩
  | .hbm, ⟨109, _⟩ => ⟨S1536x32x2048, .i32⟩
  | .hbm, ⟨110, _⟩ => ⟨S1536x32x2048, .i32⟩
  | .hbm, ⟨111, _⟩ => ⟨S1536x16x2x2048, .i32⟩
  | .hbm, ⟨112, _⟩ => ⟨S1536x16x1x2048, .i32⟩
  | .hbm, ⟨113, _⟩ => ⟨S1536x16x2048, .i32⟩
  | .hbm, ⟨114, _⟩ => ⟨S1536x16x1x2048, .i32⟩
  | .hbm, ⟨115, _⟩ => ⟨S1536x16x2048, .i32⟩
  | .hbm, ⟨116, _⟩ => ⟨S_, .i32⟩
  | .hbm, ⟨117, _⟩ => ⟨S1536x16x2048, .i32⟩
  | .hbm, ⟨118, _⟩ => ⟨S1536x16x2048, .i32⟩
  | .hbm, ⟨119, _⟩ => ⟨S1536x16x2048, .i32⟩
  | .hbm, ⟨120, _⟩ => ⟨S2048x1536x16, .i32⟩
  | .hbm, ⟨121, _⟩ => ⟨S2048x24576, .i32⟩
  | .hbm, ⟨122, _⟩ => ⟨S2048x24576, .i8⟩
  | .hbm, ⟨123, _⟩ => ⟨S_, .i32⟩
  | .hbm, ⟨124, _⟩ => ⟨S1536x2048, .i32⟩
  | .hbm, ⟨125, _⟩ => ⟨S1536x2048, .i32⟩
  | .hbm, ⟨126, _⟩ => ⟨S1536x2048, .i8⟩
  | .hbm, ⟨127, _⟩ => ⟨S2048x1536, .i8⟩
  | _, _ => ⟨S8x6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_call1_v0 : Ref sig .tc := ⟨.hbm, 50, rfl⟩
abbrev main_call1_v1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_c_19 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_20 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_21 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_22 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== QuantDy.lean ====
abbrev S8x6144x5632 : Shape := ⟨3, ![8, 6144, 5632]⟩
abbrev S32 : Shape := ⟨1, ![32]⟩
abbrev S256x256 : Shape := ⟨2, ![256, 256]⟩
abbrev S_ : Shape := ⟨0, ![]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S49152x5632 : Shape := ⟨2, ![49152, 5632]⟩
abbrev S5632x24576 : Shape := ⟨2, ![5632, 24576]⟩
abbrev S5632x1536 : Shape := ⟨2, ![5632, 1536]⟩
abbrev S8x5632 : Shape := ⟨2, ![8, 5632]⟩
abbrev S4096x256 : Shape := ⟨2, ![4096, 256]⟩
abbrev S256x2048 : Shape := ⟨2, ![256, 2048]⟩
abbrev S256x128 : Shape := ⟨2, ![256, 128]⟩
abbrev S8x256 : Shape := ⟨2, ![8, 256]⟩
abbrev S64x128 : Shape := ⟨2, ![64, 128]⟩
abbrev S8x128 : Shape := ⟨2, ![8, 128]⟩
abbrev S128x256 : Shape := ⟨2, ![128, 256]⟩
abbrev S8x4x8x128 : Shape := ⟨4, ![8, 4, 8, 128]⟩
abbrev S8x8x128 : Shape := ⟨3, ![8, 8, 128]⟩
abbrev S128 : Shape := ⟨1, ![128]⟩
abbrev S1x128 : Shape := ⟨2, ![1, 128]⟩
abbrev S32x128 : Shape := ⟨2, ![32, 128]⟩
abbrev S32x8x128 : Shape := ⟨3, ![32, 8, 128]⟩
abbrev S32x1x128 : Shape := ⟨3, ![32, 1, 128]⟩
abbrev S128x128 : Shape := ⟨2, ![128, 128]⟩
abbrev S16x128 : Shape := ⟨2, ![16, 128]⟩

abbrev nBuf : Space → Nat
  | .hbm => 46
  | .vmem => 19
  | .smem => 0
  | _ => 0

abbrev bufTy : (tb : Table) → Fin (tcTables nBuf tb) → BufTy
  | .hbm, ⟨0, _⟩ => ⟨S8x6144x5632, .bf16⟩
  | .hbm, ⟨1, _⟩ => ⟨S32, .f32⟩
  | .hbm, ⟨2, _⟩ => ⟨S8x6144x5632, .i8⟩
  | .hbm, ⟨3, _⟩ => ⟨S256x256, .i32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S1x32, .f32⟩
  | .hbm, ⟨33, _⟩ => ⟨S8x32, .f32⟩
  | .hbm, ⟨34, _⟩ => ⟨S256, .f32⟩
  | .hbm, ⟨35, _⟩ => ⟨S1x256, .f32⟩
  | .hbm, ⟨36, _⟩ => ⟨S256x256, .f32⟩
  | .hbm, ⟨37, _⟩ => ⟨S256x256, .f32⟩
  | .hbm, ⟨38, _⟩ => ⟨S256x256, .bf16⟩
  | .hbm, ⟨39, _⟩ => ⟨S49152x5632, .bf16⟩
  | .hbm, ⟨40, _⟩ => ⟨S49152x5632, .i8⟩
  | .hbm, ⟨41, _⟩ => ⟨S5632x24576, .i8⟩
  | .hbm, ⟨42, _⟩ => ⟨S5632x1536, .i8⟩
  | .hbm, ⟨43, _⟩ => ⟨S49152x5632, .fp8e5m2⟩
  | .hbm, ⟨44, _⟩ => ⟨S8x5632, .i32⟩
  | .hbm, ⟨45, _⟩ => ⟨S8x5632, .i32⟩
  | .local _ .vmem, ⟨0, _⟩ => ⟨S4096x256, .bf16⟩
  | .local _ .vmem, ⟨1, _⟩ => ⟨S4096x256, .bf16⟩
  | .local _ .vmem, ⟨2, _⟩ => ⟨S4096x256, .i8⟩
  | .local _ .vmem, ⟨3, _⟩ => ⟨S4096x256, .i8⟩
  | .local _ .vmem, ⟨4, _⟩ => ⟨S256x256, .bf16⟩
  | .local _ .vmem, ⟨5, _⟩ => ⟨S256x2048, .i8⟩
  | .local _ .vmem, ⟨6, _⟩ => ⟨S256x2048, .i8⟩
  | .local _ .vmem, ⟨7, _⟩ => ⟨S256x128, .i8⟩
  | .local _ .vmem, ⟨8, _⟩ => ⟨S256x128, .i8⟩
  | .local _ .vmem, ⟨9, _⟩ => ⟨S4096x256, .fp8e5m2⟩
  | .local _ .vmem, ⟨10, _⟩ => ⟨S4096x256, .fp8e5m2⟩
  | .local _ .vmem, ⟨11, _⟩ => ⟨S8x256, .i32⟩
  | .local _ .vmem, ⟨12, _⟩ => ⟨S8x256, .i32⟩
  | .local _ .vmem, ⟨13, _⟩ => ⟨S8x256, .i32⟩
  | .local _ .vmem, ⟨14, _⟩ => ⟨S8x256, .i32⟩
  | .local _ .vmem, ⟨15, _⟩ => ⟨S64x128, .f32⟩
  | .local _ .vmem, ⟨16, _⟩ => ⟨S8x128, .f32⟩
  | .local _ .vmem, ⟨17, _⟩ => ⟨S8x128, .i32⟩
  | .local _ .vmem, ⟨18, _⟩ => ⟨S128x256, .i32⟩
  | _, _ => ⟨S8x6144x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![22, 12], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c256_i32 : BitVec 32 := 256#32
  let v12 : BitVec 32 := Scalar.muli arg14 c256_i32
  v12
def k0_off1 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c256_i32 : BitVec 32 := 256#32
  let v12 : BitVec 32 := Scalar.muli arg14 c256_i32
  let v13 : BitVec 32 := v12
  let v16 : Index := Scalar.indexCast v13
  let c0_11 : Index := 0#32
  ![v16.toNat, 0]
def k0_off2 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c8_i32_56 : BitVec 32 := 8#32
  let v148 : BitVec 32 := Scalar.muli arg14 c8_i32_56
  let v149 : Index := Scalar.indexCast v148
  let c0_57 : Index := 0#32
  ![v149.toNat, 0]
def k0_off3 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c256_i32 : BitVec 32 := 256#32
  let v12 : BitVec 32 := Scalar.muli arg14 c256_i32
  let v13 : BitVec 32 := v12
  let v240 : Index := Scalar.indexCast v13
  let c0_101 : Index := 0#32
  ![v240.toNat, 0]
def k0_mult2 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c128_i32_154 : BitVec 32 := 128#32
  let v462 : BitVec 32 := Scalar.muli arg14 c128_i32_154
  v462
def k0_off4 (k0_t1 : Fin k0_t1_loop.trips) : Fin 2 → Nat :=
  let c0_155 : Index := 0#32
  let c0_i32_1 : BitVec 32 := 0#32
  let c1_i32 : BitVec 32 := 1#32
  let arg14 : BitVec 32 := Scf.iv c0_i32_1 c1_i32 k0_t1
  let c128_i32_154 : BitVec 32 := 128#32
  let v462 : BitVec 32 := Scalar.muli arg14 c128_i32_154
  let v463 : BitVec 32 := v462
  let v466 : Index := Scalar.indexCast v463
  ![0, v466.toNat]
def k0_off5 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c8_i32_241 : BitVec 32 := 8#32
  let v677 : BitVec 32 := Scalar.muli arg14 c8_i32_241
  let v678 : Index := Scalar.indexCast v677
  let c128_242 : Index := 128#32
  ![v678.toNat, 128]
def k0_off6 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c256_i32 : BitVec 32 := 256#32
  let v12 : BitVec 32 := Scalar.muli arg14 c256_i32
  let v13 : BitVec 32 := v12
  let v769 : Index := Scalar.indexCast v13
  let c128_286 : Index := 128#32
  ![v769.toNat, 128]
def k0_mult3 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c128_i32_348 : BitVec 32 := 128#32
  let v991 : BitVec 32 := Scalar.muli arg14 c128_i32_348
  v991
def k0_off7 (k0_t1 : Fin k0_t1_loop.trips) : Fin 2 → Nat :=
  let c128_349 : Index := 128#32
  let c0_i32_1 : BitVec 32 := 0#32
  let c1_i32 : BitVec 32 := 1#32
  let arg14 : BitVec 32 := Scf.iv c0_i32_1 c1_i32 k0_t1
  let c128_i32_348 : BitVec 32 := 128#32
  let v991 : BitVec 32 := Scalar.muli arg14 c128_i32_348
  let v992 : BitVec 32 := v991
  let v995 : Index := Scalar.indexCast v992
  ![128, v995.toNat]
def k0_cond2 (i : grid0.Coords) (k0_t1 : Fin k0_t1_loop.trips) : BitVec 1 :=
  let arg1 : BitVec 32 := BitVec.ofNat 32 (i 1).val
  let c0_i32 : BitVec 32 := 0#32
  let v0 : BitVec 1 := Scalar.cmpi .eq arg1 c0_i32
  let c0_i32_1 : BitVec 32 := 0#32
  let c1_i32 : BitVec 32 := 1#32
  let arg14 : BitVec 32 := Scf.iv c0_i32_1 c1_i32 k0_t1
  let c0_i32_47 : BitVec 32 := 0#32
  let v128 : BitVec 1 := Scalar.cmpi .eq arg14 c0_i32_47
  let v129 : BitVec 1 := Scalar.andi v0 v128
  let v130 : BitVec 32 := Scalar.extui v129
  let c0_i32_48 : BitVec 32 := 0#32
  let v131 : BitVec 1 := Scalar.cmpi .ne v130 c0_i32_48
  v131

def k0_cond3 (i : grid0.Coords) (k0_t1 : Fin k0_t1_loop.trips) : BitVec 1 :=
  let arg1 : BitVec 32 := BitVec.ofNat 32 (i 1).val
  let c0_i32 : BitVec 32 := 0#32
  let v0 : BitVec 1 := Scalar.cmpi .eq arg1 c0_i32
  let c0_i32_1 : BitVec 32 := 0#32
  let c1_i32 : BitVec 32 := 1#32
  let arg14 : BitVec 32 := Scf.iv c0_i32_1 c1_i32 k0_t1
  let c0_i32_229 : BitVec 32 := 0#32
  let v657 : BitVec 1 := Scalar.cmpi .eq arg14 c0_i32_229
  let v658 : BitVec 1 := Scalar.andi v0 v657
  let v659 : BitVec 32 := Scalar.extui v658
  let c0_i32_230 : BitVec 32 := 0#32
  let v660 : BitVec 1 := Scalar.cmpi .ne v659 c0_i32_230
  v660

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== QuantDyRefIdeal.lean ====
abbrev S8x6144x5632 : Shape := ⟨3, ![8, 6144, 5632]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1536x32x5632 : Shape := ⟨3, ![1536, 32, 5632]⟩
abbrev S1536x5632x32 : Shape := ⟨3, ![1536, 5632, 32]⟩
abbrev S1536x5632 : Shape := ⟨2, ![1536, 5632]⟩
abbrev S1536x1x5632 : Shape := ⟨3, ![1536, 1, 5632]⟩
abbrev S1536x16x2x5632 : Shape := ⟨4, ![1536, 16, 2, 5632]⟩
abbrev S1536x16x1x5632 : Shape := ⟨4, ![1536, 16, 1, 5632]⟩
abbrev S1536x16x5632 : Shape := ⟨3, ![1536, 16, 5632]⟩
abbrev S5632x1536x16 : Shape := ⟨3, ![5632, 1536, 16]⟩
abbrev S5632x24576 : Shape := ⟨2, ![5632, 24576]⟩
abbrev S5632x1536 : Shape := ⟨2, ![5632, 1536]⟩

abbrev nBuf : Space → Nat
  | .hbm => 247
  | .vmem => 0
  | .smem => 0
  | _ => 0

abbrev hbmTy0_0 (i : Nat) : BufTy := match i % 128 with
  | 0 => ⟨S8x6144x5632, .bf16⟩
  | 1 => ⟨S32, .f32⟩
  | 2 => ⟨S8x6144x5632, .i8⟩
  | 3 => ⟨S32, .i32⟩
  | 4 => ⟨S32x1, .i32⟩
  | 5 => ⟨S1x32, .i32⟩
  | 6 => ⟨S32x32, .i32⟩
  | 7 => ⟨S32x32, .i32⟩
  | 8 => ⟨S32x32, .i32⟩
  | 9 => ⟨S32x32, .i32⟩
  | 10 => ⟨S_, .i32⟩
  | 11 => ⟨S32x32, .i32⟩
  | 12 => ⟨S32x32, .i32⟩
  | 13 => ⟨S_, .i32⟩
  | 14 => ⟨S32x32, .i32⟩
  | 15 => ⟨S32x32, .i1⟩
  | 16 => ⟨S_, .f32⟩
  | 17 => ⟨S_, .f32⟩
  | 18 => ⟨S32x32, .f32⟩
  | 19 => ⟨S32x32, .f32⟩
  | 20 => ⟨S32x32, .f32⟩
  | 21 => ⟨S1x32, .f32⟩
  | 22 => ⟨S32x32, .f32⟩
  | 23 => ⟨S32x32, .f32⟩
  | 24 => ⟨S_, .f32⟩
  | 25 => ⟨S32x32, .f32⟩
  | 26 => ⟨S32x32, .f32⟩
  | 27 => ⟨S8x6144x5632, .f32⟩
  | 28 => ⟨S1536x32x5632, .f32⟩
  | 29 => ⟨S1536x5632x32, .f32⟩
  | 30 => ⟨S1536x32x5632, .f32⟩
  | 31 => ⟨S1536x32x5632, .f32⟩
  | 32 => ⟨S_, .f32⟩
  | 33 => ⟨S1536x5632, .f32⟩
  | 34 => ⟨S_, .f32⟩
  | 35 => ⟨S1536x5632, .f32⟩
  | 36 => ⟨S1536x5632, .f32⟩
  | 37 => ⟨S1536x5632, .f32⟩
  | 38 => ⟨S_, .f32⟩
  | 39 => ⟨S_, .f32⟩
  | 40 => ⟨S1536x5632, .f32⟩
  | 41 => ⟨S1536x5632, .f32⟩
  | 42 => ⟨S_, .f32⟩
  | 43 => ⟨S1536x5632, .f32⟩
  | 44 => ⟨S1536x5632, .i1⟩
  | 45 => ⟨S1536x5632, .f32⟩
  | 46 => ⟨S_, .f32⟩
  | 47 => ⟨S1536x5632, .f32⟩
  | 48 => ⟨S1536x5632, .f32⟩
  | 49 => ⟨S1536x5632, .i32⟩
  | 50 => ⟨S_, .i32⟩
  | 51 => ⟨S_, .i32⟩
  | 52 => ⟨S1536x5632, .i32⟩
  | 53 => ⟨S1536x5632, .i32⟩
  | 54 => ⟨S1536x5632, .i32⟩
  | 55 => ⟨S1536x5632, .f32⟩
  | 56 => ⟨S_, .f32⟩
  | 57 => ⟨S1536x5632, .f32⟩
  | 58 => ⟨S1536x5632, .f32⟩
  | 59 => ⟨S1536x1x5632, .f32⟩
  | 60 => ⟨S1536x32x5632, .f32⟩
  | 61 => ⟨S1536x32x5632, .f32⟩
  | 62 => ⟨S1536x32x5632, .f32⟩
  | 63 => ⟨S_, .f32⟩
  | 64 => ⟨S1536x32x5632, .f32⟩
  | 65 => ⟨S1536x32x5632, .f32⟩
  | 66 => ⟨S_, .f32⟩
  | 67 => ⟨S1536x32x5632, .f32⟩
  | 68 => ⟨S1536x32x5632, .i1⟩
  | 69 => ⟨S1536x32x5632, .i32⟩
  | 70 => ⟨S_, .f32⟩
  | 71 => ⟨S1536x32x5632, .f32⟩
  | 72 => ⟨S1536x32x5632, .i1⟩
  | 73 => ⟨S1536x32x5632, .i32⟩
  | 74 => ⟨S1536x32x5632, .i32⟩
  | 75 => ⟨S_, .f32⟩
  | 76 => ⟨S1536x32x5632, .f32⟩
  | 77 => ⟨S1536x32x5632, .i1⟩
  | 78 => ⟨S1536x32x5632, .i32⟩
  | 79 => ⟨S1536x32x5632, .i32⟩
  | 80 => ⟨S_, .f32⟩
  | 81 => ⟨S1536x32x5632, .f32⟩
  | 82 => ⟨S1536x32x5632, .i1⟩
  | 83 => ⟨S1536x32x5632, .i32⟩
  | 84 => ⟨S1536x32x5632, .i32⟩
  | 85 => ⟨S_, .f32⟩
  | 86 => ⟨S1536x32x5632, .f32⟩
  | 87 => ⟨S1536x32x5632, .i1⟩
  | 88 => ⟨S1536x32x5632, .i32⟩
  | 89 => ⟨S1536x32x5632, .i32⟩
  | 90 => ⟨S_, .f32⟩
  | 91 => ⟨S1536x32x5632, .f32⟩
  | 92 => ⟨S1536x32x5632, .i1⟩
  | 93 => ⟨S1536x32x5632, .i32⟩
  | 94 => ⟨S1536x32x5632, .i32⟩
  | 95 => ⟨S_, .f32⟩
  | 96 => ⟨S1536x32x5632, .f32⟩
  | 97 => ⟨S1536x32x5632, .i1⟩
  | 98 => ⟨S1536x32x5632, .i32⟩
  | 99 => ⟨S1536x32x5632, .i32⟩
  | 100 => ⟨S_, .f32⟩
  | 101 => ⟨S1536x32x5632, .f32⟩
  | 102 => ⟨S_, .i32⟩
  | 103 => ⟨S1536x32x5632, .i32⟩
  | 104 => ⟨S1536x32x5632, .i1⟩
  | 105 => ⟨S_, .f32⟩
  | 106 => ⟨S1536x32x5632, .f32⟩
  | 107 => ⟨S1536x32x5632, .f32⟩
  | 108 => ⟨S_, .i32⟩
  | 109 => ⟨S1536x32x5632, .i32⟩
  | 110 => ⟨S1536x32x5632, .i1⟩
  | 111 => ⟨S_, .f32⟩
  | 112 => ⟨S1536x32x5632, .f32⟩
  | 113 => ⟨S1536x32x5632, .f32⟩
  | 114 => ⟨S_, .i32⟩
  | 115 => ⟨S1536x32x5632, .i32⟩
  | 116 => ⟨S1536x32x5632, .i1⟩
  | 117 => ⟨S_, .f32⟩
  | 118 => ⟨S1536x32x5632, .f32⟩
  | 119 => ⟨S1536x32x5632, .f32⟩
  | 120 => ⟨S_, .i32⟩
  | 121 => ⟨S1536x32x5632, .i32⟩
  | 122 => ⟨S1536x32x5632, .i1⟩
  | 123 => ⟨S_, .f32⟩
  | 124 => ⟨S1536x32x5632, .f32⟩
  | 125 => ⟨S1536x32x5632, .f32⟩
  | 126 => ⟨S_, .i32⟩
  | 127 => ⟨S1536x32x5632, .i32⟩
  | _ => ⟨S8x6144x5632, .bf16⟩

abbrev hbmTy0_1 (i : Nat) : BufTy := match i % 128 with
  | 0 => ⟨S1536x32x5632, .i1⟩
  | 1 => ⟨S_, .f32⟩
  | 2 => ⟨S1536x32x5632, .f32⟩
  | 3 => ⟨S1536x32x5632, .f32⟩
  | 4 => ⟨S_, .i32⟩
  | 5 => ⟨S1536x32x5632, .i32⟩
  | 6 => ⟨S1536x32x5632, .i1⟩
  | 7 => ⟨S_, .f32⟩
  | 8 => ⟨S1536x32x5632, .f32⟩
  | 9 => ⟨S1536x32x5632, .f32⟩
  | 10 => ⟨S_, .i32⟩
  | 11 => ⟨S1536x32x5632, .i32⟩
  | 12 => ⟨S1536x32x5632, .i1⟩
  | 13 => ⟨S_, .f32⟩
  | 14 => ⟨S1536x32x5632, .f32⟩
  | 15 => ⟨S1536x32x5632, .f32⟩
  | 16 => ⟨S_, .i32⟩
  | 17 => ⟨S1536x32x5632, .i32⟩
  | 18 => ⟨S1536x32x5632, .i32⟩
  | 19 => ⟨S_, .i32⟩
  | 20 => ⟨S1536x32x5632, .i32⟩
  | 21 => ⟨S1536x32x5632, .i32⟩
  | 22 => ⟨S_, .f32⟩
  | 23 => ⟨S1536x32x5632, .f32⟩
  | 24 => ⟨S_, .i32⟩
  | 25 => ⟨S1536x32x5632, .i32⟩
  | 26 => ⟨S1536x32x5632, .i1⟩
  | 27 => ⟨S_, .f32⟩
  | 28 => ⟨S1536x32x5632, .f32⟩
  | 29 => ⟨S1536x32x5632, .f32⟩
  | 30 => ⟨S_, .i32⟩
  | 31 => ⟨S1536x32x5632, .i32⟩
  | 32 => ⟨S1536x32x5632, .i1⟩
  | 33 => ⟨S_, .f32⟩
  | 34 => ⟨S1536x32x5632, .f32⟩
  | 35 => ⟨S1536x32x5632, .f32⟩
  | 36 => ⟨S_, .i32⟩
  | 37 => ⟨S1536x32x5632, .i32⟩
  | 38 => ⟨S1536x32x5632, .i1⟩
  | 39 => ⟨S_, .f32⟩
  | 40 => ⟨S1536x32x5632, .f32⟩
  | 41 => ⟨S1536x32x5632, .f32⟩
  | 42 => ⟨S_, .i32⟩
  | 43 => ⟨S1536x32x5632, .i32⟩
  | 44 => ⟨S1536x32x5632, .i1⟩
  | 45 => ⟨S_, .f32⟩
  | 46 => ⟨S1536x32x5632, .f32⟩
  | 47 => ⟨S1536x32x5632, .f32⟩
  | 48 => ⟨S_, .i32⟩
  | 49 => ⟨S1536x32x5632, .i32⟩
  | 50 => ⟨S1536x32x5632, .i1⟩
  | 51 => ⟨S_, .f32⟩
  | 52 => ⟨S1536x32x5632, .f32⟩
  | 53 => ⟨S1536x32x5632, .f32⟩
  | 54 => ⟨S_, .i32⟩
  | 55 => ⟨S1536x32x5632, .i32⟩
  | 56 => ⟨S1536x32x5632, .i1⟩
  | 57 => ⟨S_, .f32⟩
  | 58 => ⟨S1536x32x5632, .f32⟩
  | 59 => ⟨S1536x32x5632, .f32⟩
  | 60 => ⟨S_, .i32⟩
  | 61 => ⟨S1536x32x5632, .i32⟩
  | 62 => ⟨S1536x32x5632, .i1⟩
  | 63 => ⟨S_, .f32⟩
  | 64 => ⟨S1536x32x5632, .f32⟩
  | 65 => ⟨S1536x32x5632, .f32⟩
  | 66 => ⟨S1536x32x5632, .i1⟩
  | 67 => ⟨S1536x32x5632, .f32⟩
  | 68 => ⟨S1536x32x5632, .f32⟩
  | 69 => ⟨S_, .f32⟩
  | 70 => ⟨S_, .f32⟩
  | 71 => ⟨S1536x32x5632, .f32⟩
  | 72 => ⟨S1536x32x5632, .f32⟩
  | 73 => ⟨S1536x32x5632, .f32⟩
  | 74 => ⟨S_, .f32⟩
  | 75 => ⟨S_, .f32⟩
  | 76 => ⟨S1536x32x5632, .f32⟩
  | 77 => ⟨S1536x32x5632, .f32⟩
  | 78 => ⟨S1536x32x5632, .i8⟩
  | 79 => ⟨S1536x32x5632, .i32⟩
  | 80 => ⟨S1536x32x5632, .f32⟩
  | 81 => ⟨S_, .f32⟩
  | 82 => ⟨S1536x32x5632, .f32⟩
  | 83 => ⟨S1536x32x5632, .f32⟩
  | 84 => ⟨S_, .f32⟩
  | 85 => ⟨S1536x32x5632, .f32⟩
  | 86 => ⟨S1536x32x5632, .f32⟩
  | 87 => ⟨S1536x32x5632, .i1⟩
  | 88 => ⟨S1536x32x5632, .i32⟩
  | 89 => ⟨S1536x32x5632, .i32⟩
  | 90 => ⟨S_, .f32⟩
  | 91 => ⟨S1536x32x5632, .f32⟩
  | 92 => ⟨S1536x32x5632, .i1⟩
  | 93 => ⟨S_, .i32⟩
  | 94 => ⟨S1536x32x5632, .i32⟩
  | 95 => ⟨S1536x32x5632, .i1⟩
  | 96 => ⟨S1536x32x5632, .i1⟩
  | 97 => ⟨S1536x32x5632, .i32⟩
  | 98 => ⟨S_, .i32⟩
  | 99 => ⟨S1536x32x5632, .i32⟩
  | 100 => ⟨S1536x32x5632, .i32⟩
  | 101 => ⟨S1536x32x5632, .i32⟩
  | 102 => ⟨S1536x16x2x5632, .i32⟩
  | 103 => ⟨S1536x16x1x5632, .i32⟩
  | 104 => ⟨S1536x16x5632, .i32⟩
  | 105 => ⟨S1536x16x1x5632, .i32⟩
  | 106 => ⟨S1536x16x5632, .i32⟩
  | 107 => ⟨S_, .i32⟩
  | 108 => ⟨S1536x16x5632, .i32⟩
  | 109 => ⟨S1536x16x5632, .i32⟩
  | 110 => ⟨S1536x16x5632, .i32⟩
  | 111 => ⟨S5632x1536x16, .i32⟩
  | 112 => ⟨S5632x24576, .i32⟩
  | 113 => ⟨S5632x24576, .i8⟩
  | 114 => ⟨S_, .i32⟩
  | 115 => ⟨S1536x5632, .i32⟩
  | 116 => ⟨S1536x5632, .i32⟩
  | 117 => ⟨S1536x5632, .i8⟩
  | 118 => ⟨S5632x1536, .i8⟩
  | _ => ⟨S8x6144x5632, .bf16⟩

abbrev hbmTy (i : Nat) : BufTy := match i / 128 with
  | 0 => hbmTy0_0 i
  | 1 => hbmTy0_1 i
  | _ => ⟨S8x6144x5632, .bf16⟩

abbrev bufTy : (tb : Table) → Fin (tcTables nBuf tb) → BufTy
  | .hbm, ⟨i, _⟩ => hbmTy i
  | _, _ => ⟨S8x6144x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_c_19 : Ref sig .tc := ⟨.hbm, 102, rfl⟩
abbrev main_v74 : Ref sig .tc := ⟨.hbm, 103, rfl⟩
abbrev main_v75 : Ref sig .tc := ⟨.hbm, 104, rfl⟩
abbrev main_cst_20 : Ref sig .tc := ⟨.hbm, 105, rfl⟩
abbrev main_call2_v0 : Ref sig .tc := ⟨.hbm, 106, rfl⟩
abbrev main_v76 : Ref sig .tc := ⟨.hbm, 107, rfl⟩
abbrev main_c_21 : Ref sig .tc := ⟨.hbm, 108, rfl⟩
abbrev main_v77 : Ref sig .tc := ⟨.hbm, 109, rfl⟩
abbrev main_v78 : Ref sig .tc := ⟨.hbm, 110, rfl⟩
abbrev main_cst_22 : Ref sig .tc := ⟨.hbm, 111, rfl⟩
abbrev main_call3_v0 : Ref sig .tc := ⟨.hbm, 112, rfl⟩
abbrev main_v79 : Ref sig .tc := ⟨.hbm, 113, rfl⟩
abbrev main_c_23 : Ref sig .tc := ⟨.hbm, 114, rfl⟩
abbrev main_v80 : Ref sig .tc := ⟨.hbm, 115, rfl⟩
abbrev main_v81 : Ref sig .tc := ⟨.hbm, 116, rfl⟩
abbrev main_cst_24 : Ref sig .tc := ⟨.hbm, 117, rfl⟩
abbrev main_call4_v0 : Ref sig .tc := ⟨.hbm, 118, rfl⟩
abbrev main_v82 : Ref sig .tc := ⟨.hbm, 119, rfl⟩
abbrev main_c_25 : Ref sig .tc := ⟨.hbm, 120, rfl⟩
abbrev main_v83 : Ref sig .tc := ⟨.hbm, 121, rfl⟩
abbrev main_v84 : Ref sig .tc := ⟨.hbm, 122, rfl⟩
abbrev main_cst_26 : Ref sig .tc := ⟨.hbm, 123, rfl⟩
abbrev main_call5_v0 : Ref sig .tc := ⟨.hbm, 124, rfl⟩
abbrev main_v85 : Ref sig .tc := ⟨.hbm, 125, rfl⟩
abbrev main_c_27 : Ref sig .tc := ⟨.hbm, 126, rfl⟩
abbrev main_v86 : Ref sig .tc := ⟨.hbm, 127, rfl⟩
abbrev main_v87 : Ref sig .tc := ⟨.hbm, 128, rfl⟩
abbrev main_cst_28 : Ref sig .tc := ⟨.hbm, 129, rfl⟩
abbrev main_call6_v0 : Ref sig .tc := ⟨.hbm, 130, rfl⟩
abbrev main_v88 : Ref sig .tc := ⟨.hbm, 131, rfl⟩
abbrev main_c_29 : Ref sig .tc := ⟨.hbm, 132, rfl⟩
abbrev main_v89 : Ref sig .tc := ⟨.hbm, 133, rfl⟩
abbrev main_v90 : Ref sig .tc := ⟨.hbm, 134, rfl⟩
abbrev main_cst_30 : Ref sig .tc := ⟨.hbm, 135, rfl⟩
abbrev main_call7_v0 : Ref sig .tc := ⟨.hbm, 136, rfl⟩
abbrev main_v91 : Ref sig .tc := ⟨.hbm, 137, rfl⟩
abbrev main_c_31 : Ref sig .tc := ⟨.hbm, 138, rfl⟩
abbrev main_v92 : Ref sig .tc := ⟨.hbm, 139, rfl⟩
abbrev main_v93 : Ref sig .tc := ⟨.hbm, 140, rfl⟩
abbrev main_cst_32 : Ref sig .tc := ⟨.hbm, 141, rfl⟩
abbrev main_call8_v0 : Ref sig .tc := ⟨.hbm, 142, rfl⟩
abbrev main_v94 : Ref sig .tc := ⟨.hbm, 143, rfl⟩
abbrev main_c_33 : Ref sig .tc := ⟨.hbm, 144, rfl⟩
abbrev main_v95 : Ref sig .tc := ⟨.hbm, 145, rfl⟩
abbrev main_v96 : Ref sig .tc := ⟨.hbm, 146, rfl⟩
abbrev main_c_34 : Ref sig .tc := ⟨.hbm, 147, rfl⟩
abbrev main_v97 : Ref sig .tc := ⟨.hbm, 148, rfl⟩
abbrev main_v98 : Ref sig .tc := ⟨.hbm, 149, rfl⟩
abbrev main_cst_35 : Ref sig .tc := ⟨.hbm, 150, rfl⟩
abbrev main_v99 : Ref sig .tc := ⟨.hbm, 151, rfl⟩
abbrev main_c_36 : Ref sig .tc := ⟨.hbm, 152, rfl⟩
abbrev main_v100 : Ref sig .tc := ⟨.hbm, 153, rfl⟩
abbrev main_v101 : Ref sig .tc := ⟨.hbm, 154, rfl⟩
abbrev main_cst_37 : Ref sig .tc := ⟨.hbm, 155, rfl⟩
abbrev main_call9_v0 : Ref sig .tc := ⟨.hbm, 156, rfl⟩
abbrev main_v102 : Ref sig .tc := ⟨.hbm, 157, rfl⟩
abbrev main_c_38 : Ref sig .tc := ⟨.hbm, 158, rfl⟩
abbrev main_v103 : Ref sig .tc := ⟨.hbm, 159, rfl⟩
abbrev main_v104 : Ref sig .tc := ⟨.hbm, 160, rfl⟩
abbrev main_cst_39 : Ref sig .tc := ⟨.hbm, 161, rfl⟩
abbrev main_call10_v0 : Ref sig .tc := ⟨.hbm, 162, rfl⟩
abbrev main_v105 : Ref sig .tc := ⟨.hbm, 163, rfl⟩
abbrev main_c_40 : Ref sig .tc := ⟨.hbm, 164, rfl⟩
abbrev main_v106 : Ref sig .tc := ⟨.hbm, 165, rfl⟩
abbrev main_v107 : Ref sig .tc := ⟨.hbm, 166, rfl⟩
abbrev main_cst_41 : Ref sig .tc := ⟨.hbm, 167, rfl⟩
abbrev main_call11_v0 : Ref sig .tc := ⟨.hbm, 168, rfl⟩
abbrev main_v108 : Ref sig .tc := ⟨.hbm, 169, rfl⟩
abbrev main_c_42 : Ref sig .tc := ⟨.hbm, 170, rfl⟩
abbrev main_v109 : Ref sig .tc := ⟨.hbm, 171, rfl⟩
abbrev main_v110 : Ref sig .tc := ⟨.hbm, 172, rfl⟩
abbrev main_cst_43 : Ref sig .tc := ⟨.hbm, 173, rfl⟩
abbrev main_call12_v0 : Ref sig .tc := ⟨.hbm, 174, rfl⟩
abbrev main_v111 : Ref sig .tc := ⟨.hbm, 175, rfl⟩
abbrev main_c_44 : Ref sig .tc := ⟨.hbm, 176, rfl⟩
abbrev main_v112 : Ref sig .tc := ⟨.hbm, 177, rfl⟩
abbrev main_v113 : Ref sig .tc := ⟨.hbm, 178, rfl⟩
abbrev main_cst_45 : Ref sig .tc := ⟨.hbm, 179, rfl⟩
abbrev main_call13_v0 : Ref sig .tc := ⟨.hbm, 180, rfl⟩
abbrev main_v114 : Ref sig .tc := ⟨.hbm, 181, rfl⟩
abbrev main_c_46 : Ref sig .tc := ⟨.hbm, 182, rfl⟩
abbrev main_v115 : Ref sig .tc := ⟨.hbm, 183, rfl⟩
abbrev main_v116 : Ref sig .tc := ⟨.hbm, 184, rfl⟩
abbrev main_cst_47 : Ref sig .tc := ⟨.hbm, 185, rfl⟩
abbrev main_call14_v0 : Ref sig .tc := ⟨.hbm, 186, rfl⟩
abbrev main_v117 : Ref sig .tc := ⟨.hbm, 187, rfl⟩
abbrev main_c_48 : Ref sig .tc := ⟨.hbm, 188, rfl⟩
abbrev main_v118 : Ref sig .tc := ⟨.hbm, 189, rfl⟩
abbrev main_v119 : Ref sig .tc := ⟨.hbm, 190, rfl⟩
abbrev main_cst_49 : Ref sig .tc := ⟨.hbm, 191, rfl⟩
abbrev main_call15_v0 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_50 : Ref sig .tc := ⟨.hbm, 197, rfl⟩
abbrev main_call16_v0 : Ref sig .tc := ⟨.hbm, 198, rfl⟩
abbrev main_call16_v1 : Ref sig .tc := ⟨.hbm, 199, rfl⟩
abbrev main_v124 : Ref sig .tc := ⟨.hbm, 200, rfl⟩
abbrev main_v125 : Ref sig .tc := ⟨.hbm, 201, rfl⟩
abbrev main_cst_51 : Ref sig .tc := ⟨.hbm, 202, rfl⟩
abbrev main_call17_v0 : Ref sig .tc := ⟨.hbm, 203, rfl⟩
abbrev main_call17_v1 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_cst_52 : Ref sig .tc := ⟨.hbm, 209, rfl⟩
abbrev main_v130 : Ref sig .tc := ⟨.hbm, 210, rfl⟩
abbrev main_v131 : Ref sig .tc := ⟨.hbm, 211, rfl⟩
abbrev main_cst_53 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_54 : Ref sig .tc := ⟨.hbm, 218, rfl⟩
abbrev main_v137 : Ref sig .tc := ⟨.hbm, 219, rfl⟩
abbrev main_v138 : Ref sig .tc := ⟨.hbm, 220, rfl⟩
abbrev main_c_55 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_c_56 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_c_57 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_c_58 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩

abbrev nD : Nat := 1
abbrev τ : Topo := Topo.v7x

variable {F : FTy → Type} [FloatOps F]
-- ==== Proof.Common.lean ====
/-
  Facts that both value proofs use and that mention neither program: two-axis arrays read at natural-number
  coordinates (`rd`), sums cut into equal blocks, sums of extended reals under a finite non-negative factor, and a
  one-axis contraction as a sum over natural numbers.
-/
module

public import Idealize.ShloMosaic.PureOps.Ideal
public import Idealize.ShloMosaic.Lib.ValueIdx
public import Idealize.ShloMosaic.Lib.Pipeline.Value
public import Idealize.ShloMosaic.Lib.Pointwise

@[expose] public section

noncomputable section

namespace Cert.Proof.Common

open Idealize.ShloMosaic
open Idealize.ShloMosaic.ValueIdx hiding ix0 ix1 ix2 ix3 ix4 ix5 eq_ix0 eq_ix1 eq_ix2 eq_ix3 eq_ix4 eq_ix5
open scoped BigOperators

/-! ### Two-axis arrays at natural-number coordinates -/

/-- The element of a two-axis array at row `p`, column `q`; a default value outside the array. -/
def rd {α : Type} [Inhabited α] {a b : ℕ} (f : (⟨2, ![a, b]⟩ : Shape).Idx → α) (p q : ℕ) : α :=
  if h : p < a ∧ q < b then f (ix2 ⟨p, h.1⟩ ⟨q, h.2⟩) else default

/-- An element is the array read at its index's coordinates. -/
theorem eq_rd {α : Type} [Inhabited α] {a b : ℕ} (f : (⟨2, ![a, b]⟩ : Shape).Idx → α)
    (i : (⟨2, ![a, b]⟩ : Shape).Idx) (p q : ℕ) (hp : (i 0 : ℕ) = p) (hq : (i 1 : ℕ) = q) : f i = rd f p q := by
  subst hp; subst hq
  have h0 : (i 0).val < a := (i 0).isLt
  have h1 : (i 1).val < b := (i 1).isLt
  unfold rd
  rw [dif_pos ⟨h0, h1⟩]
  exact congrArg f (eq_ix2 i)

/-! ### Sums in blocks -/

/-- A sum over `J` blocks of `K` consecutive naturals is the sum over the first `J * K` naturals. -/
theorem sum_blocks {M : Type} [AddCommMonoid M] (J K : ℕ) (g : ℕ → M) :
    ∑ s ∈ Finset.range J, ∑ k ∈ Finset.range K, g (K * s + k) = ∑ t ∈ Finset.range (K * J), g t := by
  induction J with
  | zero => simp
  | succ n ih => rw [Finset.sum_range_succ, ih, Nat.mul_succ, Finset.sum_range_add]

/-! ### Extended reals -/

/-- A finite non-negative factor distributes over a sum of extended reals. -/
theorem sum_mul_of_finite {ι : Type} (S : Finset ι) (f : ι → EReal) (x : EReal) (h0 : 0 ≤ x) (h1 : x ≠ ⊤) :
    (∑ i ∈ S, f i) * x = ∑ i ∈ S, f i * x := by
  classical
  induction S using Finset.induction_on with
  | empty => simp
  | insert a S ha ih => rw [Finset.sum_insert ha, Finset.sum_insert ha, EReal.right_distrib_of_nonneg_of_ne_top h0 h1, ih]

/-- The zero word of `f32` is the real 0. -/
theorem ofBits_zero : Ideal.ofBits .f32 0x00000000#32 = 0 := by simp [Ideal.ofBits, Ideal.ieee]
/-- The word `0x7F800000` of `f32` is `+∞`. -/
theorem ofBits_inf : Ideal.ofBits .f32 0x7F800000#32 = ⊤ := by simp [Ideal.ofBits, Ideal.ieee]

/-! ### A one-axis contraction -/

/-- A matrix product contracted over one axis of extent `n`, whose terms are `g k` at contraction coordinate `k`, is
    the accumulator plus the sum of `g` over the first `n` naturals. -/
theorem matmul_eq_sum {sl sr so : Shape} (D : DotDims sl sr so) (n : ℕ) (hr : D.contr.rank = 1)
    (hs : D.contr.size ⟨0, by omega⟩ = n) (l : sl.Idx → EReal) (r : sr.Idx → EReal) (acc : so.Idx → EReal)
    (j : so.Idx) (g : ℕ → EReal)
    (hg : ∀ q : D.contr.Idx, l (D.lhsIdx j q) * r (D.rhsIdx j q) = g (q ⟨0, by omega⟩)) :
    Ideal.matmul D l r acc j = acc j + ∑ k ∈ Finset.range n, g k := by
  unfold Ideal.matmul
  congr 1
  rw [← Equiv.sum_comp (contrEquiv1 D n hr hs).symm, Finset.sum_range]
  refine Finset.sum_congr rfl fun k _ => ?_
  rw [hg, contrEquiv1_symm_val]

/-! ### A conjunction over all elements -/

/-- An `and` over a whole array of truth values, started at true, is true only if every element is. -/
theorem reduce_and_forall {s t u : Shape} {axes : List (Fin s.rank)} (x : IVec s 1) (init : IVec u 1)
    (h : s.ReducesTo axes t) (hu : 0 < u.numel) (j : t.Idx) (ht : ∀ i, h.drop i = j)
    (e : Host.reduce IntOp.andi x init h hu j = 1#1) (i : s.Idx) : x i = 1#1 := by
  have key : ∀ (L : List (Fin s.numel)) (a : BitVec 1),
      L.foldl (fun r n => IntOp.andi r (x (s.rowMajor.symm n))) a = 1#1 → a = 1#1 ∧ ∀ n ∈ L, x (s.rowMajor.symm n) = 1#1 := by
    intro L
    induction L with
    | nil => intro a ha; exact ⟨ha, by simp⟩
    | cons b L ih =>
      intro a ha
      obtain ⟨h1, h2⟩ := ih _ ha
      have h3 : ∀ p q : BitVec 1, IntOp.andi p q = 1#1 → p = 1#1 ∧ q = 1#1 := by
        unfold IntOp.andi; decide
      obtain ⟨h4, h5⟩ := h3 _ _ h1
      exact ⟨h4, fun n hn => by rcases List.mem_cons.mp hn with rfl | hn; exacts [h5, h2 n hn]⟩
  unfold Host.reduce at e
  have := (key _ _ e).2 (s.rowMajor i) (by simp [ht])
  simpa using this

end Cert.Proof.Common

end
-- ==== Proof.WgradBlocks.lean ====
/-
  What the kernel of `_matmul` leaves in its result array, at the ideal instance: at row `i`, column `j` the sum over
  all tokens `t` of `dyq[t, i] * xq[t, j]`, times `sx[j]`, times `sy[i]`.
-/
module

public import proofs.«01_k».proof.Proof.Common
public import proofs.«01_k».proof.Proof.Gen.WgradIdeal.Value

@[expose] public section

noncomputable section

namespace Cert.Proof.WgradBlocks

open Cert.WgradIdeal Cert.WgradIdeal.Gen Cert.WgradIdeal.Value Cert.Proof.Common
open Idealize.ShloMosaic Idealize.ShloMosaic.TcCoe Idealize.SL.Sem
open Idealize.ShloMosaic.ValueIdx hiding ix0 ix1 ix2 ix3 ix4 ix5 eq_ix0 eq_ix1 eq_ix2 eq_ix3 eq_ix4 eq_ix5
open scoped BigOperators

/-! ### One grid point -/

abbrev D : DotDims S2048x512 S2048x2048 S512x2048 := dot_S2048x512_S2048x2048_S512x2048_0_0_1_1_n_n

theorem lhs_0 (j : S512x2048.Idx) (k : D.contr.Idx) : (D.lhsIdx j k 0 : ℕ) = k ⟨0, by decide⟩ := by
  simp [DotDims.lhsIdx, D, dot_S2048x512_S2048x2048_S512x2048_0_0_1_1_n_n]; rfl
theorem lhs_1 (j : S512x2048.Idx) (k : D.contr.Idx) : (D.lhsIdx j k 1 : ℕ) = j 0 := by
  simp [DotDims.lhsIdx, D, dot_S2048x512_S2048x2048_S512x2048_0_0_1_1_n_n]; rfl
theorem rhs_0 (j : S512x2048.Idx) (k : D.contr.Idx) : (D.rhsIdx j k 0 : ℕ) = k ⟨0, by decide⟩ := by
  simp [DotDims.rhsIdx, D, dot_S2048x512_S2048x2048_S512x2048_0_0_1_1_n_n]; rfl
theorem rhs_1 (j : S512x2048.Idx) (k : D.contr.Idx) : (D.rhsIdx j k 1 : ℕ) = j 1 := by
  simp [DotDims.rhsIdx, D, dot_S2048x512_S2048x2048_S512x2048_0_0_1_1_n_n]; rfl

/-- The accumulating store: the accumulator plus the product of the point's two blocks, contracted over their rows. -/
theorem pay2_apply (acc : Vec Ideal S512x2048 .f32) (a : Vec Ideal S2048x512 .fp8e5m2)
    (b : Vec Ideal S2048x2048 .fp8e5m2) (j : S512x2048.Idx) (g : ℕ → EReal)
    (hg : ∀ k : Fin 2048, a (ix2 k (j 0)) * b (ix2 k (j 1)) = g k) :
    k0_pay2 acc a b j = acc j + ∑ k ∈ Finset.range 2048, g k := by
  unfold k0_pay2
  simp only [shapeCast_self, addf_apply]
  congr 1
  have h := matmul_eq_sum D 2048 rfl rfl a b (constant (F := Ideal) S512x2048 .f32 0x00000000#32) j g (fun q => by
    have hq : (q ⟨0, by decide⟩ : ℕ) < 2048 := (q ⟨0, by decide⟩).isLt
    rw [show D.lhsIdx j q = ix2 (⟨q ⟨0, by decide⟩, hq⟩ : Fin 2048) (j 0) from
        Shape.idx_ext₂ (lhs_0 j q) (lhs_1 j q),
      show D.rhsIdx j q = ix2 (⟨q ⟨0, by decide⟩, hq⟩ : Fin 2048) (j 1) from
        Shape.idx_ext₂ (rhs_0 j q) (rhs_1 j q)]
    exact hg ⟨_, hq⟩)
  rw [ValueIdx.constant_apply, ofBits_zero, zero_add] at h
  exact h

/-- The last store: the sum times its column's factor, times its row's factor. -/
theorem pay3_apply (v : Vec Ideal S512x2048 .f32) (sx : Vec Ideal S1x2048 .f32) (sy : Vec Ideal S512x1 .f32)
    (j : S512x2048.Idx) : k0_pay3 v sx sy j = v j * sx (ix2 0 (j 1)) * sy (ix2 (j 0) 0) := by
  unfold k0_pay3
  pointwise

/-! ### The blocks a grid point reads -/

variable (m : (ℓ : Loc nD τ sig) → Buf (Elt Ideal) ℓ)

theorem index_0 : ∀ t : Fin cfg0.N, win0_0.index t (0 : Fin 2) = t.val % 24 ∧ win0_0.index t (1 : Fin 2) = t.val / 24 :=
  (by decide +kernel : ∀ t : Fin grid0.N, _)
theorem index_1 : ∀ t : Fin cfg0.N, win0_1.index t (0 : Fin 2) = t.val % 24 ∧ win0_1.index t (1 : Fin 2) = 0 :=
  (by decide +kernel : ∀ t : Fin grid0.N, _)
theorem index_2 : ∀ t : Fin cfg0.N, win0_2.index t (0 : Fin 2) = t.val / 24 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)

/-- The four arguments as arrays of extended reals. -/
def dyq (c : Dev nD) : S49152x5632.Idx → EReal := m ((c : Thread nD τ).loc main_arg0)
def xq (c : Dev nD) : S49152x2048.Idx → EReal := m ((c : Thread nD τ).loc main_arg1)
def sy (c : Dev nD) : S5632x1.Idx → EReal := m ((c : Thread nD τ).loc main_arg2)
def sx (c : Dev nD) : S1x2048.Idx → EReal := m ((c : Thread nD τ).loc main_arg3)

/-- Point `t` reads rows `2048 (t % 24) …`, columns `512 (t / 24) …` of `dyq`; -/
theorem iblk_0 (c : Dev nD) (t : Fin cfg0.N) (j : S2048x512.Idx) :
    (iblk m c 0 t : Vec Ideal S2048x512 .fp8e5m2) j = rd (dyq m c) (2048 * (t.val % 24) + j 0) (512 * (t.val / 24) + j 1) := by
  have hi := index_0 t
  unfold iblk
  rw [View.read_apply]
  show V m c main_arg0 _ = _
  unfold V
  refine eq_rd (dyq m c) _ _ _ ?_ ?_
  · show win0_0.index t 0 * 2048 + 1 * (j 0).val = _; rw [hi.1]; omega
  · show win0_0.index t 1 * 512 + 1 * (j 1).val = _; rw [hi.2]; omega
/-- rows `2048 (t % 24) …` of `xq`; -/
theorem iblk_1 (c : Dev nD) (t : Fin cfg0.N) (j : S2048x2048.Idx) :
    (iblk m c 1 t : Vec Ideal S2048x2048 .fp8e5m2) j = rd (xq m c) (2048 * (t.val % 24) + j 0) (j 1) := by
  have hi := index_1 t
  unfold iblk
  rw [View.read_apply]
  show V m c main_arg1 _ = _
  unfold V
  refine eq_rd (xq m c) _ _ _ ?_ ?_
  · show win0_1.index t 0 * 2048 + 1 * (j 0).val = _; rw [hi.1]; omega
  · show win0_1.index t 1 * 2048 + 1 * (j 1).val = _; rw [hi.2]; omega
/-- rows `512 (t / 24) …` of the row factors; -/
theorem iblk_2 (c : Dev nD) (t : Fin cfg0.N) (j : S512x1.Idx) :
    (iblk m c 2 t : Vec Ideal S512x1 .f32) j = rd (sy m c) (512 * (t.val / 24) + j 0) 0 := by
  have hi := index_2 t
  unfold iblk
  rw [View.read_apply]
  show V m c main_arg2 _ = _
  unfold V
  have h1 : (j 1).val < 1 := (j 1).isLt
  refine eq_rd (sy m c) _ _ _ ?_ ?_
  · show win0_2.index t 0 * 512 + 1 * (j 0).val = _; rw [hi.1]; omega
  · show win0_2.index t 1 * 1 + 1 * (j 1).val = _; rw [hi.2]; omega
/-- and the column factors. -/
theorem iblk_3 (c : Dev nD) (t : Fin cfg0.N) (j : S1x2048.Idx) :
    (iblk m c 3 t : Vec Ideal S1x2048 .f32) j = rd (sx m c) 0 (j 1) := by
  have hi := index_3 t
  unfold iblk
  rw [View.read_apply]
  show V m c main_arg3 _ = _
  unfold V
  have h0 : (j 0).val < 1 := (j 0).isLt
  refine eq_rd (sx m c) _ _ _ ?_ ?_
  · show win0_3.index t 0 * 1 + 1 * (j 0).val = _; rw [hi.1]; omega
  · show win0_3.index t 1 * 2048 + 1 * (j 1).val = _; rw [hi.2]; omega

/-! ### The fold over the 24 token blocks -/

/-- One token's contribution to row `p`, column `q`. -/
def term (c : Dev nD) (p q t : ℕ) : EReal := rd (dyq m c) t p * rd (xq m c) t q

/-- What point `n` adds to its block at `j`. -/
def addend (c : Dev nD) (n : ℕ) (j : S512x2048.Idx) : EReal :=
  ∑ k ∈ Finset.range 2048, term m c (512 * (n / 24) + j 0) (j 1) (2048 * (n % 24) + k)

theorem pay2_point (c : Dev nD) (n : ℕ) (h : n < cfg0.N) (acc : Vec Ideal S512x2048 .f32) (j : S512x2048.Idx) :
    k0_pay2 acc (iblk m c 0 ⟨n, h⟩) (iblk m c 1 ⟨n, h⟩) j = acc j + addend m c n j :=
  pay2_apply _ _ _ _ _ fun k => by rw [iblk_0, iblk_1]; rfl

theorem reset_apply (c : Dev nD) (n : ℕ) (h : n < cfg0.N) (j : S512x2048.Idx) :
    reset4 m c n h j = 0 + addend m c n j := by
  unfold reset4
  rw [pay2_point]
  congr 1
  exact ofBits_zero

theorem step_apply (c : Dev nD) (n : ℕ) (h : n < cfg0.N) (acc : Vec Ideal S512x2048 .f32) (j : S512x2048.Idx)
    (h0 : ¬n % 24 = 0) (h1 : ¬n % 24 = 23) : step4 m c n h acc j = acc j + addend m c n j := by
  unfold step4
  rw [if_pos ⟨h0, h1⟩, pay2_point]

theorem last_apply (c : Dev nD) (n : ℕ) (h : n < cfg0.N) (acc : Vec Ideal S512x2048 .f32) (j : S512x2048.Idx)
    (h1 : n % 24 = 23) : step4 m c n h acc j
      = (acc j + addend m c n j) * rd (sx m c) 0 (j 1) * rd (sy m c) (512 * (n / 24) + j 0) 0 := by
  unfold step4
  rw [if_neg (fun hh => hh.2 h1), if_pos ⟨show ¬n % 24 = 0 by omega, h1⟩, pay3_apply, pay2_point, iblk_3, iblk_2]
  rfl

/-- The result array the run leaves, as an array of extended reals. -/
def result (c : Dev nD) : S5632x2048.Idx → EReal := G4 m c

/-- THE RESULT ARRAY: the sum over all 49152 tokens, times the column's factor, times the row's factor. -/
theorem result_apply (c : Dev nD) (i : S5632x2048.Idx) :
    result m c i
      = (∑ t ∈ Finset.range 49152, term m c (i 0) (i 1) t) * rd (sx m c) 0 (i 1) * rd (sy m c) (i 0) 0 := by
  have hi0 : (i 0).val < 5632 := (i 0).isLt
  have hi1 : (i 1).val < 2048 := (i 1).isLt
  have hr : run4Of i = (i 0).val / 512 := by unfold run4Of; omega
  have hN : cfg0.N = 264 := N_0
  unfold result G4
  rw [dif_pos (by rw [hr, hN]; omega), Pipeline.accAt_succ, last_apply m c _ _ _ _ (by omega),
    Pipeline.accAt_add_apply (reset4 m c) (step4 m c) (fun _ => 0) (addend m c) (24 * run4Of i) 22
      (fun h j => reset_apply m c _ h j)
      (fun n h acc j hl hu => step_apply m c n h acc j (by omega) (by omega)) 22 le_rfl, zero_add,
    ← Finset.sum_range_succ (fun s => addend m c (24 * run4Of i + s) (loc4Of i)) 23]
  have hl0 : (loc4Of i 0 : ℕ) = (i 0).val % 512 := rfl
  have hl1 : (loc4Of i 1 : ℕ) = (i 1).val % 2048 := rfl
  have e0 : 512 * ((i 0).val / 512) + (i 0).val % 512 = (i 0).val := by omega
  have e1 : (i 1).val % 2048 = (i 1).val := by omega
  have hsum : ∑ s ∈ Finset.range (23 + 1), addend m c (24 * run4Of i + s) (loc4Of i)
      = ∑ t ∈ Finset.range 49152, term m c (i 0) (i 1) t := by
    rw [show (49152 : ℕ) = 2048 * 24 from rfl, ← sum_blocks]
    refine Finset.sum_congr rfl fun s hs => ?_
    have hs' := Finset.mem_range.mp hs
    unfold addend
    refine Finset.sum_congr rfl fun k _ => ?_
    rw [hl0, hl1, hr, show (24 * ((i 0).val / 512) + s) / 24 = (i 0).val / 512 from by omega,
      show (24 * ((i 0).val / 512) + s) % 24 = s from by omega, e0, e1]
  rw [hsum, hl0, hl1, hr, show (24 * ((i 0).val / 512) + (22 + 1)) / 24 = (i 0).val / 512 from by omega, e0, e1]

end Cert.Proof.WgradBlocks

end
-- ==== Proof.WgradRef.lean ====
/-
  What the reference of `_matmul` computes, at the ideal instance: at row `i`, column `j` the sum over all tokens `t`
  of the dequantised elements' products, `(dyq[t, i] * sy[i]) * (xq[t, j] * sx[j])`.
-/
module

public import proofs.«01_k».proof.Proof.Common
public import proofs.«01_k».proof.Proof.Gen.WgradRefIdeal.Value

@[expose] public section

noncomputable section

namespace Cert.Proof.WgradRef

open Cert.WgradRefIdeal Cert.WgradRefIdeal.Gen Cert.Proof.Common
open Idealize.ShloMosaic
open scoped BigOperators

abbrev D : DotDims S49152x5632 S49152x2048 S5632x2048 := dot_S49152x5632_S49152x2048_S5632x2048_0_0_1_1_n_n

theorem lhs_0 (j : S5632x2048.Idx) (k : D.contr.Idx) : (D.lhsIdx j k 0 : ℕ) = k ⟨0, by decide⟩ := by
  simp [DotDims.lhsIdx, D, dot_S49152x5632_S49152x2048_S5632x2048_0_0_1_1_n_n]; rfl
theorem lhs_1 (j : S5632x2048.Idx) (k : D.contr.Idx) : (D.lhsIdx j k 1 : ℕ) = j 0 := by
  simp [DotDims.lhsIdx, D, dot_S49152x5632_S49152x2048_S5632x2048_0_0_1_1_n_n]; rfl
theorem rhs_0 (j : S5632x2048.Idx) (k : D.contr.Idx) : (D.rhsIdx j k 0 : ℕ) = k ⟨0, by decide⟩ := by
  simp [DotDims.rhsIdx, D, dot_S49152x5632_S49152x2048_S5632x2048_0_0_1_1_n_n]; rfl
theorem rhs_1 (j : S5632x2048.Idx) (k : D.contr.Idx) : (D.rhsIdx j k 1 : ℕ) = j 1 := by
  simp [DotDims.rhsIdx, D, dot_S49152x5632_S49152x2048_S5632x2048_0_0_1_1_n_n]; rfl

/-- THE REFERENCE: the sum over all 49152 tokens of the products of the dequantised elements. -/
theorem ref_apply (dyq : S49152x5632.Idx → EReal) (xq : S49152x2048.Idx → EReal) (sy : S5632x1.Idx → EReal)
    (sx : S1x2048.Idx → EReal) (i : S5632x2048.Idx) :
    (k0_pay1 (F := Ideal) dyq sy xq sx : S5632x2048.Idx → EReal) i
      = ∑ t ∈ Finset.range 49152, rd dyq t (i 0) * rd sy (i 0) 0 * (rd xq t (i 1) * rd sx 0 (i 1)) := by
  have hl (a : S49152x5632.Idx) : mulf (F := Ideal) (φ := .f32) (extf .f32 dyq bitsLt_fp8e5m2_f32) (broadcastTo S49152x5632
      (shapeCast S1x5632 sy shapeCasts_S5632x1_S1x5632) broadcasts_S1x5632_S49152x5632) a
      = rd dyq (a 0) (a 1) * rd sy (a 1) 0 := by
    rw [← eq_rd dyq a _ _ rfl rfl, ← eq_rd sy (ix2 (a 1) 0) (a 1) 0 rfl rfl]
    pointwise
  have hr (b : S49152x2048.Idx) : mulf (F := Ideal) (φ := .f32) (extf .f32 xq bitsLt_fp8e5m2_f32)
      (broadcastTo S49152x2048 sx broadcasts_S1x2048_S49152x2048) b = rd xq (b 0) (b 1) * rd sx 0 (b 1) := by
    rw [← eq_rd xq b _ _ rfl rfl, ← eq_rd sx (ix2 0 (b 1)) 0 (b 1) rfl rfl]
    pointwise
  have h := matmul_eq_sum D 49152 rfl rfl
    (mulf (F := Ideal) (φ := .f32) (extf .f32 dyq bitsLt_fp8e5m2_f32) (broadcastTo S49152x5632
      (shapeCast S1x5632 sy shapeCasts_S5632x1_S1x5632) broadcasts_S1x5632_S49152x5632))
    (mulf (F := Ideal) (φ := .f32) (extf .f32 xq bitsLt_fp8e5m2_f32)
      (broadcastTo S49152x2048 sx broadcasts_S1x2048_S49152x2048))
    (constant (F := Ideal) S5632x2048 .f32 0x00000000#32) i
    (fun t => rd dyq t (i 0) * rd sy (i 0) 0 * (rd xq t (i 1) * rd sx 0 (i 1))) (fun q => by
      rw [hl, hr, lhs_0, lhs_1, rhs_0, rhs_1])
  rw [ValueIdx.constant_apply, ofBits_zero, zero_add] at h
  exact h

end Cert.Proof.WgradRef

end
-- ==== Proof.WgradClaim.lean ====
/-
  The kernel of `_matmul` computes its reference at the ideal instance, wherever every scale is finite and not
  negative: the kernel multiplies the finished sum by the two scales, the reference multiplies every element.
-/
module

public import proofs.«01_k».proof.Defs
public import proofs.«01_k».proof.Proof.WgradBlocks
public import proofs.«01_k».proof.Proof.WgradRef
public import proofs.«01_k».proof.Proof.Gen.Pre_scales_finite

@[expose] public section

noncomputable section

namespace Cert.Proof.WgradClaim

open Cert.Proof.Common Cert.Proof.WgradBlocks Cert.WgradIdeal
open Idealize.ShloMosaic Idealize.ShloMosaic.TcCoe Idealize.SL.Sem
open scoped BigOperators

/-- A comparison that holds, read as an inequality. -/
theorem of_oge {x y : EReal} (h : Ideal.cmp .oge x y = 1#1) : y ≤ x := by
  by_contra hn; simp [Ideal.cmp, hn] at h
theorem of_olt {x y : EReal} (h : Ideal.cmp .olt x y = 1#1) : x < y := by
  by_contra hn; simp [Ideal.cmp, hn] at h

theorem and_split (x y : IVec Cert.Pre_scales_finite.S_ 1) (j : Cert.Pre_scales_finite.S_.Idx)
    (h : andi x y j = 1#1) : x j = 1#1 ∧ y j = 1#1 := by
  have h3 : ∀ p q : BitVec 1, IntOp.andi p q = 1#1 → p = 1#1 ∧ q = 1#1 := by unfold IntOp.andi; decide
  exact h3 _ _ h

/-- THE PRECONDITION, read: every scale is at least 0 and below `+∞`. -/
theorem pre_read (a : FVec Ideal S49152x5632 .fp8e5m2) (b : FVec Ideal S49152x2048 .fp8e5m2)
    (sy : S5632x1.Idx → EReal) (sx : S1x2048.Idx → EReal)
    (h : Cert.Pre_scales_finite.fn (F := Ideal) a b sy sx = fun _ => 1#1) :
    (∀ i, 0 ≤ sy i ∧ sy i ≠ ⊤) ∧ (∀ i, 0 ≤ sx i ∧ sx i ≠ ⊤) := by
  have h := congrFun h (fun a => a.elim0)
  unfold Cert.Pre_scales_finite.fn at h
  obtain ⟨h, h4⟩ := and_split _ _ _ h
  obtain ⟨h, h3⟩ := and_split _ _ _ h
  obtain ⟨h1, h2⟩ := and_split _ _ _ h
  have e1 := reduce_and_forall _ _ _ _ _ (fun i => funext fun a => a.elim0) h1
  have e2 := reduce_and_forall _ _ _ _ _ (fun i => funext fun a => a.elim0) h2
  have e3 := reduce_and_forall _ _ _ _ _ (fun i => funext fun a => a.elim0) h3
  have e4 := reduce_and_forall _ _ _ _ _ (fun i => funext fun a => a.elim0) h4
  refine ⟨fun i => ⟨?_, ?_⟩, fun i => ⟨?_, ?_⟩⟩
  · have := of_oge (e1 i); rwa [show broadcastInDim _ _ _ _ i = Ideal.ofBits .f32 0x00000000#32 from rfl, ofBits_zero] at this
  · have := of_olt (e2 i); rw [show broadcastInDim _ _ _ _ i = Ideal.ofBits .f32 0x7F800000#32 from rfl, ofBits_inf] at this; exact this.ne
  · have := of_oge (e3 i); rwa [show broadcastInDim _ _ _ _ i = Ideal.ofBits .f32 0x00000000#32 from rfl, ofBits_zero] at this
  · have := of_olt (e4 i); rw [show broadcastInDim _ _ _ _ i = Ideal.ofBits .f32 0x7F800000#32 from rfl, ofBits_inf] at this; exact this.ne

/-- A property of every element holds of every in-range read. -/
theorem rd_of_forall {a b : ℕ} (f : (⟨2, ![a, b]⟩ : Shape).Idx → EReal) (Q : EReal → Prop) (h : ∀ i, Q (f i)) (p q : ℕ)
    (hp : p < a) (hq : q < b) : Q (rd f p q) := by
  unfold rd; rw [dif_pos ⟨hp, hq⟩]; exact h _

variable (m : (ℓ : Loc nD τ sig) → Buf (Elt Ideal) ℓ)

/-- THE EQUATION: the kernel's result array is the reference's. -/
theorem result_eq_ref (c : Dev nD) (hy : ∀ i, 0 ≤ sy m c i ∧ sy m c i ≠ ⊤) (hx : ∀ i, 0 ≤ sx m c i ∧ sx m c i ≠ ⊤) :
    result m c
      = Cert.WgradRefIdeal.Gen.k0_pay1 (F := Ideal) (dyq m c) (sy m c) (xq m c) (sx m c) := by
  funext i
  have hi0 : (i 0).val < 5632 := (i 0).isLt
  have hi1 : (i 1).val < 2048 := (i 1).isLt
  obtain ⟨y0, y1⟩ := rd_of_forall (sy m c) (fun x => 0 ≤ x ∧ x ≠ ⊤) hy (i 0) 0 hi0 (by norm_num)
  obtain ⟨x0, x1⟩ := rd_of_forall (sx m c) (fun x => 0 ≤ x ∧ x ≠ ⊤) hx 0 (i 1) (by norm_num) hi1
  refine (result_apply m c i).trans (Eq.trans ?_
    (Cert.Proof.WgradRef.ref_apply (dyq m c) (xq m c) (sy m c) (sx m c) i).symm)
  rw [sum_mul_of_finite _ _ _ x0 x1, sum_mul_of_finite _ _ _ y0 y1]
  refine Finset.sum_congr rfl fun t _ => ?_
  unfold term
  simp only [mul_assoc, mul_left_comm, mul_comm]

/-- The claim: both run, and end with equal results, arguments unchanged. -/
theorem algebraic : Cert.algebraic_WgradIdeal_WgradRefIdeal_pre_scales_finite (hWgradIdeal := Cert.WgradIdeal.Gen.facts)
    (hWgradRefIdeal := Cert.WgradRefIdeal.Gen.facts) (hPre_scales_finite := Cert.Pre_scales_finite.Gen.facts) := by
  intro m g m' g' hpre hargs
  refine ⟨fun c => Cert.WgradIdeal.Value.G4 m c, Cert.WgradIdeal.Value.run m g, ?_⟩
  refine (θ_run _ _ _).mono (fun r h c => ?_) (Cert.WgradRefIdeal.Value.run m' g')
  obtain ⟨h0, h1, h2, h3, h4⟩ := h c
  refine ⟨?_, h1, h2, h3, h4⟩
  obtain ⟨a0, a1, a2, a3⟩ := hargs c
  obtain ⟨hy, hx⟩ := pre_read _ _ _ _ (hpre c)
  rw [h0, a0, a1, a2, a3]
  exact (result_eq_ref m c hy hx).symm

end Cert.Proof.WgradClaim

end
-- ==== Proof.CodesDecode.lean ====
/-
  The two decodings of a code, and the two readings of a block scale, as functions of one word over the extended reals:
  the kernel's (arithmetic on the bits) and the reference's (a table, and a power of two). They agree on every nibble,
  and on every block scale from 1 to 254.
-/
module

public import proofs.«01_k».proof.Proof.Common

@[expose] public section

noncomputable section

namespace Cert.Proof.CodesDecode

open Idealize.ShloMosaic

/-- The kernel's decoding of a nibble `n`: with `k` its low three bits, `k / 2` below 2, else the `f32` whose word is
    `(k + 252) << 22`; negated when `n` is above 7. -/
def kdec (n : BitVec 32) : EReal :=
  Scalar.select (IntOp.cmpi .sgt n 7#32)
    (Ideal.ofBits .f32 0x00000000#32 - Scalar.select (IntOp.cmpi .slt (IntOp.andi n 7#32) 2#32)
      ((((IntOp.andi n 7#32).toInt : ℝ) : EReal) * Ideal.ofBits .f32 0x3F000000#32)
      (Ideal.ofBits .f32 (IntOp.shli .vector (IntOp.addi (IntOp.andi n 7#32) 252#32) 22#32)))
    (Scalar.select (IntOp.cmpi .slt (IntOp.andi n 7#32) 2#32)
      ((((IntOp.andi n 7#32).toInt : ℝ) : EReal) * Ideal.ofBits .f32 0x3F000000#32)
      (Ideal.ofBits .f32 (IntOp.shli .vector (IntOp.addi (IntOp.andi n 7#32) 252#32) 22#32)))

/-- Whether bit `b` (a power of two) of `n` is set. -/
def bit (n b : BitVec 32) : BitVec 1 := IntOp.cmpi .ne (IntOp.andi n b) 0#32

/-- The table of the eight magnitudes, by the three low bits. -/
def rmag (n : BitVec 32) : EReal :=
  Scalar.select (bit n 4#32)
    (Scalar.select (bit n 2#32)
      (Scalar.select (bit n 1#32) (Ideal.ofBits .bf16 0x40C0#16) (Ideal.ofBits .bf16 0x4080#16))
      (Scalar.select (bit n 1#32) (Ideal.ofBits .bf16 0x4040#16) (Ideal.ofBits .bf16 0x4000#16)))
    (Scalar.select (bit n 2#32)
      (Scalar.select (bit n 1#32) (Ideal.ofBits .bf16 0x3FC0#16) (Ideal.ofBits .bf16 0x3F80#16))
      (Scalar.select (bit n 1#32) (Ideal.ofBits .bf16 0x3F00#16) (Ideal.ofBits .bf16 0x0000#16)))

/-- The reference's decoding of a nibble: the table, negated by bit 8. -/
def rdec (n : BitVec 32) : EReal := Scalar.select (bit n 8#32) (-(rmag n)) (rmag n)

/-- A word without a sign bit, with exponent field `ex` neither zero nor all ones and significand field `fr`. -/
theorem ieee_normal (e m : ℕ) {w : ℕ} (b : BitVec w) (ex fr : ℕ) (hs : (b.extractLsb' (e + m) 1 == 1#1) = false)
    (hex : (b.extractLsb' m e).toNat = ex) (hfr : (b.extractLsb' 0 m).toNat = fr) (h0 : ex ≠ 0) (h1 : ex ≠ 2 ^ e - 1)
    (r : ℝ) (hr : ((2 ^ m + fr : ℕ) : ℝ) * (2 : ℝ) ^ ((ex : ℤ) - (2 ^ (e - 1) - 1) - m) = r) :
    Ideal.ieee e m b = ((r : ℝ) : EReal) := by
  subst hex hfr
  unfold Ideal.ieee
  simp only [hs, if_neg h0, if_neg h1, Bool.false_eq_true, if_false, one_mul]
  exact congrArg _ hr

/-- The same at `f32` and at `bf16`. -/
theorem f32_normal (b : BitVec 32) (ex fr : ℕ) (hs : (b.extractLsb' 31 1 == 1#1) = false)
    (hex : (b.extractLsb' 23 8).toNat = ex) (hfr : (b.extractLsb' 0 23).toNat = fr) (h0 : ex ≠ 0) (h1 : ex ≠ 255)
    (r : ℝ) (hr : ((2 ^ 23 + fr : ℕ) : ℝ) * (2 : ℝ) ^ ((ex : ℤ) - 150) = r) : Ideal.ofBits .f32 b = ((r : ℝ) : EReal) :=
  ieee_normal 8 23 b ex fr hs hex hfr h0 h1 r
    (by rw [show (ex : ℤ) - (2 ^ (8 - 1) - 1) - (23 : ℕ) = (ex : ℤ) - 150 from by norm_num; ring]; exact hr)
theorem bf16_normal (b : BitVec 16) (ex fr : ℕ) (hs : (b.extractLsb' 15 1 == 1#1) = false)
    (hex : (b.extractLsb' 7 8).toNat = ex) (hfr : (b.extractLsb' 0 7).toNat = fr) (h0 : ex ≠ 0) (h1 : ex ≠ 255)
    (r : ℝ) (hr : ((2 ^ 7 + fr : ℕ) : ℝ) * (2 : ℝ) ^ ((ex : ℤ) - 134) = r) : Ideal.ofBits .bf16 b = ((r : ℝ) : EReal) :=
  ieee_normal 8 7 b ex fr hs hex hfr h0 h1 r
    (by rw [show (ex : ℤ) - (2 ^ (8 - 1) - 1) - (7 : ℕ) = (ex : ℤ) - 134 from by norm_num; ring]; exact hr)

theorem half_f32 : Ideal.ofBits .f32 0x3F000000#32 = ((1 / 2 : ℝ) : EReal) :=
  f32_normal _ 126 0 (by decide) (by decide) (by decide) (by decide) (by decide) _ (by norm_num)
theorem two_f32 : Ideal.ofBits .f32 0x40000000#32 = ((2 : ℝ) : EReal) :=
  f32_normal _ 128 0 (by decide) (by decide) (by decide) (by decide) (by decide) _ (by norm_num)
theorem one_f32 : Ideal.ofBits .f32 0x3F800000#32 = ((1 : ℝ) : EReal) :=
  f32_normal _ 127 0 (by decide) (by decide) (by decide) (by decide) (by decide) _ (by norm_num)

/-- The magnitudes the kernel builds from bits. -/
theorem k2 : Ideal.ofBits .f32 1065353216#32 = ((1 : ℝ) : EReal) :=
  f32_normal _ 127 0 (by decide) (by decide) (by decide) (by decide) (by decide) _ (by norm_num)
theorem k3 : Ideal.ofBits .f32 1069547520#32 = ((3 / 2 : ℝ) : EReal) :=
  f32_normal _ 127 0x400000 (by decide) (by decide) (by decide) (by decide) (by decide) _ (by norm_num)
theorem k4 : Ideal.ofBits .f32 1073741824#32 = ((2 : ℝ) : EReal) :=
  f32_normal _ 128 0 (by decide) (by decide) (by decide) (by decide) (by decide) _ (by norm_num)
theorem k5 : Ideal.ofBits .f32 1077936128#32 = ((3 : ℝ) : EReal) :=
  f32_normal _ 128 0x400000 (by decide) (by decide) (by decide) (by decide) (by decide) _ (by norm_num)
theorem k6 : Ideal.ofBits .f32 1082130432#32 = ((4 : ℝ) : EReal) :=
  f32_normal _ 129 0 (by decide) (by decide) (by decide) (by decide) (by decide) _ (by norm_num)
theorem k7 : Ideal.ofBits .f32 1086324736#32 = ((6 : ℝ) : EReal) :=
  f32_normal _ 129 0x400000 (by decide) (by decide) (by decide) (by decide) (by decide) _ (by norm_num)

/-- The magnitudes of the reference's table. -/
theorem r0 : Ideal.ofBits .bf16 0x0000#16 = ((0 : ℝ) : EReal) := by simp [Ideal.ofBits, Ideal.ieee]
theorem r1 : Ideal.ofBits .bf16 0x3F00#16 = ((1 / 2 : ℝ) : EReal) :=
  bf16_normal _ 126 0 (by decide) (by decide) (by decide) (by decide) (by decide) _ (by norm_num)
theorem r2 : Ideal.ofBits .bf16 0x3F80#16 = ((1 : ℝ) : EReal) :=
  bf16_normal _ 127 0 (by decide) (by decide) (by decide) (by decide) (by decide) _ (by norm_num)
theorem r3 : Ideal.ofBits .bf16 0x3FC0#16 = ((3 / 2 : ℝ) : EReal) :=
  bf16_normal _ 127 64 (by decide) (by decide) (by decide) (by decide) (by decide) _ (by norm_num)
theorem r4 : Ideal.ofBits .bf16 0x4000#16 = ((2 : ℝ) : EReal) :=
  bf16_normal _ 128 0 (by decide) (by decide) (by decide) (by decide) (by decide) _ (by norm_num)
theorem r5 : Ideal.ofBits .bf16 0x4040#16 = ((3 : ℝ) : EReal) :=
  bf16_normal _ 128 64 (by decide) (by decide) (by decide) (by decide) (by decide) _ (by norm_num)
theorem r6 : Ideal.ofBits .bf16 0x4080#16 = ((4 : ℝ) : EReal) :=
  bf16_normal _ 129 0 (by decide) (by decide) (by decide) (by decide) (by decide) _ (by norm_num)
theorem r7 : Ideal.ofBits .bf16 0x40C0#16 = ((6 : ℝ) : EReal) :=
  bf16_normal _ 129 64 (by decide) (by decide) (by decide) (by decide) (by decide) _ (by norm_num)

/-- The magnitude of the nibble with low bits `k`. -/
def mag : Fin 8 → ℝ := ![0, 1 / 2, 1, 3 / 2, 2, 3, 4, 6]

/-- The kernel's magnitude, from the low three bits. -/
def kmag (k : BitVec 32) : EReal :=
  Scalar.select (IntOp.cmpi .slt k 2#32) (((k.toInt : ℝ) : EReal) * Ideal.ofBits .f32 0x3F000000#32)
    (Ideal.ofBits .f32 (IntOp.shli .vector (IntOp.addi k 252#32) 22#32))

theorem sel1 (a b : EReal) : Scalar.select (1#1) a b = a := rfl
theorem sel0 (a b : EReal) : Scalar.select (0#1) a b = b := rfl

theorem kmag_eq : ∀ k : Fin 8, kmag (BitVec.ofNat 32 k) = ((mag k : ℝ) : EReal) := by
  intro k
  unfold kmag
  rw [half_f32]
  match k with
  | 0 => rw [show IntOp.cmpi .slt (BitVec.ofNat 32 (0 : Fin 8)) 2#32 = 1#1 from by decide, sel1,
      show (BitVec.ofNat 32 (0 : Fin 8)).toInt = 0 from by decide]; simp [mag]
  | 1 => rw [show IntOp.cmpi .slt (BitVec.ofNat 32 (1 : Fin 8)) 2#32 = 1#1 from by decide, sel1,
      show (BitVec.ofNat 32 (1 : Fin 8)).toInt = 1 from by decide]; simp [mag]
  | 2 => exact k2
  | 3 => exact k3
  | 4 => exact k4
  | 5 => exact k5
  | 6 => exact k6
  | 7 => exact k7

theorem rmag_eq : ∀ k : Fin 8, ∀ t : Fin 2, rmag (BitVec.ofNat 32 (k + 8 * t)) = ((mag k : ℝ) : EReal) := by
  intro k t
  match k, t with
  | 0, 0 => exact r0
  | 0, 1 => exact r0
  | 1, 0 => exact r1
  | 1, 1 => exact r1
  | 2, 0 => exact r2
  | 2, 1 => exact r2
  | 3, 0 => exact r3
  | 3, 1 => exact r3
  | 4, 0 => exact r4
  | 4, 1 => exact r4
  | 5, 0 => exact r5
  | 5, 1 => exact r5
  | 6, 0 => exact r6
  | 6, 1 => exact r6
  | 7, 0 => exact r7
  | 7, 1 => exact r7

/-- The two decodings agree on the sixteen nibbles. -/
theorem kdec_eq_rdec (n : Fin 16) : kdec (BitVec.ofNat 32 n) = rdec (BitVec.ofNat 32 n) := by
  have hb : ∀ n : Fin 16, ∃ k : Fin 8, ∃ t : Fin 2, (n : ℕ) = k + 8 * t
      ∧ IntOp.andi (BitVec.ofNat 32 n) 7#32 = BitVec.ofNat 32 k
      ∧ IntOp.cmpi .sgt (BitVec.ofNat 32 n) 7#32 = bit (BitVec.ofNat 32 n) 8#32 := by unfold bit; decide
  obtain ⟨k, t, hn, ha, hc⟩ := hb n
  have hk : kdec (BitVec.ofNat 32 n) = Scalar.select (IntOp.cmpi .sgt (BitVec.ofNat 32 n) 7#32)
      (Ideal.ofBits .f32 0x00000000#32 - kmag (IntOp.andi (BitVec.ofNat 32 n) 7#32))
      (kmag (IntOp.andi (BitVec.ofNat 32 n) 7#32)) := rfl
  have hr : rmag (BitVec.ofNat 32 n) = ((mag k : ℝ) : EReal) := by rw [hn]; exact rmag_eq k t
  rw [hk, hc, ha, kmag_eq, Common.ofBits_zero, zero_sub]
  unfold rdec
  rw [hr]

/-- The low and the high nibble of a code, as the two programs form them. -/
theorem low_nib : ∀ c : BitVec 8, ∃ n : Fin 16, IntOp.andi (c.setWidth 32) 15#32 = BitVec.ofNat 32 n := by
  have h : ∀ k : Fin 256, ∃ n : Fin 16, IntOp.andi ((BitVec.ofFin k : BitVec 8).setWidth 32) 15#32 = BitVec.ofNat 32 n := by
    decide +kernel
  exact fun c => h c.toFin
theorem high_nib : ∀ c : BitVec 8, ∃ n : Fin 16, IntOp.shrui .vector (c.setWidth 32) 4#32 = BitVec.ofNat 32 n
    ∧ IntOp.shrsi .host (c.setWidth 32) 4#32 = BitVec.ofNat 32 n := by
  have h : ∀ k : Fin 256, ∃ n : Fin 16, IntOp.shrui .vector ((BitVec.ofFin k : BitVec 8).setWidth 32) 4#32 = BitVec.ofNat 32 n
      ∧ IntOp.shrsi .host ((BitVec.ofFin k : BitVec 8).setWidth 32) 4#32 = BitVec.ofNat 32 n := by
    decide +kernel
  exact fun c => h c.toFin

/-- The even and odd field of a code word: kernel and reference read the same number. -/
theorem even_eq (c : BitVec 8) : kdec (IntOp.andi (c.setWidth 32) 15#32) = rdec (IntOp.andi (c.setWidth 32) 15#32) := by
  obtain ⟨n, h⟩ := low_nib c
  rw [h, kdec_eq_rdec]
theorem odd_eq (c : BitVec 8) :
    kdec (IntOp.shrui .vector (c.setWidth 32) 4#32) = rdec (IntOp.shrsi .host (c.setWidth 32) 4#32) := by
  obtain ⟨n, h, h'⟩ := high_nib c
  rw [h, h', kdec_eq_rdec]

/-- The kernel's reading of a block scale: the `f32` whose exponent field it is. -/
def kscale (s : BitVec 8) : EReal := Ideal.ofBits .f32 (IntOp.shli .vector (s.setWidth 32) 23#32)

/-- The reference's reading of a block scale: two to the power of the scale minus 127. -/
def rscale (s : BitVec 8) : EReal :=
  Ideal.pow (Ideal.ofBits .f32 0x40000000#32) (((IntOp.subi (s.setWidth 32) 127#32).toInt : ℝ) : EReal)

/-- The three fields of the word `s << 23`, and the exponent the reference forms. -/
theorem scale_fields : ∀ s : BitVec 8,
    ((IntOp.shli .vector (s.setWidth 32) 23#32).extractLsb' 31 1 == 1#1) = false
    ∧ ((IntOp.shli .vector (s.setWidth 32) 23#32).extractLsb' 23 8).toNat = s.toNat
    ∧ ((IntOp.shli .vector (s.setWidth 32) 23#32).extractLsb' 0 23).toNat = 0
    ∧ (IntOp.subi (s.setWidth 32) 127#32).toInt = (s.toNat : ℤ) - 127 := by
  have h : ∀ k : Fin 256,
      ((IntOp.shli .vector ((BitVec.ofFin k : BitVec 8).setWidth 32) 23#32).extractLsb' 31 1 == 1#1) = false
      ∧ ((IntOp.shli .vector ((BitVec.ofFin k : BitVec 8).setWidth 32) 23#32).extractLsb' 23 8).toNat
        = (BitVec.ofFin k : BitVec 8).toNat
      ∧ ((IntOp.shli .vector ((BitVec.ofFin k : BitVec 8).setWidth 32) 23#32).extractLsb' 0 23).toNat = 0
      ∧ (IntOp.subi ((BitVec.ofFin k : BitVec 8).setWidth 32) 127#32).toInt
        = ((BitVec.ofFin k : BitVec 8).toNat : ℤ) - 127 := by
    decide +kernel
  exact fun s => h s.toFin

theorem two_zpow (n : ℕ) : ((2 ^ 23 + 0 : ℕ) : ℝ) * (2 : ℝ) ^ ((n : ℤ) - 150) = (2 : ℝ) ^ ((n : ℤ) - 127) := by
  rw [show ((2 ^ 23 + 0 : ℕ) : ℝ) = (2 : ℝ) ^ (23 : ℤ) from by norm_num, ← zpow_add₀ (by norm_num)]
  congr 1
  ring

/-- The kernel's reading of a block scale from 1 to 254 is a power of two. -/
theorem kscale_eq (s : BitVec 8) (h0 : s.toNat ≠ 0) (h1 : s.toNat ≠ 255) :
    kscale s = (((2 : ℝ) ^ ((s.toNat : ℤ) - 127) : ℝ) : EReal) := by
  obtain ⟨hs, he, hf, _⟩ := scale_fields s
  unfold kscale
  exact f32_normal _ _ 0 hs he hf h0 h1 _ (two_zpow _)

theorem rscale_eq (s : BitVec 8) : rscale s = (((2 : ℝ) ^ ((s.toNat : ℤ) - 127) : ℝ) : EReal) := by
  obtain ⟨_, _, _, hi⟩ := scale_fields s
  unfold rscale
  rw [two_f32, hi, ← Real.rpow_intCast]
  rfl

/-- The two readings of a block scale agree from 1 to 254. -/
theorem kscale_eq_rscale (s : BitVec 8) (h0 : s.toNat ≠ 0) (h1 : s.toNat ≠ 255) : kscale s = rscale s :=
  (kscale_eq s h0 h1).trans (rscale_eq s).symm

end Cert.Proof.CodesDecode

end
-- ==== Proof.CodesBlocks.lean ====
/-
  What the kernel of `_matmul_codes` leaves in its result array, at the ideal instance: at row `i`, column `j` the sum
  over 24576 positions of the product of the even fields plus the product of the odd fields.
-/
module

public import proofs.«01_k».proof.Proof.Common
public import proofs.«01_k».proof.Proof.CodesDecode
public import proofs.«01_k».proof.Proof.Gen.CodesIdeal.Value
public import Idealize.ShloMosaic.Lib.StableHlo.ReadAt

@[expose] public section

noncomputable section

namespace Cert.Proof.CodesBlocks

open Cert.CodesIdeal Cert.CodesIdeal.Gen Cert.CodesIdeal.Value Cert.Proof.Common Cert.Proof.CodesDecode
open Idealize.ShloMosaic Idealize.ShloMosaic.TcCoe Idealize.SL.Sem
open Idealize.ShloMosaic.ValueIdx hiding ix0 ix1 ix2 ix3 ix4 ix5 eq_ix0 eq_ix1 eq_ix2 eq_ix3 eq_ix4 eq_ix5
open scoped BigOperators

variable (m : (ℓ : Loc nD τ sig) → Buf (Elt Ideal) ℓ)

/-! ### The spreading matrix -/

/-- The 0/1 matrix: row `b` is one at columns `16 b … 16 b + 15`. -/
def spread (b t : ℕ) : EReal := if t / 16 = b then 1 else 0

/-- The array the host passes as the fifth argument. -/
def spreadArr (c : Dev nD) : S128x2048.Idx → EReal := V m c main_v8

theorem spreadArr_apply (c : Dev nD) (j : S128x2048.Idx) : spreadArr m c j = spread (j 0) (j 1) := by
  unfold spreadArr
  unfold V
  after_reads_at
  have h0 : (j 0).val < 128 := (j 0).isLt
  have h1 : (j 1).val < 2048 := (j 1).isLt
  show (((IntOp.cmpi .eq (BitVec.ofNat 32 (j 0).val + 0#32) (BitVec.ofNat 32 ((j 1).val / 16))).toNat : ℝ) : EReal) = _
  unfold spread
  by_cases h : (j 1).val / 16 = (j 0).val
  · rw [if_pos h, h]
    simp [IntOp.cmpi]
  · rw [if_neg h]
    have hne : (BitVec.ofNat 32 (j 0).val) ≠ BitVec.ofNat 32 ((j 1).val / 16) := fun he => h (by
      have := congrArg BitVec.toNat he
      rw [BitVec.toNat_ofNat, BitVec.toNat_ofNat] at this
      omega)
    simp [IntOp.cmpi, hne]

/-- A row against the spreading matrix: the row's entry of the column's block. -/
theorem sum_spread (f : ℕ → EReal) (t : ℕ) (h : t < 2048) : ∑ b ∈ Finset.range 128, f b * spread b t = f (t / 16) := by
  rw [Finset.sum_eq_single (t / 16)]
  · simp [spread]
  · intro b _ hb
    rw [spread, if_neg (fun e => hb e.symm), mul_zero]
  · intro hn
    exact absurd (Finset.mem_range.mpr (by omega)) hn

/-! ### One grid point's payloads at an index -/

abbrev Dy : DotDims S256x128 S128x2048 S256x2048 := dot_S256x128_S128x2048_S256x2048_1_0_0_1_n_n
theorem dy_lhs_0 (j : S256x2048.Idx) (k : Dy.contr.Idx) : (Dy.lhsIdx j k 0 : ℕ) = j 0 := by
  simp [DotDims.lhsIdx, Dy, dot_S256x128_S128x2048_S256x2048_1_0_0_1_n_n]; rfl
theorem dy_lhs_1 (j : S256x2048.Idx) (k : Dy.contr.Idx) : (Dy.lhsIdx j k 1 : ℕ) = k ⟨0, by decide⟩ := by
  simp [DotDims.lhsIdx, Dy, dot_S256x128_S128x2048_S256x2048_1_0_0_1_n_n]; rfl
theorem dy_rhs_0 (j : S256x2048.Idx) (k : Dy.contr.Idx) : (Dy.rhsIdx j k 0 : ℕ) = k ⟨0, by decide⟩ := by
  simp [DotDims.rhsIdx, Dy, dot_S256x128_S128x2048_S256x2048_1_0_0_1_n_n]; rfl
theorem dy_rhs_1 (j : S256x2048.Idx) (k : Dy.contr.Idx) : (Dy.rhsIdx j k 1 : ℕ) = j 1 := by
  simp [DotDims.rhsIdx, Dy, dot_S256x128_S128x2048_S256x2048_1_0_0_1_n_n]; rfl

abbrev Dx : DotDims S512x128 S128x2048 S512x2048 := dot_S512x128_S128x2048_S512x2048_1_0_0_1_n_n
theorem dx_lhs_0 (j : S512x2048.Idx) (k : Dx.contr.Idx) : (Dx.lhsIdx j k 0 : ℕ) = j 0 := by
  simp [DotDims.lhsIdx, Dx, dot_S512x128_S128x2048_S512x2048_1_0_0_1_n_n]; rfl
theorem dx_lhs_1 (j : S512x2048.Idx) (k : Dx.contr.Idx) : (Dx.lhsIdx j k 1 : ℕ) = k ⟨0, by decide⟩ := by
  simp [DotDims.lhsIdx, Dx, dot_S512x128_S128x2048_S512x2048_1_0_0_1_n_n]; rfl
theorem dx_rhs_0 (j : S512x2048.Idx) (k : Dx.contr.Idx) : (Dx.rhsIdx j k 0 : ℕ) = k ⟨0, by decide⟩ := by
  simp [DotDims.rhsIdx, Dx, dot_S512x128_S128x2048_S512x2048_1_0_0_1_n_n]; rfl
theorem dx_rhs_1 (j : S512x2048.Idx) (k : Dx.contr.Idx) : (Dx.rhsIdx j k 1 : ℕ) = j 1 := by
  simp [DotDims.rhsIdx, Dx, dot_S512x128_S128x2048_S512x2048_1_0_0_1_n_n]; rfl

abbrev D : DotDims S256x2048 S512x2048 S256x512 := dot_S256x2048_S512x2048_S256x512_1_1_0_0_n_n
theorem lhs_0 (j : S256x512.Idx) (k : D.contr.Idx) : (D.lhsIdx j k 0 : ℕ) = j 0 := by
  simp [DotDims.lhsIdx, D, dot_S256x2048_S512x2048_S256x512_1_1_0_0_n_n]; rfl
theorem lhs_1 (j : S256x512.Idx) (k : D.contr.Idx) : (D.lhsIdx j k 1 : ℕ) = k ⟨0, by decide⟩ := by
  simp [DotDims.lhsIdx, D, dot_S256x2048_S512x2048_S256x512_1_1_0_0_n_n]; rfl
theorem rhs_0 (j : S256x512.Idx) (k : D.contr.Idx) : (D.rhsIdx j k 0 : ℕ) = j 1 := by
  simp [DotDims.rhsIdx, D, dot_S256x2048_S512x2048_S256x512_1_1_0_0_n_n]; rfl
theorem rhs_1 (j : S256x512.Idx) (k : D.contr.Idx) : (D.rhsIdx j k 1 : ℕ) = k ⟨0, by decide⟩ := by
  simp [DotDims.rhsIdx, D, dot_S256x2048_S512x2048_S256x512_1_1_0_0_n_n]; rfl

/-- The `dy` block scales spread over the block's columns; -/
theorem pay4_apply (e : Vec Ideal S128x2048 .bf16) (s : Vec Ideal S256x128 .i8)
    (he : ∀ i, e i = spread (i 0) (i 1)) (g : ℕ → EReal) (j : S256x2048.Idx)
    (hg : ∀ b : Fin 128, kscale (s (ix2 (j 0) b)) = g b) : k0_pay4 e s j = g ((j 1 : ℕ) / 16) := by
  have h1 : (j 1).val < 2048 := (j 1).isLt
  unfold k0_pay4 k0_pay3
  simp only [shapeCast_self]
  have h := matmul_eq_sum Dy 128 rfl rfl
    (truncf .bf16 (bitcastToFloat (F := Ideal) .f32 (shli (extui 32 s natLt_8_32) (broadcast S256x128 23#32))) bitsLt_bf16_f32)
    e (constant (F := Ideal) S256x2048 .f32 0x00000000#32) j (fun b => g b * spread b (j 1)) (fun q => by
    have hq : (q ⟨0, by decide⟩ : ℕ) < 128 := (q ⟨0, by decide⟩).isLt
    rw [show Dy.lhsIdx j q = ix2 (j 0) (⟨q ⟨0, by decide⟩, hq⟩ : Fin 128) from
        Shape.idx_ext₂ (dy_lhs_0 j q) (dy_lhs_1 j q), he, dy_rhs_0, dy_rhs_1]
    exact congrArg (· * _) (hg ⟨_, hq⟩))
  rw [ValueIdx.constant_apply, ofBits_zero, zero_add, sum_spread g _ h1] at h
  exact h
/-- and the `x` block scales. -/
theorem pay9_apply (e : Vec Ideal S128x2048 .bf16) (s : Vec Ideal S512x128 .i8)
    (he : ∀ i, e i = spread (i 0) (i 1)) (g : ℕ → EReal) (j : S512x2048.Idx)
    (hg : ∀ b : Fin 128, kscale (s (ix2 (j 0) b)) = g b) : k0_pay9 (k0_pay3 e) s j = g ((j 1 : ℕ) / 16) := by
  have h1 : (j 1).val < 2048 := (j 1).isLt
  unfold k0_pay9 k0_pay3
  simp only [shapeCast_self]
  have h := matmul_eq_sum Dx 128 rfl rfl
    (truncf .bf16 (bitcastToFloat (F := Ideal) .f32 (shli (extui 32 s natLt_8_32) (broadcast S512x128 23#32))) bitsLt_bf16_f32)
    e (constant (F := Ideal) S512x2048 .f32 0x00000000#32) j (fun b => g b * spread b (j 1)) (fun q => by
    have hq : (q ⟨0, by decide⟩ : ℕ) < 128 := (q ⟨0, by decide⟩).isLt
    rw [show Dx.lhsIdx j q = ix2 (j 0) (⟨q ⟨0, by decide⟩, hq⟩ : Fin 128) from
        Shape.idx_ext₂ (dx_lhs_0 j q) (dx_lhs_1 j q), he, dx_rhs_0, dx_rhs_1]
    exact congrArg (· * _) (hg ⟨_, hq⟩))
  rw [ValueIdx.constant_apply, ofBits_zero, zero_add, sum_spread g _ h1] at h
  exact h

/-- The even `dy` field: the low nibble decoded, times the spread scale. -/
theorem pay6_apply (e : Vec Ideal S128x2048 .bf16) (c : Vec Ideal S256x2048 .i8) (s : Vec Ideal S256x128 .i8)
    (j : S256x2048.Idx) :
    k0_pay6 e c s j = kdec (IntOp.andi ((c j : BitVec 8).setWidth 32) 15#32) * k0_pay4 e s j := rfl
/-- The odd `dy` field: the high nibble. -/
theorem pay8_apply (v : FVec Ideal S256x2048 .f32) (c : Vec Ideal S256x2048 .i8) (j : S256x2048.Idx) :
    k0_pay8 v (k0_pay5 (F := Ideal) c) k0_pay7 j
      = kdec (IntOp.shrui .vector ((c j : BitVec 8).setWidth 32) 4#32) * v j := rfl

/-- The even and the odd `x` field, as the last payload forms them. -/
def xEven (c : Vec Ideal S512x2048 .i8) (v : FVec Ideal S512x2048 .f32) : FVec Ideal S512x2048 .bf16 :=
  fun j => kdec (IntOp.andi ((c j : BitVec 8).setWidth 32) 15#32) * v j
def xOdd (c : Vec Ideal S512x2048 .i8) (v : FVec Ideal S512x2048 .f32) : FVec Ideal S512x2048 .bf16 :=
  fun j => kdec (IntOp.shrui .vector ((c j : BitVec 8).setWidth 32) 4#32) * v j

/-- The accumulating store, its two products named. -/
theorem pay1_eq (a b : FVec Ideal S256x2048 .bf16) (v : FVec Ideal S512x2048 .f32) (c : Vec Ideal S512x2048 .i8)
    (acc : Vec Ideal S256x512 .f32) :
    k0_pay1 a b v (k0_pay10 (F := Ideal) c) (k0_pay11 (F := Ideal) c) (k0_pay13 (F := Ideal) c) (k0_pay14 c)
        (k0_pay15 (F := Ideal) c) 22#32 acc
      = addf (shapeCast S256x512 acc shapeCasts_S256x512_S256x512)
        (addf (matmul D none a (xEven c v) (constant S256x512 .f32 0x00000000#32))
          (matmul D none b (xOdd c v) (constant S256x512 .f32 0x00000000#32))) := rfl

/-- One product at an index. -/
theorem prod_apply (a : FVec Ideal S256x2048 .bf16) (b : FVec Ideal S512x2048 .bf16) (j : S256x512.Idx) (g : ℕ → EReal)
    (hg : ∀ k : Fin 2048, a (ix2 (j 0) k) * b (ix2 (j 1) k) = g k) :
    matmul (F := Ideal) D none a b (constant S256x512 .f32 0x00000000#32) j = ∑ k ∈ Finset.range 2048, g k := by
  have h := matmul_eq_sum D 2048 rfl rfl a b (constant (F := Ideal) S256x512 .f32 0x00000000#32) j g (fun q => by
    have hq : (q ⟨0, by decide⟩ : ℕ) < 2048 := (q ⟨0, by decide⟩).isLt
    rw [show D.lhsIdx j q = ix2 (j 0) (⟨q ⟨0, by decide⟩, hq⟩ : Fin 2048) from
        Shape.idx_ext₂ (lhs_0 j q) (lhs_1 j q),
      show D.rhsIdx j q = ix2 (j 1) (⟨q ⟨0, by decide⟩, hq⟩ : Fin 2048) from
        Shape.idx_ext₂ (rhs_0 j q) (rhs_1 j q)]
    exact hg ⟨_, hq⟩)
  rw [ValueIdx.constant_apply, ofBits_zero, zero_add] at h
  exact h

/-! ### The blocks a grid point reads -/

theorem index_0 : ∀ t : Fin cfg0.N, win0_0.index t (0 : Fin 2) = t.val / 48 ∧ win0_0.index t (1 : Fin 2) = t.val % 12 :=
  (by decide +kernel : ∀ t : Fin grid0.N, _)
theorem index_1 : ∀ t : Fin cfg0.N, win0_1.index t (0 : Fin 2) = t.val / 48 ∧ win0_1.index t (1 : Fin 2) = t.val % 12 :=
  (by decide +kernel : ∀ t : Fin grid0.N, _)
theorem index_2 : ∀ t : Fin cfg0.N, win0_2.index t (0 : Fin 2) = t.val / 12 % 4 ∧ win0_2.index t (1 : Fin 2) = t.val % 12 :=
  (by decide +kernel : ∀ t : Fin grid0.N, _)
theorem index_3 : ∀ t : Fin cfg0.N, win0_3.index t (0 : Fin 2) = t.val / 12 % 4 ∧ win0_3.index t (1 : Fin 2) = t.val % 12 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)

/-- The four arguments as arrays of bytes. -/
def dc (c : Dev nD) : S5632x24576.Idx → BitVec 8 := m ((c : Thread nD τ).loc main_arg0)
def ds (c : Dev nD) : S5632x1536.Idx → BitVec 8 := m ((c : Thread nD τ).loc main_arg1)
def xc (c : Dev nD) : S2048x24576.Idx → BitVec 8 := m ((c : Thread nD τ).loc main_arg2)
def xs (c : Dev nD) : S2048x1536.Idx → BitVec 8 := m ((c : Thread nD τ).loc main_arg3)

/-- Point `t` reads rows `256 (t / 48) …`, columns `2048 (t % 12) …` of the `dy` codes, -/
theorem iblk_0 (c : Dev nD) (t : Fin cfg0.N) (j : S256x2048.Idx) :
    (iblk m c 0 t : Vec Ideal S256x2048 .i8) j = rd (dc m c) (256 * (t.val / 48) + j 0) (2048 * (t.val % 12) + j 1) := by
  have hi := index_0 t
  unfold iblk
  rw [View.read_apply]
  show V m c main_arg0 _ = _
  rw [V_main_arg0]
  refine eq_rd (dc m c) _ _ _ ?_ ?_
  · show win0_0.index t 0 * 256 + 1 * (j 0).val = _; rw [hi.1]; omega
  · show win0_0.index t 1 * 2048 + 1 * (j 1).val = _; rw [hi.2]; omega
/-- their block scales, -/
theorem iblk_1 (c : Dev nD) (t : Fin cfg0.N) (j : S256x128.Idx) :
    (iblk m c 1 t : Vec Ideal S256x128 .i8) j = rd (ds m c) (256 * (t.val / 48) + j 0) (128 * (t.val % 12) + j 1) := by
  have hi := index_1 t
  unfold iblk
  rw [View.read_apply]
  show V m c main_arg1 _ = _
  rw [V_main_arg1]
  refine eq_rd (ds m c) _ _ _ ?_ ?_
  · show win0_1.index t 0 * 256 + 1 * (j 0).val = _; rw [hi.1]; omega
  · show win0_1.index t 1 * 128 + 1 * (j 1).val = _; rw [hi.2]; omega
/-- rows `512 (t / 12 % 4) …` of the `x` codes, -/
theorem iblk_2 (c : Dev nD) (t : Fin cfg0.N) (j : S512x2048.Idx) :
    (iblk m c 2 t : Vec Ideal S512x2048 .i8) j = rd (xc m c) (512 * (t.val / 12 % 4) + j 0) (2048 * (t.val % 12) + j 1) := by
  have hi := index_2 t
  unfold iblk
  rw [View.read_apply]
  show V m c main_arg2 _ = _
  rw [V_main_arg2]
  refine eq_rd (xc m c) _ _ _ ?_ ?_
  · show win0_2.index t 0 * 512 + 1 * (j 0).val = _; rw [hi.1]; omega
  · show win0_2.index t 1 * 2048 + 1 * (j 1).val = _; rw [hi.2]; omega
/-- their block scales, -/
theorem iblk_3 (c : Dev nD) (t : Fin cfg0.N) (j : S512x128.Idx) :
    (iblk m c 3 t : Vec Ideal S512x128 .i8) j = rd (xs m c) (512 * (t.val / 12 % 4) + j 0) (128 * (t.val % 12) + j 1) := by
  have hi := index_3 t
  unfold iblk
  rw [View.read_apply]
  show V m c main_arg3 _ = _
  rw [V_main_arg3]
  refine eq_rd (xs m c) _ _ _ ?_ ?_
  · show win0_3.index t 0 * 512 + 1 * (j 0).val = _; rw [hi.1]; omega
  · show win0_3.index t 1 * 128 + 1 * (j 1).val = _; rw [hi.2]; omega
/-- and the whole spreading matrix. -/
theorem iblk_4 (c : Dev nD) (t : Fin cfg0.N) (j : S128x2048.Idx) :
    (iblk m c 4 t : Vec Ideal S128x2048 .bf16) j = spread (j 0) (j 1) := by
  have hi := index_4 t
  have h0 : (j 0).val < 128 := (j 0).isLt
  have h1 : (j 1).val < 2048 := (j 1).isLt
  unfold iblk
  rw [View.read_apply]
  show spreadArr m c _ = _
  rw [spreadArr_apply]
  congr 1
  · show win0_4.index t 0 * 128 + 1 * (j 0).val = _; rw [hi.1]; omega
  · show win0_4.index t 1 * 2048 + 1 * (j 1).val = _; rw [hi.2]; omega

/-! ### The fold over the 12 blocks of positions -/

/-- Position `t` of row `p` of the even and odd fields of codes `c` with block scales `s`, as the kernel reads them. -/
def kevenAt {a b b' : ℕ} (c : (⟨2, ![a, b]⟩ : Shape).Idx → BitVec 8) (s : (⟨2, ![a, b']⟩ : Shape).Idx → BitVec 8) (p t : ℕ) :
    EReal := kdec (IntOp.andi ((rd c p t).setWidth 32) 15#32) * kscale (rd s p (t / 16))
def koddAt {a b b' : ℕ} (c : (⟨2, ![a, b]⟩ : Shape).Idx → BitVec 8) (s : (⟨2, ![a, b']⟩ : Shape).Idx → BitVec 8) (p t : ℕ) :
    EReal := kdec (IntOp.shrui .vector ((rd c p t).setWidth 32) 4#32) * kscale (rd s p (t / 16))

/-- One position's contribution to row `p`, column `q`, from the even fields and from the odd fields. -/
def termE (c : Dev nD) (p q t : ℕ) : EReal := kevenAt (dc m c) (ds m c) p t * kevenAt (xc m c) (xs m c) q t
def termO (c : Dev nD) (p q t : ℕ) : EReal := koddAt (dc m c) (ds m c) p t * koddAt (xc m c) (xs m c) q t

/-- What point `n` adds to its block at `j`. -/
def addend (c : Dev nD) (n : ℕ) (j : S256x512.Idx) : EReal :=
  (∑ k ∈ Finset.range 2048, termE m c (256 * (n / 48) + j 0) (512 * (n / 12 % 4) + j 1) (2048 * (n % 12) + k))
    + ∑ k ∈ Finset.range 2048, termO m c (256 * (n / 48) + j 0) (512 * (n / 12 % 4) + j 1) (2048 * (n % 12) + k)

/-- The scales a point spreads, at row `p`, position `k` of its block. -/
theorem dscale (c : Dev nD) (t : Fin cfg0.N) (p : Fin 256) (k : Fin 2048) :
    k0_pay4 (iblk m c 4 t) (iblk m c 1 t) (ix2 p k)
      = kscale (rd (ds m c) (256 * (t.val / 48) + p) ((2048 * (t.val % 12) + k) / 16)) := by
  have hk : k.val < 2048 := k.isLt
  rw [pay4_apply (iblk m c 4 t) (iblk m c 1 t) (iblk_4 m c t)
    (fun b => kscale (rd (ds m c) (256 * (t.val / 48) + p) (128 * (t.val % 12) + b))) (ix2 p k)
    (fun b => by rw [iblk_1]; rfl)]
  show kscale (rd (ds m c) _ (128 * (t.val % 12) + k.val / 16)) = _
  rw [show (2048 * (t.val % 12) + k.val) / 16 = 128 * (t.val % 12) + k.val / 16 from by omega]
theorem xscale (c : Dev nD) (t : Fin cfg0.N) (q : Fin 512) (k : Fin 2048) :
    k0_pay9 (k0_pay3 (iblk m c 4 t)) (iblk m c 3 t) (ix2 q k)
      = kscale (rd (xs m c) (512 * (t.val / 12 % 4) + q) ((2048 * (t.val % 12) + k) / 16)) := by
  have hk : k.val < 2048 := k.isLt
  rw [pay9_apply (iblk m c 4 t) (iblk m c 3 t) (iblk_4 m c t)
    (fun b => kscale (rd (xs m c) (512 * (t.val / 12 % 4) + q) (128 * (t.val % 12) + b))) (ix2 q k)
    (fun b => by rw [iblk_3]; rfl)]
  show kscale (rd (xs m c) _ (128 * (t.val % 12) + k.val / 16)) = _
  rw [show (2048 * (t.val % 12) + k.val) / 16 = 128 * (t.val % 12) + k.val / 16 from by omega]

/-- The value a point stores over an accumulator. -/
def point (c : Dev nD) (t : Fin cfg0.N) (acc : Vec Ideal S256x512 .f32) : FVec Ideal S256x512 .f32 :=
  k0_pay1 (k0_pay6 (iblk m c 4 t) (iblk m c 0 t) (iblk m c 1 t))
    (k0_pay8 (k0_pay4 (iblk m c 4 t) (iblk m c 1 t)) (k0_pay5 (F := Ideal) (iblk m c 0 t)) k0_pay7)
    (k0_pay9 (k0_pay3 (iblk m c 4 t)) (iblk m c 3 t)) (k0_pay10 (F := Ideal) (iblk m c 2 t))
    (k0_pay11 (F := Ideal) (iblk m c 2 t)) (k0_pay13 (F := Ideal) (iblk m c 2 t)) (k0_pay14 (iblk m c 2 t))
    (k0_pay15 (F := Ideal) (iblk m c 2 t)) 22#32 acc

theorem point_apply (c : Dev nD) (n : ℕ) (h : n < cfg0.N) (acc : Vec Ideal S256x512 .f32) (j : S256x512.Idx) :
    point m c ⟨n, h⟩ acc j = acc j + addend m c n j := by
  unfold point
  rw [pay1_eq, shapeCast_self]
  refine congrArg (acc j + ·) ?_
  refine congrArg₂ (fun a b : EReal => a + b) ?_ ?_
  · refine prod_apply _ _ _ _ fun k => ?_
    exact congrArg₂ (fun a b : EReal => a * b)
      (congrArg₂ (fun a b : EReal => a * b) (congrArg (fun w : BitVec 8 => kdec (IntOp.andi (w.setWidth 32) 15#32)) (iblk_0 m c ⟨n, h⟩ (ix2 (j 0) k))) (dscale m c ⟨n, h⟩ (j 0) k))
      (congrArg₂ (fun a b : EReal => a * b) (congrArg (fun w : BitVec 8 => kdec (IntOp.andi (w.setWidth 32) 15#32)) (iblk_2 m c ⟨n, h⟩ (ix2 (j 1) k))) (xscale m c ⟨n, h⟩ (j 1) k))
  · refine prod_apply _ _ _ _ fun k => ?_
    exact congrArg₂ (fun a b : EReal => a * b)
      (congrArg₂ (fun a b : EReal => a * b) (congrArg (fun w : BitVec 8 => kdec (IntOp.shrui .vector (w.setWidth 32) 4#32)) (iblk_0 m c ⟨n, h⟩ (ix2 (j 0) k))) (dscale m c ⟨n, h⟩ (j 0) k))
      (congrArg₂ (fun a b : EReal => a * b) (congrArg (fun w : BitVec 8 => kdec (IntOp.shrui .vector (w.setWidth 32) 4#32)) (iblk_2 m c ⟨n, h⟩ (ix2 (j 1) k))) (xscale m c ⟨n, h⟩ (j 1) k))

theorem reset_apply (c : Dev nD) (n : ℕ) (h : n < cfg0.N) (j : S256x512.Idx) :
    reset5 m c n h j = 0 + addend m c n j := by
  refine (point_apply m c n h (k0_pay2 (F := Ideal)) j).trans (congrArg (· + _) ?_)
  exact ofBits_zero

theorem step_apply (c : Dev nD) (n : ℕ) (h : n < cfg0.N) (acc : Vec Ideal S256x512 .f32) (j : S256x512.Idx) :
    step5 m c n h acc j = acc j + addend m c n j := by
  exact point_apply m c n h acc j

/-- The result array the run leaves, as an array of extended reals. -/
def result (c : Dev nD) : S5632x2048.Idx → EReal := G5 m c

/-- THE RESULT ARRAY: the even fields' product plus the odd fields' product, over all 24576 positions. -/
theorem result_apply (c : Dev nD) (i : S5632x2048.Idx) :
    result m c i = (∑ t ∈ Finset.range 24576, termE m c (i 0) (i 1) t) + ∑ t ∈ Finset.range 24576, termO m c (i 0) (i 1) t := by
  have hi0 : (i 0).val < 5632 := (i 0).isLt
  have hi1 : (i 1).val < 2048 := (i 1).isLt
  have hr : run5Of i = 4 * ((i 0).val / 256) + (i 1).val / 512 := by unfold run5Of; omega
  have hN : cfg0.N = 1056 := N_0
  unfold result G5
  rw [dif_pos (by rw [hr, hN]; omega),
    Pipeline.accAt_add_apply (reset5 m c) (step5 m c) (fun _ => 0) (addend m c) (12 * run5Of i) 11
      (fun h j => reset_apply m c _ h j)
      (fun n h acc j hl hu => step_apply m c n h acc j) 11 le_rfl, zero_add]
  have hl0 : (loc5Of i 0 : ℕ) = (i 0).val % 256 := rfl
  have hl1 : (loc5Of i 1 : ℕ) = (i 1).val % 512 := rfl
  have e0 : 256 * ((i 0).val / 256) + (i 0).val % 256 = (i 0).val := by omega
  have e1 : 512 * ((i 1).val / 512) + (i 1).val % 512 = (i 1).val := by omega
  rw [show (24576 : ℕ) = 2048 * 12 from rfl, ← sum_blocks, ← sum_blocks, ← Finset.sum_add_distrib]
  refine Finset.sum_congr rfl fun s hs => ?_
  have hs' := Finset.mem_range.mp hs
  unfold addend
  rw [hl0, hl1, hr, show (12 * (4 * ((i 0).val / 256) + (i 1).val / 512) + s) / 48 = (i 0).val / 256 from by omega,
    show (12 * (4 * ((i 0).val / 256) + (i 1).val / 512) + s) / 12 % 4 = (i 1).val / 512 from by omega,
    show (12 * (4 * ((i 0).val / 256) + (i 1).val / 512) + s) % 12 = s from by omega, e0, e1]

end Cert.Proof.CodesBlocks

end
-- ==== Proof.CodesRef.lean ====
/-
  The reference of `_matmul_codes` at an index: the product of the two even fields plus the product of the two odd
  fields, each a sum over 24576 positions, each field element a decoded nibble times two to its block's exponent.
-/
module

public import proofs.«01_k».proof.Proof.Common
public import proofs.«01_k».proof.Proof.CodesDecode
public import proofs.«01_k».proof.Proof.Gen.CodesRefIdeal.Read

@[expose] public section

noncomputable section

namespace Cert.Proof.CodesRef

open Cert.CodesRefIdeal Cert.CodesRefIdeal.Read Cert.Proof.Common Cert.Proof.CodesDecode
open Idealize.ShloMosaic Idealize.ShloMosaic.TcCoe Idealize.SL.Sem
open scoped BigOperators

/-- Position `t` of row `p` of the even field of codes `c` with block scales `s` (16 positions to a block). -/
def evenAt {a b b' : ℕ} (c : (⟨2, ![a, b]⟩ : Shape).Idx → BitVec 8) (s : (⟨2, ![a, b']⟩ : Shape).Idx → BitVec 8) (p t : ℕ) :
    EReal := rdec (IntOp.andi ((rd c p t).setWidth 32) 15#32) * rscale (rd s p (t / 16))
/-- The same of the odd field. -/
def oddAt {a b b' : ℕ} (c : (⟨2, ![a, b]⟩ : Shape).Idx → BitVec 8) (s : (⟨2, ![a, b']⟩ : Shape).Idx → BitVec 8) (p t : ℕ) :
    EReal := rdec (IntOp.shrsi .host ((rd c p t).setWidth 32) 4#32) * rscale (rd s p (t / 16))

/-! ### The block scales -/

theorem x_scale (x3 : S2048x1536.Idx → BitVec 8) (j : S2048x1536.Idx) :
    val_main_v6 (F := Ideal) x3 j = rscale (x3 j) := by
  simp only [val_main_v6_apply, val_main_v5_apply, val_main_v4_apply, val_main_cst_apply, val_main_v3_apply,
    val_main_v2_apply, val_main_v1_apply, val_main_c_apply, val_main_v0_apply]
  rfl
theorem dy_scale (x1 : S5632x1536.Idx → BitVec 8) (j : S5632x1536.Idx) :
    val_main_v78 (F := Ideal) x1 j = rscale (x1 j) := by
  simp only [val_main_v78_apply, val_main_v77_apply, val_main_v76_apply, val_main_cst_35_apply, val_main_v75_apply,
    val_main_v74_apply, val_main_v73_apply, val_main_c_34_apply, val_main_v72_apply]
  rfl

/-! ### The decoded nibbles -/

theorem x_even_mag (x2 : S2048x24576.Idx → BitVec 8) (i : S2048x24576.Idx) :
    val_main_v32 (F := Ideal) x2 i = rmag (IntOp.andi ((x2 i).setWidth 32) 15#32) := rfl
theorem x_even_dec (x2 : S2048x24576.Idx → BitVec 8) (i : S2048x24576.Idx) :
    val_main_v34 (F := Ideal) x2 i = rdec (IntOp.andi ((x2 i).setWidth 32) 15#32) := rfl
theorem x_odd_mag (x2 : S2048x24576.Idx → BitVec 8) (i : S2048x24576.Idx) :
    val_main_v64 (F := Ideal) x2 i = rmag (IntOp.shrsi .host ((x2 i).setWidth 32) 4#32) := rfl
theorem x_odd_dec (x2 : S2048x24576.Idx → BitVec 8) (i : S2048x24576.Idx) :
    val_main_v66 (F := Ideal) x2 i = rdec (IntOp.shrsi .host ((x2 i).setWidth 32) 4#32) := rfl

theorem dy_even_mag (x0 : S5632x24576.Idx → BitVec 8) (i : S5632x24576.Idx) :
    val_main_v104 (F := Ideal) x0 i = rmag (IntOp.andi ((x0 i).setWidth 32) 15#32) := rfl
theorem dy_even_dec (x0 : S5632x24576.Idx → BitVec 8) (i : S5632x24576.Idx) :
    val_main_v106 (F := Ideal) x0 i = rdec (IntOp.andi ((x0 i).setWidth 32) 15#32) := rfl
theorem dy_odd_mag (x0 : S5632x24576.Idx → BitVec 8) (i : S5632x24576.Idx) :
    val_main_v136 (F := Ideal) x0 i = rmag (IntOp.shrsi .host ((x0 i).setWidth 32) 4#32) := rfl
theorem dy_odd_dec (x0 : S5632x24576.Idx → BitVec 8) (i : S5632x24576.Idx) :
    val_main_v138 (F := Ideal) x0 i = rdec (IntOp.shrsi .host ((x0 i).setWidth 32) 4#32) := rfl

/-! ### The dequantised fields -/

theorem x_even (x2 : S2048x24576.Idx → BitVec 8) (x3 : S2048x1536.Idx → BitVec 8) (i : S2048x24576.Idx) (p t : ℕ)
    (hp : (i 0 : ℕ) = p) (ht : (i 1 : ℕ) = t) :
    val_main_v39 (F := Ideal) x2 x3 i = evenAt x2 x3 p t := by
  have h0 : (i 0).val < 2048 := (i 0).isLt
  have h1 : (i 1).val < 24576 := (i 1).isLt
  subst hp ht
  rw [val_main_v39_apply, val_main_v38_apply, val_main_v35_apply, val_main_v37_apply, val_main_v36_apply,
    x_even_dec, x_scale,
    eq_rd x2 _ (i 0) (i 1)
      (by show ((((i 0).val * 24576 + (i 1).val) / 24576 * 1536 + ((i 0).val * 24576 + (i 1).val) / 16 % 1536) * 16
            + ((i 0).val * 24576 + (i 1).val) % 16) / 24576 = (i 0).val; omega)
      (by show ((((i 0).val * 24576 + (i 1).val) / 24576 * 1536 + ((i 0).val * 24576 + (i 1).val) / 16 % 1536) * 16
            + ((i 0).val * 24576 + (i 1).val) % 16) % 24576 = (i 1).val; omega),
    eq_rd x3 _ (i 0) ((i 1).val / 16)
      (by show ((i 0).val * 24576 + (i 1).val) / 24576 = (i 0).val; omega)
      (by show ((i 0).val * 24576 + (i 1).val) / 16 % 1536 = (i 1).val / 16; omega)]
  rfl

theorem x_odd (x2 : S2048x24576.Idx → BitVec 8) (x3 : S2048x1536.Idx → BitVec 8) (i : S2048x24576.Idx) (p t : ℕ)
    (hp : (i 0 : ℕ) = p) (ht : (i 1 : ℕ) = t) :
    val_main_v71 (F := Ideal) x2 x3 i = oddAt x2 x3 p t := by
  have h0 : (i 0).val < 2048 := (i 0).isLt
  have h1 : (i 1).val < 24576 := (i 1).isLt
  subst hp ht
  rw [val_main_v71_apply, val_main_v70_apply, val_main_v67_apply, val_main_v69_apply, val_main_v68_apply,
    x_odd_dec, x_scale,
    eq_rd x2 _ (i 0) (i 1)
      (by show ((((i 0).val * 24576 + (i 1).val) / 24576 * 1536 + ((i 0).val * 24576 + (i 1).val) / 16 % 1536) * 16
            + ((i 0).val * 24576 + (i 1).val) % 16) / 24576 = (i 0).val; omega)
      (by show ((((i 0).val * 24576 + (i 1).val) / 24576 * 1536 + ((i 0).val * 24576 + (i 1).val) / 16 % 1536) * 16
            + ((i 0).val * 24576 + (i 1).val) % 16) % 24576 = (i 1).val; omega),
    eq_rd x3 _ (i 0) ((i 1).val / 16)
      (by show ((i 0).val * 24576 + (i 1).val) / 24576 = (i 0).val; omega)
      (by show ((i 0).val * 24576 + (i 1).val) / 16 % 1536 = (i 1).val / 16; omega)]
  rfl

theorem dy_even (x0 : S5632x24576.Idx → BitVec 8) (x1 : S5632x1536.Idx → BitVec 8) (i : S5632x24576.Idx) (p t : ℕ)
    (hp : (i 0 : ℕ) = p) (ht : (i 1 : ℕ) = t) :
    val_main_v111 (F := Ideal) x0 x1 i = evenAt x0 x1 p t := by
  have h0 : (i 0).val < 5632 := (i 0).isLt
  have h1 : (i 1).val < 24576 := (i 1).isLt
  subst hp ht
  rw [val_main_v111_apply, val_main_v110_apply, val_main_v107_apply, val_main_v109_apply, val_main_v108_apply,
    dy_even_dec, dy_scale,
    eq_rd x0 _ (i 0) (i 1)
      (by show ((((i 0).val * 24576 + (i 1).val) / 24576 * 1536 + ((i 0).val * 24576 + (i 1).val) / 16 % 1536) * 16
            + ((i 0).val * 24576 + (i 1).val) % 16) / 24576 = (i 0).val; omega)
      (by show ((((i 0).val * 24576 + (i 1).val) / 24576 * 1536 + ((i 0).val * 24576 + (i 1).val) / 16 % 1536) * 16
            + ((i 0).val * 24576 + (i 1).val) % 16) % 24576 = (i 1).val; omega),
    eq_rd x1 _ (i 0) ((i 1).val / 16)
      (by show ((i 0).val * 24576 + (i 1).val) / 24576 = (i 0).val; omega)
      (by show ((i 0).val * 24576 + (i 1).val) / 16 % 1536 = (i 1).val / 16; omega)]
  rfl

theorem dy_odd (x0 : S5632x24576.Idx → BitVec 8) (x1 : S5632x1536.Idx → BitVec 8) (i : S5632x24576.Idx) (p t : ℕ)
    (hp : (i 0 : ℕ) = p) (ht : (i 1 : ℕ) = t) :
    val_main_v143 (F := Ideal) x0 x1 i = oddAt x0 x1 p t := by
  have h0 : (i 0).val < 5632 := (i 0).isLt
  have h1 : (i 1).val < 24576 := (i 1).isLt
  subst hp ht
  rw [val_main_v143_apply, val_main_v142_apply, val_main_v139_apply, val_main_v141_apply, val_main_v140_apply,
    dy_odd_dec, dy_scale,
    eq_rd x0 _ (i 0) (i 1)
      (by show ((((i 0).val * 24576 + (i 1).val) / 24576 * 1536 + ((i 0).val * 24576 + (i 1).val) / 16 % 1536) * 16
            + ((i 0).val * 24576 + (i 1).val) % 16) / 24576 = (i 0).val; omega)
      (by show ((((i 0).val * 24576 + (i 1).val) / 24576 * 1536 + ((i 0).val * 24576 + (i 1).val) / 16 % 1536) * 16
            + ((i 0).val * 24576 + (i 1).val) % 16) % 24576 = (i 1).val; omega),
    eq_rd x1 _ (i 0) ((i 1).val / 16)
      (by show ((i 0).val * 24576 + (i 1).val) / 24576 = (i 0).val; omega)
      (by show ((i 0).val * 24576 + (i 1).val) / 16 % 1536 = (i 1).val / 16; omega)]
  rfl

/-- THE REFERENCE at row `i 0`, column `i 1`: the even fields' product plus the odd fields' product. -/
theorem ref_apply (x0 : S5632x24576.Idx → BitVec 8) (x1 : S5632x1536.Idx → BitVec 8) (x2 : S2048x24576.Idx → BitVec 8)
    (x3 : S2048x1536.Idx → BitVec 8) (i : S5632x2048.Idx) :
    val_main_v146 (F := Ideal) x0 x1 x2 x3 i
      = (∑ t ∈ Finset.range 24576, evenAt x0 x1 (i 0) t * evenAt x2 x3 (i 1) t)
        + ∑ t ∈ Finset.range 24576, oddAt x0 x1 (i 0) t * oddAt x2 x3 (i 1) t := by
  rw [val_main_v146_apply, val_main_v144_apply, val_main_v145_apply,
    Finset.sum_range (fun t => evenAt x0 x1 (i 0) t * evenAt x2 x3 (i 1) t),
    Finset.sum_range (fun t => oddAt x0 x1 (i 0) t * oddAt x2 x3 (i 1) t)]
  have he : ∀ k : Fin 24576, val_main_v111 (F := Ideal) x0 x1 (lidx_main_v144 i k)
      * val_main_v39 (F := Ideal) x2 x3 (ridx_main_v144 i k) = evenAt x0 x1 (i 0) k * evenAt x2 x3 (i 1) k := fun k => by
    rw [dy_even x0 x1 _ (i 0) k rfl rfl, x_even x2 x3 _ (i 1) k rfl rfl]
  have ho : ∀ k : Fin 24576, val_main_v143 (F := Ideal) x0 x1 (lidx_main_v145 i k)
      * val_main_v71 (F := Ideal) x2 x3 (ridx_main_v145 i k) = oddAt x0 x1 (i 0) k * oddAt x2 x3 (i 1) k := fun k => by
    rw [dy_odd x0 x1 _ (i 0) k rfl rfl, x_odd x2 x3 _ (i 1) k rfl rfl]
  rw [Finset.sum_congr rfl (fun k _ => he k), Finset.sum_congr rfl (fun k _ => ho k)]
  rfl

end Cert.Proof.CodesRef

end
-- ==== Proof.CodesClaim.lean ====
/-
  The kernel of `_matmul_codes` computes its reference at the ideal instance, wherever every block scale is from 1 to
  254: the kernel decodes the codes and the scales by arithmetic on bits and folds the two products together over blocks
  of positions, the reference decodes by a table and a power of two and multiplies the two fields apart.
-/
module

public import proofs.«01_k».proof.Defs
public import proofs.«01_k».proof.Proof.CodesBlocks
public import proofs.«01_k».proof.Proof.CodesRef
public import proofs.«01_k».proof.Proof.Gen.Pre_scales_normal
public import Idealize.ShloMosaic.Lib.Quiescent

@[expose] public section

noncomputable section

namespace Cert.Proof.CodesClaim

open Cert.Proof.Common Cert.Proof.CodesDecode Cert.Proof.CodesBlocks Cert.Proof.CodesRef Cert.CodesIdeal
open Idealize.ShloMosaic Idealize.ShloMosaic.TcCoe Idealize.SL.Sem
open scoped BigOperators

theorem and_split (x y : IVec Cert.Pre_scales_normal.S_ 1) (j : Cert.Pre_scales_normal.S_.Idx)
    (h : andi x y j = 1#1) : x j = 1#1 ∧ y j = 1#1 := by
  have h3 : ∀ p q : BitVec 1, IntOp.andi p q = 1#1 → p = 1#1 ∧ q = 1#1 := by unfold IntOp.andi; decide
  exact h3 _ _ h

/-- The two comparisons of a block scale, read. -/
theorem ne_zero : ∀ s : BitVec 8, IntOp.cmpi .sgt (s.setWidth 32) 0#32 = 1#1 → s.toNat ≠ 0 := by
  have h : ∀ k : Fin 256, IntOp.cmpi .sgt ((BitVec.ofFin k : BitVec 8).setWidth 32) 0#32 = 1#1
      → (BitVec.ofFin k : BitVec 8).toNat ≠ 0 := by decide +kernel
  exact fun s => h s.toFin
theorem ne_255 : ∀ s : BitVec 8, IntOp.cmpi .slt (s.setWidth 32) 255#32 = 1#1 → s.toNat ≠ 255 := by
  have h : ∀ k : Fin 256, IntOp.cmpi .slt ((BitVec.ofFin k : BitVec 8).setWidth 32) 255#32 = 1#1
      → (BitVec.ofFin k : BitVec 8).toNat ≠ 255 := by decide +kernel
  exact fun s => h s.toFin

/-- THE PRECONDITION, read: no block scale is 0 or 255. -/
theorem pre_read (dc : S5632x24576.Idx → BitVec 8) (ds : S5632x1536.Idx → BitVec 8) (xc : S2048x24576.Idx → BitVec 8)
    (xs : S2048x1536.Idx → BitVec 8)
    (h : Cert.Pre_scales_normal.fn (F := Ideal) dc ds xc xs = fun _ => 1#1) :
    (∀ i, (ds i).toNat ≠ 0 ∧ (ds i).toNat ≠ 255) ∧ (∀ i, (xs i).toNat ≠ 0 ∧ (xs i).toNat ≠ 255) := by
  have h := congrFun h (fun a => a.elim0)
  unfold Cert.Pre_scales_normal.fn Cert.Pre_scales_normal.fn_part1 at h
  obtain ⟨h, h4⟩ := and_split _ _ _ h
  obtain ⟨h, h3⟩ := and_split _ _ _ h
  obtain ⟨h1, h2⟩ := and_split _ _ _ h
  have e1 := reduce_and_forall _ _ _ _ _ (fun i => funext fun a => a.elim0) h1
  have e2 := reduce_and_forall _ _ _ _ _ (fun i => funext fun a => a.elim0) h2
  have e3 := reduce_and_forall _ _ _ _ _ (fun i => funext fun a => a.elim0) h3
  have e4 := reduce_and_forall _ _ _ _ _ (fun i => funext fun a => a.elim0) h4
  exact ⟨fun i => ⟨ne_zero _ (e1 i), ne_255 _ (e2 i)⟩, fun i => ⟨ne_zero _ (e3 i), ne_255 _ (e4 i)⟩⟩

/-- Where every block scale is from 1 to 254, the fields the kernel reads are the reference's. -/
theorem kscale_rd {a b : ℕ} (s : (⟨2, ![a, b]⟩ : Shape).Idx → BitVec 8) (hs : ∀ i, (s i).toNat ≠ 0 ∧ (s i).toNat ≠ 255)
    (p q : ℕ) (hp : p < a) (hq : q < b) : kscale (rd s p q) = rscale (rd s p q) := by
  unfold rd
  rw [dif_pos ⟨hp, hq⟩]
  exact kscale_eq_rscale _ (hs _).1 (hs _).2
theorem even_field {a : ℕ} (c : (⟨2, ![a, 24576]⟩ : Shape).Idx → BitVec 8) (s : (⟨2, ![a, 1536]⟩ : Shape).Idx → BitVec 8)
    (hs : ∀ i, (s i).toNat ≠ 0 ∧ (s i).toNat ≠ 255) (p t : ℕ) (hp : p < a) (ht : t < 24576) :
    kevenAt c s p t = evenAt c s p t := by
  unfold kevenAt evenAt
  rw [even_eq, kscale_rd s hs p (t / 16) hp (by omega)]
theorem odd_field {a : ℕ} (c : (⟨2, ![a, 24576]⟩ : Shape).Idx → BitVec 8) (s : (⟨2, ![a, 1536]⟩ : Shape).Idx → BitVec 8)
    (hs : ∀ i, (s i).toNat ≠ 0 ∧ (s i).toNat ≠ 255) (p t : ℕ) (hp : p < a) (ht : t < 24576) :
    koddAt c s p t = oddAt c s p t := by
  unfold koddAt oddAt
  rw [odd_eq, kscale_rd s hs p (t / 16) hp (by omega)]

variable (m : (ℓ : Loc nD τ sig) → Buf (Elt Ideal) ℓ)

/-- THE EQUATION: the kernel's result array is the reference's. -/
theorem result_eq_ref (c : Dev nD) (hd : ∀ i, (ds m c i).toNat ≠ 0 ∧ (ds m c i).toNat ≠ 255)
    (hx : ∀ i, (xs m c i).toNat ≠ 0 ∧ (xs m c i).toNat ≠ 255) :
    result m c = Cert.CodesRefIdeal.Read.val_main_v146 (F := Ideal) (dc m c) (ds m c) (xc m c) (xs m c) := by
  funext i
  have hi0 : (i 0).val < 5632 := (i 0).isLt
  have hi1 : (i 1).val < 2048 := (i 1).isLt
  refine (result_apply m c i).trans (Eq.trans ?_ (ref_apply (dc m c) (ds m c) (xc m c) (xs m c) i).symm)
  refine congrArg₂ (fun a b : EReal => a + b) (Finset.sum_congr rfl fun t ht => ?_) (Finset.sum_congr rfl fun t ht => ?_)
  · have ht' := Finset.mem_range.mp ht
    exact congrArg₂ (fun a b : EReal => a * b) (even_field _ _ hd _ _ hi0 ht') (even_field _ _ hx _ _ hi1 ht')
  · have ht' := Finset.mem_range.mp ht
    exact congrArg₂ (fun a b : EReal => a * b) (odd_field _ _ hd _ _ hi0 ht') (odd_field _ _ hx _ _ hi1 ht')

/-- The claim: both run, and end with equal results, arguments unchanged. -/
theorem algebraic : Cert.algebraic_CodesIdeal_CodesRefIdeal_pre_scales_normal (hCodesIdeal := Cert.CodesIdeal.Gen.facts)
    (hCodesRefIdeal := Cert.CodesRefIdeal.Gen.facts) (hPre_scales_normal := Cert.Pre_scales_normal.Gen.facts) := by
  intro m g m' g' hpre hargs
  refine ⟨fun c => Cert.CodesIdeal.Value.G5 m c, Cert.CodesIdeal.Value.run m g, ?_⟩
  refine (θ_run _ _ _).mono (fun r h c => ?_) (Cert.CodesRefIdeal.Value.run m' g')
  obtain ⟨h0, h1, h2, h3, h4⟩ := h c
  refine ⟨?_, h1, h2, h3, h4⟩
  obtain ⟨a0, a1, a2, a3⟩ := hargs c
  obtain ⟨hd, hx⟩ := pre_read _ _ _ _ (hpre c)
  refine h0.trans ((Cert.CodesRefIdeal.Read.val_main_v146_eq _).trans ?_)
  have key : ∀ (y0 : S5632x24576.Idx → BitVec 8) (y1 : S5632x1536.Idx → BitVec 8) (y2 : S2048x24576.Idx → BitVec 8)
      (y3 : S2048x1536.Idx → BitVec 8), y0 = dc m c → y1 = ds m c → y2 = xc m c → y3 = xs m c →
      Cert.CodesRefIdeal.Read.val_main_v146 (F := Ideal) y0 y1 y2 y3 = result m c := by
    rintro _ _ _ _ rfl rfl rfl rfl
    exact (result_eq_ref m c hd hx).symm
  exact key _ _ _ _ a0 a1 a2 a3

/-- The reference's frame: its run leaves the arguments, and a program with no semaphore has no counter. -/
theorem ref_frame : Cert.quiescent_CodesRefIdeal (hCodesRefIdeal := Cert.CodesRefIdeal.Gen.facts) := fun m g _ =>
  (θ_run _ _ _).mono (fun _ h => ⟨fun c => (h c).2, sem_eq_zero_of_no_sems (by decide) _⟩) (Cert.CodesRefIdeal.Value.run m g)

end Cert.Proof.CodesClaim

end
-- ==== Proof.XTrip.lean ====
module

public import proofs.«01_k».proof.Proof.Gen.QuantX
public import proofs.«01_k».proof.Proof.Gen.QuantX.Skeleton
public import proofs.«01_k».proof.Proof.Gen.QuantX.Loops
public import proofs.«01_k».proof.Proof.Gen.QuantX.Launch
public import proofs.«01_k».proof.Proof.Gen.QuantX.Points
public import proofs.«01_k».proof.Proof.Gen.QuantX.Frame

@[expose] public section

set_option maxRecDepth 8192
set_option maxHeartbeats 4000000

noncomputable section

namespace Cert.Proof.QuantX

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

def trip (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    Σ' (L4 : List (View.Piece (Elt F) S256x2048 .i8)),
      { L12 : List (View.Piece (Elt F) S128x256 .i32) // ∀ (f4 : BufTy.Contents (Elt F) arg4.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp (MT nD τ sig Unit (Elt F) ℕ (UR sig nD τ) ℕ))
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 v0 k PUnit.unit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} arg4.view.writes (Elt F) f4 L4) ∗ (arg12.view.loc (c : Thread nD τ) ↦[arg12.view.set]{fullShare} arg12.view.writes (Elt F) f12 L12) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) } := by
  have hk : k.val < 16 := Nat.lt_of_lt_of_le k.isLt k0_t1_abs.2.1
  refine ⟨?_, ?_, fun f4 f6 f7 f8 f9 f10 f11 f12 => ?run⟩
  case run =>
    by_cases h2 : k0_cond2 i k = 1#1 <;> by_cases h3 : k0_cond3 i k = 1#1
    all_goals
      unfold k0_t1_body
      iintro ⟨H2, H3, H4, H6, H7, H8, H9, H10, H11, H12⟩
      sl_exec
      sl_step
      isplitl [H2]; · iexact H2
      isplitl [H3]; · iexact H3
      isplitl [H4]; · iexact H4
      isplitl [H12]; · iexact H12
      isplitl [H6]; · iexists _; iexact H6
      isplitl [H7]; · iexists _; iexact H7
      isplitl [H8]; · iexists _; iexact H8
      isplitl [H9]; · iexists _; iexact H9
      isplitl [H10]; · iexists _; iexact H10
      iexists _; iexact H11

/-- The pieces of the codes window that the trips before `n` stored, last first. -/
def pcs4 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) : ℕ → List (View.Piece (Elt F) S256x2048 .i8)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 v0 X2 X3 ⟨n, h⟩).1 else []) ++ pcs4 c i arg2 harg2 arg3 harg3 arg4 harg4 arg5 harg5 arg6 harg6 arg7 harg7 arg8 harg8 arg9 harg9 arg10 harg10 arg11 harg11 arg12 harg12 v0 X2 X3 n

/-- The pieces of the exponent scratch that the trips before `n` stored, last first. -/
def pcs12 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) : ℕ → List (View.Piece (Elt F) S128x256 .i32)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 v0 X2 X3 ⟨n, h⟩).2.1 else []) ++ pcs12 c i arg2 harg2 arg3 harg3 arg4 harg4 arg5 harg5 arg6 harg6 arg7 harg7 arg8 harg8 arg9 harg9 arg10 harg10 arg11 harg11 arg12 harg12 v0 X2 X3 n

theorem pcs4_succ (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    pcs4 (F := F) c i arg2 harg2 arg3 harg3 arg4 harg4 arg5 harg5 arg6 harg6 arg7 harg7 arg8 harg8 arg9 harg9 arg10 harg10 arg11 harg11 arg12 harg12 v0 X2 X3 (k.val + 1) = (trip (F := F) c i arg2 harg2 arg3 harg3 arg4 harg4 arg5 harg5 arg6 harg6 arg7 harg7 arg8 harg8 arg9 harg9 arg10 harg10 arg11 harg11 arg12 harg12 v0 X2 X3 k).1 ++ pcs4 c i arg2 harg2 arg3 harg3 arg4 harg4 arg5 harg5 arg6 harg6 arg7 harg7 arg8 harg8 arg9 harg9 arg10 harg10 arg11 harg11 arg12 harg12 v0 X2 X3 k.val := by
  rw [pcs4, dif_pos k.isLt]

theorem pcs12_succ (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    pcs12 (F := F) c i arg2 harg2 arg3 harg3 arg4 harg4 arg5 harg5 arg6 harg6 arg7 harg7 arg8 harg8 arg9 harg9 arg10 harg10 arg11 harg11 arg12 harg12 v0 X2 X3 (k.val + 1) = (trip (F := F) c i arg2 harg2 arg3 harg3 arg4 harg4 arg5 harg5 arg6 harg6 arg7 harg7 arg8 harg8 arg9 harg9 arg10 harg10 arg11 harg11 arg12 harg12 v0 X2 X3 k).2.1 ++ pcs12 c i arg2 harg2 arg3 harg3 arg4 harg4 arg5 harg5 arg6 harg6 arg7 harg7 arg8 harg8 arg9 harg9 arg10 harg10 arg11 harg11 arg12 harg12 v0 X2 X3 k.val := by
  rw [pcs12, dif_pos k.isLt]

/-- The invariant before trip `k`: the operands as they are, the codes window and the exponent scratch with what the trips
    before `k` stored over what they held, everything else at anything. -/
abbrev inv (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (G4 : BufTy.Contents (Elt F) arg4.view.ty) (G12 : BufTy.Contents (Elt F) arg12.view.ty) (k : ℕ) (_ : PUnit) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜f = arg4.view.writes (Elt F) G4 (pcs4 (F := F) c i arg2 harg2 arg3 harg3 arg4 harg4 arg5 harg5 arg6 harg6 arg7 harg7 arg8 harg8 arg9 harg9 arg10 harg10 arg11 harg11 arg12 harg12 v0 X2 X3 k)⌝)
    ∗ (∃ f, (arg12.view.loc (c : Thread nD τ) ↦[arg12.view.set]{fullShare} f) ∗ ⌜f = arg12.view.writes (Elt F) G12 (pcs12 (F := F) c i arg2 harg2 arg3 harg3 arg4 harg4 arg5 harg5 arg6 harg6 arg7 harg7 arg8 harg8 arg9 harg9 arg10 harg10 arg11 harg11 arg12 harg12 v0 X2 X3 k)⌝)
    ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))

set_option warn.classDefReducibility false in
/-- The loop keeps its invariant. -/
@[sl_loop] def loopInv (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (G4 : BufTy.Contents (Elt F) arg4.view.ty) (G12 : BufTy.Contents (Elt F) arg12.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 v0 where
  inv := inv (F := F) c i arg2 harg2 arg3 harg3 arg4 harg4 arg5 harg5 arg6 harg6 arg7 harg7 arg8 harg8 arg9 harg9 arg10 harg10 arg11 harg11 arg12 harg12 v0 X2 X3 G4 G12
  step k acc := by
    iintro ⟨H2, H3, ⟨%f4, H4, %h4⟩, ⟨%f12, H12, %h12⟩, ⟨%f6, H6⟩, ⟨%f7, H7⟩, ⟨%f8, H8⟩, ⟨%f9, H9⟩, ⟨%f10, H10⟩, ⟨%f11, H11⟩⟩
    iapply (wp_wand_r Idealize.ShloMosaic.frame (wpE (defs₀ (F := F)) 𝒱₀ (c : Thread nD τ) none) Set.univ)
    isplitl [H2 H3 H4 H6 H7 H8 H9 H10 H11 H12]
    · iapply ((trip (F := F) c i arg2 harg2 arg3 harg3 arg4 harg4 arg5 harg5 arg6 harg6 arg7 harg7 arg8 harg8 arg9 harg9 arg10 harg10 arg11 harg11 arg12 harg12 v0 X2 X3 k).2.2 f4 f6 f7 f8 f9 f10 f11 f12)
      isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      iexact H12
    · iintro %_ ⟨H2, H3, H4, H12, H6, H7, H8, H9, H10, H11⟩
      isplitl [H2]; · iexact H2
      isplitl [H3]; · iexact H3
      rw [pcs4_succ, pcs12_succ]
      isplitl [H4]
      · iexists _; isplitl [H4]; · iexact H4
        ipureintro; rw [h4, ← View.writes_append]
      isplitl [H12]
      · iexists _; isplitl [H12]; · iexact H12
        ipureintro; rw [h12, ← View.writes_append]
      isplitl [H6]; · iexact H6
      isplitl [H7]; · iexact H7
      isplitl [H8]; · iexact H8
      isplitl [H9]; · iexact H9
      isplitl [H10]; · iexact H10
      iexact H11

/-- The whole body at a grid point: the operands end as they were, the codes window with the trips' stores, the scales
    window with two stores of what the exponent scratch then holds, the rest at anything. -/
def bodyRun (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (X2 : BufTy.Contents (Elt F) arg2.view.ty) (X3 : BufTy.Contents (Elt F) arg3.view.ty) :
    { L5 : List (View.Piece (Elt F) S256x128 .i8) // ∀ (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp (MT nD τ sig Unit (Elt F) ℕ (UR sig nD τ) ℕ))
      ⊢ wp frame (wpE (defs₀ (F := F)) 𝒱₀ (c : Thread nD τ) none) Set.univ (cc0_quant_x (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} arg4.view.writes (Elt F) f4 (pcs4 (F := F) c i arg2 harg2 arg3 harg3 arg4 harg4 arg5 harg5 arg6 harg6 arg7 harg7 arg8 harg8 arg9 harg9 arg10 harg10 arg11 harg11 arg12 harg12 (Scalar.cmpi .eq (BitVec.ofNat 32 (i 1).val) 0#32) X2 X3 k0_t1_loop.trips))
            ∗ (arg5.view.loc (c : Thread nD τ) ↦[arg5.view.set]{fullShare} arg5.view.writes (Elt F) f5 L5)
            ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) } := by
  refine ⟨?_, fun f4 f5 f6 f7 f8 f9 f10 f11 f12 => ?run⟩
  case run =>
    rw [cc0_quant_x_eq_skeleton]
    by_cases h1 : Scalar.cmpi .ne (Scalar.extui (Scalar.cmpi .eq (BitVec.ofNat 32 (i 1).val) 0#32) : BitVec 32) 0#32 = 1#1
    all_goals
      unfold cc0_quant_x_skel
      iintro ⟨H2, H3, H4, H5, H6, H7, H8, H9, H10, H11, H12⟩
      sl_exec
      sl_step
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      iexists _; iexact H12

end Cert.Proof.QuantX

end
-- ==== Proof.XRun.lean ====
module

public import proofs.«01_k».proof.Proof.XTrip
public import proofs.«01_k».proof.Proof.Gen.QuantX.Frame
public import Idealize.ShloMosaic.Lib.Pipeline.Frame

@[expose] public section
set_option maxRecDepth 16384
set_option maxHeartbeats 4000000

noncomputable section

namespace Cert.Proof.QuantX

open Cert.QuantX Cert.QuantX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The proof data of the pipeline: the inputs' buffers keep their blocks; nothing is said of the other windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (fun _ => 0#8 : S256x2048.Idx → BitVec 8)
    | ⟨3, _⟩ => (fun _ => 0#8 : S256x128.Idx → BitVec 8)
    | ⟨4, _⟩ => iblk m c 4 t
    | ⟨5, _⟩ => iblk m c 5 t
    | ⟨6, _⟩ => iblk m c 6 t
  Φ _ := Pipeline.ΦA spec0 c
  q _ := fullShare
  owed _ := 0

/-- The windows of which nothing is said. -/
def fgt : Fin cfg0.W → Bool := fun w => decide (2 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

theorem whole_pt (c : Dev nD) (b : Ref sig .tc) (f : Buf (Elt F) ((c : Thread nD τ).loc b)) :
    (((Memref.whole b).view.loc (c : Thread nD τ) ↦[(Memref.whole b).view.set]{fullShare} f : sProp (MT nD τ sig Unit (Elt F) ℕ (UR sig nD τ) ℕ))) = (((c : Thread nD τ).loc b) ↦{fullShare} f) := by
  simp only [View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, show (dats m 0 c).Φ t.castSucc = Pipeline.ΦA spec0 c from rfl]
  unfold Pipeline.ΦA
  rw [scopedRest0_eq]
  unfold owns
  iintro ⟨⟨⟨⟨%s0, S0⟩, ⟨%s1, S1⟩, ⟨%s2, S2⟩, ⟨%s3, S3⟩⟩, HP⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩⟩
  have hb := (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1).2 f2 f3 f4 f5 f6 s0 s1 s2 s3
  iapply (wp_wand_r frame _ Set.univ)
  isplitl [H0 H1 H2 H3 H4 H5 H6 S0 S1 S2 S3]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · rw [whole_pt]; iexact S0
    isplitl [S1]; · rw [whole_pt]; iexact S1
    isplitl [S2]; · rw [whole_pt]; iexact S2
    rw [whole_pt]; iexact S3
  iintro %_ ⟨H0, H1, H2, H3, ⟨%g4, H4⟩, ⟨%g5, H5⟩, ⟨%g6, H6⟩, ⟨%e0, S0⟩, ⟨%e1, S1⟩, ⟨%e2, S2⟩, ⟨%e3, S3⟩⟩
  isplitl [S0 S1 S2 S3 HP]
  · isplitl [S0 S1 S2 S3]
    · isplitl [S0]; · iexists e0; rw [← whole_pt]; iexact S0
      isplitl [S1]; · iexists e1; rw [← whole_pt]; iexact S1
      isplitl [S2]; · iexists e2; rw [← whole_pt]; iexact S2
      iexists e3; rw [← whole_pt]; iexact S3
    · iexact HP
  isplitl [Ho]; · iexact Ho
  isplitl [H0]
  · iexists f0; isplitr
    swap; · iexact H0
    ipureintro; exact h0
  isplitl [H1]
  · iexists f1; isplitr
    swap; · iexact H1
    ipureintro; exact h1
  isplitl [H2]
  · iexists _, _; isplitr
    swap; · iexact H2
    ipureintro; rfl
  isplitl [H3]
  · iexists _, _; isplitr
    swap; · iexact H3
    ipureintro; rfl
  isplitl [H4]
  · iexists _, g4; isplitr
    swap; · iexact H4
    ipureintro; rfl
  isplitl [H5]
  · iexists _, g5; isplitr
    swap; · iexact H5
    ipureintro; rfl
  · iexists _, g6; isplitr
    swap; · iexact H6
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run of the whole program: what the library computes from the proof data, and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program ends, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main_quiescent m ρ)

end Cert.Proof.QuantX

end
-- ==== Proof.XTripIdeal.lean ====
module

public import proofs.«01_k».proof.Proof.Gen.QuantXIdeal
public import proofs.«01_k».proof.Proof.Gen.QuantXIdeal.Skeleton
public import proofs.«01_k».proof.Proof.Gen.QuantXIdeal.Loops
public import proofs.«01_k».proof.Proof.Gen.QuantXIdeal.Launch
public import proofs.«01_k».proof.Proof.Gen.QuantXIdeal.Points
public import proofs.«01_k».proof.Proof.Gen.QuantXIdeal.Frame

@[expose] public section

set_option maxRecDepth 8192
set_option maxHeartbeats 4000000

noncomputable section

namespace Cert.Proof.QuantXIdeal

open Cert.QuantXIdeal Cert.QuantXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

def trip (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    Σ' (L4 : List (View.Piece (Elt F) S256x2048 .i8)),
      { L12 : List (View.Piece (Elt F) S128x256 .i32) // ∀ (f4 : BufTy.Contents (Elt F) arg4.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp (MT nD τ sig Unit (Elt F) ℕ (UR sig nD τ) ℕ))
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 v0 k PUnit.unit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} arg4.view.writes (Elt F) f4 L4) ∗ (arg12.view.loc (c : Thread nD τ) ↦[arg12.view.set]{fullShare} arg12.view.writes (Elt F) f12 L12) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) } := by
  have hk : k.val < 16 := Nat.lt_of_lt_of_le k.isLt k0_t1_abs.2.1
  refine ⟨?_, ?_, fun f4 f6 f7 f8 f9 f10 f11 f12 => ?run⟩
  case run =>
    by_cases h2 : k0_cond2 i k = 1#1 <;> by_cases h3 : k0_cond3 i k = 1#1
    all_goals
      unfold k0_t1_body
      iintro ⟨H2, H3, H4, H6, H7, H8, H9, H10, H11, H12⟩
      sl_exec
      sl_step
      isplitl [H2]; · iexact H2
      isplitl [H3]; · iexact H3
      isplitl [H4]; · iexact H4
      isplitl [H12]; · iexact H12
      isplitl [H6]; · iexists _; iexact H6
      isplitl [H7]; · iexists _; iexact H7
      isplitl [H8]; · iexists _; iexact H8
      isplitl [H9]; · iexists _; iexact H9
      isplitl [H10]; · iexists _; iexact H10
      iexists _; iexact H11

/-- The pieces of the codes window that the trips before `n` stored, last first. -/
def pcs4 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) : ℕ → List (View.Piece (Elt F) S256x2048 .i8)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 v0 X2 X3 ⟨n, h⟩).1 else []) ++ pcs4 c i arg2 harg2 arg3 harg3 arg4 harg4 arg5 harg5 arg6 harg6 arg7 harg7 arg8 harg8 arg9 harg9 arg10 harg10 arg11 harg11 arg12 harg12 v0 X2 X3 n

/-- The pieces of the exponent scratch that the trips before `n` stored, last first. -/
def pcs12 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) : ℕ → List (View.Piece (Elt F) S128x256 .i32)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 v0 X2 X3 ⟨n, h⟩).2.1 else []) ++ pcs12 c i arg2 harg2 arg3 harg3 arg4 harg4 arg5 harg5 arg6 harg6 arg7 harg7 arg8 harg8 arg9 harg9 arg10 harg10 arg11 harg11 arg12 harg12 v0 X2 X3 n

theorem pcs4_succ (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    pcs4 (F := F) c i arg2 harg2 arg3 harg3 arg4 harg4 arg5 harg5 arg6 harg6 arg7 harg7 arg8 harg8 arg9 harg9 arg10 harg10 arg11 harg11 arg12 harg12 v0 X2 X3 (k.val + 1) = (trip (F := F) c i arg2 harg2 arg3 harg3 arg4 harg4 arg5 harg5 arg6 harg6 arg7 harg7 arg8 harg8 arg9 harg9 arg10 harg10 arg11 harg11 arg12 harg12 v0 X2 X3 k).1 ++ pcs4 c i arg2 harg2 arg3 harg3 arg4 harg4 arg5 harg5 arg6 harg6 arg7 harg7 arg8 harg8 arg9 harg9 arg10 harg10 arg11 harg11 arg12 harg12 v0 X2 X3 k.val := by
  rw [pcs4, dif_pos k.isLt]

theorem pcs12_succ (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    pcs12 (F := F) c i arg2 harg2 arg3 harg3 arg4 harg4 arg5 harg5 arg6 harg6 arg7 harg7 arg8 harg8 arg9 harg9 arg10 harg10 arg11 harg11 arg12 harg12 v0 X2 X3 (k.val + 1) = (trip (F := F) c i arg2 harg2 arg3 harg3 arg4 harg4 arg5 harg5 arg6 harg6 arg7 harg7 arg8 harg8 arg9 harg9 arg10 harg10 arg11 harg11 arg12 harg12 v0 X2 X3 k).2.1 ++ pcs12 c i arg2 harg2 arg3 harg3 arg4 harg4 arg5 harg5 arg6 harg6 arg7 harg7 arg8 harg8 arg9 harg9 arg10 harg10 arg11 harg11 arg12 harg12 v0 X2 X3 k.val := by
  rw [pcs12, dif_pos k.isLt]

/-- The invariant before trip `k`: the operands as they are, the codes window and the exponent scratch with what the trips
    before `k` stored over what they held, everything else at anything. -/
abbrev inv (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (G4 : BufTy.Contents (Elt F) arg4.view.ty) (G12 : BufTy.Contents (Elt F) arg12.view.ty) (k : ℕ) (_ : PUnit) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3)
    ∗ (∃ f, (arg4.view.loc (c : Thread nD τ) ↦[arg4.view.set]{fullShare} f) ∗ ⌜f = arg4.view.writes (Elt F) G4 (pcs4 (F := F) c i arg2 harg2 arg3 harg3 arg4 harg4 arg5 harg5 arg6 harg6 arg7 harg7 arg8 harg8 arg9 harg9 arg10 harg10 arg11 harg11 arg12 harg12 v0 X2 X3 k)⌝)
    ∗ (∃ f, (arg12.view.loc (c : Thread nD τ) ↦[arg12.view.set]{fullShare} f) ∗ ⌜f = arg12.view.writes (Elt F) G12 (pcs12 (F := F) c i arg2 harg2 arg3 harg3 arg4 harg4 arg5 harg5 arg6 harg6 arg7 harg7 arg8 harg8 arg9 harg9 arg10 harg10 arg11 harg11 arg12 harg12 v0 X2 X3 k)⌝)
    ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))

set_option warn.classDefReducibility false in
/-- The loop keeps its invariant. -/
@[sl_loop] def loopInv (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (G4 : BufTy.Contents (Elt F) arg4.view.ty) (G12 : BufTy.Contents (Elt F) arg12.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 v0 where
  inv := inv (F := F) c i arg2 harg2 arg3 harg3 arg4 harg4 arg5 harg5 arg6 harg6 arg7 harg7 arg8 harg8 arg9 harg9 arg10 harg10 arg11 harg11 arg12 harg12 v0 X2 X3 G4 G12
  step k acc := by
    iintro ⟨H2, H3, ⟨%f4, H4, %h4⟩, ⟨%f12, H12, %h12⟩, ⟨%f6, H6⟩, ⟨%f7, H7⟩, ⟨%f8, H8⟩, ⟨%f9, H9⟩, ⟨%f10, H10⟩, ⟨%f11, H11⟩⟩
    iapply (wp_wand_r Idealize.ShloMosaic.frame (wpE (defs₀ (F := F)) 𝒱₀ (c : Thread nD τ) none) Set.univ)
    isplitl [H2 H3 H4 H6 H7 H8 H9 H10 H11 H12]
    · iapply ((trip (F := F) c i arg2 harg2 arg3 harg3 arg4 harg4 arg5 harg5 arg6 harg6 arg7 harg7 arg8 harg8 arg9 harg9 arg10 harg10 arg11 harg11 arg12 harg12 v0 X2 X3 k).2.2 f4 f6 f7 f8 f9 f10 f11 f12)
      isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      iexact H12
    · iintro %_ ⟨H2, H3, H4, H12, H6, H7, H8, H9, H10, H11⟩
      isplitl [H2]; · iexact H2
      isplitl [H3]; · iexact H3
      rw [pcs4_succ, pcs12_succ]
      isplitl [H4]
      · iexists _; isplitl [H4]; · iexact H4
        ipureintro; rw [h4, ← View.writes_append]
      isplitl [H12]
      · iexists _; isplitl [H12]; · iexact H12
        ipureintro; rw [h12, ← View.writes_append]
      isplitl [H6]; · iexact H6
      isplitl [H7]; · iexact H7
      isplitl [H8]; · iexact H8
      isplitl [H9]; · iexact H9
      isplitl [H10]; · iexact H10
      iexact H11

/-- The whole body at a grid point: the operands end as they were, the codes window with the trips' stores, the scales
    window with two stores of what the exponent scratch then holds, the rest at anything. -/
def bodyRun (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (X2 : BufTy.Contents (Elt F) arg2.view.ty) (X3 : BufTy.Contents (Elt F) arg3.view.ty) :
    { L5 : List (View.Piece (Elt F) S256x128 .i8) // ∀ (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp (MT nD τ sig Unit (Elt F) ℕ (UR sig nD τ) ℕ))
      ⊢ wp frame (wpE (defs₀ (F := F)) 𝒱₀ (c : Thread nD τ) none) Set.univ (cc0_quant_x (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} arg4.view.writes (Elt F) f4 (pcs4 (F := F) c i arg2 harg2 arg3 harg3 arg4 harg4 arg5 harg5 arg6 harg6 arg7 harg7 arg8 harg8 arg9 harg9 arg10 harg10 arg11 harg11 arg12 harg12 (Scalar.cmpi .eq (BitVec.ofNat 32 (i 1).val) 0#32) X2 X3 k0_t1_loop.trips))
            ∗ (arg5.view.loc (c : Thread nD τ) ↦[arg5.view.set]{fullShare} arg5.view.writes (Elt F) f5 L5)
            ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) } := by
  refine ⟨?_, fun f4 f5 f6 f7 f8 f9 f10 f11 f12 => ?run⟩
  case run =>
    rw [cc0_quant_x_eq_skeleton]
    by_cases h1 : Scalar.cmpi .ne (Scalar.extui (Scalar.cmpi .eq (BitVec.ofNat 32 (i 1).val) 0#32) : BitVec 32) 0#32 = 1#1
    all_goals
      unfold cc0_quant_x_skel
      iintro ⟨H2, H3, H4, H5, H6, H7, H8, H9, H10, H11, H12⟩
      sl_exec
      sl_step
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      iexists _; iexact H12

end Cert.Proof.QuantXIdeal

end
-- ==== Proof.XPureIdeal.lean ====
module

public import proofs.«01_k».proof.Proof.XTripIdeal
public import Idealize.ShloMosaic.Lib.Pipeline.ValueKit

@[expose] public section
set_option maxRecDepth 8192
set_option maxHeartbeats 4000000

noncomputable section

namespace Cert.Proof.QuantXIdeal

open Cert.QuantXIdeal Cert.QuantXIdeal.Gen
open Idealize.ShloMosaic Idealize.ShloMosaic.TcCoe Idealize.ShloMosaic.Tactic

variable {F : FTy → Type} [FloatOps F]

/-- The maxima over the four row groups of each 32-row block that share a row number modulo 8. -/
def pMax (z : FVec F S256x128 .f32) : FVec F S64x128 .f32 :=
  shapeCast S64x128 (shapeCast S64x128 (multiReduction .maximumf [1] S8x8x128 (shapeCast S8x4x8x128 (absf z) shapeCasts_S256x128_S8x4x8x128) 0xFF800000#32 reduces_S8x4x8x128_S8x8x128 (.inl rfl) rfl) shapeCasts_S8x8x128_S64x128) shapeCasts_S64x128_S64x128

/-- The block maxima times the rotation's constant. -/
def pAmax (z : FVec F S256x128 .f32) : FVec F S8x128 .f32 :=
  k0_pay8 (fun y => pMax z (LoadRect.idx { off := ![0, 0], size := S8x128.size, stride := ![8, 1], inb := inb_S64x128_S8x128_0_0_s_8_1 : LoadRect S64x128 } y)) (fun y => pMax z (LoadRect.idx { off := ![1, 0], size := S8x128.size, stride := ![8, 1], inb := inb_S64x128_S8x128_1_0_s_8_1 : LoadRect S64x128 } y)) (fun y => pMax z (LoadRect.idx { off := ![2, 0], size := S8x128.size, stride := ![8, 1], inb := inb_S64x128_S8x128_2_0_s_8_1 : LoadRect S64x128 } y)) (fun y => pMax z (LoadRect.idx { off := ![3, 0], size := S8x128.size, stride := ![8, 1], inb := inb_S64x128_S8x128_3_0_s_8_1 : LoadRect S64x128 } y)) (fun y => pMax z (LoadRect.idx { off := ![4, 0], size := S8x128.size, stride := ![8, 1], inb := inb_S64x128_S8x128_4_0_s_8_1 : LoadRect S64x128 } y)) (fun y => pMax z (LoadRect.idx { off := ![5, 0], size := S8x128.size, stride := ![8, 1], inb := inb_S64x128_S8x128_5_0_s_8_1 : LoadRect S64x128 } y)) (fun y => pMax z (LoadRect.idx { off := ![6, 0], size := S8x128.size, stride := ![8, 1], inb := inb_S64x128_S8x128_6_0_s_8_1 : LoadRect S64x128 } y)) (fun y => pMax z (LoadRect.idx { off := ![7, 0], size := S8x128.size, stride := ![8, 1], inb := inb_S64x128_S8x128_7_0_s_8_1 : LoadRect S64x128 } y))

/-- The exponents the field search gives for block maxima `a`. -/
def pExp (a : FVec F S8x128 .f32) : IVec S8x128 32 := k0_pay12 (k0_pay9 a) (k0_pay10 a) (k0_pay11 a)

/-- A row of the factors. -/
def pRow (s : FVec F S8x128 .f32) (r : Rect S8x128) : r.shape.Idx → F .f32 := fun y => s (r.toLoadRect.idx y)

/-- The scaled and clipped values: block `g` of `z` times row `g` of `s`. -/
def pU (z : FVec F S256x128 .f32) (s : FVec F S8x128 .f32) : FVec F S256x128 .f32 :=
  k0_pay27 z (k0_pay22 z (pRow s (Rect.unit ![0, 0] S1x128.size inb_S8x128_S1x128_0_0))) (k0_pay23 z (pRow s (Rect.unit ![1, 0] S1x128.size inb_S8x128_S1x128_1_0))) (k0_pay24 z (pRow s (Rect.unit ![2, 0] S1x128.size inb_S8x128_S1x128_2_0))) (k0_pay25 z (pRow s (Rect.unit ![3, 0] S1x128.size inb_S8x128_S1x128_3_0))) (k0_pay26 z) (pRow s (Rect.unit ![4, 0] S1x128.size inb_S8x128_S1x128_4_0)) (pRow s (Rect.unit ![5, 0] S1x128.size inb_S8x128_S1x128_5_0)) (pRow s (Rect.unit ![6, 0] S1x128.size inb_S8x128_S1x128_6_0)) (pRow s (Rect.unit ![7, 0] S1x128.size inb_S8x128_S1x128_7_0))

/-- How many thresholds the magnitude passes, plus eight below zero. -/
def pCnt (v239 : FVec F S256x128 .f32) : IVec S256x128 32 :=
  have v240 : FVec F S256x128 .f32 := absf v239
  have cst_101 : F .f32 := Scalar.ofBits .f32 0x3E800000#32
  have v241 : FVec F S256x128 .f32 := broadcast S256x128 cst_101
  have v242 : IVec S256x128 1 := cmpf .ogt v240 v241
  have v243 : IVec S256x128 32 := extui 32 v242 natLt_1_32
  have cst_102 : F .f32 := Scalar.ofBits .f32 0x3F400000#32
  have v244 : FVec F S256x128 .f32 := broadcast S256x128 cst_102
  have v245 : IVec S256x128 1 := cmpf .oge v240 v244
  have v246 : IVec S256x128 32 := extui 32 v245 natLt_1_32
  have v247 : IVec S256x128 32 := addi v243 v246
  have cst_103 : F .f32 := Scalar.ofBits .f32 0x3FA00000#32
  have v248 : FVec F S256x128 .f32 := broadcast S256x128 cst_103
  have v249 : IVec S256x128 1 := cmpf .ogt v240 v248
  have v250 : IVec S256x128 32 := extui 32 v249 natLt_1_32
  have v251 : IVec S256x128 32 := addi v247 v250
  have cst_104 : F .f32 := Scalar.ofBits .f32 0x3FE00000#32
  have v252 : FVec F S256x128 .f32 := broadcast S256x128 cst_104
  have v253 : IVec S256x128 1 := cmpf .oge v240 v252
  have v254 : IVec S256x128 32 := extui 32 v253 natLt_1_32
  have v255 : IVec S256x128 32 := addi v251 v254
  have cst_105 : F .f32 := Scalar.ofBits .f32 0x40200000#32
  have v256 : FVec F S256x128 .f32 := broadcast S256x128 cst_105
  have v257 : IVec S256x128 1 := cmpf .ogt v240 v256
  have v258 : IVec S256x128 32 := extui 32 v257 natLt_1_32
  have v259 : IVec S256x128 32 := addi v255 v258
  have cst_106 : F .f32 := Scalar.ofBits .f32 0x40600000#32
  have v260 : FVec F S256x128 .f32 := broadcast S256x128 cst_106
  have v261 : IVec S256x128 1 := cmpf .oge v240 v260
  have v262 : IVec S256x128 32 := extui 32 v261 natLt_1_32
  have v263 : IVec S256x128 32 := addi v259 v262
  have cst_107 : F .f32 := Scalar.ofBits .f32 0x40A00000#32
  have v264 : FVec F S256x128 .f32 := broadcast S256x128 cst_107
  have v265 : IVec S256x128 1 := cmpf .ogt v240 v264
  have v266 : IVec S256x128 32 := extui 32 v265 natLt_1_32
  have v267 : IVec S256x128 32 := addi v263 v266
  have cst_108 : F .f32 := Scalar.ofBits .f32 0x00000000#32
  have v268 : FVec F S256x128 .f32 := broadcast S256x128 cst_108
  have v269 : IVec S256x128 1 := cmpf .olt v239 v268
  have v270 : IVec S256x128 32 := broadcast S256x128 8#32
  have v271 : IVec S256x128 32 := addi v267 v270
  have v272 : IVec S256x128 32 := select v269 v271 v267
  v272

/-- Eight rows of nibbles packed into a row of words, the sign of a zero cleared. -/
def pWord (v273 : IVec S32x8x128 32) : IVec S32x128 32 :=
  have v274 : IVec S32x1x128 32 := extractStridedSlice S32x1x128 ![0, 0, 0] v273 slices_S32x8x128_o0_0_0_S32x1x128
  have v275 : IVec S32x128 32 := shapeCast S32x128 v274 shapeCasts_S32x1x128_S32x128
  have v276 : IVec S32x1x128 32 := extractStridedSlice S32x1x128 ![0, 1, 0] v273 slices_S32x8x128_o0_1_0_S32x1x128
  have v277 : IVec S32x128 32 := shapeCast S32x128 v276 shapeCasts_S32x1x128_S32x128
  have v278 : IVec S32x128 32 := broadcast S32x128 4#32
  have v279 : IVec S32x128 32 := shli v277 v278
  have v280 : IVec S32x128 32 := ori v275 v279
  have v281 : IVec S32x1x128 32 := extractStridedSlice S32x1x128 ![0, 2, 0] v273 slices_S32x8x128_o0_2_0_S32x1x128
  have v282 : IVec S32x128 32 := shapeCast S32x128 v281 shapeCasts_S32x1x128_S32x128
  have v283 : IVec S32x128 32 := broadcast S32x128 8#32
  have v284 : IVec S32x128 32 := shli v282 v283
  have v285 : IVec S32x128 32 := ori v280 v284
  have v286 : IVec S32x1x128 32 := extractStridedSlice S32x1x128 ![0, 3, 0] v273 slices_S32x8x128_o0_3_0_S32x1x128
  have v287 : IVec S32x128 32 := shapeCast S32x128 v286 shapeCasts_S32x1x128_S32x128
  have v288 : IVec S32x128 32 := broadcast S32x128 12#32
  have v289 : IVec S32x128 32 := shli v287 v288
  have v290 : IVec S32x128 32 := ori v285 v289
  have v291 : IVec S32x1x128 32 := extractStridedSlice S32x1x128 ![0, 4, 0] v273 slices_S32x8x128_o0_4_0_S32x1x128
  have v292 : IVec S32x128 32 := shapeCast S32x128 v291 shapeCasts_S32x1x128_S32x128
  have v293 : IVec S32x128 32 := broadcast S32x128 16#32
  have v294 : IVec S32x128 32 := shli v292 v293
  have v295 : IVec S32x128 32 := ori v290 v294
  have v296 : IVec S32x1x128 32 := extractStridedSlice S32x1x128 ![0, 5, 0] v273 slices_S32x8x128_o0_5_0_S32x1x128
  have v297 : IVec S32x128 32 := shapeCast S32x128 v296 shapeCasts_S32x1x128_S32x128
  have v298 : IVec S32x128 32 := broadcast S32x128 20#32
  have v299 : IVec S32x128 32 := shli v297 v298
  have v300 : IVec S32x128 32 := ori v295 v299
  have v301 : IVec S32x1x128 32 := extractStridedSlice S32x1x128 ![0, 6, 0] v273 slices_S32x8x128_o0_6_0_S32x1x128
  have v302 : IVec S32x128 32 := shapeCast S32x128 v301 shapeCasts_S32x1x128_S32x128
  have v303 : IVec S32x128 32 := broadcast S32x128 24#32
  have v304 : IVec S32x128 32 := shli v302 v303
  have v305 : IVec S32x128 32 := ori v300 v304
  have v306 : IVec S32x1x128 32 := extractStridedSlice S32x1x128 ![0, 7, 0] v273 slices_S32x8x128_o0_7_0_S32x1x128
  have v307 : IVec S32x128 32 := shapeCast S32x128 v306 shapeCasts_S32x1x128_S32x128
  have v308 : IVec S32x128 32 := broadcast S32x128 28#32
  have v309 : IVec S32x128 32 := shli v307 v308
  have v310 : IVec S32x128 32 := ori v305 v309
  have v311 : IVec S32x128 32 := broadcast S32x128 2004318071#32
  have v312 : IVec S32x128 32 := andi v310 v311
  have v313 : IVec S32x128 32 := broadcast S32x128 2004318071#32
  have v314 : IVec S32x128 32 := addi v312 v313
  have v315 : IVec S32x128 32 := broadcast S32x128 2004318071#32
  have v316 : IVec S32x128 32 := ori v314 v315
  have v317 : IVec S32x128 32 := andi v310 v316
  v317

/-- The codes of a panel, transposed. -/
def pCodes (u : FVec F S256x128 .f32) : IVec S128x128 8 :=
  transpose S128x128 [1, 0] (bitcast S128x128 8 (pWord (shapeCast S32x8x128 (pCnt u) shapeCasts_S256x128_S32x8x128)) bitcasts_S32x128_w32_S128x128_w8) transposes_S128x128_p1_0_S128x128

/-- The exponents of a panel. -/
def pE (z : FVec F S256x128 .f32) : IVec S8x128 32 := pExp (pAmax z)

/-- The codes of a panel from its rotated rows. -/
def pC (z : FVec F S256x128 .f32) : IVec S128x128 8 := pCodes (pU z (k0_pay19 (pE z)))

theorem r_2_eq (arg2 : Memref sig .tc .vmem S4096x256 .bf16) (arg3 : Memref sig .tc .vmem S256x256 .bf16) (arg9 : Memref sig .tc .vmem S64x128 .f32) (X2 : BufTy.Contents (Elt F) arg2.view.ty) (X3 : BufTy.Contents (Elt F) arg3.view.ty) (k : Fin k0_t1_loop.trips) : trip.sl.r_2 (F := F) arg2 arg3 arg9 X2 X3 k = pAmax (trip.sl.r_1 arg2 arg3 X2 X3 k) := by
  unfold trip.sl.r_2 trip.sl.v28 trip.sl.v29 trip.sl.v31 trip.sl.v33 trip.sl.v35 trip.sl.v37 trip.sl.v39 trip.sl.v41 trip.sl.H9_1
  simp (disch := decide) only [View.readCov_eq_canon', View.canon_cons_unit_lit']
  rfl

theorem r_6_eq (arg2 : Memref sig .tc .vmem S4096x256 .bf16) (arg3 : Memref sig .tc .vmem S256x256 .bf16) (arg9 : Memref sig .tc .vmem S64x128 .f32) (X2 : BufTy.Contents (Elt F) arg2.view.ty) (X3 : BufTy.Contents (Elt F) arg3.view.ty) (k : Fin k0_t1_loop.trips) : trip.sl.r_6 (F := F) arg2 arg3 arg9 X2 X3 k = pE (trip.sl.r_1 arg2 arg3 X2 X3 k) := by
  unfold trip.sl.r_6 trip.sl.r_3 trip.sl.r_4 trip.sl.r_5
  rw [r_2_eq]
  rfl

theorem r_37_eq (arg2 : Memref sig .tc .vmem S4096x256 .bf16) (arg3 : Memref sig .tc .vmem S256x256 .bf16) (arg9 : Memref sig .tc .vmem S64x128 .f32) (X2 : BufTy.Contents (Elt F) arg2.view.ty) (X3 : BufTy.Contents (Elt F) arg3.view.ty) (k : Fin k0_t1_loop.trips) : trip.sl.r_37 (F := F) arg2 arg3 arg9 X2 X3 k = pE (trip.sl.r_32 arg2 arg3 X2 X3 k) := by
  unfold trip.sl.r_37 trip.sl.r_35 trip.sl.r_36 trip.sl.r_33 trip.sl.v413 trip.sl.v414 trip.sl.v416 trip.sl.v418 trip.sl.v420 trip.sl.v422 trip.sl.v424 trip.sl.v426 trip.sl.H9_2
  simp (disch := decide) only [View.readCov_eq_canon', View.canon_cons_unit_lit']
  rfl

theorem r_14_eq (arg2 : Memref sig .tc .vmem S4096x256 .bf16) (arg3 : Memref sig .tc .vmem S256x256 .bf16) (arg9 : Memref sig .tc .vmem S64x128 .f32) (arg10 : Memref sig .tc .vmem S8x128 .f32) (X2 : BufTy.Contents (Elt F) arg2.view.ty) (X3 : BufTy.Contents (Elt F) arg3.view.ty) (k : Fin k0_t1_loop.trips) : trip.sl.r_14 (F := F) arg2 arg3 arg9 arg10 X2 X3 k = pU (trip.sl.r_1 arg2 arg3 X2 X3 k) (k0_pay19 (pE (trip.sl.r_1 arg2 arg3 X2 X3 k))) := by
  unfold trip.sl.r_14 trip.sl.r_9 trip.sl.r_10 trip.sl.r_11 trip.sl.r_12 trip.sl.r_13 trip.sl.v176 trip.sl.v184 trip.sl.v192 trip.sl.v200 trip.sl.v208 trip.sl.v216 trip.sl.v224 trip.sl.v232 trip.sl.H10_1
  simp (disch := decide) only [View.readCov_eq_canon', View.canon_cons_unit_lit']
  rw [r_6_eq]
  rfl

theorem r_45_eq (arg2 : Memref sig .tc .vmem S4096x256 .bf16) (arg3 : Memref sig .tc .vmem S256x256 .bf16) (arg9 : Memref sig .tc .vmem S64x128 .f32) (arg10 : Memref sig .tc .vmem S8x128 .f32) (X2 : BufTy.Contents (Elt F) arg2.view.ty) (X3 : BufTy.Contents (Elt F) arg3.view.ty) (k : Fin k0_t1_loop.trips) : trip.sl.r_45 (F := F) arg2 arg3 arg9 arg10 X2 X3 k = pU (trip.sl.r_32 arg2 arg3 X2 X3 k) (k0_pay19 (pE (trip.sl.r_32 arg2 arg3 X2 X3 k))) := by
  unfold trip.sl.r_45 trip.sl.r_41 trip.sl.r_42 trip.sl.r_43 trip.sl.r_44 trip.sl.v561 trip.sl.v569 trip.sl.v577 trip.sl.v585 trip.sl.v593 trip.sl.v601 trip.sl.v609 trip.sl.v617 trip.sl.H10_2 trip.sl.cst_228 trip.sl.r_40
  simp (disch := decide) only [View.readCov_eq_canon', View.canon_cons_unit_lit']
  rw [r_37_eq]
  rfl

theorem codes0_eq (arg2 : Memref sig .tc .vmem S4096x256 .bf16) (arg3 : Memref sig .tc .vmem S256x256 .bf16) (arg9 : Memref sig .tc .vmem S64x128 .f32) (arg10 : Memref sig .tc .vmem S8x128 .f32) (X2 : BufTy.Contents (Elt F) arg2.view.ty) (X3 : BufTy.Contents (Elt F) arg3.view.ty) (k : Fin k0_t1_loop.trips) :
    k0_pay36 (trip.sl.r_18 (F := F) arg2 arg3 arg9 arg10 X2 X3 k) (trip.sl.r_19 arg2 arg3 arg9 arg10 X2 X3 k) (trip.sl.r_20 arg2 arg3 arg9 arg10 X2 X3 k) k0_pay34 = pC (trip.sl.r_1 arg2 arg3 X2 X3 k) := by
  rw [pC, ← r_14_eq arg2 arg3 arg9 arg10]
  rfl

theorem codes1_eq (arg2 : Memref sig .tc .vmem S4096x256 .bf16) (arg3 : Memref sig .tc .vmem S256x256 .bf16) (arg9 : Memref sig .tc .vmem S64x128 .f32) (arg10 : Memref sig .tc .vmem S8x128 .f32) (X2 : BufTy.Contents (Elt F) arg2.view.ty) (X3 : BufTy.Contents (Elt F) arg3.view.ty) (k : Fin k0_t1_loop.trips) :
    k0_pay77 (trip.sl.r_48 (F := F) arg2 arg3 arg9 arg10 X2 X3 k) (trip.sl.r_49 arg2 arg3 arg9 arg10 X2 X3 k) (trip.sl.r_50 arg2 arg3 arg9 arg10 X2 X3 k) 16#32 = pC (trip.sl.r_32 arg2 arg3 X2 X3 k) := by
  rw [pC, ← r_45_eq arg2 arg3 arg9 arg10]
  rfl

end Cert.Proof.QuantXIdeal

end
-- ==== Proof.XPiecesIdeal.lean ====
module

public import proofs.«01_k».proof.Proof.XPureIdeal
public import Idealize.ShloMosaic.Lib.ValueIdx

@[expose] public section
set_option maxRecDepth 8192
set_option maxHeartbeats 4000000

noncomputable section

namespace Cert.Proof.QuantXIdeal

open Cert.QuantXIdeal Cert.QuantXIdeal.Gen
open Idealize.ShloMosaic Idealize.ShloMosaic.TcCoe Idealize.ShloMosaic.Tactic
open Idealize.ShloMosaic.ValueIdx hiding ix0 ix1 ix2 ix3 ix4 ix5 eq_ix0 eq_ix1 eq_ix2 eq_ix3 eq_ix4 eq_ix5

variable {F : FTy → Type} [FloatOps F]

theorem trips_eq : k0_t1_loop.trips = 16 := by decide

theorem off1 : ∀ k : Fin k0_t1_loop.trips, k0_off1 k = ![256 * k.val, 0] := by decide
theorem off2 : ∀ k : Fin k0_t1_loop.trips, k0_off2 k = ![8 * k.val, 0] := by decide
theorem off3 : ∀ k : Fin k0_t1_loop.trips, k0_off3 k = ![0, 128 * k.val] := by decide
theorem off5 : ∀ k : Fin k0_t1_loop.trips, k0_off5 k = ![8 * k.val, 128] := by decide
theorem off6 : ∀ k : Fin k0_t1_loop.trips, k0_off6 k = ![128, 128 * k.val] := by decide

/-- Rows `256 k` to `256 k + 255` of the block. -/
def rowsAt (x0 : Vec F S4096x256 .bf16) (k : Fin k0_t1_loop.trips) : Vec F S256x256 .bf16 :=
  fun y => x0 ((Rect.unit (s := S4096x256) (k0_off1 k) S256x256.size (k0_off1_inb k)).toLoadRect.idx y)

/-- The rotated rows of chunk `k`, the half `p` of their columns. -/
def zP (x0 : Vec F S4096x256 .bf16) (x1 : Vec F S256x256 .bf16) (k : Fin k0_t1_loop.trips) (p : ℕ) : FVec F S256x128 .f32 :=
  if p = 0 then k0_pay6 x1 (rowsAt x0 k) else k0_pay51 (k0_pay5 x1 (rowsAt x0 k))

/-- The chunk that column `n` of the codes' block comes from. -/
def chunk (n : ℕ) : Fin k0_t1_loop.trips := ⟨n % 16, by rw [trips_eq]; omega⟩

/-- The codes the body leaves. -/
def G4 (x0 : Vec F S4096x256 .bf16) (x1 : Vec F S256x256 .bf16) (y : S256x2048.Idx) : BitVec 8 :=
  pC (zP x0 x1 (chunk ((y 1).val / 128)) ((y 0).val / 128))
    (ix2 ⟨(y 0).val % 128, Nat.mod_lt _ (by decide)⟩ ⟨(y 1).val % 128, Nat.mod_lt _ (by decide)⟩)

/-- The biased exponents the loop leaves in their scratch. -/
def G12 (x0 : Vec F S4096x256 .bf16) (x1 : Vec F S256x256 .bf16) (y : S128x256.Idx) : BitVec 32 :=
  k0_pay18 (pE (zP x0 x1 (chunk ((y 0).val / 8)) ((y 1).val / 128)))
    (ix2 ⟨(y 0).val % 8, Nat.mod_lt _ (by decide)⟩ ⟨(y 1).val % 128, Nat.mod_lt _ (by decide)⟩)

theorem whole3 (arg3 : Memref sig .tc .vmem S256x256 .bf16) (X3 : BufTy.Contents (Elt F) arg3.view.ty) :
    arg3.view.readAt (Elt F) (Rect.unit ![0, 0] S256x256.size inb_S256x256_S256x256_0_0).toLoadRect X3 = arg3.view.read (Elt F) X3 := by
  simp (disch := decide) only [View.readAt_eq_ld, View.ld_unit_lit']

theorem r_1_eq (arg2 : Memref sig .tc .vmem S4096x256 .bf16) (arg3 : Memref sig .tc .vmem S256x256 .bf16) (X2 : BufTy.Contents (Elt F) arg2.view.ty) (X3 : BufTy.Contents (Elt F) arg3.view.ty) (k : Fin k0_t1_loop.trips) : trip.sl.r_1 (F := F) arg2 arg3 X2 X3 k = zP (arg2.view.read (Elt F) X2) (arg3.view.read (Elt F) X3) k 0 := by
  unfold trip.sl.r_1 zP rowsAt
  rw [whole3, if_pos rfl]
  rfl

theorem r_32_eq (arg2 : Memref sig .tc .vmem S4096x256 .bf16) (arg3 : Memref sig .tc .vmem S256x256 .bf16) (X2 : BufTy.Contents (Elt F) arg2.view.ty) (X3 : BufTy.Contents (Elt F) arg3.view.ty) (k : Fin k0_t1_loop.trips) : trip.sl.r_32 (F := F) arg2 arg3 X2 X3 k = zP (arg2.view.read (Elt F) X2) (arg3.view.read (Elt F) X3) k 1 := by
  unfold trip.sl.r_32 trip.sl.r zP rowsAt
  rw [whole3, if_neg (by decide)]
  rfl

theorem trip_L12 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    (trip (F := F) c i arg2 harg2 arg3 harg3 arg4 harg4 arg5 harg5 arg6 harg6 arg7 harg7 arg8 harg8 arg9 harg9 arg10 harg10 arg11 harg11 arg12 harg12 v0 X2 X3 k).2.1 =
      [⟨Rect.unit (s := S128x256) (k0_off5 k) S8x128.size (k0_off5_inb k), k0_pay63 (pE (zP (arg2.view.read (Elt F) X2) (arg3.view.read (Elt F) X3) k 1))⟩,
       ⟨Rect.unit (s := S128x256) (k0_off2 k) S8x128.size (k0_off2_inb k), k0_pay18 (pE (zP (arg2.view.read (Elt F) X2) (arg3.view.read (Elt F) X3) k 0))⟩] := by
  rw [← r_1_eq, ← r_32_eq, ← r_37_eq arg2 arg3 arg9, ← r_6_eq arg2 arg3 arg9]
  unfold trip
  rfl

theorem trip_L4 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (k : Fin k0_t1_loop.trips) :
    (trip (F := F) c i arg2 harg2 arg3 harg3 arg4 harg4 arg5 harg5 arg6 harg6 arg7 harg7 arg8 harg8 arg9 harg9 arg10 harg10 arg11 harg11 arg12 harg12 v0 X2 X3 k).1 =
      [⟨Rect.unit (s := S256x2048) (k0_off6 k) S128x128.size (k0_off6_inb k), pC (zP (arg2.view.read (Elt F) X2) (arg3.view.read (Elt F) X3) k 1)⟩,
       ⟨Rect.unit (s := S256x2048) (k0_off3 k) S128x128.size (k0_off3_inb k), pC (zP (arg2.view.read (Elt F) X2) (arg3.view.read (Elt F) X3) k 0)⟩] := by
  rw [← r_1_eq, ← r_32_eq, ← codes0_eq arg2 arg3 arg9 arg10, ← codes1_eq arg2 arg3 arg9 arg10]
  unfold trip
  rfl

theorem unit_emb_val {s : Shape} {off size : Fin s.rank → ℕ} {inb} (x : (Rect.unit (s := s) off size inb).shape.Idx) (a : Fin s.rank) :
    ((Rect.unit (s := s) off size inb).emb x a : ℕ) = off a + x a := by
  show off a + 1 * (x a : ℕ) = _
  omega

theorem G12_at (x0 : Vec F S4096x256 .bf16) (x1 : Vec F S256x256 .bf16) (k : Fin k0_t1_loop.trips) (p : ℕ)
    (x : S8x128.Idx) (y : S128x256.Idx) (h0 : (y 0 : ℕ) = 8 * k.val + x 0) (h1 : (y 1 : ℕ) = 128 * p + x 1) :
    G12 x0 x1 y = k0_pay18 (pE (F := F) (zP x0 x1 k p)) x := by
  have hx0 : (x 0 : ℕ) < 8 := (x 0).isLt
  have hx1 : (x 1 : ℕ) < 128 := (x 1).isLt
  have hk : k.val < 16 := trips_eq ▸ k.isLt
  unfold G12
  have e0 : chunk ((y 0).val / 8) = k := Fin.ext (by show (y 0).val / 8 % 16 = k.val; omega)
  have e1 : (y 1).val / 128 = p := by omega
  rw [e0, e1]
  refine congrArg _ ?_
  rw [eq_ix2 x]
  exact congrArg₂ ix2 (Fin.ext (by show (y 0).val % 8 = _; omega)) (Fin.ext (by show (y 1).val % 128 = _; omega))

theorem G4_at (x0 : Vec F S4096x256 .bf16) (x1 : Vec F S256x256 .bf16) (k : Fin k0_t1_loop.trips) (p : ℕ)
    (x : S128x128.Idx) (y : S256x2048.Idx) (h0 : (y 0 : ℕ) = 128 * p + x 0) (h1 : (y 1 : ℕ) = 128 * k.val + x 1) :
    G4 x0 x1 y = pC (F := F) (zP x0 x1 k p) x := by
  have hx0 : (x 0 : ℕ) < 128 := (x 0).isLt
  have hx1 : (x 1 : ℕ) < 128 := (x 1).isLt
  have hk : k.val < 16 := trips_eq ▸ k.isLt
  unfold G4
  have e0 : chunk ((y 1).val / 128) = k := Fin.ext (by show (y 1).val / 128 % 16 = k.val; omega)
  have e1 : (y 0).val / 128 = p := by omega
  rw [e0, e1]
  refine congrArg _ ?_
  rw [eq_ix2 x]
  exact congrArg₂ ix2 (Fin.ext (by show (y 0).val % 128 = _; omega)) (Fin.ext (by show (y 1).val % 128 = _; omega))

theorem pcs12_G (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) : ∀ n, ∀ q ∈ pcs12 (F := F) c i arg2 harg2 arg3 harg3 arg4 harg4 arg5 harg5 arg6 harg6 arg7 harg7 arg8 harg8 arg9 harg9 arg10 harg10 arg11 harg11 arg12 harg12 v0 X2 X3 n, ∀ x : q.1.shape.Idx, q.2 x = G12 (arg2.view.read (Elt F) X2) (arg3.view.read (Elt F) X3) (q.1.emb x)
  | 0 => by intro q hq; simp [pcs12] at hq
  | n + 1 => by
    intro q hq
    rw [pcs12, List.mem_append] at hq
    rcases hq with hq | hq
    · by_cases h : n < k0_t1_loop.trips
      · rw [dif_pos h, trip_L12] at hq
        simp only [List.mem_cons, List.mem_nil_iff, or_false] at hq
        rcases hq with rfl | rfl
        · intro x
          refine (G12_at _ _ ⟨n, h⟩ 1 x _ ?_ ?_).symm
          · exact congrArg₂ (· + ·) (congrFun (off5 ⟨n, h⟩) 0) (one_mul _)
          · exact congrArg₂ (· + ·) (congrFun (off5 ⟨n, h⟩) 1) (one_mul _)
        · intro x
          refine (G12_at _ _ ⟨n, h⟩ 0 x _ ?_ ?_).symm
          · exact congrArg₂ (· + ·) (congrFun (off2 ⟨n, h⟩) 0) (one_mul _)
          · exact congrArg₂ (· + ·) (congrFun (off2 ⟨n, h⟩) 1) (one_mul _)
      · rw [dif_neg h] at hq; simp at hq
    · exact pcs12_G c i arg2 harg2 arg3 harg3 arg4 harg4 arg5 harg5 arg6 harg6 arg7 harg7 arg8 harg8 arg9 harg9 arg10 harg10 arg11 harg11 arg12 harg12 v0 X2 X3 n q hq

theorem pcs4_G (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) : ∀ n, ∀ q ∈ pcs4 (F := F) c i arg2 harg2 arg3 harg3 arg4 harg4 arg5 harg5 arg6 harg6 arg7 harg7 arg8 harg8 arg9 harg9 arg10 harg10 arg11 harg11 arg12 harg12 v0 X2 X3 n, ∀ x : q.1.shape.Idx, q.2 x = G4 (arg2.view.read (Elt F) X2) (arg3.view.read (Elt F) X3) (q.1.emb x)
  | 0 => by intro q hq; simp [pcs4] at hq
  | n + 1 => by
    intro q hq
    rw [pcs4, List.mem_append] at hq
    rcases hq with hq | hq
    · by_cases h : n < k0_t1_loop.trips
      · rw [dif_pos h, trip_L4] at hq
        simp only [List.mem_cons, List.mem_nil_iff, or_false] at hq
        rcases hq with rfl | rfl
        · intro x
          refine (G4_at _ _ ⟨n, h⟩ 1 x _ ?_ ?_).symm
          · exact congrArg₂ (· + ·) (congrFun (off6 ⟨n, h⟩) 0) (one_mul _)
          · exact congrArg₂ (· + ·) (congrFun (off6 ⟨n, h⟩) 1) (one_mul _)
        · intro x
          refine (G4_at _ _ ⟨n, h⟩ 0 x _ ?_ ?_).symm
          · exact congrArg₂ (· + ·) (congrFun (off3 ⟨n, h⟩) 0) (one_mul _)
          · exact congrArg₂ (· + ·) (congrFun (off3 ⟨n, h⟩) 1) (one_mul _)
      · rw [dif_neg h] at hq; simp at hq
    · exact pcs4_G c i arg2 harg2 arg3 harg3 arg4 harg4 arg5 harg5 arg6 harg6 arg7 harg7 arg8 harg8 arg9 harg9 arg10 harg10 arg11 harg11 arg12 harg12 v0 X2 X3 n q hq

theorem pcs12_cover (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (y : S128x256.Idx) : ∀ n, n ≤ 16 → (y 0 : ℕ) < 8 * n → ∃ q ∈ pcs12 (F := F) c i arg2 harg2 arg3 harg3 arg4 harg4 arg5 harg5 arg6 harg6 arg7 harg7 arg8 harg8 arg9 harg9 arg10 harg10 arg11 harg11 arg12 harg12 v0 X2 X3 n, y ∈ q.1.set
  | 0 => by intro _ h; omega
  | n + 1 => by
    intro hn hy
    have h : n < k0_t1_loop.trips := by rw [trips_eq]; omega
    have hy1 : (y 1 : ℕ) < 256 := (y 1).isLt
    by_cases hlt : (y 0 : ℕ) < 8 * n
    · obtain ⟨q, hq, hm⟩ := pcs12_cover c i arg2 harg2 arg3 harg3 arg4 harg4 arg5 harg5 arg6 harg6 arg7 harg7 arg8 harg8 arg9 harg9 arg10 harg10 arg11 harg11 arg12 harg12 v0 X2 X3 y n (by omega) hlt
      exact ⟨q, by rw [pcs12]; exact List.mem_append_right _ hq, hm⟩
    · by_cases hp : (y 1 : ℕ) < 128
      · have hm : y ∈ (Rect.unit (s := S128x256) (k0_off2 ⟨n, h⟩) S8x128.size (k0_off2_inb ⟨n, h⟩)).set := by
          refine Rect.mem_set_unit.mpr (Fin.forall_fin_two.mpr ⟨?_, ?_⟩) <;> rw [off2] <;> constructor <;> dsimp <;> omega
        rw [pcs12, dif_pos h, trip_L12]
        exact ⟨_, List.mem_append_left _ (List.mem_cons_of_mem _ (List.mem_cons_self ..)), hm⟩
      · have hm : y ∈ (Rect.unit (s := S128x256) (k0_off5 ⟨n, h⟩) S8x128.size (k0_off5_inb ⟨n, h⟩)).set := by
          refine Rect.mem_set_unit.mpr (Fin.forall_fin_two.mpr ⟨?_, ?_⟩) <;> rw [off5] <;> constructor <;> dsimp <;> omega
        rw [pcs12, dif_pos h, trip_L12]
        exact ⟨_, List.mem_append_left _ (List.mem_cons_self ..), hm⟩

theorem pcs4_cover (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (y : S256x2048.Idx) : ∀ n, n ≤ 16 → (y 1 : ℕ) < 128 * n → ∃ q ∈ pcs4 (F := F) c i arg2 harg2 arg3 harg3 arg4 harg4 arg5 harg5 arg6 harg6 arg7 harg7 arg8 harg8 arg9 harg9 arg10 harg10 arg11 harg11 arg12 harg12 v0 X2 X3 n, y ∈ q.1.set
  | 0 => by intro _ h; omega
  | n + 1 => by
    intro hn hy
    have h : n < k0_t1_loop.trips := by rw [trips_eq]; omega
    have hy1 : (y 0 : ℕ) < 256 := (y 0).isLt
    by_cases hlt : (y 1 : ℕ) < 128 * n
    · obtain ⟨q, hq, hm⟩ := pcs4_cover c i arg2 harg2 arg3 harg3 arg4 harg4 arg5 harg5 arg6 harg6 arg7 harg7 arg8 harg8 arg9 harg9 arg10 harg10 arg11 harg11 arg12 harg12 v0 X2 X3 y n (by omega) hlt
      exact ⟨q, by rw [pcs4]; exact List.mem_append_right _ hq, hm⟩
    · by_cases hp : (y 0 : ℕ) < 128
      · have hm : y ∈ (Rect.unit (s := S256x2048) (k0_off3 ⟨n, h⟩) S128x128.size (k0_off3_inb ⟨n, h⟩)).set := by
          refine Rect.mem_set_unit.mpr (Fin.forall_fin_two.mpr ⟨?_, ?_⟩) <;> rw [off3] <;> constructor <;> dsimp <;> omega
        rw [pcs4, dif_pos h, trip_L4]
        exact ⟨_, List.mem_append_left _ (List.mem_cons_of_mem _ (List.mem_cons_self ..)), hm⟩
      · have hm : y ∈ (Rect.unit (s := S256x2048) (k0_off6 ⟨n, h⟩) S128x128.size (k0_off6_inb ⟨n, h⟩)).set := by
          refine Rect.mem_set_unit.mpr (Fin.forall_fin_two.mpr ⟨?_, ?_⟩) <;> rw [off6] <;> constructor <;> dsimp <;> omega
        rw [pcs4, dif_pos h, trip_L4]
        exact ⟨_, List.mem_append_left _ (List.mem_cons_self ..), hm⟩

/-- What the codes window reads after the loop. -/
theorem read_codes (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (f4 : BufTy.Contents (Elt F) arg4.view.ty) :
    arg4.view.read (Elt F) (arg4.view.writes (Elt F) f4 (pcs4 (F := F) c i arg2 harg2 arg3 harg3 arg4 harg4 arg5 harg5 arg6 harg6 arg7 harg7 arg8 harg8 arg9 harg9 arg10 harg10 arg11 harg11 arg12 harg12 v0 X2 X3 k0_t1_loop.trips)) = G4 (arg2.view.read (Elt F) X2) (arg3.view.read (Elt F) X3) := by
  funext y
  refine View.read_writes_apply_of_pieces _ _ _ _ (pcs4_G c i arg2 harg2 arg3 harg3 arg4 harg4 arg5 harg5 arg6 harg6 arg7 harg7 arg8 harg8 arg9 harg9 arg10 harg10 arg11 harg11 arg12 harg12 v0 X2 X3 _) y (pcs4_cover c i arg2 harg2 arg3 harg3 arg4 harg4 arg5 harg5 arg6 harg6 arg7 harg7 arg8 harg8 arg9 harg9 arg10 harg10 arg11 harg11 arg12 harg12 v0 X2 X3 y _ (by rw [trips_eq]) ?_)
  rw [trips_eq]; exact (y 1).isLt

/-- What the exponent scratch reads after the loop, at a load's box. -/
theorem readCov_exps (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (v0 : BitVec 1) (X2 : BufTy.Contents (Elt F) arg2.view.ty) (X3 : BufTy.Contents (Elt F) arg3.view.ty) (B : LoadRect S128x256) :
    arg12.view.readCov (pcs12 (F := F) c i arg2 harg2 arg3 harg3 arg4 harg4 arg5 harg5 arg6 harg6 arg7 harg7 arg8 harg8 arg9 harg9 arg10 harg10 arg11 harg11 arg12 harg12 v0 X2 X3 k0_t1_loop.trips) B = fun j => G12 (arg2.view.read (Elt F) X2) (arg3.view.read (Elt F) X3) (B.idx j) := by
  funext j
  refine View.read_writes_apply_of_pieces _ _ _ _ (pcs12_G c i arg2 harg2 arg3 harg3 arg4 harg4 arg5 harg5 arg6 harg6 arg7 harg7 arg8 harg8 arg9 harg9 arg10 harg10 arg11 harg11 arg12 harg12 v0 X2 X3 _) _ (pcs12_cover c i arg2 harg2 arg3 harg3 arg4 harg4 arg5 harg5 arg6 harg6 arg7 harg7 arg8 harg8 arg9 harg9 arg10 harg10 arg11 harg11 arg12 harg12 v0 X2 X3 _ _ (by rw [trips_eq]) ?_)
  rw [trips_eq]; exact (B.idx j 0).isLt

/-- The scales the body leaves. -/
def G5 (x0 : Vec F S4096x256 .bf16) (x1 : Vec F S256x256 .bf16) (y : S256x128.Idx) : BitVec 8 :=
  (G12 x0 x1 (ix2 ⟨(y 1).val, (y 1).isLt⟩ ⟨(y 0).val, (y 0).isLt⟩)).setWidth 8

theorem pay3_at (x0 : Vec F S4096x256 .bf16) (x1 : Vec F S256x256 .bf16) (p : ℕ) (v : Vec F S128x128 .i32)
    (hv : ∀ x : S128x128.Idx, ∀ y : S128x256.Idx, (y 0 : ℕ) = x 0 → (y 1 : ℕ) = 128 * p + x 1 → v x = G12 x0 x1 y)
    (x : S128x128.Idx) (y : S256x128.Idx) (h0 : (y 0 : ℕ) = 128 * p + x 0) (h1 : (y 1 : ℕ) = x 1) :
    k0_pay3 (F := F) v x = G5 x0 x1 y := by
  unfold k0_pay3 G5
  show (transpose S128x128 [1, 0] v transposes_S128x128_p1_0_S128x128 x).setWidth 8 = _
  refine congrArg _ ?_
  have e : transpose S128x128 [1, 0] v transposes_S128x128_p1_0_S128x128 x = v (ix2 (x 1) (x 0)) := by
    refine congrArg v ?_
    funext a; fin_cases a <;> rfl
  rw [e]
  exact hv _ _ h1 h0

/-- The two stores of the scales. -/
theorem bodyRun_L5 (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (X2 : BufTy.Contents (Elt F) arg2.view.ty) (X3 : BufTy.Contents (Elt F) arg3.view.ty) : ∃ v0, (bodyRun (F := F) c i arg2 harg2 arg3 harg3 arg4 harg4 arg5 harg5 arg6 harg6 arg7 harg7 arg8 harg8 arg9 harg9 arg10 harg10 arg11 harg11 arg12 harg12 X2 X3).1 =
    [⟨Rect.unit (s := S256x128) ![128, 0] S128x128.size inb_S256x128_S128x128_128_0, k0_pay4 (F := F) (arg12.view.readCov (pcs12 (F := F) c i arg2 harg2 arg3 harg3 arg4 harg4 arg5 harg5 arg6 harg6 arg7 harg7 arg8 harg8 arg9 harg9 arg10 harg10 arg11 harg11 arg12 harg12 v0 X2 X3 k0_t1_loop.trips) (Rect.unit (s := S128x256) ![0, 128] S128x128.size inb_S128x256_S128x128_0_128).toLoadRect)⟩,
     ⟨Rect.unit (s := S256x128) ![0, 0] S128x128.size inb_S256x128_S128x128_0_0, k0_pay3 (F := F) (arg12.view.readCov (pcs12 (F := F) c i arg2 harg2 arg3 harg3 arg4 harg4 arg5 harg5 arg6 harg6 arg7 harg7 arg8 harg8 arg9 harg9 arg10 harg10 arg11 harg11 arg12 harg12 v0 X2 X3 k0_t1_loop.trips) (Rect.unit (s := S128x256) ![0, 0] S128x128.size inb_S128x256_S128x128_0_0).toLoadRect)⟩] := by
  refine ⟨bodyRun.sl.v0 i, ?_⟩
  unfold bodyRun bodyRun.sl.v8 bodyRun.sl.v4
  rfl

/-- What the scales window reads at the end of the body. -/
theorem read_scales (c : Dev nD) (i : grid0.Coords) (arg2 : Memref sig .tc .vmem S4096x256 .bf16) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x128 .i8) (harg5 : arg5.IsWhole) (arg6 : Memref sig .tc .vmem S4096x256 .fp8e5m2) (harg6 : arg6.IsWhole) (arg7 : Memref sig .tc .vmem S8x256 .i32) (harg7 : arg7.IsWhole) (arg8 : Memref sig .tc .vmem S8x256 .i32) (harg8 : arg8.IsWhole) (arg9 : Memref sig .tc .vmem S64x128 .f32) (harg9 : arg9.IsWhole) (arg10 : Memref sig .tc .vmem S8x128 .f32) (harg10 : arg10.IsWhole) (arg11 : Memref sig .tc .vmem S8x128 .i32) (harg11 : arg11.IsWhole) (arg12 : Memref sig .tc .vmem S128x256 .i32) (harg12 : arg12.IsWhole) (X2 : BufTy.Contents (Elt F) arg2.view.ty) (X3 : BufTy.Contents (Elt F) arg3.view.ty) (f5 : BufTy.Contents (Elt F) arg5.view.ty) :
    arg5.view.read (Elt F) (arg5.view.writes (Elt F) f5 (bodyRun (F := F) c i arg2 harg2 arg3 harg3 arg4 harg4 arg5 harg5 arg6 harg6 arg7 harg7 arg8 harg8 arg9 harg9 arg10 harg10 arg11 harg11 arg12 harg12 X2 X3).1) = G5 (arg2.view.read (Elt F) X2) (arg3.view.read (Elt F) X3) := by
  funext y
  have hy0 : (y 0 : ℕ) < 256 := (y 0).isLt
  have hy1 : (y 1 : ℕ) < 128 := (y 1).isLt
  obtain ⟨v0, hL⟩ := bodyRun_L5 c i arg2 harg2 arg3 harg3 arg4 harg4 arg5 harg5 arg6 harg6 arg7 harg7 arg8 harg8 arg9 harg9 arg10 harg10 arg11 harg11 arg12 harg12 X2 X3
  rw [hL]
  simp only [readCov_exps]
  refine View.read_writes_apply_of_pieces _ _ _ _ ?_ y ?_
  · intro q hq
    simp only [List.mem_cons, List.mem_nil_iff, or_false] at hq
    rcases hq with rfl | rfl
    · intro x
      refine pay3_at _ _ 1 _ ?_ x _ ?_ ?_
      · intro x y h0 h1
        refine congrArg (G12 _ _) ?_
        rw [eq_ix2 y]
        funext a; fin_cases a
        · refine Fin.ext ?_; show 0 + 1 * (x 0 : ℕ) = (y 0 : ℕ); omega
        · refine Fin.ext ?_; show 128 + 1 * (x 1 : ℕ) = (y 1 : ℕ); omega
      · show 128 + 1 * (x 0 : ℕ) = 128 * 1 + x 0; omega
      · show 0 + 1 * (x 1 : ℕ) = x 1; omega
    · intro x
      refine pay3_at _ _ 0 _ ?_ x _ ?_ ?_
      · intro x y h0 h1
        refine congrArg (G12 _ _) ?_
        rw [eq_ix2 y]
        funext a; fin_cases a
        · refine Fin.ext ?_; show 0 + 1 * (x 0 : ℕ) = (y 0 : ℕ); omega
        · refine Fin.ext ?_; show 0 + 1 * (x 1 : ℕ) = (y 1 : ℕ); omega
      · show 0 + 1 * (x 0 : ℕ) = 128 * 0 + x 0; omega
      · show 0 + 1 * (x 1 : ℕ) = x 1; omega
  · by_cases h : (y 0 : ℕ) < 128
    · have hm : y ∈ (Rect.unit (s := S256x128) ![0, 0] S128x128.size inb_S256x128_S128x128_0_0).set := by
        refine Rect.mem_set_unit.mpr (Fin.forall_fin_two.mpr ⟨?_, ?_⟩) <;> constructor <;> dsimp <;> omega
      exact ⟨_, List.mem_cons_of_mem _ (List.mem_cons_self ..), hm⟩
    · have hm : y ∈ (Rect.unit (s := S256x128) ![128, 0] S128x128.size inb_S256x128_S128x128_128_0).set := by
        refine Rect.mem_set_unit.mpr (Fin.forall_fin_two.mpr ⟨?_, ?_⟩) <;> constructor <;> dsimp <;> omega
      exact ⟨_, List.mem_cons_self .., hm⟩

end Cert.Proof.QuantXIdeal

end
-- ==== Proof.XRunIdeal.lean ====
module

public import proofs.«01_k».proof.Proof.XPiecesIdeal
public import proofs.«01_k».proof.Proof.Gen.QuantXIdeal.Frame
public import Idealize.ShloMosaic.Lib.Pipeline.Frame

@[expose] public section
set_option maxRecDepth 16384
set_option maxHeartbeats 4000000

noncomputable section

namespace Cert.Proof.QuantXIdeal

open Cert.QuantXIdeal Cert.QuantXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The block of the rows that the body reads at a point. -/
def x0At (c : Dev nD) (t : Fin cfg0.N) : Vec F S4096x256 .bf16 := iblk m c 0 t
/-- The rotation that the body reads at a point. -/
def x1At (c : Dev nD) (t : Fin cfg0.N) : Vec F S256x256 .bf16 := iblk m c 1 t

/-- The proof data of the pipeline: the inputs' buffers keep their blocks, the codes' and the scales' windows hold what the body computes of them; nothing is said of the other windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => G4 (x0At m c t) (x1At m c t)
    | ⟨3, _⟩ => G5 (x0At m c t) (x1At m c t)
    | ⟨4, _⟩ => iblk m c 4 t
    | ⟨5, _⟩ => iblk m c 5 t
    | ⟨6, _⟩ => iblk m c 6 t
  Φ _ := Pipeline.ΦA spec0 c
  q _ := fullShare
  owed _ := 0

/-- The windows of which nothing is said. -/
def fgt : Fin cfg0.W → Bool := fun w => decide (4 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X)
    ∗ (∃ X, owns (c : Thread nD τ) (st0_5 t) fullShare X)
    ∗ (∃ X, owns (c : Thread nD τ) (st0_6 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare (G4 (x0At m c t) (x1At m c t))
    ∗ owns (c : Thread nD τ) (st0_3 t) fullShare (G5 (x0At m c t) (x1At m c t))
    ∗ (∃ X, owns (c : Thread nD τ) (st0_4 t) fullShare X)
    ∗ (∃ X, owns (c : Thread nD τ) (st0_5 t) fullShare X)
    ∗ (∃ X, owns (c : Thread nD τ) (st0_6 t) fullShare X))

theorem whole_pt (c : Dev nD) (b : Ref sig .tc) (f : Buf (Elt F) ((c : Thread nD τ).loc b)) :
    (((Memref.whole b).view.loc (c : Thread nD τ) ↦[(Memref.whole b).view.set]{fullShare} f : sProp (MT nD τ sig Unit (Elt F) ℕ (UR sig nD τ) ℕ))) = (((c : Thread nD τ).loc b) ↦{fullShare} f) := by
  simp only [View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, show (dats m 0 c).Φ t.castSucc = Pipeline.ΦA spec0 c from rfl]
  unfold Pipeline.ΦA
  rw [scopedRest0_eq]
  unfold owns
  iintro ⟨⟨⟨⟨%s0, S0⟩, ⟨%s1, S1⟩, ⟨%s2, S2⟩, ⟨%s3, S3⟩⟩, HP⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩⟩
  have hb := (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1).2 f2 f3 f4 f5 f6 s0 s1 s2 s3
  iapply (wp_wand_r frame _ Set.univ)
  isplitl [H0 H1 H2 H3 H4 H5 H6 S0 S1 S2 S3]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · rw [whole_pt]; iexact S0
    isplitl [S1]; · rw [whole_pt]; iexact S1
    isplitl [S2]; · rw [whole_pt]; iexact S2
    rw [whole_pt]; iexact S3
  iintro %_ ⟨H0, H1, H2, H3, ⟨%g4, H4⟩, ⟨%g5, H5⟩, ⟨%g6, H6⟩, ⟨%e0, S0⟩, ⟨%e1, S1⟩, ⟨%e2, S2⟩, ⟨%e3, S3⟩⟩
  isplitl [S0 S1 S2 S3 HP]
  · isplitl [S0 S1 S2 S3]
    · isplitl [S0]; · iexists e0; rw [← whole_pt]; iexact S0
      isplitl [S1]; · iexists e1; rw [← whole_pt]; iexact S1
      isplitl [S2]; · iexists e2; rw [← whole_pt]; iexact S2
      iexists e3; rw [← whole_pt]; iexact S3
    · iexact HP
  isplitl [Ho]; · iexact Ho
  isplitl [H0]
  · iexists f0; isplitr
    swap; · iexact H0
    ipureintro; exact h0
  isplitl [H1]
  · iexists f1; isplitr
    swap; · iexact H1
    ipureintro; exact h1
  isplitl [H2]
  · iexists _; isplitr
    swap; · iexact H2
    ipureintro
    exact (read_codes _ _ _ _ _ _ _ _ _ _ _ _ _ _ _ _ _ _ _ _ _ _ _ _ _ _ _ _).trans (by rw [h0, h1]; rfl)
  isplitl [H3]
  · iexists _; isplitr
    swap; · iexact H3
    ipureintro
    exact (read_scales _ _ _ _ _ _ _ _ _ _ _ _ _ _ _ _ _ _ _ _ _ _ _ _ _ _ _).trans (by rw [h0, h1]; rfl)
  isplitl [H4]
  · iexists _, g4; isplitr
    swap; · iexact H4
    ipureintro; rfl
  isplitl [H5]
  · iexists _, g5; isplitr
    swap; · iexact H5
    ipureintro; rfl
  · iexists _, g6; isplitr
    swap; · iexact H6
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run of the whole program: what the library computes from the proof data, and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program ends, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main_quiescent m ρ)

end Cert.Proof.QuantXIdeal

end
-- ==== Proof.XExp.lean ====
/-
  The block exponent of the quantiser over the extended reals. The kernel finds it by a search for the greatest exponent
  field whose power of two does not exceed the block's quotient `q`; the reference takes the floor of `log q / log 2`.
  Both give the same word, and the same power of two, when `q` is zero or lies between the powers of two `-126` and `126`.
-/
module

public import proofs.«01_k».proof.Proof.CodesDecode

@[expose] public section

noncomputable section

namespace Cert.Proof.XExp

open Idealize.ShloMosaic Cert.Proof.CodesDecode

/-- The float whose word is `f << 23`. -/
def pw (f : BitVec 32) : EReal := Ideal.ofBits .f32 (IntOp.shli .vector f 23#32)

/-- For `n` from 1 to 254 it is the power of two `n - 127`. -/
theorem pw_eq (n : ℕ) (h0 : 1 ≤ n) (h1 : n ≤ 254) : pw (BitVec.ofNat 32 n) = (((2 : ℝ) ^ ((n : ℤ) - 127) : ℝ) : EReal) := by
  have hn : (BitVec.ofNat 8 n).toNat = n := by rw [BitVec.toNat_ofNat]; omega
  have hs : BitVec.ofNat 32 n = (BitVec.ofNat 8 n).setWidth 32 := by
    apply BitVec.eq_of_toNat_eq
    rw [BitVec.toNat_setWidth, hn, BitVec.toNat_ofNat]
  have h := kscale_eq (BitVec.ofNat 8 n) (by omega) (by omega)
  rw [hn] at h
  rw [← h, hs]
  rfl

/-- One step of the search: `f + b` if its power of two does not exceed `q`, else `f`. -/
def step (q : EReal) (f b : BitVec 32) : BitVec 32 := Scalar.select (Ideal.cmp .oge q (pw (IntOp.addi f b))) (IntOp.addi f b) f

/-- The search's eight steps. -/
def field (q : EReal) : BitVec 32 :=
  step q (step q (step q (step q (step q (step q (step q (step q 0#32 128#32) 64#32) 32#32) 16#32) 8#32) 4#32) 2#32) 1#32

/-- A step keeps the field sought, `k`, between the value found and the value plus the step's width. -/
theorem step_spec (q : ℝ) (k : ℕ) (h0 : (2 : ℝ) ^ ((k : ℤ) - 127) ≤ q) (h1 : q < (2 : ℝ) ^ ((k : ℤ) + 1 - 127))
    (c b : ℕ) (ha : 2 * b * c ≤ k) (hk : k < 2 * b * c + 2 * b) (hb : 1 ≤ b) (h254 : 2 * b * c + b ≤ 254) :
    ∃ c', step (q : EReal) (BitVec.ofNat 32 (2 * b * c)) (BitVec.ofNat 32 b) = BitVec.ofNat 32 (b * c')
      ∧ b * c' ≤ k ∧ k < b * c' + b := by
  have hadd : IntOp.addi (BitVec.ofNat 32 (2 * b * c)) (BitVec.ofNat 32 b) = BitVec.ofNat 32 (2 * b * c + b) :=
    (BitVec.ofNat_add _ _).symm
  unfold step
  rw [hadd, pw_eq _ (by omega) h254]
  have hcmp : Ideal.cmp .oge (q : EReal) (((2 : ℝ) ^ (((2 * b * c + b : ℕ) : ℤ) - 127) : ℝ) : EReal)
      = BitVec.ofBool (decide ((2 : ℝ) ^ (((2 * b * c + b : ℕ) : ℤ) - 127) ≤ q)) := by
    unfold Ideal.cmp
    simp only [EReal.coe_le_coe_iff]
  rw [hcmp]
  by_cases h : 2 * b * c + b ≤ k
  · have hle : (2 : ℝ) ^ (((2 * b * c + b : ℕ) : ℤ) - 127) ≤ q :=
      le_trans (zpow_le_zpow_right₀ (by norm_num) (by omega)) h0
    rw [decide_eq_true hle]
    refine ⟨2 * c + 1, ?_, ?_, ?_⟩
    · rw [show b * (2 * c + 1) = 2 * b * c + b by ring]; rfl
    · rw [show b * (2 * c + 1) = 2 * b * c + b by ring]; exact h
    · rw [show b * (2 * c + 1) = 2 * b * c + b by ring]; omega
  · have hnle : ¬ (2 : ℝ) ^ (((2 * b * c + b : ℕ) : ℤ) - 127) ≤ q := by
      intro hle
      have := lt_of_le_of_lt hle h1
      exact absurd this (not_lt.mpr (zpow_le_zpow_right₀ (by norm_num) (by omega)))
    rw [decide_eq_false hnle]
    refine ⟨2 * c, ?_, ?_, ?_⟩
    · rw [show b * (2 * c) = 2 * b * c by ring]; rfl
    · rw [show b * (2 * c) = 2 * b * c by ring]; exact ha
    · rw [show b * (2 * c) = 2 * b * c by ring]; omega

/-- The search finds the field `k` of the greatest power of two not exceeding `q`. -/
theorem field_eq (q : ℝ) (k : ℕ) (hk : k ≤ 252) (h0 : (2 : ℝ) ^ ((k : ℤ) - 127) ≤ q)
    (h1 : q < (2 : ℝ) ^ ((k : ℤ) + 1 - 127)) : field (q : EReal) = BitVec.ofNat 32 k := by
  obtain ⟨c1, e1, l1, u1⟩ := step_spec q k h0 h1 0 128 (by omega) (by omega) (by omega) (by omega)
  obtain ⟨c2, e2, l2, u2⟩ := step_spec q k h0 h1 c1 64 (by omega) (by omega) (by omega) (by omega)
  obtain ⟨c3, e3, l3, u3⟩ := step_spec q k h0 h1 c2 32 (by omega) (by omega) (by omega) (by omega)
  obtain ⟨c4, e4, l4, u4⟩ := step_spec q k h0 h1 c3 16 (by omega) (by omega) (by omega) (by omega)
  obtain ⟨c5, e5, l5, u5⟩ := step_spec q k h0 h1 c4 8 (by omega) (by omega) (by omega) (by omega)
  obtain ⟨c6, e6, l6, u6⟩ := step_spec q k h0 h1 c5 4 (by omega) (by omega) (by omega) (by omega)
  obtain ⟨c7, e7, l7, u7⟩ := step_spec q k h0 h1 c6 2 (by omega) (by omega) (by omega) (by omega)
  obtain ⟨c8, e8, l8, u8⟩ := step_spec q k h0 h1 c7 1 (by omega) (by omega) (by omega) (by omega)
  have e1' : step (q : EReal) 0#32 128#32 = BitVec.ofNat 32 (2 * 64 * c1) := e1
  have e2' : step (q : EReal) (BitVec.ofNat 32 (2 * 64 * c1)) 64#32 = BitVec.ofNat 32 (2 * 32 * c2) := e2
  have e3' : step (q : EReal) (BitVec.ofNat 32 (2 * 32 * c2)) 32#32 = BitVec.ofNat 32 (2 * 16 * c3) := e3
  have e4' : step (q : EReal) (BitVec.ofNat 32 (2 * 16 * c3)) 16#32 = BitVec.ofNat 32 (2 * 8 * c4) := e4
  have e5' : step (q : EReal) (BitVec.ofNat 32 (2 * 8 * c4)) 8#32 = BitVec.ofNat 32 (2 * 4 * c5) := e5
  have e6' : step (q : EReal) (BitVec.ofNat 32 (2 * 4 * c5)) 4#32 = BitVec.ofNat 32 (2 * 2 * c6) := e6
  have e7' : step (q : EReal) (BitVec.ofNat 32 (2 * 2 * c6)) 2#32 = BitVec.ofNat 32 (2 * 1 * c7) := e7
  have e8' : step (q : EReal) (BitVec.ofNat 32 (2 * 1 * c7)) 1#32 = BitVec.ofNat 32 (1 * c8) := e8
  unfold field
  rw [e1', e2', e3', e4', e5', e6', e7', e8']
  congr 1
  omega

/-- The kernel's exponent: 0 for a zero quotient, else the field found minus 126. -/
def kexp (q : EReal) : BitVec 32 :=
  Scalar.select (Ideal.cmp .oeq q (Ideal.ofBits .f32 0x00000000#32)) 0#32 (IntOp.subi (field q) 126#32)

/-- The kernel's scale factor of an exponent `e`: the float whose word is `(-e + 127) << 23`. -/
def kpow (e : BitVec 32) : EReal := pw (IntOp.addi (IntOp.subi 0#32 e) 127#32)

/-- The reference's exponent: 0 for a zero maximum `a`, else the floor of `log q / log 2`, plus 1. -/
def rexp (a q : EReal) : BitVec 32 :=
  Scalar.select (Ideal.cmp .oeq a (Ideal.ofBits .f32 0x00000000#32)) 0#32
    (Ideal.fptosi 32 (Ideal.liftRound Int.floor (Ideal.div (Ideal.log q) (Ideal.log (Ideal.ofBits .f32 0x40000000#32)))
      + Ideal.ofBits .f32 0x3F800000#32))

/-- The reference's scale factor: two to the power `-e`. -/
def rpow (e : BitVec 32) : EReal :=
  Ideal.pow (Ideal.ofBits .f32 0x40000000#32) ((((-e : BitVec 32).toInt : ℝ)) : EReal)

/-- A quotient the search covers: zero, or a real between the powers of two `-126` and `126`. -/
def InRange (q : EReal) : Prop :=
  q = 0 ∨ ∃ r : ℝ, q = (r : EReal) ∧ (2 : ℝ) ^ (-126 : ℤ) ≤ r ∧ r < (2 : ℝ) ^ (126 : ℤ)

/-- The exponents, for a quotient in range, as the word of one integer from -125 to 126. -/
theorem exp_spec (a q : EReal) (haq : a = 0 ↔ q = 0) (h : InRange q) :
    ∃ n : ℤ, -125 ≤ n ∧ n ≤ 126 ∧ kexp q = BitVec.ofInt 32 n ∧ rexp a q = BitVec.ofInt 32 n := by
  have hz : ∀ x : EReal, x = 0 → Ideal.cmp .oeq x (Ideal.ofBits .f32 0x00000000#32) = 1#1 := by
    intro x hx
    rw [Common.ofBits_zero]
    simp [Ideal.cmp, hx]
  have hnz : ∀ x : EReal, x ≠ 0 → Ideal.cmp .oeq x (Ideal.ofBits .f32 0x00000000#32) = 0#1 := by
    intro x hx
    rw [Common.ofBits_zero]
    simp [Ideal.cmp, hx]
  rcases h with h | ⟨r, hr, hlo, hhi⟩
  · refine ⟨0, by norm_num, by norm_num, ?_, ?_⟩
    · unfold kexp; rw [hz q h]; rfl
    · unfold rexp; rw [hz a (haq.mpr h)]; rfl
  · have hpos : 0 < r := lt_of_lt_of_le (by positivity) hlo
    have hq0 : q ≠ 0 := by rw [hr]; exact_mod_cast hpos.ne'
    have ha0 : a ≠ 0 := fun e => hq0 (haq.mp e)
    have hlog2 : 0 < Real.log 2 := Real.log_pos (by norm_num)
    obtain ⟨n, hn⟩ : ∃ n : ℤ, n = ⌊(Real.log r / Real.log 2)⌋ := ⟨_, rfl⟩
    have hl : (n : ℝ) ≤ (Real.log r / Real.log 2) := hn ▸ Int.floor_le _
    have hu : (Real.log r / Real.log 2) < (n : ℝ) + 1 := hn ▸ Int.lt_floor_add_one _
    have hL : (2 : ℝ) ^ n ≤ r := by
      by_contra hc
      have h1 := Real.log_lt_log hpos (not_le.mp hc)
      rw [Real.log_zpow] at h1
      exact absurd ((le_div_iff₀ hlog2).mp hl) (not_le.mpr h1)
    have hU : r < (2 : ℝ) ^ (n + 1) := by
      by_contra hc
      have h1 := Real.log_le_log (by positivity) (not_lt.mp hc)
      rw [Real.log_zpow] at h1
      push_cast at h1
      exact absurd ((div_lt_iff₀ hlog2).mp hu) (not_lt.mpr h1)
    have hn0 : -126 ≤ n := by
      have := lt_of_le_of_lt hlo hU
      have := (zpow_lt_zpow_iff_right₀ (by norm_num : (1 : ℝ) < 2)).mp this
      omega
    have hn1 : n ≤ 125 := by
      have := lt_of_le_of_lt hL hhi
      have := (zpow_lt_zpow_iff_right₀ (by norm_num : (1 : ℝ) < 2)).mp this
      omega
    obtain ⟨k, hk⟩ : ∃ k : ℕ, (k : ℤ) = n + 127 := ⟨(n + 127).toNat, by omega⟩
    refine ⟨n + 1, by omega, by omega, ?_, ?_⟩
    · unfold kexp
      rw [hnz q hq0, hr, field_eq r k (by omega) (by rw [hk]; simpa using hL)
        (by rw [hk]; rw [show n + 127 + 1 - 127 = n + 1 by ring]; exact hU)]
      show IntOp.subi (BitVec.ofNat 32 k) 126#32 = _
      unfold IntOp.subi
      apply BitVec.eq_of_toInt_eq
      rw [← BitVec.ofInt_natCast, BitVec.toInt_sub, BitVec.toInt_ofInt, BitVec.toInt_ofInt]
      have : (126#32).toInt = 126 := by decide
      rw [this, show n + 1 = (k : ℤ) - 126 by omega]
      simp only [Int.bmod_def]
      omega
    · unfold rexp
      rw [hnz a ha0, hr, two_f32, one_f32]
      show Ideal.fptosi 32 _ = _
      rw [Ideal.log_coe, Ideal.log_coe, if_neg (not_le.mpr hpos), if_neg (by norm_num)]
      have hd : Ideal.div ((Real.log r : ℝ) : EReal) ((Real.log 2 : ℝ) : EReal) = (((Real.log r / Real.log 2) : ℝ) : EReal) := by
        unfold Ideal.div
        rw [if_neg (by exact_mod_cast hlog2.ne'), ← EReal.coe_inv, ← EReal.coe_mul]
        rfl
      rw [hd]
      show Ideal.fptosi 32 (((⌊(Real.log r / Real.log 2)⌋ : ℝ) : EReal) + ((1 : ℝ) : EReal)) = _
      rw [← hn, ← EReal.coe_add]
      unfold Ideal.fptosi
      congr 1
      show max (-(2 ^ (32 - 1) : ℕ) : ℤ) (min ((2 ^ (32 - 1) : ℕ) - 1 : ℤ) (if 0 ≤ ((n : ℝ) + 1) then ⌊(n : ℝ) + 1⌋ else ⌈(n : ℝ) + 1⌉)) = n + 1
      have e1 : ⌊(n : ℝ) + 1⌋ = n + 1 := by
        rw [show (n : ℝ) + 1 = ((n + 1 : ℤ) : ℝ) by push_cast; ring, Int.floor_intCast]
      have e2 : ⌈(n : ℝ) + 1⌉ = n + 1 := by
        rw [show (n : ℝ) + 1 = ((n + 1 : ℤ) : ℝ) by push_cast; ring, Int.ceil_intCast]
      rw [e1, e2, ite_self]
      norm_num
      omega

/-- The kernel's and the reference's scale factors of such a word: the power of two `-n`. -/
theorem kpow_eq (n : ℤ) (h0 : -125 ≤ n) (h1 : n ≤ 126) : kpow (BitVec.ofInt 32 n) = (((2 : ℝ) ^ (-n) : ℝ) : EReal) := by
  obtain ⟨k, hk⟩ : ∃ k : ℕ, (k : ℤ) = 127 - n := ⟨(127 - n).toNat, by omega⟩
  have e : IntOp.addi (IntOp.subi 0#32 (BitVec.ofInt 32 n)) 127#32 = BitVec.ofNat 32 k := by
    unfold IntOp.addi IntOp.subi
    apply BitVec.eq_of_toInt_eq
    have h127 : (127#32).toInt = 127 := by decide
    have h0' : (0#32).toInt = 0 := by decide
    rw [show BitVec.ofNat 32 k = BitVec.ofInt 32 (k : ℤ) from (BitVec.ofInt_natCast ..).symm, BitVec.toInt_add, BitVec.toInt_sub, BitVec.toInt_ofInt, BitVec.toInt_ofInt, h127, h0']
    simp only [Int.bmod_def]
    omega
  unfold kpow
  rw [e, pw_eq k (by omega) (by omega), hk, show 127 - n - 127 = -n by ring]

theorem rpow_eq (n : ℤ) (h0 : -125 ≤ n) (h1 : n ≤ 126) : rpow (BitVec.ofInt 32 n) = (((2 : ℝ) ^ (-n) : ℝ) : EReal) := by
  have e : (-(BitVec.ofInt 32 n) : BitVec 32).toInt = -n := by
    rw [BitVec.toInt_neg, BitVec.toInt_ofInt]
    simp only [Int.bmod_def]
    omega
  unfold rpow
  rw [e, two_f32, ← Real.rpow_intCast]
  rfl

end Cert.Proof.XExp

end
-- ==== Proof.XNibble.lean ====
/-
  Eight 4-bit codes in one 32-bit word. The kernel packs eight codes into a word and then clears the sign bit of every
  code whose magnitude is zero, all eight at once; the reference does the same code by code and joins two codes in a byte.
  Byte `b` of the kernel's word is the reference's byte of codes `2 b` and `2 b + 1`.
-/
module

public import Idealize.ShloMosaic.PureOps.Ideal
public import Mathlib.Tactic.IntervalCases
public import Mathlib.Tactic.Ring

@[expose] public section

namespace Cert.Proof.XNibble

open Idealize.ShloMosaic

/-- The number whose hexadecimal digits, lowest first, are `n 0 … n 7`. -/
def hex (n : ℕ → ℕ) : ℕ :=
  n 0 + 16 * (n 1 + 16 * (n 2 + 16 * (n 3 + 16 * (n 4 + 16 * (n 5 + 16 * (n 6 + 16 * n 7))))))

theorem and16 (a b x y : ℕ) (hx : x < 16) (hy : y < 16) : (x + 16 * a) &&& (y + 16 * b) = (x &&& y) + 16 * (a &&& b) := by
  have hd : ((x + 16 * a) &&& (y + 16 * b)) / 2 ^ 4 = a &&& b := by
    rw [Nat.and_div_two_pow, show (x + 16 * a) / 2 ^ 4 = a by omega, show (y + 16 * b) / 2 ^ 4 = b by omega]
  have hm : ((x + 16 * a) &&& (y + 16 * b)) % 2 ^ 4 = x &&& y := by
    rw [Nat.and_mod_two_pow, show (x + 16 * a) % 2 ^ 4 = x by omega, show (y + 16 * b) % 2 ^ 4 = y by omega]
  omega

theorem or16 (a b x y : ℕ) (hx : x < 16) (hy : y < 16) : (x + 16 * a) ||| (y + 16 * b) = (x ||| y) + 16 * (a ||| b) := by
  have hd : ((x + 16 * a) ||| (y + 16 * b)) / 2 ^ 4 = a ||| b := by
    rw [Nat.or_div_two_pow, show (x + 16 * a) / 2 ^ 4 = a by omega, show (y + 16 * b) / 2 ^ 4 = b by omega]
  have hm : ((x + 16 * a) ||| (y + 16 * b)) % 2 ^ 4 = x ||| y := by
    rw [Nat.or_mod_two_pow, show (x + 16 * a) % 2 ^ 4 = x by omega, show (y + 16 * b) % 2 ^ 4 = y by omega]
  omega

theorem hex_and (n p : ℕ → ℕ) (hn : ∀ i, n i < 16) (hp : ∀ i, p i < 16) : hex n &&& hex p = hex (fun i => n i &&& p i) := by
  unfold hex
  rw [and16 _ _ _ _ (hn 0) (hp 0), and16 _ _ _ _ (hn 1) (hp 1), and16 _ _ _ _ (hn 2) (hp 2), and16 _ _ _ _ (hn 3) (hp 3),
    and16 _ _ _ _ (hn 4) (hp 4), and16 _ _ _ _ (hn 5) (hp 5), and16 _ _ _ _ (hn 6) (hp 6)]

theorem hex_or (n p : ℕ → ℕ) (hn : ∀ i, n i < 16) (hp : ∀ i, p i < 16) : hex n ||| hex p = hex (fun i => n i ||| p i) := by
  unfold hex
  rw [or16 _ _ _ _ (hn 0) (hp 0), or16 _ _ _ _ (hn 1) (hp 1), or16 _ _ _ _ (hn 2) (hp 2), or16 _ _ _ _ (hn 3) (hp 3),
    or16 _ _ _ _ (hn 4) (hp 4), or16 _ _ _ _ (hn 5) (hp 5), or16 _ _ _ _ (hn 6) (hp 6)]

theorem hex_lt (n : ℕ → ℕ) (hn : ∀ i, n i < 16) : hex n < 2 ^ 32 := by
  have := hn 0; have := hn 1; have := hn 2; have := hn 3; have := hn 4; have := hn 5; have := hn 6; have := hn 7
  unfold hex
  omega

/-- A code with its sign bit cleared if its magnitude is zero. -/
def fix (n : ℕ) : ℕ := if n = 8 then 0 else n

/-- The word trick on one code. -/
theorem fix_eq : ∀ n : Fin 16, n.val &&& (((n.val &&& 7) + 7) ||| 7) = fix n.val ∧ (n.val &&& 7) + 7 < 16
    ∧ (((n.val &&& 7) + 7) ||| 7) < 16 ∧ fix n.val < 16 := by decide

/-- The word trick clears all eight codes. -/
theorem fix_word (w : BitVec 32) (n : ℕ → ℕ) (hn : ∀ i, n i < 16) (hw : w.toNat = hex n) :
    (IntOp.andi w (IntOp.ori (IntOp.addi (IntOp.andi w 2004318071#32) 2004318071#32) 2004318071#32)).toNat
      = hex (fun i => fix (n i)) := by
  have h7 : (2004318071#32 : BitVec 32).toNat = hex (fun _ => 7) := by decide
  have hf : ∀ i, n i &&& (((n i &&& 7) + 7) ||| 7) = fix (n i) ∧ (n i &&& 7) + 7 < 16
      ∧ (((n i &&& 7) + 7) ||| 7) < 16 ∧ fix (n i) < 16 := fun i => fix_eq ⟨n i, hn i⟩
  have ha : hex n &&& hex (fun _ => 7) = hex (fun i => n i &&& 7) := hex_and _ _ hn (fun _ => by decide)
  have hs : hex (fun i => n i &&& 7) + hex (fun _ => 7) = hex (fun i => (n i &&& 7) + 7) := by
    unfold hex; ring
  have hlt := hex_lt (fun i => (n i &&& 7) + 7) (fun i => (hf i).2.1)
  unfold IntOp.andi IntOp.ori IntOp.addi
  rw [BitVec.toNat_and, BitVec.toNat_or, BitVec.toNat_add, BitVec.toNat_and, hw, h7, ha, hs, Nat.mod_eq_of_lt hlt,
    hex_or _ _ (fun i => (hf i).2.1) (fun _ => by decide), hex_and _ _ hn (fun i => (hf i).2.2.1)]
  congr 1
  funext i
  exact (hf i).1

/-- A disjoint `or` is a sum. -/
theorem or_shift (x y : BitVec 32) (k : ℕ) (hk : k < 32) (hx : x.toNat < 2 ^ k) (hy : y.toNat < 16) (hk2 : k ≤ 28) :
    (IntOp.ori x (IntOp.shli .vector y (BitVec.ofNat 32 k))).toNat = x.toNat + 2 ^ k * y.toNat := by
  have hk' : (BitVec.ofNat 32 k).toNat = k := by rw [BitVec.toNat_ofNat]; omega
  have hs : IntOp.shli .vector y (BitVec.ofNat 32 k) = y <<< k := by
    unfold IntOp.shli
    rw [hk', if_pos hk, BitVec.shiftLeft_eq', hk']
  have hb : y.toNat * 2 ^ k < 2 ^ 32 := by
    calc y.toNat * 2 ^ k ≤ 15 * 2 ^ 28 := Nat.mul_le_mul (by omega) (Nat.pow_le_pow_right (by norm_num) hk2)
      _ < 2 ^ 32 := by norm_num
  rw [hs]
  unfold IntOp.ori
  rw [BitVec.toNat_or, BitVec.toNat_shiftLeft, Nat.shiftLeft_eq, Nat.mod_eq_of_lt hb, Nat.or_comm, ← Nat.shiftLeft_eq,
    ← Nat.shiftLeft_add_eq_or_of_lt hx, Nat.shiftLeft_eq]
  ring

/-- Eight codes packed, code `r` at bit `4 r`. -/
theorem pack_word (c : ℕ → BitVec 32) (hc : ∀ i, (c i).toNat < 16) :
    (IntOp.ori (IntOp.ori (IntOp.ori (IntOp.ori (IntOp.ori (IntOp.ori (IntOp.ori (c 0)
      (IntOp.shli .vector (c 1) 4#32)) (IntOp.shli .vector (c 2) 8#32)) (IntOp.shli .vector (c 3) 12#32))
      (IntOp.shli .vector (c 4) 16#32)) (IntOp.shli .vector (c 5) 20#32)) (IntOp.shli .vector (c 6) 24#32))
      (IntOp.shli .vector (c 7) 28#32)).toNat = hex (fun i => (c i).toNat) := by
  have h0 := hc 0; have h1 := hc 1; have h2 := hc 2; have h3 := hc 3; have h4 := hc 4; have h5 := hc 5; have h6 := hc 6; have h7 := hc 7
  have e1 := or_shift (c 0) (c 1) 4 (by decide) (by omega) h1 (by decide)
  have e2 := or_shift _ (c 2) 8 (by decide) (by rw [e1]; omega) h2 (by decide)
  have e3 := or_shift _ (c 3) 12 (by decide) (by rw [e2, e1]; omega) h3 (by decide)
  have e4 := or_shift _ (c 4) 16 (by decide) (by rw [e3, e2, e1]; omega) h4 (by decide)
  have e5 := or_shift _ (c 5) 20 (by decide) (by rw [e4, e3, e2, e1]; omega) h5 (by decide)
  have e6 := or_shift _ (c 6) 24 (by decide) (by rw [e5, e4, e3, e2, e1]; omega) h6 (by decide)
  have e7 := or_shift _ (c 7) 28 (by decide) (by rw [e6, e5, e4, e3, e2, e1]; omega) h7 (by decide)
  refine e7.trans ?_
  rw [e6, e5, e4, e3, e2, e1]
  unfold hex
  ring

/-- Byte `b` of a word, as a number. -/
theorem hex_byte (n : ℕ → ℕ) (hn : ∀ i, n i < 16) (b : ℕ) (hb : b < 4) :
    hex n / 2 ^ (8 * b) % 256 = n (2 * b) + 16 * n (2 * b + 1) := by
  have := hn 0; have := hn 1; have := hn 2; have := hn 3; have := hn 4; have := hn 5; have := hn 6; have := hn 7
  unfold hex
  interval_cases b
  all_goals norm_num
  all_goals omega

end Cert.Proof.XNibble
-- ==== Proof.XSpec.lean ====
/-
  The quantiser of one 32-value block over the extended reals, as the kernel computes it and as the reference does. The
  kernel rotates without the rotation's constant, multiplies the maximum and the scale factor by it instead, clips, and
  leaves the sign bit on a zero code until later; the reference multiplies first, bounds the magnitude, and never sets
  the sign of a zero code. Block by block the exponents agree, and the codes up to the cleared sign.
-/
module

public import proofs.«01_k».proof.Proof.XExp
public import proofs.«01_k».proof.Proof.XNibble

@[expose] public section

noncomputable section

namespace Cert.Proof.XSpec

open scoped BigOperators
open Idealize.ShloMosaic Cert.Proof.CodesDecode Cert.Proof.XExp Cert.Proof.XNibble

/-- The rotation's constant, and the reciprocal of the greatest magnitude. -/
def nrm : EReal := Ideal.ofBits .f32 0x3E3504F3#32
def inv6 : EReal := Ideal.ofBits .f32 0x3E2AAAAB#32

theorem nrm_pos : ∃ r : ℝ, 0 < r ∧ nrm = (r : EReal) :=
  ⟨_, by norm_num, f32_normal 0x3E3504F3#32 124 3474675 (by decide) (by decide) (by decide) (by decide) (by decide) _ rfl⟩
theorem inv6_pos : ∃ r : ℝ, 0 < r ∧ inv6 = (r : EReal) :=
  ⟨_, by norm_num, f32_normal 0x3E2AAAAB#32 124 2796203 (by decide) (by decide) (by decide) (by decide) (by decide) _ rfl⟩

/-- Entry `(i, j)` of the Hadamard matrix: minus one to the number of common one bits of `i` and `j`. -/
def had (i j : ℕ) : EReal :=
  Scalar.select (IntOp.cmpi .eq (IntOp.andi (IntOp.ctpop (IntOp.andi (BitVec.ofNat 32 i) (BitVec.ofNat 32 j))) 1#32) 0#32)
    (Ideal.ofBits .f32 0x3F800000#32) (Ideal.ofBits .f32 0xBF800000#32)

/-- The greatest magnitude of a block. -/
def amax (z : Fin 32 → EReal) : EReal := Finset.univ.sup fun i => max (z i) (-(z i))

theorem neg_mul_pos (x y : EReal) : -(x * y) = -x * y := (EReal.neg_mul x y).symm

/-- Multiplying the block by the constant multiplies its maximum. -/
theorem amax_mul (z : Fin 32 → EReal) : amax (fun i => z i * nrm) = amax z * nrm := by
  obtain ⟨r, hr, hn⟩ := nrm_pos
  have h0 : (0 : EReal) ≤ nrm := by rw [hn]; exact_mod_cast hr.le
  have hm : Monotone fun x : EReal => x * nrm := fun a b h => mul_le_mul_of_nonneg_right h h0
  unfold amax
  have := Finset.comp_sup_eq_sup_comp (s := (Finset.univ : Finset (Fin 32))) (f := fun i => max (z i) (-(z i)))
    (fun x : EReal => x * nrm) (fun x y => hm.map_max) (by show ⊥ * nrm = ⊥; rw [hn]; exact EReal.bot_mul_coe_of_pos hr)
  rw [this]
  refine Finset.sup_congr rfl fun i _ => ?_
  show _ = max (z i) (-(z i)) * nrm
  rw [hm.map_max, neg_mul_pos]

/-! ### One code -/

/-- The kernel's clip to `[-6, 6]`. -/
def clip (v : EReal) : EReal := min (Ideal.ofBits .f32 0x40C00000#32) (max (Ideal.ofBits .f32 0xC0C00000#32) v)

/-- Seven truth values counted. -/
def cnt7 (b0 b1 b2 b3 b4 b5 b6 : BitVec 1) : BitVec 32 :=
  IntOp.addi (IntOp.addi (IntOp.addi (IntOp.addi (IntOp.addi (IntOp.addi (b0.setWidth 32) (b1.setWidth 32)) (b2.setWidth 32))
    (b3.setWidth 32)) (b4.setWidth 32)) (b5.setWidth 32)) (b6.setWidth 32)

/-- How many of the seven thresholds a magnitude passes. -/
def cnt (m : EReal) : BitVec 32 :=
  cnt7 (Ideal.cmp .ogt m (Ideal.ofBits .f32 0x3E800000#32)) (Ideal.cmp .oge m (Ideal.ofBits .f32 0x3F400000#32))
    (Ideal.cmp .ogt m (Ideal.ofBits .f32 0x3FA00000#32)) (Ideal.cmp .oge m (Ideal.ofBits .f32 0x3FE00000#32))
    (Ideal.cmp .ogt m (Ideal.ofBits .f32 0x40200000#32)) (Ideal.cmp .oge m (Ideal.ofBits .f32 0x40600000#32))
    (Ideal.cmp .ogt m (Ideal.ofBits .f32 0x40A00000#32))

/-- The kernel's code of a clipped value: the count, plus eight below zero. -/
def nibK (u : EReal) : BitVec 32 :=
  Scalar.select (Ideal.cmp .olt u (Ideal.ofBits .f32 0x00000000#32)) (IntOp.addi (cnt (max u (-u))) 8#32) (cnt (max u (-u)))

/-- The reference's code of a value. -/
def nibR (v : EReal) : BitVec 32 :=
  IntOp.ori (IntOp.shli .host ((IntOp.andi (Ideal.cmp .olt v (Ideal.ofBits .f32 0x00000000#32))
      (IntOp.cmpi .sgt (cnt (min (max v (-v)) (Ideal.ofBits .f32 0x40C00000#32))) 0#32)).setWidth 32) 3#32)
    (cnt (min (max v (-v)) (Ideal.ofBits .f32 0x40C00000#32)))

theorem six : Ideal.ofBits .f32 0x40C00000#32 = ((6 : ℝ) : EReal) :=
  f32_normal _ 129 4194304 (by decide) (by decide) (by decide) (by decide) (by decide) _ (by norm_num)
theorem neg_six : Ideal.ofBits .f32 0xC0C00000#32 = -((6 : ℝ) : EReal) := by
  show Ideal.ieee 8 23 0xC0C00000#32 = _
  unfold Ideal.ieee
  simp only [show ((0xC0C00000#32 : BitVec 32).extractLsb' (8 + 23) 1 == 1#1) = true from by decide,
    show ((0xC0C00000#32 : BitVec 32).extractLsb' 23 8).toNat = 129 from by decide,
    show ((0xC0C00000#32 : BitVec 32).extractLsb' 0 23).toNat = 4194304 from by decide]
  rw [if_neg (by norm_num), if_neg (by norm_num), ← EReal.coe_neg]
  congr 1
  norm_num

/-- The clipped value's magnitude is the magnitude bounded by 6, -/
theorem abs_clip (v : EReal) : max (clip v) (-(clip v)) = min (max v (-v)) (Ideal.ofBits .f32 0x40C00000#32) := by
  unfold clip
  rw [six, neg_six]
  have h06 : (0 : EReal) ≤ ((6 : ℝ) : EReal) := by exact_mod_cast (by norm_num : (0 : ℝ) ≤ 6)
  have hn6 : -((6 : ℝ) : EReal) ≤ 0 := by rw [EReal.neg_le, neg_zero]; exact h06
  generalize ((6 : ℝ) : EReal) = s at *
  rcases le_total v s with h1 | h1
  · rcases le_total (-s) v with h2 | h2
    · have h3 : -v ≤ s := EReal.neg_le.mpr h2
      rw [max_eq_right h2, min_eq_right h1, min_eq_left (max_le h1 h3)]
    · have h3 : s ≤ -v := EReal.le_neg.mpr h2
      rw [max_eq_left h2, min_eq_right (hn6.trans h06), neg_neg, max_eq_right (hn6.trans h06),
        min_eq_right (h3.trans (le_max_right _ _))]
  · have h2 : -s ≤ v := hn6.trans (h06.trans h1)
    rw [max_eq_right h2, min_eq_left h1, max_eq_left (hn6.trans h06), min_eq_right (h1.trans (le_max_left _ _))]

/-- and it is negative exactly when the value is. -/
theorem lt_clip (v : EReal) :
    Ideal.cmp .olt (clip v) (Ideal.ofBits .f32 0x00000000#32) = Ideal.cmp .olt v (Ideal.ofBits .f32 0x00000000#32) := by
  have h06 : ¬ ((6 : ℝ) : EReal) < 0 := by rw [not_lt]; exact_mod_cast (by norm_num : (0 : ℝ) ≤ 6)
  have hn6 : -((6 : ℝ) : EReal) < 0 := by rw [EReal.neg_lt_comm, neg_zero]; exact_mod_cast (by norm_num : (0 : ℝ) < 6)
  unfold clip
  rw [six, neg_six, Common.ofBits_zero]
  unfold Ideal.cmp
  simp only [min_lt_iff, max_lt_iff, h06, hn6, false_or, true_and]

/-- On the seven truth values and the sign: the kernel's code with a zero's sign cleared is the reference's. -/
theorem code_eq : ∀ s b0 b1 b2 b3 b4 b5 b6 : BitVec 1,
    (Scalar.select s (IntOp.addi (cnt7 b0 b1 b2 b3 b4 b5 b6) 8#32) (cnt7 b0 b1 b2 b3 b4 b5 b6)).toNat < 16
    ∧ fix (Scalar.select s (IntOp.addi (cnt7 b0 b1 b2 b3 b4 b5 b6) 8#32) (cnt7 b0 b1 b2 b3 b4 b5 b6)).toNat
      = (IntOp.ori (IntOp.shli .host ((IntOp.andi s (IntOp.cmpi .sgt (cnt7 b0 b1 b2 b3 b4 b5 b6) 0#32)).setWidth 32) 3#32)
          (cnt7 b0 b1 b2 b3 b4 b5 b6)).toNat := by
  decide +kernel

theorem nibK_lt (u : EReal) : (nibK u).toNat < 16 := (code_eq _ _ _ _ _ _ _ _).1

theorem nib_eq (v : EReal) : fix (nibK (clip v)).toNat = (nibR v).toNat := by
  unfold nibK nibR
  rw [abs_clip, lt_clip]
  exact (code_eq _ _ _ _ _ _ _ _).2

theorem nibR_lt (v : EReal) : (nibR v).toNat < 16 := by
  rw [← nib_eq]
  exact (fix_eq ⟨_, nibK_lt (clip v)⟩).2.2.2

/-! ### One block -/

/-- The kernel's quotient of a block rotated without the constant, and its exponent; -/
def qK (z : Fin 32 → EReal) : EReal := amax z * nrm * inv6
def eK (z : Fin 32 → EReal) : BitVec 32 := kexp (qK z)
/-- its code of the value `i`; -/
def codeK (z : Fin 32 → EReal) (i : Fin 32) : BitVec 32 := nibK (clip (z i * (kpow (eK z) * nrm)))

/-- the reference's exponent of a rotated block, and its code of the value `i`. -/
def eR (z : Fin 32 → EReal) : BitVec 32 := rexp (amax z) (amax z * inv6)
def codeR (z : Fin 32 → EReal) (i : Fin 32) : BitVec 32 := nibR (z i * rpow (eR z))

theorem block (z : Fin 32 → EReal) (h : InRange (amax (fun i => z i * nrm) * inv6)) :
    eK z = eR (fun i => z i * nrm) ∧ ∀ i, fix (codeK z i).toNat = (codeR (fun i => z i * nrm) i).toNat := by
  obtain ⟨r, hr, hi⟩ := inv6_pos
  have h0 : amax (fun i => z i * nrm) = 0 ↔ amax (fun i => z i * nrm) * inv6 = 0 := by
    constructor
    · intro e; rw [e, zero_mul]
    · intro e
      rcases mul_eq_zero.mp e with e | e
      · exact e
      · rw [hi] at e
        exact absurd (by exact_mod_cast e) hr.ne'
  obtain ⟨n, hn0, hn1, hk, hR⟩ := exp_spec _ _ h0 h
  have he : eK z = eR (fun i => z i * nrm) := by
    unfold eK eR qK
    rw [← amax_mul, hk, hR]
  refine ⟨he, fun i => ?_⟩
  unfold codeK codeR
  rw [nib_eq, he]
  have hR' : eR (fun i => z i * nrm) = BitVec.ofInt 32 n := hR
  rw [hR', kpow_eq n hn0 hn1, rpow_eq n hn0 hn1, mul_comm _ nrm, mul_assoc]

/-! ### The rotated blocks of an array -/

/-- Row `r` of the 49152 rows, column `c`, of the three-axis array. -/
def xAt (x : (⟨3, ![8, 6144, 2048]⟩ : Shape).Idx → EReal) (r c : ℕ) : EReal :=
  if h : r < 49152 ∧ c < 2048 then
    x (ValueIdx.ix3 ⟨r / 6144, by omega⟩ ⟨r % 6144, by omega⟩ ⟨c, h.2⟩) else 0
/-- Sign `j`. -/
def sAt (s : (⟨1, ![32]⟩ : Shape).Idx → EReal) (j : ℕ) : EReal := if h : j < 32 then s (ValueIdx.ix1 ⟨j, h⟩) else 0

/-- Block `g`, column `c`, rotated without the constant: value `i` is the sum over `j` of the matrix's entry, sign `j`
    and the block's value `j`. -/
def zB (X : ℕ → ℕ → EReal) (s : ℕ → EReal) (g c : ℕ) (i : Fin 32) : EReal :=
  ∑ j ∈ Finset.range 32, had i j * s j * X (32 * g + j) c
/-- The same with the constant. -/
def zN (X : ℕ → ℕ → EReal) (s : ℕ → EReal) (g c : ℕ) (i : Fin 32) : EReal := zB X s g c i * nrm

/-- A byte of two codes, the first in the low half. -/
def byte (lo hi : ℕ) : BitVec 8 := BitVec.ofNat 8 (lo + 16 * hi)

end Cert.Proof.XSpec

end
-- ==== Proof.XHostIdeal.lean ====
/-
  The two arrays the host program of `quant_x` passes to its kernel, at an index: the rotation, block-diagonal, and the
  rows of `x`.
-/
module

public import proofs.«01_k».proof.Proof.Common
public import proofs.«01_k».proof.Proof.XSpec
public import proofs.«01_k».proof.Proof.Gen.QuantXIdeal.Frame
public import Idealize.ShloMosaic.Lib.StableHlo.ReadAt
public import Idealize.ShloMosaic.Lib.Pipeline.Value

@[expose] public section
set_option maxRecDepth 8192

noncomputable section

namespace Cert.Proof.QuantXIdeal

open Cert.QuantXIdeal Cert.QuantXIdeal.Gen Cert.Proof.XSpec Cert.Proof.Common
open Idealize.ShloMosaic Idealize.ShloMosaic.TcCoe

variable (m : (ℓ : Loc nD τ sig) → Buf (Elt Ideal) ℓ)

/-- The arguments as arrays. -/
def xArg (c : Dev nD) : S8x6144x2048.Idx → EReal := m ((c : Thread nD τ).loc main_arg0)
def sArg (c : Dev nD) : S32.Idx → EReal := m ((c : Thread nD τ).loc main_arg1)

/-- The rotation and the rows of `x`, as passed. -/
def rotArr (c : Dev nD) : S256x256.Idx → EReal := V m c main_v24
def rowArr (c : Dev nD) : S49152x2048.Idx → EReal := V m c main_v25

/-- The rows of `x` are `x` with its first two axes taken together. -/
theorem rowArr_apply (c : Dev nD) (j : S49152x2048.Idx) : rowArr m c j = xAt (xArg m c) (j 0) (j 1) := by
  unfold rowArr
  unfold V
  after_reads_at
  have h0 : (j 0).val < 49152 := (j 0).isLt
  have h1 : (j 1).val < 2048 := (j 1).isLt
  unfold xAt
  rw [dif_pos ⟨h0, h1⟩]
  unfold xArg
  refine congrArg _ (funext fun a => ?_)
  match a with
  | ⟨0, _⟩ => rfl
  | ⟨1, _⟩ => rfl
  | ⟨2, _⟩ => rfl

/-- An index shifted by five is its block of 32. -/
theorem shift_five : ∀ i : Fin 256, IntOp.shrsi .host (BitVec.ofNat 32 i.val) 5#32 = BitVec.ofNat 32 (i.val / 32) := by
  decide +kernel

/-- Two blocks compared. -/
theorem same_block : ∀ a b : Fin 8, IntOp.cmpi .eq (BitVec.ofNat 32 a.val) (BitVec.ofNat 32 b.val)
    = if a.val = b.val then 1#1 else 0#1 := by
  decide +kernel

/-- The low five bits of the common bits of two indices are the common bits of their places in their blocks. -/
theorem low_bits (i j : ℕ) :
    IntOp.andi (IntOp.andi (BitVec.ofNat 32 i) (BitVec.ofNat 32 j)) 31#32
      = IntOp.andi (BitVec.ofNat 32 (i % 32)) (BitVec.ofNat 32 (j % 32)) := by
  have hm : ∀ n : ℕ, BitVec.ofNat 32 (n % 32) = BitVec.ofNat 32 n &&& 31#32 := by
    intro n
    apply BitVec.eq_of_toNat_eq
    rw [BitVec.toNat_and, BitVec.toNat_ofNat, BitVec.toNat_ofNat]
    show _ = (n % 2 ^ 32) &&& (2 ^ 5 - 1)
    rw [Nat.and_two_pow_sub_one_eq_mod]
    omega
  rw [hm i, hm j]
  show (BitVec.ofNat 32 i &&& BitVec.ofNat 32 j) &&& 31#32
    = (BitVec.ofNat 32 i &&& 31#32) &&& (BitVec.ofNat 32 j &&& 31#32)
  ext k hk
  simp only [BitVec.getElem_and]
  generalize (BitVec.ofNat 32 i)[k] = a
  generalize (BitVec.ofNat 32 j)[k] = b
  generalize (31#32)[k] = d
  cases a <;> cases b <;> cases d <;> rfl

/-- The rotation: each block of 32 is rotated by itself. -/
theorem rotArr_apply (c : Dev nD) (j : S256x256.Idx) :
    rotArr m c j = if (j 0).val / 32 = (j 1).val / 32 then
      had ((j 0).val % 32) ((j 1).val % 32) * sAt (sArg m c) ((j 1).val % 32) else 0 := by
  unfold rotArr
  unfold V
  after_reads_at
  have h0 : (j 0).val < 256 := (j 0).isLt
  have h1 : (j 1).val < 256 := (j 1).isLt
  have hs : sAt (sArg m c) ((j 1).val % 32)
      = m ((c : Thread nD τ).loc main_arg1) (Idealize.ShloMosaic.ix1 ⟨(j 1).val % 32, by omega⟩) := by
    unfold sAt
    rw [dif_pos (by omega)]
    unfold sArg
    refine congrArg _ (funext fun a => ?_)
    match a with
    | ⟨0, _⟩ => rfl
  rw [hs]
  generalize m ((c : Thread nD τ).loc main_arg1) = s
  show Scalar.select (IntOp.cmpi .eq (IntOp.shrsi .host (BitVec.ofNat 32 (j 0).val) 5#32)
      (IntOp.shrsi .host (BitVec.ofNat 32 (j 1).val) 5#32))
      (Scalar.select (IntOp.cmpi .eq (IntOp.andi (IntOp.ctpop (IntOp.andi (IntOp.andi (BitVec.ofNat 32 (j 0).val)
        (BitVec.ofNat 32 (j 1).val)) 31#32)) 1#32) 0#32) (Ideal.ofBits .f32 0x3F800000#32)
        (Ideal.ofBits .f32 0xBF800000#32)) (Ideal.ofBits .f32 0x00000000#32) * _ = _
  rw [shift_five ⟨_, h0⟩, shift_five ⟨_, h1⟩, low_bits]
  show Scalar.select (IntOp.cmpi .eq (BitVec.ofNat 32 ((j 0).val / 32)) (BitVec.ofNat 32 ((j 1).val / 32)))
    (had ((j 0).val % 32) ((j 1).val % 32)) (Ideal.ofBits .f32 0x00000000#32) * _ = _
  have hc := same_block ⟨(j 0).val / 32, by omega⟩ ⟨(j 1).val / 32, by omega⟩
  dsimp only at hc
  rw [hc]
  by_cases h : (j 0).val / 32 = (j 1).val / 32
  · rw [if_pos h, if_pos h]; rfl
  · rw [if_neg h, if_neg h]
    show Ideal.ofBits .f32 0x00000000#32 * _ = _
    rw [ofBits_zero, zero_mul]

end Cert.Proof.QuantXIdeal

end
-- ==== Proof.XPanelIdeal.lean ====
/-
  One panel of `quant_x` over the extended reals: what the kernel's pieces give for the rotated rows `z` of a chunk of 256
  rows and a half of 128 columns. Block `g` of the chunk, column `l`, is `blk z g l`. Its maximum, exponent, scaled values
  and codes are those `XSpec` names.
-/
module

public import proofs.«01_k».proof.Proof.XPiecesIdeal
public import proofs.«01_k».proof.Proof.XSpec
public import Idealize.ShloMosaic.Lib.BitcastPair
public import Idealize.ShloMosaic.Lib.Pipeline.Value
public import Idealize.ShloMosaic.PureOps.Ideal.Laws

@[expose] public section
set_option maxRecDepth 8192

noncomputable section

namespace Cert.Proof.QuantXIdeal

open Cert.QuantXIdeal Cert.QuantXIdeal.Gen Cert.Proof.XSpec Cert.Proof.XExp Cert.Proof.XNibble
open Idealize.ShloMosaic Idealize.ShloMosaic.TcCoe

/-- Block `g`, column `l`, of the rows `z`. -/
def blk (z : FVec Ideal S256x128 .f32) (g : Fin 8) (l : Fin 128) : Fin 32 → EReal :=
  fun i => z (ix2 ⟨32 * g.val + i.val, by omega⟩ l)

/-- The maxima over eight residues, each over four values, are the maximum over 32 values. -/
theorem maxes (a : Fin 32 → EReal) (A : ℕ → EReal)
    (hA : ∀ r (h : r < 8), A r = Finset.univ.sup fun q : Fin 4 => a ⟨8 * q.val + r, by omega⟩) :
    max (max (max (max (max (max (max (A 0) (A 1)) (A 2)) (A 3)) (A 4)) (A 5)) (A 6)) (A 7) = Finset.univ.sup a := by
  have up : ∀ r, r < 8 → A r ≤ Finset.univ.sup a := by
    intro r h
    rw [hA r h]
    exact Finset.sup_le fun q _ => Finset.le_sup (f := a) (Finset.mem_univ _)
  apply le_antisymm
  · exact max_le (max_le (max_le (max_le (max_le (max_le (max_le (up 0 (by decide)) (up 1 (by decide))) (up 2 (by decide)))
      (up 3 (by decide))) (up 4 (by decide))) (up 5 (by decide))) (up 6 (by decide))) (up 7 (by decide))
  · refine Finset.sup_le fun i _ => ?_
    have h1 : a i ≤ A (i.val % 8) := by
      rw [hA _ (Nat.mod_lt _ (by decide))]
      have e : i = ⟨8 * (⟨i.val / 8, by omega⟩ : Fin 4).val + i.val % 8, by show 8 * (i.val / 8) + i.val % 8 < 32; omega⟩ :=
        Fin.ext (by show i.val = 8 * (i.val / 8) + i.val % 8; omega)
      conv_lhs => rw [e]
      exact Finset.le_sup (f := fun q : Fin 4 => a ⟨8 * q.val + i.val % 8, by omega⟩) (Finset.mem_univ _)
    refine h1.trans ?_
    have h8 : i.val % 8 < 8 := Nat.mod_lt _ (by decide)
    generalize i.val % 8 = r at h8
    interval_cases r <;> simp only [le_max_iff, le_refl, true_or, or_true]

/-- The partial maxima. -/
theorem pMax_apply (z : FVec Ideal S256x128 .f32) (g : Fin 8) (r : ℕ) (hr : r < 8) (l : Fin 128) (p : Fin 64) (hp : p.val = 8 * g.val + r) :
    pMax z (ix2 p l) = Finset.univ.sup fun q : Fin 4 => max (blk z g l ⟨8 * q.val + r, by omega⟩) (-(blk z g l ⟨8 * q.val + r, by omega⟩)) := by
  have hb : (FloatOps.ofBits (F := Ideal) .f32 0xFF800000#32 : EReal) = ⊥ := by
    show Ideal.ofBits .f32 0xFF800000#32 = ⊥
    simp [Ideal.ofBits, Ideal.ieee]
  unfold pMax
  rw [shapeCast_self, shapeCast_apply _ _ _ (ix3 g ⟨r, hr⟩ l)
    (by rw [Shape.rowMajor_val_two, Shape.rowMajor_val_three]; show (g.val * 8 + r) * 128 + l.val = p.val * 128 + l.val; omega)]
  refine (Ideal.multiReduction_maximumf_single _ _ _ _ _ _).trans ?_
  rw [hb]
  unfold Finset.sup
  refine Finset.fold_congr fun q _ => ?_
  have hq : q.val < 4 := q.isLt
  show shapeCast S8x4x8x128 (absf z) shapeCasts_S256x128_S8x4x8x128 _ = _
  rw [shapeCast_apply _ _ _ (ix2 ⟨32 * g.val + (8 * q.val + r), by omega⟩ l)
    (by rw [Shape.rowMajor_val_two, Shape.rowMajor_val_four]; show (32 * g.val + (8 * q.val + r)) * 128 + l.val = ((g.val * 4 + q.val) * 8 + r) * 128 + l.val; omega)]
  rfl

/-- The block maxima. -/
theorem pAmax_apply (z : FVec Ideal S256x128 .f32) (g : Fin 8) (l : Fin 128) : pAmax z (ix2 g l) = amax (blk z g l) * nrm := by
  unfold amax
  rw [← maxes (fun i => max (blk z g l i) (-(blk z g l i)))
    (fun r => if h : r < 8 then pMax z (ix2 ⟨8 * g.val + r, by omega⟩ l) else 0)
    (fun r h => by rw [dif_pos h]; exact pMax_apply z g r h l _ rfl)]
  have e : ∀ (r : ℕ) (h : r < 8) (inb : _),
      pMax z (LoadRect.idx { off := ![r, 0], size := S8x128.size, stride := ![8, 1], inb := inb : LoadRect S64x128 } (ix2 g l))
        = if h : r < 8 then pMax z (ix2 ⟨8 * g.val + r, by omega⟩ l) else 0 := by
    intro r h inb
    rw [dif_pos h]
    refine congrArg (pMax z) (funext fun a => Fin.ext ?_)
    match a with
    | ⟨0, _⟩ => show r + 8 * g.val = 8 * g.val + r; omega
    | ⟨1, _⟩ => show 0 + 1 * l.val = l.val; omega
  rw [← e 0 (by decide) inb_S64x128_S8x128_0_0_s_8_1, ← e 1 (by decide) inb_S64x128_S8x128_1_0_s_8_1,
    ← e 2 (by decide) inb_S64x128_S8x128_2_0_s_8_1, ← e 3 (by decide) inb_S64x128_S8x128_3_0_s_8_1,
    ← e 4 (by decide) inb_S64x128_S8x128_4_0_s_8_1, ← e 5 (by decide) inb_S64x128_S8x128_5_0_s_8_1,
    ← e 6 (by decide) inb_S64x128_S8x128_6_0_s_8_1, ← e 7 (by decide) inb_S64x128_S8x128_7_0_s_8_1]
  rfl

/-- One step of the search over a vector, -/
def stepV (q : FVec Ideal S8x128 .f32) (f : IVec S8x128 32) (b : BitVec 32) : IVec S8x128 32 :=
  select (cmpf .oge q (bitcastToFloat .f32 (shli (addi f (broadcast S8x128 b)) (broadcast S8x128 23#32)))) (addi f (broadcast S8x128 b)) f

/-- at an index. -/
theorem stepV_apply (q : FVec Ideal S8x128 .f32) (f : IVec S8x128 32) (b : BitVec 32) (j : S8x128.Idx) :
    stepV q f b j = step (q j) (f j) b := rfl

theorem pay10_eq (a : FVec Ideal S8x128 .f32) :
    k0_pay10 a = stepV (k0_pay9 a) (stepV (k0_pay9 a) (stepV (k0_pay9 a) (stepV (k0_pay9 a) (broadcast S8x128 0#32) 128#32) 64#32) 32#32) 16#32 := rfl
theorem pay12_eq (q : FVec Ideal S8x128 .f32) (f : IVec S8x128 32) :
    k0_pay12 q f (bitcastToFloat .f32 (shli (addi f (broadcast S8x128 8#32)) (broadcast S8x128 23#32)))
      = select (cmpf .oeq q (broadcast S8x128 (Scalar.ofBits .f32 0x00000000#32))) (broadcast S8x128 0#32)
        (subi (stepV q (stepV q (stepV q (stepV q f 8#32) 4#32) 2#32) 1#32) (broadcast S8x128 126#32)) := rfl

/-- The search at an index. -/
theorem pExp_apply (a : FVec Ideal S8x128 .f32) (j : S8x128.Idx) : pExp a j = kexp (a j * inv6) := by
  have h : pExp a = _ := pay12_eq (k0_pay9 a) (k0_pay10 a)
  rw [h]
  have h2 : ∀ (q : FVec Ideal S8x128 .f32) (g : IVec S8x128 32),
      (select (cmpf .oeq q (broadcast S8x128 (Scalar.ofBits .f32 0x00000000#32))) (broadcast S8x128 0#32)
        (subi g (broadcast S8x128 126#32))) j
      = Scalar.select (Ideal.cmp .oeq (q j) (Ideal.ofBits .f32 0x00000000#32)) 0#32 (IntOp.subi (g j) 126#32) := fun _ _ => rfl
  rw [h2, stepV_apply, stepV_apply, stepV_apply, stepV_apply, pay10_eq, stepV_apply, stepV_apply, stepV_apply, stepV_apply]
  have hq : k0_pay9 a j = a j * inv6 := rfl
  have h0 : (broadcast S8x128 0#32 : IVec S8x128 32) j = 0#32 := rfl
  rw [hq, h0]
  unfold kexp field
  rfl

/-- The exponents. -/
theorem pE_apply (z : FVec Ideal S256x128 .f32) (g : Fin 8) (l : Fin 128) : pE z (ix2 g l) = eK (blk z g l) := by
  unfold pE eK qK
  rw [pExp_apply, pAmax_apply]

/-- The factors. -/
theorem factor_apply (e : IVec S8x128 32) (j : S8x128.Idx) : k0_pay19 (F := Ideal) e j = kpow (e j) * nrm := by
  unfold k0_pay19
  rw [shapeCast_self]
  rfl

/-- The biased exponents. -/
theorem biased_apply (e : IVec S8x128 32) (j : S8x128.Idx) : k0_pay18 e j = IntOp.addi (e j) 127#32 := by
  unfold k0_pay18
  rw [shapeCast_self]
  rfl

/-- One block of scaled and clipped values. -/
theorem piece_apply (z : FVec Ideal S256x128 .f32) (o : ℕ) (ho : o + 32 ≤ 256) (hs : S256x128.Slices ![o, 0] S32x128)
    (row : FVec Ideal S1x128 .f32) (i : Fin 32) (l : Fin 128) :
    minimumf (broadcast S32x128 (Scalar.ofBits (F := Ideal) .f32 0x40C00000#32)) (maximumf (broadcast S32x128 (Scalar.ofBits (F := Ideal) .f32 0xC0C00000#32))
      (mulf (extractStridedSlice S32x128 ![o, 0] z hs) (broadcastTo S32x128 row broadcasts_S1x128_S32x128))) (ix2 i l)
      = clip (z (ix2 ⟨o + i.val, by omega⟩ l) * row (ix2 0 l)) := by
  have h1 : extractStridedSlice S32x128 ![o, 0] z hs (ix2 i l) = z (ix2 ⟨o + i.val, by omega⟩ l) :=
    extractStridedSlice_apply _ z hs _ _ (fun a => match a with
      | ⟨0, _⟩ => rfl
      | ⟨1, _⟩ => by show l.val = 0 + l.val; omega)
  have h2 : broadcastTo S32x128 row broadcasts_S1x128_S32x128 (ix2 i l) = row (ix2 0 l) :=
    broadcastTo_apply row _ _ _ (fun a => match a with
      | ⟨0, _⟩ => rfl
      | ⟨1, _⟩ => rfl)
  rw [← h1, ← h2]
  rfl

/-- A row of the factors at an index. -/
theorem pRow_apply (s : FVec Ideal S8x128 .f32) (g : Fin 8) (inb : _) (l : Fin 128) :
    pRow s (Rect.unit (s := S8x128) ![g.val, 0] S1x128.size inb) (ix2 0 l) = s (ix2 g l) := by
  refine congrArg s (funext fun a => Fin.ext ?_)
  match a with
  | ⟨0, _⟩ => show g.val + 1 * 0 = g.val; omega
  | ⟨1, _⟩ => show 0 + 1 * l.val = l.val; omega

/-- Eight blocks of 32 rows, one under the other. -/
theorem concat8 (f : Fin 8 → (S32x128.Idx → EReal)) (h : _) (g : Fin 8) (i : Fin 32) (l : Fin 128) :
    concatenate S256x128 0 [⟨S32x128, f 0⟩, ⟨S32x128, f 1⟩, ⟨S32x128, f 2⟩, ⟨S32x128, f 3⟩, ⟨S32x128, f 4⟩, ⟨S32x128, f 5⟩,
      ⟨S32x128, f 6⟩, ⟨S32x128, f 7⟩] h (ix2 ⟨32 * g.val + i.val, by omega⟩ l) = f g (ix2 i l) :=
  concatenate_ofFn_apply (t := S256x128) (s₁ := S32x128) 0 f h rfl 32 rfl _ g
    (by show (32 * g.val + i.val) / 32 = g.val; omega) (ix2 i l)
    (by show i.val = (32 * g.val + i.val) % 32; omega)
    (fun b hb => match b, hb with
      | ⟨0, _⟩, hb => absurd rfl hb
      | ⟨1, _⟩, _ => rfl)

theorem slices_ok : ∀ n : Fin 8, S256x128.Slices ![32 * n.val, 0] S32x128 := by decide
theorem row_ok : ∀ n : Fin 8, ∀ a, (![n.val, 0] : Fin 2 → ℕ) a + S1x128.size a ≤ S8x128.size a := by decide

/-- The scaled and clipped values. -/
theorem pU_apply (z : FVec Ideal S256x128 .f32) (s : FVec Ideal S8x128 .f32) (g : Fin 8) (i : Fin 32) (l : Fin 128) :
    pU z s (ix2 ⟨32 * g.val + i.val, by omega⟩ l) = clip (blk z g l i * s (ix2 g l)) :=
  (concat8 (fun n => minimumf (broadcast S32x128 (Scalar.ofBits (F := Ideal) .f32 0x40C00000#32)) (maximumf (broadcast S32x128 (Scalar.ofBits (F := Ideal) .f32 0xC0C00000#32))
      (mulf (extractStridedSlice S32x128 ![32 * n.val, 0] z (slices_ok n)) (broadcastTo S32x128 (pRow s (Rect.unit (s := S8x128) ![n.val, 0] S1x128.size (row_ok n))) broadcasts_S1x128_S32x128))))
    concatenates_S32x128_S32x128_S32x128_S32x128_S32x128_S32x128_S32x128_S32x128_S256x128_d0 g i l).trans
  ((piece_apply z (32 * g.val) (by omega) (slices_ok g) _ i l).trans (by rw [pRow_apply]; rfl))

/-- The word of eight codes, a negative zero cleared. -/
def wordFn (c0 c1 c2 c3 c4 c5 c6 c7 : BitVec 32) : BitVec 32 :=
  IntOp.andi (IntOp.ori (IntOp.ori (IntOp.ori (IntOp.ori (IntOp.ori (IntOp.ori (IntOp.ori c0
      (IntOp.shli .vector c1 4#32)) (IntOp.shli .vector c2 8#32)) (IntOp.shli .vector c3 12#32))
      (IntOp.shli .vector c4 16#32)) (IntOp.shli .vector c5 20#32)) (IntOp.shli .vector c6 24#32))
      (IntOp.shli .vector c7 28#32))
    (IntOp.ori (IntOp.addi (IntOp.andi (IntOp.ori (IntOp.ori (IntOp.ori (IntOp.ori (IntOp.ori (IntOp.ori (IntOp.ori c0
      (IntOp.shli .vector c1 4#32)) (IntOp.shli .vector c2 8#32)) (IntOp.shli .vector c3 12#32))
      (IntOp.shli .vector c4 16#32)) (IntOp.shli .vector c5 20#32)) (IntOp.shli .vector c6 24#32))
      (IntOp.shli .vector c7 28#32)) 2004318071#32) 2004318071#32) 2004318071#32)

theorem slice_apply (v : IVec S32x8x128 32) (k : Fin 8) (hs : S32x8x128.Slices ![0, k.val, 0] S32x1x128) (R : Fin 32) (l : Fin 128) :
    shapeCast S32x128 (extractStridedSlice S32x1x128 ![0, k.val, 0] v hs) shapeCasts_S32x1x128_S32x128 (ix2 R l) = v (ix3 R k l) := by
  rw [shapeCast_apply _ _ _ (ix3 R 0 l)
    (by rw [Shape.rowMajor_val_two, Shape.rowMajor_val_three]; show (R.val * 1 + 0) * 128 + l.val = R.val * 128 + l.val; omega)]
  exact extractStridedSlice_apply _ v hs _ _ (fun a => match a with
      | ⟨0, _⟩ => by show R.val = 0 + R.val; omega
      | ⟨1, _⟩ => rfl
      | ⟨2, _⟩ => by show l.val = 0 + l.val; omega)

theorem pWord_apply (v : IVec S32x8x128 32) (R : Fin 32) (l : Fin 128) :
    pWord v (ix2 R l) = wordFn (v (ix3 R 0 l)) (v (ix3 R 1 l)) (v (ix3 R 2 l)) (v (ix3 R 3 l)) (v (ix3 R 4 l)) (v (ix3 R 5 l))
      (v (ix3 R 6 l)) (v (ix3 R 7 l)) := by
  rw [← slice_apply v 0 slices_S32x8x128_o0_0_0_S32x1x128 R l, ← slice_apply v 1 slices_S32x8x128_o0_1_0_S32x1x128 R l,
    ← slice_apply v 2 slices_S32x8x128_o0_2_0_S32x1x128 R l, ← slice_apply v 3 slices_S32x8x128_o0_3_0_S32x1x128 R l,
    ← slice_apply v 4 slices_S32x8x128_o0_4_0_S32x1x128 R l, ← slice_apply v 5 slices_S32x8x128_o0_5_0_S32x1x128 R l,
    ← slice_apply v 6 slices_S32x8x128_o0_6_0_S32x1x128 R l, ← slice_apply v 7 slices_S32x8x128_o0_7_0_S32x1x128 R l]
  rfl

theorem word_toNat (c : ℕ → BitVec 32) (hc : ∀ i, (c i).toNat < 16) :
    (wordFn (c 0) (c 1) (c 2) (c 3) (c 4) (c 5) (c 6) (c 7)).toNat = hex fun i => fix (c i).toNat :=
  fix_word _ (fun i => (c i).toNat) hc (pack_word c hc)

/-- Words read as bytes: row `p` of the bytes is byte `p % 4` of row `p / 4` of the words. -/
theorem bytes_apply (w : IVec S32x128 32) (p l : Fin 128) :
    (bitcast S128x128 8 w bitcasts_S32x128_w32_S128x128_w8 (ix2 p l)).toNat
      = (w (ix2 ⟨p.val / 4, by omega⟩ l)).toNat / 2 ^ (8 * (p.val % 4)) % 256 := by
  have e : bitcast S128x128 8 w bitcasts_S32x128_w32_S128x128_w8 (ix2 p l)
      = (w (ix2 ⟨p.val / 4, by omega⟩ l)).extractLsb' (8 * (p.val % 4)) 8 := by
    apply BitVec.eq_of_getLsbD_eq
    intro q hq
    have h1 : (p.val * 8 + q) / 32 = p.val / 4 := by omega
    have h2 : (p.val * 8 + q) % 32 = 8 * (p.val % 4) + q := by omega
    rw [bitcast_getLsbD w _ _ q hq (by decide), BitVec.getLsbD_extractLsb']
    simp only [hq, decide_true, Bool.true_and]
    rw [← h2]
    refine congrArg (fun j => (w j).getLsbD _) ?_
    funext c
    match c with
    | ⟨0, _⟩ => exact Fin.ext ((Shape.Bitcasts.srcIdx_row _ _ _ _ ⟨0, Nat.zero_lt_two⟩ rfl).trans h1)
    | ⟨1, _⟩ => exact Fin.ext (Shape.Bitcasts.srcIdx_other _ _ _ _ ⟨1, Nat.one_lt_two⟩ (by show ¬ 1 + 2 = 2; omega))
  rw [e, BitVec.extractLsb'_toNat, Nat.shiftRight_eq_div_pow]

theorem pCnt_apply (u : FVec Ideal S256x128 .f32) (j : S256x128.Idx) : pCnt u j = nibK (u j) := rfl

/-- The codes from the scaled values. -/
theorem pCodes_apply (u : FVec Ideal S256x128 .f32) (l p : Fin 128) :
    pCodes u (ix2 l p) = byte (fix (nibK (u (ix2 ⟨2 * p.val, by omega⟩ l))).toNat) (fix (nibK (u (ix2 ⟨2 * p.val + 1, by omega⟩ l))).toNat) := by
  unfold pCodes
  rw [transpose_apply _ _ _ _ (ix2 p l) (fun b => match b with
    | ⟨0, _⟩ => rfl
    | ⟨1, _⟩ => rfl)]
  apply BitVec.eq_of_toNat_eq
  rw [bytes_apply, pWord_apply]
  have hv : ∀ (k : Fin 8), shapeCast S32x8x128 (pCnt u) shapeCasts_S256x128_S32x8x128 (ix3 (⟨p.val / 4, by omega⟩ : Fin 32) k l)
      = nibK (u (ix2 ⟨8 * (p.val / 4) + k.val, by omega⟩ l)) := by
    intro k
    rw [shapeCast_apply _ _ _ (ix2 ⟨8 * (p.val / 4) + k.val, by omega⟩ l)
      (by rw [Shape.rowMajor_val_two, Shape.rowMajor_val_three]; show (8 * (p.val / 4) + k.val) * 128 + l.val = ((p.val / 4) * 8 + k.val) * 128 + l.val; omega)]
    rfl
  rw [hv 0, hv 1, hv 2, hv 3, hv 4, hv 5, hv 6, hv 7]
  let c : ℕ → BitVec 32 := fun k => if h : k < 8 then nibK (u (ix2 ⟨8 * (p.val / 4) + k, by omega⟩ l)) else 0
  have hc : ∀ i, (c i).toNat < 16 := by
    intro i
    by_cases h : i < 8
    · simp only [c, dif_pos h]; exact nibK_lt _
    · simp only [c, dif_neg h]; decide
  have hfix : ∀ i, fix (c i).toNat < 16 := fun i => (fix_eq ⟨_, hc i⟩).2.2.2
  have hw := word_toNat c hc
  have e : ∀ k (hk : k < 8), c k = nibK (u (ix2 ⟨8 * (p.val / 4) + k, by omega⟩ l)) := fun k hk => dif_pos hk
  have e0 : c (2 * (p.val % 4)) = nibK (u (ix2 ⟨2 * p.val, by omega⟩ l)) := by
    rw [e _ (by omega)]
    exact congrArg (fun r => nibK (u (ix2 r l))) (Fin.ext (by show 8 * (p.val / 4) + 2 * (p.val % 4) = 2 * p.val; omega))
  have e1 : c (2 * (p.val % 4) + 1) = nibK (u (ix2 ⟨2 * p.val + 1, by omega⟩ l)) := by
    rw [e _ (by omega)]
    exact congrArg (fun r => nibK (u (ix2 r l))) (Fin.ext (by show 8 * (p.val / 4) + (2 * (p.val % 4) + 1) = 2 * p.val + 1; omega))
  rw [← e0, ← e1]
  refine (congrArg (fun n => n / 2 ^ (8 * (p.val % 4)) % 256) hw).trans ?_
  rw [hex_byte _ hfix _ (Nat.mod_lt _ (by decide))]
  unfold byte
  rw [BitVec.toNat_ofNat]
  have := hfix (2 * (p.val % 4)); have := hfix (2 * (p.val % 4) + 1)
  omega

/-- THE CODES OF A PANEL. -/
theorem pC_apply (z : FVec Ideal S256x128 .f32) (l p : Fin 128) :
    pC z (ix2 l p) = byte (fix (codeK (blk z ⟨p.val / 16, by omega⟩ l) ⟨2 * (p.val % 16), by omega⟩).toNat)
      (fix (codeK (blk z ⟨p.val / 16, by omega⟩ l) ⟨2 * (p.val % 16) + 1, by omega⟩).toNat) := by
  unfold pC codeK
  rw [pCodes_apply, ← pE_apply, ← factor_apply, ← pU_apply, ← pU_apply]
  have h0 : (⟨2 * p.val, by omega⟩ : Fin 256) = ⟨32 * (p.val / 16) + 2 * (p.val % 16), by omega⟩ := Fin.ext (by show 2 * p.val = 32 * (p.val / 16) + 2 * (p.val % 16); omega)
  have h1 : (⟨2 * p.val + 1, by omega⟩ : Fin 256) = ⟨32 * (p.val / 16) + (2 * (p.val % 16) + 1), by omega⟩ := Fin.ext (by show 2 * p.val + 1 = 32 * (p.val / 16) + (2 * (p.val % 16) + 1); omega)
  rw [h0, h1]

end Cert.Proof.QuantXIdeal

end
-- ==== Proof.XValueIdeal.lean ====
/-
  What `quant_x` leaves in its two result arrays, over the extended reals, as functions of its arguments.
-/
module

public import proofs.«01_k».proof.Proof.XHostIdeal
public import proofs.«01_k».proof.Proof.XPanelIdeal
public import proofs.«01_k».proof.Proof.XRunIdeal

@[expose] public section
set_option maxRecDepth 8192

noncomputable section

namespace Cert.Proof.QuantXIdeal

open scoped BigOperators
open Cert.QuantXIdeal Cert.QuantXIdeal.Gen Cert.Proof.XSpec Cert.Proof.XNibble Cert.Proof.Common
open Idealize.ShloMosaic Idealize.ShloMosaic.TcCoe

variable (m : (ℓ : Loc nD τ sig) → Buf (Elt Ideal) ℓ)

/-! ### The rotation's product -/

abbrev D : DotDims S256x256 S256x256 S256x256 := dot_S256x256_S256x256_S256x256_1_0_0_1_n_n
theorem lhs_0 (j : S256x256.Idx) (k : D.contr.Idx) : (D.lhsIdx j k 0 : ℕ) = j 0 := by
  simp [DotDims.lhsIdx, D, dot_S256x256_S256x256_S256x256_1_0_0_1_n_n]; rfl
theorem lhs_1 (j : S256x256.Idx) (k : D.contr.Idx) : (D.lhsIdx j k 1 : ℕ) = k ⟨0, by decide⟩ := by
  simp [DotDims.lhsIdx, D, dot_S256x256_S256x256_S256x256_1_0_0_1_n_n]; rfl
theorem rhs_0 (j : S256x256.Idx) (k : D.contr.Idx) : (D.rhsIdx j k 0 : ℕ) = k ⟨0, by decide⟩ := by
  simp [DotDims.rhsIdx, D, dot_S256x256_S256x256_S256x256_1_0_0_1_n_n]; rfl
theorem rhs_1 (j : S256x256.Idx) (k : D.contr.Idx) : (D.rhsIdx j k 1 : ℕ) = j 1 := by
  simp [DotDims.rhsIdx, D, dot_S256x256_S256x256_S256x256_1_0_0_1_n_n]; rfl

/-- A block-diagonal matrix times a column: only the row's own block of the column counts. -/
theorem own_block (H : ℕ → ℕ → EReal) (x : ℕ → EReal) (i : ℕ) (hi : i < 256) :
    (∑ j ∈ Finset.range 256, (if i / 32 = j / 32 then H (i % 32) (j % 32) else 0) * x j)
      = ∑ k ∈ Finset.range 32, H (i % 32) k * x (32 * (i / 32) + k) := by
  rw [show 256 = 32 * 8 from rfl, ← sum_blocks 8 32, Finset.sum_eq_single (i / 32)]
  · refine Finset.sum_congr rfl fun k hk => ?_
    have hk' := Finset.mem_range.mp hk
    rw [if_pos (by omega), show (32 * (i / 32) + k) % 32 = k by omega]
  · intro b _ hb
    refine Finset.sum_eq_zero fun k hk => ?_
    have hk' := Finset.mem_range.mp hk
    rw [if_neg (by omega), zero_mul]
  · intro h
    exact absurd (Finset.mem_range.mpr (by omega)) h

/-- A chunk of 256 rows rotated, at an index: row `i` of the product is row `i % 32` of its own block rotated. -/
theorem pay5_apply (R : Vec Ideal S256x256 .bf16) (W : Vec Ideal S256x256 .bf16) (s : ℕ → EReal) (X : ℕ → ℕ → EReal)
    (g0 c0 : ℕ) (hR : ∀ i : S256x256.Idx, R i = if (i 0).val / 32 = (i 1).val / 32 then
      had ((i 0).val % 32) ((i 1).val % 32) * s ((i 1).val % 32) else 0)
    (hW : ∀ i : S256x256.Idx, W i = X (32 * g0 + (i 0).val) (c0 + (i 1).val)) (j : S256x256.Idx) :
    k0_pay5 R W j = zB X s (g0 + (j 0).val / 32) (c0 + (j 1).val) ⟨(j 0).val % 32, by omega⟩ := by
  have h0 : (j 0).val < 256 := (j 0).isLt
  unfold k0_pay5
  simp only [shapeCast_self]
  have h := matmul_eq_sum D 256 rfl rfl R W (constant (F := Ideal) S256x256 .f32 0x00000000#32) j
    (fun k => (if (j 0).val / 32 = k / 32 then had ((j 0).val % 32) (k % 32) * s (k % 32) else 0)
      * X (32 * g0 + k) (c0 + (j 1).val)) (fun q => by
    rw [hR, hW, lhs_0, lhs_1, rhs_0, rhs_1])
  rw [ValueIdx.constant_apply, ofBits_zero, zero_add,
    own_block (fun a b => had a b * s b) (fun k => X (32 * g0 + k) (c0 + (j 1).val)) _ h0] at h
  refine Eq.trans h ?_
  unfold zB
  refine Finset.sum_congr rfl fun k _ => ?_
  dsimp only
  rw [show 32 * g0 + (32 * ((j 0).val / 32) + k) = 32 * (g0 + (j 0).val / 32) + k by omega]

/-! ### The blocks a grid point reads and writes -/

theorem index_0 : ∀ t : Fin cfg0.N, win0_0.index t (0 : Fin 2) = t.val % 12 ∧ win0_0.index t (1 : Fin 2) = t.val / 12 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val / 12 ∧ win0_2.index t (1 : Fin 2) = t.val % 12 :=
  (by decide +kernel : ∀ t : Fin grid0.N, _)
theorem index_3 : ∀ t : Fin cfg0.N, win0_3.index t (0 : Fin 2) = t.val / 12 ∧ win0_3.index t (1 : Fin 2) = t.val % 12 :=
  (by decide +kernel : ∀ t : Fin grid0.N, _)

/-- Point `t` reads rows `4096 (t % 12) …`, columns `256 (t / 12) …` of the rows of `x`, -/
theorem x0_apply (c : Dev nD) (t : Fin cfg0.N) (j : S4096x256.Idx) :
    x0At m c t j = xAt (xArg m c) (4096 * (t.val % 12) + (j 0).val) (256 * (t.val / 12) + (j 1).val) := by
  have hi := index_0 t
  unfold x0At iblk
  rw [View.read_apply]
  show rowArr m c _ = _
  rw [rowArr_apply]
  refine congrArg₂ _ ?_ ?_
  · show win0_0.index t 0 * 4096 + 1 * (j 0).val = _; rw [hi.1]; omega
  · show win0_0.index t 1 * 256 + 1 * (j 1).val = _; rw [hi.2]; omega

/-- and the whole rotation. -/
theorem x1_apply (c : Dev nD) (t : Fin cfg0.N) (j : S256x256.Idx) :
    x1At m c t j = if (j 0).val / 32 = (j 1).val / 32 then
      had ((j 0).val % 32) ((j 1).val % 32) * sAt (sArg m c) ((j 1).val % 32) else 0 := by
  have hi := index_1 t
  unfold x1At iblk
  rw [View.read_apply]
  show rotArr m c _ = _
  rw [show (((cfg0.win 1).blk t).view.emb j : S256x256.Idx) = j from Shape.idx_ext₂
    (by show win0_1.index t 0 * 256 + 1 * (j 0).val = _; rw [hi.1]; omega)
    (by show win0_1.index t 1 * 256 + 1 * (j 1).val = _; rw [hi.2]; omega), rotArr_apply]

/-- Chunk `k`, half `p` of point `t`, block `g` of the chunk, column `l`. -/
theorem blk_apply (c : Dev nD) (t : Fin cfg0.N) (k : Fin k0_t1_loop.trips) (p : ℕ) (hp : p < 2) (g : Fin 8) (l : Fin 128) :
    blk (zP (x0At m c t) (x1At m c t) k p) g l
      = zB (xAt (xArg m c)) (sAt (sArg m c)) (128 * (t.val % 12) + 8 * k.val + g.val)
          (256 * (t.val / 12) + 128 * p + l.val) := by
  have hg := g.isLt
  have hl := l.isLt
  have hW : ∀ i : S256x256.Idx, rowsAt (x0At m c t) k i
      = xAt (xArg m c) (32 * (128 * (t.val % 12) + 8 * k.val) + (i 0).val) (256 * (t.val / 12) + (i 1).val) := by
    intro i
    unfold rowsAt
    rw [x0_apply]
    have ho := off1 k
    refine congrArg₂ _ ?_ ?_
    · show 4096 * (t.val % 12) + (k0_off1 k 0 + 1 * (i 0).val) = _
      rw [ho]; show 4096 * (t.val % 12) + (256 * k.val + 1 * (i 0).val) = _; omega
    · show 256 * (t.val / 12) + (k0_off1 k 1 + 1 * (i 1).val) = _
      rw [ho]; show 256 * (t.val / 12) + (0 + 1 * (i 1).val) = _; omega
  have h5 := pay5_apply (x1At m c t) (rowsAt (x0At m c t) k) (sAt (sArg m c)) (xAt (xArg m c)) _ _
    (x1_apply m c t) hW
  funext i
  have hi := i.isLt
  have fin : ∀ q : S256x256.Idx, (q 0).val = 32 * g.val + i.val → (q 1).val = 128 * p + l.val →
      k0_pay5 (x1At m c t) (rowsAt (x0At m c t) k) q = zB (xAt (xArg m c)) (sAt (sArg m c))
        (128 * (t.val % 12) + 8 * k.val + g.val) (256 * (t.val / 12) + 128 * p + l.val) i := by
    intro q q0 q1
    rw [h5 q]
    have e : (⟨(q 0).val % 32, by omega⟩ : Fin 32) = i := Fin.ext (by show (q 0).val % 32 = i.val; omega)
    rw [e, show (q 0).val / 32 = g.val by omega, q1, ← Nat.add_assoc]
  unfold blk zP
  by_cases h : p = 0
  · rw [if_pos h]
    subst h
    exact fin _ (by show 0 + (32 * g.val + i.val) = _; omega) (by show 0 + l.val = _; omega)
  · rw [if_neg h]
    exact fin _ (by show 0 + (32 * g.val + i.val) = _; omega) (by show 128 + l.val = _; omega)

/-! ### The result arrays -/

/-- The codes: byte `b` of row `r` holds codes `2 (b % 16)` and `2 (b % 16) + 1` of block `b / 16` of column `r` of the
    rows of `x`. -/
def codesArr (c : Dev nD) (i : S2048x24576.Idx) : BitVec 8 :=
  byte (fix (codeK (zB (xAt (xArg m c)) (sAt (sArg m c)) ((i 1).val / 16) (i 0).val)
      ⟨2 * ((i 1).val % 16), by omega⟩).toNat)
    (fix (codeK (zB (xAt (xArg m c)) (sAt (sArg m c)) ((i 1).val / 16) (i 0).val)
      ⟨2 * ((i 1).val % 16) + 1, by omega⟩).toNat)
/-- The scales: the biased exponent of block `b` of column `r`. -/
def scalesArr (c : Dev nD) (i : S2048x1536.Idx) : BitVec 8 :=
  (IntOp.addi (eK (zB (xAt (xArg m c)) (sAt (sArg m c)) (i 1).val (i 0).val)) 127#32).setWidth 8

theorem G4_apply (c : Dev nD) (t : Fin cfg0.N) (y : S256x2048.Idx) (i : S2048x24576.Idx)
    (h0 : (i 0).val = 256 * (t.val / 12) + (y 0).val) (h1 : (i 1).val = 2048 * (t.val % 12) + (y 1).val) :
    G4 (x0At m c t) (x1At m c t) y = codesArr m c i := by
  have hy0 : (y 0).val < 256 := (y 0).isLt
  have hy1 : (y 1).val < 2048 := (y 1).isLt
  unfold G4 codesArr
  rw [pC_apply, blk_apply m c t _ _ (by omega)]
  have e0 : 256 * (t.val / 12) + 128 * ((y 0).val / 128) + (y 0).val % 128 = (i 0).val := by omega
  have e1 : 128 * (t.val % 12) + 8 * (chunk ((y 1).val / 128)).val + (y 1).val % 128 / 16 = (i 1).val / 16 := by
    show 128 * (t.val % 12) + 8 * ((y 1).val / 128 % 16) + (y 1).val % 128 / 16 = (i 1).val / 16
    omega
  have e2 : (y 1).val % 128 % 16 = (i 1).val % 16 := by omega
  dsimp only
  rw [e0, e1]
  congr 4
  · congr 2
  · congr 3

theorem G5_apply (c : Dev nD) (t : Fin cfg0.N) (y : S256x128.Idx) (i : S2048x1536.Idx)
    (h0 : (i 0).val = 256 * (t.val / 12) + (y 0).val) (h1 : (i 1).val = 128 * (t.val % 12) + (y 1).val) :
    G5 (x0At m c t) (x1At m c t) y = scalesArr m c i := by
  have hy0 : (y 0).val < 256 := (y 0).isLt
  have hy1 : (y 1).val < 128 := (y 1).isLt
  unfold G5 G12 scalesArr
  rw [biased_apply, pE_apply, blk_apply m c t _ _ (by show (y 0).val / 128 < 2; omega)]
  have e0 : 256 * (t.val / 12) + 128 * ((y 0).val / 128) + (y 0).val % 128 = (i 0).val := by omega
  have e1 : 128 * (t.val % 12) + 8 * (chunk ((y 1).val / 8)).val + (y 1).val % 8 = (i 1).val := by
    show 128 * (t.val % 12) + 8 * ((y 1).val / 8 % 16) + (y 1).val % 8 = (i 1).val
    omega
  show (IntOp.addi (eK (zB _ _ (128 * (t.val % 12) + 8 * (chunk ((y 1).val / 8)).val + (y 1).val % 8)
    (256 * (t.val / 12) + 128 * ((y 0).val / 128) + (y 0).val % 128))) 127#32).setWidth 8 = _
  rw [e0, e1]

/-- What point `t` writes back of the codes is its block of them, -/
theorem flushed2_eq (c : Dev nD) (t : Fin cfg0.N) :
    (dats m 0 c).flushed 2 t = ((cfg0.win 2).blk t).view.read (Elt Ideal) (codesArr m c) := by
  have hi := index_2 t
  show (cfg0.win 2).cut (grid0.coords t) ((dats m 0 c).after 2 t) = _
  rw [show (dats m 0 c).after 2 t = G4 (x0At m c t) (x1At m c t) by dsimp only [dats]]
  funext y
  rw [View.read_apply]
  refine G4_apply m c t _ _ ?_ ?_
  · show win0_2.index t 0 * 256 + 1 * (y 0).val = 256 * (t.val / 12) + (y 0).val; rw [hi.1]; omega
  · show win0_2.index t 1 * 2048 + 1 * (y 1).val = 2048 * (t.val % 12) + (y 1).val; rw [hi.2]; omega
/-- and so for the scales. -/
theorem flushed3_eq (c : Dev nD) (t : Fin cfg0.N) :
    (dats m 0 c).flushed 3 t = ((cfg0.win 3).blk t).view.read (Elt Ideal) (scalesArr m c) := by
  have hi := index_3 t
  show (cfg0.win 3).cut (grid0.coords t) ((dats m 0 c).after 3 t) = _
  rw [show (dats m 0 c).after 3 t = G5 (x0At m c t) (x1At m c t) by dsimp only [dats]]
  funext y
  rw [View.read_apply]
  refine G5_apply m c t _ _ ?_ ?_
  · show win0_3.index t 0 * 256 + 1 * (y 0).val = 256 * (t.val / 12) + (y 0).val; rw [hi.1]; omega
  · show win0_3.index t 1 * 128 + 1 * (y 1).val = 128 * (t.val % 12) + (y 1).val; rw [hi.2]; omega

theorem mem_blk2 (t : Fin cfg0.N) (i : S2048x24576.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v26_0).slice (win0_2.rect t)).set ↔ _
  rw [View.set_slice_whole, Rect.mem_set_unit]
  exact Iff.rfl
theorem mem_blk3 (t : Fin cfg0.N) (i : S2048x1536.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v26_1).slice (win0_3.rect t)).set ↔ _
  rw [View.set_slice_whole, Rect.mem_set_unit]
  exact Iff.rfl

/-- The blocks of the codes fill the array, so it ends as `codesArr`; -/
theorem final2 (c : Dev nD) : (dats m 0 c).arrAt 2 cfg0.N = codesArr m c :=
  (dats m 0 c).arrAt_eq_of_cover 2 _ (fun t _ => flushed2_eq m c t) (fun i => by
    have h0 : (i 0).val < 2048 := (i 0).isLt
    have h1 : (i 1).val < 24576 := (i 1).isLt
    have ht : 12 * ((i 0).val / 256) + (i 1).val / 2048 < cfg0.N := by
      show _ < grid0.N; rw [N_0]; omega
    refine ⟨⟨_, ht⟩, flush0_2 _, ?_⟩
    rw [mem_blk2]
    have hi := index_2 ⟨_, ht⟩
    dsimp only at hi
    intro a
    match a with
    | ⟨0, _⟩ =>
      show win0_2.index _ (0 : Fin 2) * 256 ≤ (i 0).val ∧ (i 0).val < win0_2.index _ (0 : Fin 2) * 256 + 256
      rw [hi.1]; omega
    | ⟨1, _⟩ =>
      show win0_2.index _ (1 : Fin 2) * 2048 ≤ (i 1).val ∧ (i 1).val < win0_2.index _ (1 : Fin 2) * 2048 + 2048
      rw [hi.2]; omega)
/-- and the scales end as `scalesArr`. -/
theorem final3 (c : Dev nD) : (dats m 0 c).arrAt 3 cfg0.N = scalesArr m c :=
  (dats m 0 c).arrAt_eq_of_cover 3 _ (fun t _ => flushed3_eq m c t) (fun i => by
    have h0 : (i 0).val < 2048 := (i 0).isLt
    have h1 : (i 1).val < 1536 := (i 1).isLt
    have ht : 12 * ((i 0).val / 256) + (i 1).val / 128 < cfg0.N := by
      show _ < grid0.N; rw [N_0]; omega
    refine ⟨⟨_, ht⟩, flush0_3 _, ?_⟩
    rw [mem_blk3]
    have hi := index_3 ⟨_, ht⟩
    dsimp only at hi
    intro a
    match a with
    | ⟨0, _⟩ =>
      show win0_3.index _ (0 : Fin 2) * 256 ≤ (i 0).val ∧ (i 0).val < win0_3.index _ (0 : Fin 2) * 256 + 256
      rw [hi.1]; omega
    | ⟨1, _⟩ =>
      show win0_3.index _ (1 : Fin 2) * 128 ≤ (i 1).val ∧ (i 1).val < win0_3.index _ (1 : Fin 2) * 128 + 128
      rw [hi.2]; omega)

end Cert.Proof.QuantXIdeal

end
-- ==== Proof.XRef.lean ====
/-
  The reference of `quant_x` at an index: its block scales and its codes, from the rotated blocks.
-/
module

public import proofs.«01_k».proof.Proof.XSpec
public import proofs.«01_k».proof.Proof.Gen.QuantXRefIdeal.Read
public import proofs.«01_k».proof.Proof.Gen.Pre_x_in_range

@[expose] public section

set_option maxRecDepth 8192

noncomputable section

namespace Cert.Proof.XRef

open Cert.QuantXRefIdeal Cert.QuantXRefIdeal.Read Cert.Proof.Common Cert.Proof.CodesDecode Cert.Proof.XSpec Cert.Proof.XExp
open Cert.Proof.XNibble Cert.QuantXRefIdeal.Gen Cert.QuantXRefIdeal.Facts
open Idealize.ShloMosaic Idealize.ShloMosaic.TcCoe Idealize.SL.Sem
open scoped BigOperators

variable (x0 : S8x6144x2048.Idx → EReal) (x1 : S32.Idx → EReal)

/-- The rotation matrix, with the signs and the constant; -/
theorem rot_apply (i : S32x32.Idx) : val_main_v16 (F := Ideal) x1 i = had (i 0) (i 1) * sAt x1 (i 1) * nrm := by
  have h1 : (i 1).val < 32 := (i 1).isLt
  rw [val_main_v16_apply, val_main_v14_apply, val_main_v13_apply, val_main_v12_apply]
  unfold sAt
  rw [dif_pos h1]
  refine congrArg₂ (· * ·) (congrArg₂ (· * ·) rfl (congrArg x1 ?_)) rfl
  funext a
  match a with
  | ⟨0, _⟩ => rfl

/-- the array's blocks; -/
theorem x_apply (i : S1536x32x2048.Idx) :
    val_main_v18 (F := Ideal) x0 i = xAt x0 (32 * (i 0).val + (i 1).val) (i 2) := by
  have h0 : (i 0).val < 1536 := (i 0).isLt
  have h1 : (i 1).val < 32 := (i 1).isLt
  have h2 : (i 2).val < 2048 := (i 2).isLt
  rw [val_main_v18_apply]
  unfold xAt
  rw [dif_pos (by omega)]
  refine congrArg x0 ?_
  funext a
  match a with
  | ⟨0, _⟩ => refine Fin.ext ?_; show (((i 0).val * 32 + (i 1).val) * 2048 + (i 2).val) / 12582912 = (32 * (i 0).val + (i 1).val) / 6144; omega
  | ⟨1, _⟩ => refine Fin.ext ?_; show (((i 0).val * 32 + (i 1).val) * 2048 + (i 2).val) / 2048 % 6144 = (32 * (i 0).val + (i 1).val) % 6144; omega
  | ⟨2, _⟩ => refine Fin.ext ?_; show (((i 0).val * 32 + (i 1).val) * 2048 + (i 2).val) % 2048 = (i 2).val; omega

/-- the rotated blocks. -/
theorem z_apply (i : S1536x32x2048.Idx) :
    val_main_v20 (F := Ideal) x0 x1 i = zN (xAt x0) (sAt x1) (i 0) (i 2) (i 1) := by
  obtain ⟨r, hr, hn⟩ := nrm_pos
  rw [val_main_v20_apply, val_main_v19_apply]
  unfold zN zB
  rw [sum_mul_of_finite _ _ _ (by rw [hn]; exact_mod_cast hr.le) (by rw [hn]; exact EReal.coe_ne_top r), Finset.sum_range]
  refine Finset.sum_congr rfl fun k _ => ?_
  rw [x_apply, rot_apply, mul_comm]
  show had (i 1) k * sAt x1 k * nrm * xAt x0 (32 * (i 0).val + k.val) (i 2) = had (i 1) k * sAt x1 k * xAt x0 (32 * (i 0).val + k.val) (i 2) * nrm
  rw [mul_assoc, mul_comm nrm, ← mul_assoc]

/-- The greatest magnitude of each block. -/
theorem amax_apply (i : S1536x2048.Idx) :
    val_main_v22 (F := Ideal) x0 x1 i = amax (zN (xAt x0) (sAt x1) (i 0) (i 1)) := by
  have hR : S1536x32x2048.Reduces [1] S1536x2048 := by decide
  unfold val_main_v22
  rw [Host.reduce_eq_fold_single _ _ _ _ hR]
  unfold amax Finset.sup
  have hb : ∀ j, val_main_cst_3 (F := Ideal) j = ⊥ := fun j => by
    show Ideal.ofBits .f32 0xFF800000#32 = ⊥
    simp [Ideal.ofBits, Ideal.ieee]
  rw [hb]
  refine Finset.fold_congr fun k _ => ?_
  show (max (val_main_v20 (F := Ideal) x0 x1 (hR.lift i k)) (-(val_main_v20 (F := Ideal) x0 x1 (hR.lift i k))) : EReal) = _
  rw [z_apply]
  rfl

/-- The block exponents. -/
theorem exp_apply (i : S1536x2048.Idx) :
    val_main_v35 (F := Ideal) x0 x1 i = eR (zN (xAt x0) (sAt x1) (i 0) (i 1)) := by
  rw [val_main_v35_apply, val_main_v30_apply, val_main_v34_apply, val_main_v33_apply, val_main_v31_apply,
    val_main_v28_apply, val_main_v25_apply, val_main_v24_apply, amax_apply, val_main_v23_apply, val_main_v27_apply,
    val_main_v29_apply, val_main_v32_apply]
  unfold eR
  generalize amax (zN (xAt x0) (sAt x1) (i 0) (i 1)) = a
  rfl

/-- THE REFERENCE'S BLOCK SCALES. -/
theorem scales_apply (i : S2048x1536.Idx) :
    val_main_v96 (F := Ideal) x0 x1 i
      = (IntOp.addi (eR (zN (xAt x0) (sAt x1) (i 1) (i 0))) 127#32).setWidth 8 := by
  rw [val_main_v96_apply, val_main_v95_apply, val_main_v94_apply, exp_apply]
  rfl

/-- The codes before they are joined. -/
theorem nib_apply (i : S1536x32x2048.Idx) :
    val_main_v81 (F := Ideal) x0 x1 i = codeR (zN (xAt x0) (sAt x1) (i 0) (i 2)) (i 1) := by
  have h : val_main_v42 (F := Ideal) x0 x1 i
      = zN (xAt x0) (sAt x1) (i 0) (i 2) (i 1) * rpow (eR (zN (xAt x0) (sAt x1) (i 0) (i 2))) := by
    rw [val_main_v42_apply, z_apply, val_main_v41_apply, val_main_v40_apply]
    have := exp_apply x0 x1 (ValueIdx.ix2 (i 0) (i 2))
    refine congrArg₂ (· * ·) rfl ?_
    show rpow (val_main_v35 (F := Ideal) x0 x1 _) = _
    rw [exp_apply]
  unfold codeR
  rw [← h]
  rfl

theorem codeR_congr {g g' c c' : ℕ} {k k' : Fin 32} (hg : g = g') (hc : c = c') (hk : k.val = k'.val) :
    codeR (zN (xAt x0) (sAt x1) g c) k = codeR (zN (xAt x0) (sAt x1) g' c') k' := by
  rw [hg, hc, Fin.ext hk]

/-- The codes in pairs; -/
theorem pair_apply (i : S1536x16x2x2048.Idx) :
    val_main_v82 (F := Ideal) x0 x1 i = codeR (zN (xAt x0) (sAt x1) (i 0) (i 3))
      ⟨2 * (i 1).val + (i 2).val, by have h1 : (i 1).val < 16 := (i 1).isLt; have h2 : (i 2).val < 2 := (i 2).isLt; omega⟩ := by
  have h0 : (i 0).val < 1536 := (i 0).isLt
  have h1 : (i 1).val < 16 := (i 1).isLt
  have h2 : (i 2).val < 2 := (i 2).isLt
  have h3 : (i 3).val < 2048 := (i 3).isLt
  rw [val_main_v82_apply, nib_apply]
  refine codeR_congr x0 x1 ?_ ?_ ?_
  · show ((((i 0).val * 16 + (i 1).val) * 2 + (i 2).val) * 2048 + (i 3).val) / 65536 = (i 0).val; omega
  · show ((((i 0).val * 16 + (i 1).val) * 2 + (i 2).val) * 2048 + (i 3).val) % 2048 = (i 3).val; omega
  · show ((((i 0).val * 16 + (i 1).val) * 2 + (i 2).val) * 2048 + (i 3).val) / 2048 % 32 = 2 * (i 1).val + (i 2).val; omega

/-- the even codes, -/
theorem even_apply (i : S1536x16x2048.Idx) :
    val_main_v84 (F := Ideal) x0 x1 i = codeR (zN (xAt x0) (sAt x1) (i 0) (i 2))
      ⟨2 * (i 1).val, by have h1 : (i 1).val < 16 := (i 1).isLt; omega⟩ := by
  have h0 : (i 0).val < 1536 := (i 0).isLt
  have h1 : (i 1).val < 16 := (i 1).isLt
  have h2 : (i 2).val < 2048 := (i 2).isLt
  rw [val_main_v84_apply, val_main_v83_apply, pair_apply]
  refine codeR_congr x0 x1 ?_ ?_ ?_
  · show (((i 0).val * 16 + (i 1).val) * 2048 + (i 2).val) / 32768 = (i 0).val; omega
  · show (((i 0).val * 16 + (i 1).val) * 2048 + (i 2).val) % 2048 = (i 2).val; omega
  · show 2 * ((((i 0).val * 16 + (i 1).val) * 2048 + (i 2).val) / 2048 % 16) + 0 = 2 * (i 1).val; omega

/-- and the odd codes. -/
theorem odd_apply (i : S1536x16x2048.Idx) :
    val_main_v86 (F := Ideal) x0 x1 i = codeR (zN (xAt x0) (sAt x1) (i 0) (i 2))
      ⟨2 * (i 1).val + 1, by have h1 : (i 1).val < 16 := (i 1).isLt; omega⟩ := by
  have h0 : (i 0).val < 1536 := (i 0).isLt
  have h1 : (i 1).val < 16 := (i 1).isLt
  have h2 : (i 2).val < 2048 := (i 2).isLt
  rw [val_main_v86_apply, val_main_v85_apply, pair_apply]
  refine codeR_congr x0 x1 ?_ ?_ ?_
  · show (((i 0).val * 16 + (i 1).val) * 2048 + (i 2).val) / 32768 = (i 0).val; omega
  · show (((i 0).val * 16 + (i 1).val) * 2048 + (i 2).val) % 2048 = (i 2).val; omega
  · show 2 * ((((i 0).val * 16 + (i 1).val) * 2048 + (i 2).val) / 2048 % 16) + (1 + 0) = 2 * (i 1).val + 1; omega

/-- THE REFERENCE'S CODES. -/
theorem codes_apply (i : S2048x24576.Idx) :
    val_main_v92 (F := Ideal) x0 x1 i
      = byte (codeR (zN (xAt x0) (sAt x1) ((i 1).val / 16) (i 0)) ⟨2 * ((i 1).val % 16), by omega⟩).toNat
          (codeR (zN (xAt x0) (sAt x1) ((i 1).val / 16) (i 0)) ⟨2 * ((i 1).val % 16) + 1, by omega⟩).toNat := by
  have h0 : (i 0).val < 2048 := (i 0).isLt
  have h1 : (i 1).val < 24576 := (i 1).isLt
  have e0 : val_main_v84 (F := Ideal) x0 x1 (idx_main_v90 (idx_main_v91 i))
      = codeR (zN (xAt x0) (sAt x1) ((i 1).val / 16) (i 0)) ⟨2 * ((i 1).val % 16), by omega⟩ := by
    rw [even_apply]
    refine codeR_congr x0 x1 ?_ ?_ ?_
    · show ((i 0).val * 24576 + (i 1).val) / 16 % 1536 = (i 1).val / 16; omega
    · show ((i 0).val * 24576 + (i 1).val) / 24576 = (i 0).val; omega
    · show 2 * (((i 0).val * 24576 + (i 1).val) % 16) = 2 * ((i 1).val % 16); omega
  have e1 : val_main_v86 (F := Ideal) x0 x1 (idx_main_v90 (idx_main_v91 i))
      = codeR (zN (xAt x0) (sAt x1) ((i 1).val / 16) (i 0)) ⟨2 * ((i 1).val % 16) + 1, by omega⟩ := by
    rw [odd_apply]
    refine codeR_congr x0 x1 ?_ ?_ ?_
    · show ((i 0).val * 24576 + (i 1).val) / 16 % 1536 = (i 1).val / 16; omega
    · show ((i 0).val * 24576 + (i 1).val) / 24576 = (i 0).val; omega
    · show 2 * (((i 0).val * 24576 + (i 1).val) % 16) + 1 = 2 * ((i 1).val % 16) + 1; omega
  rw [val_main_v92_apply, val_main_v91_apply, val_main_v90_apply, val_main_v89_apply, val_main_v88_apply, e0, e1]
  apply BitVec.eq_of_toNat_eq
  have e := or_shift (codeR (zN (xAt x0) (sAt x1) ((i 1).val / 16) (i 0)) ⟨2 * ((i 1).val % 16), by omega⟩)
    (codeR (zN (xAt x0) (sAt x1) ((i 1).val / 16) (i 0)) ⟨2 * ((i 1).val % 16) + 1, by omega⟩) 4 (by decide)
    (nibR_lt _) (nibR_lt _) (by decide)
  unfold byte
  rw [BitVec.toNat_setWidth, BitVec.toNat_ofNat]
  exact congrArg (· % 2 ^ 8) e

/-- The quotients from the rotation and the blocks. -/
def quot (w : FVec Ideal S32x32 .f32) (v : FVec Ideal S1536x32x2048 .f32) : FVec Ideal S1536x2048 .f32 :=
  mulf (Host.reduce FloatOps.maximumf (Host.absf (transpose S1536x32x2048 [0, 2, 1]
      (Host.dotGeneral dot_S1536x32x2048_S32x32_S1536x2048x32_1_1_02_0_n_n (some .fp32) v w)
      transposes_S1536x2048x32_S1536x32x2048_0_2_1)) (constant S_ .f32 0xFF800000#32)
      reducesTo_S1536x32x2048_S1536x2048_d1 h_S_)
    (broadcastInDim S1536x2048 ![] bcast_S_S1536x2048 (constant S_ .f32 0x3E2AAAAB#32))

theorem quot_eq : quot (val_main_v16 (F := Ideal) x1) (val_main_v18 (F := Ideal) x0) = val_main_v24 (F := Ideal) x0 x1 := by
  unfold quot val_main_v24 val_main_v23 val_main_cst_4 val_main_v22 val_main_cst_3 val_main_v21 val_main_v20 val_main_v19
  rfl

/-- The precondition's test of a quotient, -/
def test (q : FVec Ideal S1536x2048 .f32) : IVec S1536x2048 1 :=
  ori (cmpf .oeq q (broadcastInDim S1536x2048 ![] bcast_S_S1536x2048 (constant S_ .f32 0x00000000#32)))
    (andi (cmpf .oge q (broadcastInDim S1536x2048 ![] bcast_S_S1536x2048 (constant S_ .f32 0x00800000#32)))
      (cmpf .olt q (broadcastInDim S1536x2048 ![] bcast_S_S1536x2048 (constant S_ .f32 0x7E800000#32))))

/-- at an index. -/
theorem test_apply (q : FVec Ideal S1536x2048 .f32) (i : S1536x2048.Idx) :
    test q i = IntOp.ori (Ideal.cmp .oeq (q i) (Ideal.ofBits .f32 0x00000000#32))
        (IntOp.andi (Ideal.cmp .oge (q i) (Ideal.ofBits .f32 0x00800000#32))
          (Ideal.cmp .olt (q i) (Ideal.ofBits .f32 0x7E800000#32))) := rfl

/-- Where the precondition holds, every quotient passes. -/
theorem part_read (w : FVec Ideal S32x32 .f32) (v : FVec Ideal S1536x32x2048 .f32)
    (h : Cert.Pre_x_in_range.fn_part1 (F := Ideal) w v = fun _ => 1#1) (i : S1536x2048.Idx) :
    test (quot w v) i = 1#1 := by
  have h := congrFun h (fun a => a.elim0)
  unfold Cert.Pre_x_in_range.fn_part1 at h
  have e1 := reduce_and_forall (test (quot w v)) _ _ _ _ (fun i => funext fun a => a.elim0) h i
  exact e1

theorem fn_eq : Cert.Pre_x_in_range.fn (F := Ideal) x0 x1
    = Cert.Pre_x_in_range.fn_part1 (F := Ideal) (val_main_v16 (F := Ideal) x1) (val_main_v18 (F := Ideal) x0) := by
  unfold val_main_v18 val_main_v17 val_main_v16 val_main_v15 val_main_v14 val_main_v13 val_main_v12 val_main_v11
    val_main_cst_2 val_main_call0_v1 val_main_call0_v0 val_main_cst_1 val_main_cst val_main_v10 val_main_v9 val_main_v8
    val_main_v7 val_main_v6 val_main_v5 val_main_v4 val_main_v3 val_main_v2 val_main_v1 val_main_v0 val_main_c val_main_c_0
  rfl

/-- THE PRECONDITION, read: the quotient of every block is zero or in range. -/
theorem pre_read (h : Cert.Pre_x_in_range.fn (F := Ideal) x0 x1 = fun _ => 1#1) (g c : ℕ) (hg : g < 1536) (hc : c < 2048) :
    InRange (amax (zN (xAt x0) (sAt x1) g c) * inv6) := by
  rw [fn_eq] at h
  have e1 := part_read _ _ h (ValueIdx.ix2 ⟨g, hg⟩ ⟨c, hc⟩)
  rw [quot_eq, test_apply] at e1
  have hq : val_main_v24 (F := Ideal) x0 x1 (ValueIdx.ix2 ⟨g, hg⟩ ⟨c, hc⟩) = amax (zN (xAt x0) (sAt x1) g c) * inv6 := by
    rw [val_main_v24_apply, amax_apply]
    rfl
  rw [hq] at e1
  generalize amax (zN (xAt x0) (sAt x1) g c) * inv6 = q at e1
  have lo : Ideal.ofBits .f32 0x00800000#32 = (((2 : ℝ) ^ (-126 : ℤ) : ℝ) : EReal) :=
    f32_normal _ 1 0 (by decide) (by decide) (by decide) (by decide) (by decide) _ (two_zpow 1)
  have hi : Ideal.ofBits .f32 0x7E800000#32 = (((2 : ℝ) ^ (126 : ℤ) : ℝ) : EReal) :=
    f32_normal _ 253 0 (by decide) (by decide) (by decide) (by decide) (by decide) _ (two_zpow 253)
  have h3 : ∀ p q r : Bool, IntOp.ori (BitVec.ofBool p) (IntOp.andi (BitVec.ofBool q) (BitVec.ofBool r)) = 1#1 →
      p = true ∨ (q = true ∧ r = true) := by unfold IntOp.ori IntOp.andi; decide
  rw [ofBits_zero, lo, hi] at e1
  rcases h3 _ _ _ e1 with h0 | ⟨h1, h2⟩
  · exact Or.inl (of_decide_eq_true h0)
  · have h1 := of_decide_eq_true h1
    have h2 := of_decide_eq_true h2
    induction q with
    | bot => exact absurd h1 (not_le.mpr (EReal.bot_lt_coe _))
    | top => exact absurd h2 (not_lt.mpr le_top)
    | coe r => exact Or.inr ⟨r, rfl, EReal.coe_le_coe_iff.mp h1, EReal.coe_lt_coe_iff.mp h2⟩

end Cert.Proof.XRef

end
-- ==== Proof.XClaim.lean ====
/-
  `quant_x` against its reference: where every block of rotated values is zero or within the range of normal scales, the
  codes and the block scales the kernel leaves are the reference's.
-/
module

public import proofs.«01_k».proof.Defs
public import proofs.«01_k».proof.Proof.XValueIdeal
public import proofs.«01_k».proof.Proof.XRef
public import proofs.«01_k».proof.Proof.Gen.QuantXRefIdeal.Run
public import proofs.«01_k».proof.Proof.Gen.QuantXRefIdeal.Read
public import proofs.«01_k».proof.Proof.Gen.Pre_x_in_range
public import Idealize.ShloMosaic.Lib.Quiescent

@[expose] public section
set_option maxRecDepth 8192

noncomputable section

namespace Cert.Proof.XClaim

open Cert.QuantXIdeal Cert.QuantXIdeal.Gen Cert.Proof.QuantXIdeal Cert.Proof.XSpec Cert.Proof.XExp Cert.Proof.XNibble
open Idealize.ShloMosaic Idealize.ShloMosaic.TcCoe Idealize.SL.Sem

variable (m : (ℓ : Loc nD τ sig) → Buf (Elt Ideal) ℓ)

/-- THE EQUATIONS: the codes the kernel leaves are the reference's, -/
theorem codes_eq_ref (c : Dev nD)
    (h : ∀ g r : ℕ, g < 1536 → r < 2048 → InRange (amax (zN (xAt (xArg m c)) (sAt (sArg m c)) g r) * inv6)) :
    codesArr m c = Cert.QuantXRefIdeal.Read.val_main_v92 (F := Ideal) (xArg m c) (sArg m c) := by
  funext i
  have hi0 : (i 0).val < 2048 := (i 0).isLt
  have hi1 : (i 1).val < 24576 := (i 1).isLt
  refine Eq.trans ?_ (Cert.Proof.XRef.codes_apply (xArg m c) (sArg m c) i).symm
  have hb := (block (zB (xAt (xArg m c)) (sAt (sArg m c)) ((i 1).val / 16) (i 0).val)
    (h ((i 1).val / 16) (i 0).val (by omega) hi0)).2
  unfold codesArr
  rw [hb, hb]
  rfl
/-- and so are the block scales. -/
theorem scales_eq_ref (c : Dev nD)
    (h : ∀ g r : ℕ, g < 1536 → r < 2048 → InRange (amax (zN (xAt (xArg m c)) (sAt (sArg m c)) g r) * inv6)) :
    scalesArr m c = Cert.QuantXRefIdeal.Read.val_main_v96 (F := Ideal) (xArg m c) (sArg m c) := by
  funext i
  have hi0 : (i 0).val < 2048 := (i 0).isLt
  have hi1 : (i 1).val < 1536 := (i 1).isLt
  refine Eq.trans ?_ (Cert.Proof.XRef.scales_apply (xArg m c) (sArg m c) i).symm
  have hb := (block (zB (xAt (xArg m c)) (sAt (sArg m c)) (i 1).val (i 0).val) (h (i 1).val (i 0).val hi1 hi0)).1
  unfold scalesArr
  rw [hb]
  rfl

/-- What the kernel's program leaves: both result arrays, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v26_0) = codesArr m c
      ∧ r.2.mem ((c.tc : Thread nD τ).loc main_v26_1) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
      (((dats m 0 c).toRForget_arrAt_iff (w := 2) (fgt := fgt) (by decide) _ _).mp ((h.1 c).1 2)).trans (final2 m c),
      (((dats m 0 c).toRForget_arrAt_iff (w := 3) (fgt := fgt) (by decide) _ _).mp ((h.1 c).1 3)).trans (final3 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_main_quiescent m ρ)

/-- The claim: both run, and end with equal codes and equal block scales, arguments unchanged. -/
theorem algebraic : Cert.algebraic_QuantXIdeal_QuantXRefIdeal_pre_x_in_range (hQuantXIdeal := Cert.QuantXIdeal.Gen.facts)
    (hQuantXRefIdeal := Cert.QuantXRefIdeal.Gen.facts) (hPre_x_in_range := Cert.Pre_x_in_range.Gen.facts) := by
  intro m g m' g' hpre hargs
  refine ⟨fun c => codesArr m c, fun c => scalesArr m c, run m g, ?_⟩
  refine (θ_run _ _ _).mono (fun r h c => ?_) (Cert.QuantXRefIdeal.Value.run m' g')
  obtain ⟨h0, h1, h2, h3⟩ := h c
  obtain ⟨a0, a1⟩ := hargs c
  have hin := Cert.Proof.XRef.pre_read (xArg m c) (sArg m c) (hpre c)
  refine ⟨h0.trans ((Cert.QuantXRefIdeal.Read.val_main_v92_eq _).trans ?_),
    h1.trans ((Cert.QuantXRefIdeal.Read.val_main_v96_eq _).trans ?_), h2, h3⟩
  · have key : ∀ (y0 : S8x6144x2048.Idx → EReal) (y1 : S32.Idx → EReal), y0 = xArg m c → y1 = sArg m c →
        Cert.QuantXRefIdeal.Read.val_main_v92 (F := Ideal) y0 y1 = codesArr m c := by
      rintro _ _ rfl rfl
      exact (codes_eq_ref m c hin).symm
    exact key _ _ a0 a1
  · have key : ∀ (y0 : S8x6144x2048.Idx → EReal) (y1 : S32.Idx → EReal), y0 = xArg m c → y1 = sArg m c →
        Cert.QuantXRefIdeal.Read.val_main_v96 (F := Ideal) y0 y1 = scalesArr m c := by
      rintro _ _ rfl rfl
      exact (scales_eq_ref m c hin).symm
    exact key _ _ a0 a1

/-- The reference's frame: its run leaves the arguments, and a program with no semaphore has no counter. -/
theorem ref_frame : Cert.quiescent_QuantXRefIdeal (hQuantXRefIdeal := Cert.QuantXRefIdeal.Gen.facts) := fun m g _ =>
  (θ_run _ _ _).mono (fun _ h => ⟨fun c => (h c).2.2, sem_eq_zero_of_no_sems (by decide) _⟩) (Cert.QuantXRefIdeal.Value.run m g)

end Cert.Proof.XClaim

end
-- ==== Proof.DTrip.lean ====
module

public import proofs.«01_k».proof.Proof.Gen.QuantDy
public import proofs.«01_k».proof.Proof.Gen.QuantDy.Skeleton
public import proofs.«01_k».proof.Proof.Gen.QuantDy.Loops
public import proofs.«01_k».proof.Proof.Gen.QuantDy.Launch
public import proofs.«01_k».proof.Proof.Gen.QuantDy.Points
public import proofs.«01_k».proof.Proof.Gen.QuantDy.Frame

@[expose] public section

set_option maxRecDepth 8192
set_option maxHeartbeats 4000000

noncomputable section

namespace Cert.Proof.QuantDy

open Cert.QuantDy Cert.QuantDy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

def trip (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    Σ' (L5 : List (View.Piece (Elt F) S256x2048 .i8)),
      { L13 : List (View.Piece (Elt F) S128x256 .i32) // ∀ (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 v0 k PUnit.unit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} arg5.view.writes (Elt F) f5 L5) ∗ (arg13.view.loc (c : Thread nD τ) ↦[arg13.view.set]{fullShare} arg13.view.writes (Elt F) f13 L13) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) } := by
  have hk : k.val < 16 := Nat.lt_of_lt_of_le k.isLt k0_t1_abs.2.1
  refine ⟨?_, ?_, fun f5 f7 f8 f9 f10 f11 f12 f13 => ?run⟩
  case run =>
    by_cases h2 : k0_cond2 i k = 1#1 <;> by_cases h3 : k0_cond3 i k = 1#1
    all_goals
      unfold k0_t1_body
      iintro ⟨H2, H3, H4, H5, H7, H8, H9, H10, H11, H12, H13⟩
      sl_exec
      sl_step
      isplitl [H2]; · iexact H2
      isplitl [H3]; · iexact H3
      isplitl [H4]; · iexact H4
      isplitl [H5]; · iexact H5
      isplitl [H13]; · iexact H13
      isplitl [H7]; · iexists _; iexact H7
      isplitl [H8]; · iexists _; iexact H8
      isplitl [H9]; · iexists _; iexact H9
      isplitl [H10]; · iexists _; iexact H10
      isplitl [H11]; · iexists _; iexact H11
      iexists _; iexact H12

/-- The pieces of the codes window that the trips before `n` stored, last first. -/
def pcs5 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) : ℕ → List (View.Piece (Elt F) S256x2048 .i8)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 arg13 harg13 v0 X2 X3 X4 ⟨n, h⟩).1 else []) ++ pcs5 c i arg2 harg2 arg3 harg3 arg4 harg4 arg5 harg5 arg6 harg6 arg7 harg7 arg8 harg8 arg9 harg9 arg10 harg10 arg11 harg11 arg12 harg12 arg13 harg13 v0 X2 X3 X4 n

/-- The pieces of the exponent scratch that the trips before `n` stored, last first. -/
def pcs13 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) : ℕ → List (View.Piece (Elt F) S128x256 .i32)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 arg13 harg13 v0 X2 X3 X4 ⟨n, h⟩).2.1 else []) ++ pcs13 c i arg2 harg2 arg3 harg3 arg4 harg4 arg5 harg5 arg6 harg6 arg7 harg7 arg8 harg8 arg9 harg9 arg10 harg10 arg11 harg11 arg12 harg12 arg13 harg13 v0 X2 X3 X4 n

theorem pcs5_succ (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    pcs5 (F := F) c i arg2 harg2 arg3 harg3 arg4 harg4 arg5 harg5 arg6 harg6 arg7 harg7 arg8 harg8 arg9 harg9 arg10 harg10 arg11 harg11 arg12 harg12 arg13 harg13 v0 X2 X3 X4 (k.val + 1) = (trip (F := F) c i arg2 harg2 arg3 harg3 arg4 harg4 arg5 harg5 arg6 harg6 arg7 harg7 arg8 harg8 arg9 harg9 arg10 harg10 arg11 harg11 arg12 harg12 arg13 harg13 v0 X2 X3 X4 k).1 ++ pcs5 c i arg2 harg2 arg3 harg3 arg4 harg4 arg5 harg5 arg6 harg6 arg7 harg7 arg8 harg8 arg9 harg9 arg10 harg10 arg11 harg11 arg12 harg12 arg13 harg13 v0 X2 X3 X4 k.val := by
  rw [pcs5, dif_pos k.isLt]

theorem pcs13_succ (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    pcs13 (F := F) c i arg2 harg2 arg3 harg3 arg4 harg4 arg5 harg5 arg6 harg6 arg7 harg7 arg8 harg8 arg9 harg9 arg10 harg10 arg11 harg11 arg12 harg12 arg13 harg13 v0 X2 X3 X4 (k.val + 1) = (trip (F := F) c i arg2 harg2 arg3 harg3 arg4 harg4 arg5 harg5 arg6 harg6 arg7 harg7 arg8 harg8 arg9 harg9 arg10 harg10 arg11 harg11 arg12 harg12 arg13 harg13 v0 X2 X3 X4 k).2.1 ++ pcs13 c i arg2 harg2 arg3 harg3 arg4 harg4 arg5 harg5 arg6 harg6 arg7 harg7 arg8 harg8 arg9 harg9 arg10 harg10 arg11 harg11 arg12 harg12 arg13 harg13 v0 X2 X3 X4 k.val := by
  rw [pcs13, dif_pos k.isLt]

/-- The invariant before trip `k`: the operands as they are, the codes window and the exponent scratch with what the trips
    before `k` stored over what they held, everything else at anything. -/
abbrev inv (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (G5 : BufTy.Contents (Elt F) arg5.view.ty) (G13 : BufTy.Contents (Elt F) arg13.view.ty) (k : ℕ) (_ : PUnit) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (pcs5 (F := F) c i arg2 harg2 arg3 harg3 arg4 harg4 arg5 harg5 arg6 harg6 arg7 harg7 arg8 harg8 arg9 harg9 arg10 harg10 arg11 harg11 arg12 harg12 arg13 harg13 v0 X2 X3 X4 k)⌝)
    ∗ (∃ f, (arg13.view.loc (c : Thread nD τ) ↦[arg13.view.set]{fullShare} f) ∗ ⌜f = arg13.view.writes (Elt F) G13 (pcs13 (F := F) c i arg2 harg2 arg3 harg3 arg4 harg4 arg5 harg5 arg6 harg6 arg7 harg7 arg8 harg8 arg9 harg9 arg10 harg10 arg11 harg11 arg12 harg12 arg13 harg13 v0 X2 X3 X4 k)⌝)
    ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))

set_option warn.classDefReducibility false in
/-- The loop keeps its invariant. -/
@[sl_loop] def loopInv (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (G5 : BufTy.Contents (Elt F) arg5.view.ty) (G13 : BufTy.Contents (Elt F) arg13.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 v0 where
  inv := inv (F := F) c i arg2 harg2 arg3 harg3 arg4 harg4 arg5 harg5 arg6 harg6 arg7 harg7 arg8 harg8 arg9 harg9 arg10 harg10 arg11 harg11 arg12 harg12 arg13 harg13 v0 X2 X3 X4 G5 G13
  step k acc := by
    iintro ⟨H2, H3, H4, ⟨%f5, H5, %h5⟩, ⟨%f13, H13, %h13⟩, ⟨%f7, H7⟩, ⟨%f8, H8⟩, ⟨%f9, H9⟩, ⟨%f10, H10⟩, ⟨%f11, H11⟩, ⟨%f12, H12⟩⟩
    iapply (wp_wand_r Idealize.ShloMosaic.frame (wpE (defs₀ (F := F)) 𝒱₀ (c : Thread nD τ) none) Set.univ)
    isplitl [H2 H3 H4 H5 H7 H8 H9 H10 H11 H12 H13]
    · iapply ((trip (F := F) c i arg2 harg2 arg3 harg3 arg4 harg4 arg5 harg5 arg6 harg6 arg7 harg7 arg8 harg8 arg9 harg9 arg10 harg10 arg11 harg11 arg12 harg12 arg13 harg13 v0 X2 X3 X4 k).2.2 f5 f7 f8 f9 f10 f11 f12 f13)
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      iexact H13
    · iintro %_ ⟨H2, H3, H4, H5, H13, H7, H8, H9, H10, H11, H12⟩
      isplitl [H2]; · iexact H2
      isplitl [H3]; · iexact H3
      isplitl [H4]; · iexact H4
      rw [pcs5_succ, pcs13_succ]
      isplitl [H5]
      · iexists _; isplitl [H5]; · iexact H5
        ipureintro; rw [h5, ← View.writes_append]
      isplitl [H13]
      · iexists _; isplitl [H13]; · iexact H13
        ipureintro; rw [h13, ← View.writes_append]
      isplitl [H7]; · iexact H7
      isplitl [H8]; · iexact H8
      isplitl [H9]; · iexact H9
      isplitl [H10]; · iexact H10
      isplitl [H11]; · iexact H11
      iexact H12

/-- The whole body at a grid point: the operands end as they were, the codes window with the trips' stores, the scales
    window with two stores of what the exponent scratch then holds, the rest at anything. -/
def bodyRun (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (X2 : BufTy.Contents (Elt F) arg2.view.ty) (X3 : BufTy.Contents (Elt F) arg3.view.ty) (X4 : BufTy.Contents (Elt F) arg4.view.ty) :
    { L6 : List (View.Piece (Elt F) S256x128 .i8) // ∀ (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) 𝒱₀ (c : Thread nD τ) none) Set.univ (cc0_quant_dy (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} arg5.view.writes (Elt F) f5 (pcs5 (F := F) c i arg2 harg2 arg3 harg3 arg4 harg4 arg5 harg5 arg6 harg6 arg7 harg7 arg8 harg8 arg9 harg9 arg10 harg10 arg11 harg11 arg12 harg12 arg13 harg13 (Scalar.cmpi .eq (BitVec.ofNat 32 (i 1).val) 0#32) X2 X3 X4 k0_t1_loop.trips))
            ∗ (arg6.view.loc (c : Thread nD τ) ↦[arg6.view.set]{fullShare} arg6.view.writes (Elt F) f6 L6)
            ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) } := by
  refine ⟨?_, fun f5 f6 f7 f8 f9 f10 f11 f12 f13 => ?run⟩
  case run =>
    rw [cc0_quant_dy_eq_skeleton]
    by_cases h1 : Scalar.cmpi .ne (Scalar.extui (Scalar.cmpi .eq (BitVec.ofNat 32 (i 1).val) 0#32) : BitVec 32) 0#32 = 1#1
    all_goals
      unfold cc0_quant_dy_skel
      iintro ⟨H2, H3, H4, H5, H6, H7, H8, H9, H10, H11, H12, H13⟩
      sl_exec
      sl_step
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13

end Cert.Proof.QuantDy

end
-- ==== Proof.DRun.lean ====
module

public import proofs.«01_k».proof.Proof.DTrip
public import proofs.«01_k».proof.Proof.Gen.QuantDy.Frame
public import Idealize.ShloMosaic.Lib.Pipeline.Frame

@[expose] public section
set_option maxRecDepth 16384
set_option maxHeartbeats 4000000

noncomputable section

namespace Cert.Proof.QuantDy

open Cert.QuantDy Cert.QuantDy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The proof data of the pipeline: the inputs' buffers keep their blocks; nothing is said of the other windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (fun _ => 0#8 : S256x2048.Idx → BitVec 8)
    | ⟨4, _⟩ => (fun _ => 0#8 : S256x128.Idx → BitVec 8)
    | ⟨5, _⟩ => iblk m c 5 t
    | ⟨6, _⟩ => iblk m c 6 t
    | ⟨7, _⟩ => iblk m c 7 t
  Φ _ := Pipeline.ΦA spec0 c
  q _ := fullShare
  owed _ := 0

/-- The windows of which nothing is said. -/
def fgt : Fin cfg0.W → Bool := fun w => decide (3 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X))

theorem whole_pt (c : Dev nD) (b : Ref sig .tc) (f : Buf (Elt F) ((c : Thread nD τ).loc b)) :
    (((Memref.whole b).view.loc (c : Thread nD τ) ↦[(Memref.whole b).view.set]{fullShare} f : sProp (MT nD τ sig Unit (Elt F) ℕ (UR sig nD τ) ℕ))) = (((c : Thread nD τ).loc b) ↦{fullShare} f) := by
  simp only [View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, show (dats m 0 c).Φ t.castSucc = Pipeline.ΦA spec0 c from rfl]
  unfold Pipeline.ΦA
  rw [scopedRest0_eq]
  unfold owns
  iintro ⟨⟨⟨⟨%s0, S0⟩, ⟨%s1, S1⟩, ⟨%s2, S2⟩, ⟨%s3, S3⟩⟩, HP⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  have hb := (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2).2 f3 f4 f5 f6 f7 s0 s1 s2 s3
  iapply (wp_wand_r frame _ Set.univ)
  isplitl [H0 H1 H2 H3 H4 H5 H6 H7 S0 S1 S2 S3]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · rw [whole_pt]; iexact S0
    isplitl [S1]; · rw [whole_pt]; iexact S1
    isplitl [S2]; · rw [whole_pt]; iexact S2
    rw [whole_pt]; iexact S3
  iintro %_ ⟨H0, H1, H2, H3, H4, ⟨%g5, H5⟩, ⟨%g6, H6⟩, ⟨%g7, H7⟩, ⟨%e0, S0⟩, ⟨%e1, S1⟩, ⟨%e2, S2⟩, ⟨%e3, S3⟩⟩
  isplitl [S0 S1 S2 S3 HP]
  · isplitl [S0 S1 S2 S3]
    · isplitl [S0]; · iexists e0; rw [← whole_pt]; iexact S0
      isplitl [S1]; · iexists e1; rw [← whole_pt]; iexact S1
      isplitl [S2]; · iexists e2; rw [← whole_pt]; iexact S2
      iexists e3; rw [← whole_pt]; iexact S3
    · iexact HP
  isplitl [Ho]; · iexact Ho
  isplitl [H0]
  · iexists f0; isplitr
    swap; · iexact H0
    ipureintro; exact h0
  isplitl [H1]
  · iexists f1; isplitr
    swap; · iexact H1
    ipureintro; exact h1
  isplitl [H2]
  · iexists f2; isplitr
    swap; · iexact H2
    ipureintro; exact h2
  isplitl [H3]
  · iexists _, _; isplitr
    swap; · iexact H3
    ipureintro; rfl
  isplitl [H4]
  · iexists _, _; isplitr
    swap; · iexact H4
    ipureintro; rfl
  isplitl [H5]
  · iexists _, g5; isplitr
    swap; · iexact H5
    ipureintro; rfl
  isplitl [H6]
  · iexists _, g6; isplitr
    swap; · iexact H6
    ipureintro; rfl
  · iexists _, g7; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run of the whole program: what the library computes from the proof data, and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program ends, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Proof.QuantDy

end
-- ==== Proof.DTripIdeal.lean ====
module

public import proofs.«01_k».proof.Proof.Gen.QuantDyIdeal
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.QuantDyIdeal.Frame

@[expose] public section

set_option maxRecDepth 8192
set_option maxHeartbeats 4000000

noncomputable section

namespace Cert.Proof.QuantDyIdeal

open Cert.QuantDyIdeal Cert.QuantDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

def trip (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    Σ' (L5 : List (View.Piece (Elt F) S256x2048 .i8)),
      { L13 : List (View.Piece (Elt F) S128x256 .i32) // ∀ (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 v0 k PUnit.unit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} arg5.view.writes (Elt F) f5 L5) ∗ (arg13.view.loc (c : Thread nD τ) ↦[arg13.view.set]{fullShare} arg13.view.writes (Elt F) f13 L13) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) } := by
  have hk : k.val < 16 := Nat.lt_of_lt_of_le k.isLt k0_t1_abs.2.1
  refine ⟨?_, ?_, fun f5 f7 f8 f9 f10 f11 f12 f13 => ?run⟩
  case run =>
    by_cases h2 : k0_cond2 i k = 1#1 <;> by_cases h3 : k0_cond3 i k = 1#1
    all_goals
      unfold k0_t1_body
      iintro ⟨H2, H3, H4, H5, H7, H8, H9, H10, H11, H12, H13⟩
      sl_exec
      sl_step
      isplitl [H2]; · iexact H2
      isplitl [H3]; · iexact H3
      isplitl [H4]; · iexact H4
      isplitl [H5]; · iexact H5
      isplitl [H13]; · iexact H13
      isplitl [H7]; · iexists _; iexact H7
      isplitl [H8]; · iexists _; iexact H8
      isplitl [H9]; · iexists _; iexact H9
      isplitl [H10]; · iexists _; iexact H10
      isplitl [H11]; · iexists _; iexact H11
      iexists _; iexact H12

/-- The pieces of the codes window that the trips before `n` stored, last first. -/
def pcs5 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) : ℕ → List (View.Piece (Elt F) S256x2048 .i8)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 arg13 harg13 v0 X2 X3 X4 ⟨n, h⟩).1 else []) ++ pcs5 c i arg2 harg2 arg3 harg3 arg4 harg4 arg5 harg5 arg6 harg6 arg7 harg7 arg8 harg8 arg9 harg9 arg10 harg10 arg11 harg11 arg12 harg12 arg13 harg13 v0 X2 X3 X4 n

/-- The pieces of the exponent scratch that the trips before `n` stored, last first. -/
def pcs13 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) : ℕ → List (View.Piece (Elt F) S128x256 .i32)
  | 0 => []
  | n + 1 => (if h : n < k0_t1_loop.trips then (trip (F := F) c i arg2 harg2 arg3 harg3 arg4 harg4 arg5 harg5 arg6 harg6 arg7 harg7 arg8 harg8 arg9 harg9 arg10 harg10 arg11 harg11 arg12 harg12 arg13 harg13 v0 X2 X3 X4 ⟨n, h⟩).2.1 else []) ++ pcs13 c i arg2 harg2 arg3 harg3 arg4 harg4 arg5 harg5 arg6 harg6 arg7 harg7 arg8 harg8 arg9 harg9 arg10 harg10 arg11 harg11 arg12 harg12 arg13 harg13 v0 X2 X3 X4 n

theorem pcs5_succ (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    pcs5 (F := F) c i arg2 harg2 arg3 harg3 arg4 harg4 arg5 harg5 arg6 harg6 arg7 harg7 arg8 harg8 arg9 harg9 arg10 harg10 arg11 harg11 arg12 harg12 arg13 harg13 v0 X2 X3 X4 (k.val + 1) = (trip (F := F) c i arg2 harg2 arg3 harg3 arg4 harg4 arg5 harg5 arg6 harg6 arg7 harg7 arg8 harg8 arg9 harg9 arg10 harg10 arg11 harg11 arg12 harg12 arg13 harg13 v0 X2 X3 X4 k).1 ++ pcs5 c i arg2 harg2 arg3 harg3 arg4 harg4 arg5 harg5 arg6 harg6 arg7 harg7 arg8 harg8 arg9 harg9 arg10 harg10 arg11 harg11 arg12 harg12 arg13 harg13 v0 X2 X3 X4 k.val := by
  rw [pcs5, dif_pos k.isLt]

theorem pcs13_succ (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    pcs13 (F := F) c i arg2 harg2 arg3 harg3 arg4 harg4 arg5 harg5 arg6 harg6 arg7 harg7 arg8 harg8 arg9 harg9 arg10 harg10 arg11 harg11 arg12 harg12 arg13 harg13 v0 X2 X3 X4 (k.val + 1) = (trip (F := F) c i arg2 harg2 arg3 harg3 arg4 harg4 arg5 harg5 arg6 harg6 arg7 harg7 arg8 harg8 arg9 harg9 arg10 harg10 arg11 harg11 arg12 harg12 arg13 harg13 v0 X2 X3 X4 k).2.1 ++ pcs13 c i arg2 harg2 arg3 harg3 arg4 harg4 arg5 harg5 arg6 harg6 arg7 harg7 arg8 harg8 arg9 harg9 arg10 harg10 arg11 harg11 arg12 harg12 arg13 harg13 v0 X2 X3 X4 k.val := by
  rw [pcs13, dif_pos k.isLt]

/-- The invariant before trip `k`: the operands as they are, the codes window and the exponent scratch with what the trips
    before `k` stored over what they held, everything else at anything. -/
abbrev inv (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (G5 : BufTy.Contents (Elt F) arg5.view.ty) (G13 : BufTy.Contents (Elt F) arg13.view.ty) (k : ℕ) (_ : PUnit) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (pcs5 (F := F) c i arg2 harg2 arg3 harg3 arg4 harg4 arg5 harg5 arg6 harg6 arg7 harg7 arg8 harg8 arg9 harg9 arg10 harg10 arg11 harg11 arg12 harg12 arg13 harg13 v0 X2 X3 X4 k)⌝)
    ∗ (∃ f, (arg13.view.loc (c : Thread nD τ) ↦[arg13.view.set]{fullShare} f) ∗ ⌜f = arg13.view.writes (Elt F) G13 (pcs13 (F := F) c i arg2 harg2 arg3 harg3 arg4 harg4 arg5 harg5 arg6 harg6 arg7 harg7 arg8 harg8 arg9 harg9 arg10 harg10 arg11 harg11 arg12 harg12 arg13 harg13 v0 X2 X3 X4 k)⌝)
    ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))

set_option warn.classDefReducibility false in
/-- The loop keeps its invariant. -/
@[sl_loop] def loopInv (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (G5 : BufTy.Contents (Elt F) arg5.view.ty) (G13 : BufTy.Contents (Elt F) arg13.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 v0 where
  inv := inv (F := F) c i arg2 harg2 arg3 harg3 arg4 harg4 arg5 harg5 arg6 harg6 arg7 harg7 arg8 harg8 arg9 harg9 arg10 harg10 arg11 harg11 arg12 harg12 arg13 harg13 v0 X2 X3 X4 G5 G13
  step k acc := by
    iintro ⟨H2, H3, H4, ⟨%f5, H5, %h5⟩, ⟨%f13, H13, %h13⟩, ⟨%f7, H7⟩, ⟨%f8, H8⟩, ⟨%f9, H9⟩, ⟨%f10, H10⟩, ⟨%f11, H11⟩, ⟨%f12, H12⟩⟩
    iapply (wp_wand_r Idealize.ShloMosaic.frame (wpE (defs₀ (F := F)) 𝒱₀ (c : Thread nD τ) none) Set.univ)
    isplitl [H2 H3 H4 H5 H7 H8 H9 H10 H11 H12 H13]
    · iapply ((trip (F := F) c i arg2 harg2 arg3 harg3 arg4 harg4 arg5 harg5 arg6 harg6 arg7 harg7 arg8 harg8 arg9 harg9 arg10 harg10 arg11 harg11 arg12 harg12 arg13 harg13 v0 X2 X3 X4 k).2.2 f5 f7 f8 f9 f10 f11 f12 f13)
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      iexact H13
    · iintro %_ ⟨H2, H3, H4, H5, H13, H7, H8, H9, H10, H11, H12⟩
      isplitl [H2]; · iexact H2
      isplitl [H3]; · iexact H3
      isplitl [H4]; · iexact H4
      rw [pcs5_succ, pcs13_succ]
      isplitl [H5]
      · iexists _; isplitl [H5]; · iexact H5
        ipureintro; rw [h5, ← View.writes_append]
      isplitl [H13]
      · iexists _; isplitl [H13]; · iexact H13
        ipureintro; rw [h13, ← View.writes_append]
      isplitl [H7]; · iexact H7
      isplitl [H8]; · iexact H8
      isplitl [H9]; · iexact H9
      isplitl [H10]; · iexact H10
      isplitl [H11]; · iexact H11
      iexact H12

/-- The whole body at a grid point: the operands end as they were, the codes window with the trips' stores, the scales
    window with two stores of what the exponent scratch then holds, the rest at anything. -/
def bodyRun (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (X2 : BufTy.Contents (Elt F) arg2.view.ty) (X3 : BufTy.Contents (Elt F) arg3.view.ty) (X4 : BufTy.Contents (Elt F) arg4.view.ty) :
    { L6 : List (View.Piece (Elt F) S256x128 .i8) // ∀ (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) 𝒱₀ (c : Thread nD τ) none) Set.univ (cc0_quant_dy (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} arg5.view.writes (Elt F) f5 (pcs5 (F := F) c i arg2 harg2 arg3 harg3 arg4 harg4 arg5 harg5 arg6 harg6 arg7 harg7 arg8 harg8 arg9 harg9 arg10 harg10 arg11 harg11 arg12 harg12 arg13 harg13 (Scalar.cmpi .eq (BitVec.ofNat 32 (i 1).val) 0#32) X2 X3 X4 k0_t1_loop.trips))
            ∗ (arg6.view.loc (c : Thread nD τ) ↦[arg6.view.set]{fullShare} arg6.view.writes (Elt F) f6 L6)
            ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) } := by
  refine ⟨?_, fun f5 f6 f7 f8 f9 f10 f11 f12 f13 => ?run⟩
  case run =>
    rw [cc0_quant_dy_eq_skeleton]
    by_cases h1 : Scalar.cmpi .ne (Scalar.extui (Scalar.cmpi .eq (BitVec.ofNat 32 (i 1).val) 0#32) : BitVec 32) 0#32 = 1#1
    all_goals
      unfold cc0_quant_dy_skel
      iintro ⟨H2, H3, H4, H5, H6, H7, H8, H9, H10, H11, H12, H13⟩
      sl_exec
      sl_step
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13

end Cert.Proof.QuantDyIdeal

end
-- ==== Proof.DPureIdeal.lean ====
module

public import proofs.«01_k».proof.Proof.DTripIdeal
public import Idealize.ShloMosaic.Lib.Pipeline.ValueKit

@[expose] public section
set_option maxRecDepth 8192
set_option maxHeartbeats 4000000

noncomputable section

namespace Cert.Proof.QuantDyIdeal

open Cert.QuantDyIdeal Cert.QuantDyIdeal.Gen
open Idealize.ShloMosaic Idealize.ShloMosaic.TcCoe Idealize.ShloMosaic.Tactic

variable {F : FTy → Type} [FloatOps F]

/-- The maxima over the four row groups of each 32-row block that share a row number modulo 8. -/
def pMax (z : FVec F S256x128 .f32) : FVec F S64x128 .f32 :=
  shapeCast S64x128 (shapeCast S64x128 (multiReduction .maximumf [1] S8x8x128 (shapeCast S8x4x8x128 (absf z) shapeCasts_S256x128_S8x4x8x128) 0xFF800000#32 reduces_S8x4x8x128_S8x8x128 (.inl rfl) rfl) shapeCasts_S8x8x128_S64x128) shapeCasts_S64x128_S64x128

/-- The block maxima times the rotation's constant. -/
def pAmax (z : FVec F S256x128 .f32) : FVec F S8x128 .f32 :=
  k0_pay8 (fun y => pMax z (LoadRect.idx { off := ![0, 0], size := S8x128.size, stride := ![8, 1], inb := inb_S64x128_S8x128_0_0_s_8_1 : LoadRect S64x128 } y)) (fun y => pMax z (LoadRect.idx { off := ![1, 0], size := S8x128.size, stride := ![8, 1], inb := inb_S64x128_S8x128_1_0_s_8_1 : LoadRect S64x128 } y)) (fun y => pMax z (LoadRect.idx { off := ![2, 0], size := S8x128.size, stride := ![8, 1], inb := inb_S64x128_S8x128_2_0_s_8_1 : LoadRect S64x128 } y)) (fun y => pMax z (LoadRect.idx { off := ![3, 0], size := S8x128.size, stride := ![8, 1], inb := inb_S64x128_S8x128_3_0_s_8_1 : LoadRect S64x128 } y)) (fun y => pMax z (LoadRect.idx { off := ![4, 0], size := S8x128.size, stride := ![8, 1], inb := inb_S64x128_S8x128_4_0_s_8_1 : LoadRect S64x128 } y)) (fun y => pMax z (LoadRect.idx { off := ![5, 0], size := S8x128.size, stride := ![8, 1], inb := inb_S64x128_S8x128_5_0_s_8_1 : LoadRect S64x128 } y)) (fun y => pMax z (LoadRect.idx { off := ![6, 0], size := S8x128.size, stride := ![8, 1], inb := inb_S64x128_S8x128_6_0_s_8_1 : LoadRect S64x128 } y)) (fun y => pMax z (LoadRect.idx { off := ![7, 0], size := S8x128.size, stride := ![8, 1], inb := inb_S64x128_S8x128_7_0_s_8_1 : LoadRect S64x128 } y))

/-- The exponents the field search gives for block maxima `a`. -/
def pExp (a : FVec F S8x128 .f32) : IVec S8x128 32 := k0_pay12 (k0_pay9 a) (k0_pay10 a) (k0_pay11 a)

/-- A row of the factors. -/
def pRow (s : FVec F S8x128 .f32) (r : Rect S8x128) : r.shape.Idx → F .f32 := fun y => s (r.toLoadRect.idx y)

/-- The scaled and clipped values: block `g` of `z` times row `g` of `s`. -/
def pU (z : FVec F S256x128 .f32) (s : FVec F S8x128 .f32) : FVec F S256x128 .f32 :=
  k0_pay27 z (k0_pay22 z (pRow s (Rect.unit ![0, 0] S1x128.size inb_S8x128_S1x128_0_0))) (k0_pay23 z (pRow s (Rect.unit ![1, 0] S1x128.size inb_S8x128_S1x128_1_0))) (k0_pay24 z (pRow s (Rect.unit ![2, 0] S1x128.size inb_S8x128_S1x128_2_0))) (k0_pay25 z (pRow s (Rect.unit ![3, 0] S1x128.size inb_S8x128_S1x128_3_0))) (k0_pay26 z) (pRow s (Rect.unit ![4, 0] S1x128.size inb_S8x128_S1x128_4_0)) (pRow s (Rect.unit ![5, 0] S1x128.size inb_S8x128_S1x128_5_0)) (pRow s (Rect.unit ![6, 0] S1x128.size inb_S8x128_S1x128_6_0)) (pRow s (Rect.unit ![7, 0] S1x128.size inb_S8x128_S1x128_7_0))

/-- How many thresholds the magnitude passes, plus eight below zero. -/
def pCnt (v239 : FVec F S256x128 .f32) : IVec S256x128 32 :=
  have v240 : FVec F S256x128 .f32 := absf v239
  have cst_101 : F .f32 := Scalar.ofBits .f32 0x3E800000#32
  have v241 : FVec F S256x128 .f32 := broadcast S256x128 cst_101
  have v242 : IVec S256x128 1 := cmpf .ogt v240 v241
  have v243 : IVec S256x128 32 := extui 32 v242 natLt_1_32
  have cst_102 : F .f32 := Scalar.ofBits .f32 0x3F400000#32
  have v244 : FVec F S256x128 .f32 := broadcast S256x128 cst_102
  have v245 : IVec S256x128 1 := cmpf .oge v240 v244
  have v246 : IVec S256x128 32 := extui 32 v245 natLt_1_32
  have v247 : IVec S256x128 32 := addi v243 v246
  have cst_103 : F .f32 := Scalar.ofBits .f32 0x3FA00000#32
  have v248 : FVec F S256x128 .f32 := broadcast S256x128 cst_103
  have v249 : IVec S256x128 1 := cmpf .ogt v240 v248
  have v250 : IVec S256x128 32 := extui 32 v249 natLt_1_32
  have v251 : IVec S256x128 32 := addi v247 v250
  have cst_104 : F .f32 := Scalar.ofBits .f32 0x3FE00000#32
  have v252 : FVec F S256x128 .f32 := broadcast S256x128 cst_104
  have v253 : IVec S256x128 1 := cmpf .oge v240 v252
  have v254 : IVec S256x128 32 := extui 32 v253 natLt_1_32
  have v255 : IVec S256x128 32 := addi v251 v254
  have cst_105 : F .f32 := Scalar.ofBits .f32 0x40200000#32
  have v256 : FVec F S256x128 .f32 := broadcast S256x128 cst_105
  have v257 : IVec S256x128 1 := cmpf .ogt v240 v256
  have v258 : IVec S256x128 32 := extui 32 v257 natLt_1_32
  have v259 : IVec S256x128 32 := addi v255 v258
  have cst_106 : F .f32 := Scalar.ofBits .f32 0x40600000#32
  have v260 : FVec F S256x128 .f32 := broadcast S256x128 cst_106
  have v261 : IVec S256x128 1 := cmpf .oge v240 v260
  have v262 : IVec S256x128 32 := extui 32 v261 natLt_1_32
  have v263 : IVec S256x128 32 := addi v259 v262
  have cst_107 : F .f32 := Scalar.ofBits .f32 0x40A00000#32
  have v264 : FVec F S256x128 .f32 := broadcast S256x128 cst_107
  have v265 : IVec S256x128 1 := cmpf .ogt v240 v264
  have v266 : IVec S256x128 32 := extui 32 v265 natLt_1_32
  have v267 : IVec S256x128 32 := addi v263 v266
  have cst_108 : F .f32 := Scalar.ofBits .f32 0x00000000#32
  have v268 : FVec F S256x128 .f32 := broadcast S256x128 cst_108
  have v269 : IVec S256x128 1 := cmpf .olt v239 v268
  have v270 : IVec S256x128 32 := broadcast S256x128 8#32
  have v271 : IVec S256x128 32 := addi v267 v270
  have v272 : IVec S256x128 32 := select v269 v271 v267
  v272

/-- Eight rows of nibbles packed into a row of words. -/
def pPack (v273 : IVec S32x8x128 32) : IVec S32x128 32 :=
  have v274 : IVec S32x1x128 32 := extractStridedSlice S32x1x128 ![0, 0, 0] v273 slices_S32x8x128_o0_0_0_S32x1x128
  have v275 : IVec S32x128 32 := shapeCast S32x128 v274 shapeCasts_S32x1x128_S32x128
  have v276 : IVec S32x1x128 32 := extractStridedSlice S32x1x128 ![0, 1, 0] v273 slices_S32x8x128_o0_1_0_S32x1x128
  have v277 : IVec S32x128 32 := shapeCast S32x128 v276 shapeCasts_S32x1x128_S32x128
  have v278 : IVec S32x128 32 := broadcast S32x128 4#32
  have v279 : IVec S32x128 32 := shli v277 v278
  have v280 : IVec S32x128 32 := ori v275 v279
  have v281 : IVec S32x1x128 32 := extractStridedSlice S32x1x128 ![0, 2, 0] v273 slices_S32x8x128_o0_2_0_S32x1x128
  have v282 : IVec S32x128 32 := shapeCast S32x128 v281 shapeCasts_S32x1x128_S32x128
  have v283 : IVec S32x128 32 := broadcast S32x128 8#32
  have v284 : IVec S32x128 32 := shli v282 v283
  have v285 : IVec S32x128 32 := ori v280 v284
  have v286 : IVec S32x1x128 32 := extractStridedSlice S32x1x128 ![0, 3, 0] v273 slices_S32x8x128_o0_3_0_S32x1x128
  have v287 : IVec S32x128 32 := shapeCast S32x128 v286 shapeCasts_S32x1x128_S32x128
  have v288 : IVec S32x128 32 := broadcast S32x128 12#32
  have v289 : IVec S32x128 32 := shli v287 v288
  have v290 : IVec S32x128 32 := ori v285 v289
  have v291 : IVec S32x1x128 32 := extractStridedSlice S32x1x128 ![0, 4, 0] v273 slices_S32x8x128_o0_4_0_S32x1x128
  have v292 : IVec S32x128 32 := shapeCast S32x128 v291 shapeCasts_S32x1x128_S32x128
  have v293 : IVec S32x128 32 := broadcast S32x128 16#32
  have v294 : IVec S32x128 32 := shli v292 v293
  have v295 : IVec S32x128 32 := ori v290 v294
  have v296 : IVec S32x1x128 32 := extractStridedSlice S32x1x128 ![0, 5, 0] v273 slices_S32x8x128_o0_5_0_S32x1x128
  have v297 : IVec S32x128 32 := shapeCast S32x128 v296 shapeCasts_S32x1x128_S32x128
  have v298 : IVec S32x128 32 := broadcast S32x128 20#32
  have v299 : IVec S32x128 32 := shli v297 v298
  have v300 : IVec S32x128 32 := ori v295 v299
  have v301 : IVec S32x1x128 32 := extractStridedSlice S32x1x128 ![0, 6, 0] v273 slices_S32x8x128_o0_6_0_S32x1x128
  have v302 : IVec S32x128 32 := shapeCast S32x128 v301 shapeCasts_S32x1x128_S32x128
  have v303 : IVec S32x128 32 := broadcast S32x128 24#32
  have v304 : IVec S32x128 32 := shli v302 v303
  have v305 : IVec S32x128 32 := ori v300 v304
  have v306 : IVec S32x1x128 32 := extractStridedSlice S32x1x128 ![0, 7, 0] v273 slices_S32x8x128_o0_7_0_S32x1x128
  have v307 : IVec S32x128 32 := shapeCast S32x128 v306 shapeCasts_S32x1x128_S32x128
  have v308 : IVec S32x128 32 := broadcast S32x128 28#32
  have v309 : IVec S32x128 32 := shli v307 v308
  have v310 : IVec S32x128 32 := ori v305 v309
  v310

/-- A magnitude plus the larger of it and one. -/
def pW (u : FVec F S256x128 .f32) : FVec F S256x128 .f32 :=
  addf (absf u) (maximumf (absf u) (broadcast S256x128 (Scalar.ofBits .f32 0x3F800000#32)))

/-- The float bits of that sum, rounded up, less the kernel's offset. -/
def pBits (u : FVec F S256x128 .f32) : IVec S256x128 32 := k0_pay34 (pW u) (k0_pay32 (pW u) k0_pay30 k0_pay31) k0_pay33

/-- The magnitude codes, rounded by the random bytes. -/
def pMag (u : FVec F S256x128 .f32) (rnd : IVec S256x128 8) : IVec S256x128 32 :=
  andi (shrui (subi (shrui (pBits u) (broadcast S256x128 14#32)) (extui 32 rnd natLt_8_32)) (broadcast S256x128 8#32)) (broadcast S256x128 15#32)

/-- The packed magnitudes, with the sign of each value whose magnitude is not zero. -/
def pSign (m s : IVec S32x128 32) : IVec S32x128 32 :=
  ori m (andi (andi s (addi m (broadcast S32x128 2004318071#32))) (broadcast S32x128 2290649224#32))

/-- The codes of a panel, transposed. -/
def pCodes (u : FVec F S256x128 .f32) (rnd : IVec S256x128 8) : IVec S128x128 8 :=
  transpose S128x128 [1, 0] (bitcast S128x128 8 (pSign (pPack (shapeCast S32x8x128 (pMag u rnd) shapeCasts_S256x128_S32x8x128)) (pPack (shapeCast S32x8x128 (pCnt u) shapeCasts_S256x128_S32x8x128))) bitcasts_S32x128_w32_S128x128_w8) transposes_S128x128_p1_0_S128x128

/-- The exponents of a panel. -/
def pE (z : FVec F S256x128 .f32) : IVec S8x128 32 := pExp (pAmax z)

/-- The codes of a panel from its rotated rows and its random bytes. -/
def pC (z : FVec F S256x128 .f32) (rnd : IVec S256x128 8) : IVec S128x128 8 := pCodes (pU z (k0_pay19 (pE z))) rnd

theorem r_2_eq (arg2 : Memref sig .tc .vmem S4096x256 .bf16) (arg4 : Memref sig .tc .vmem S256x256 .bf16) (arg10 : Memref sig .tc .vmem S64x128 .f32) (X2 : BufTy.Contents (Elt F) arg2.view.ty) (X4 : BufTy.Contents (Elt F) arg4.view.ty) (k : Fin k0_t1_loop.trips) : trip.sl.r_2 (F := F) arg2 arg4 arg10 X2 X4 k = pAmax (trip.sl.r_1 arg2 arg4 X2 X4 k) := by
  unfold trip.sl.r_2 trip.sl.v28 trip.sl.v29 trip.sl.v31 trip.sl.v33 trip.sl.v35 trip.sl.v37 trip.sl.v39 trip.sl.v41 trip.sl.H10_1
  simp (disch := decide) only [View.readCov_eq_canon', View.canon_cons_unit_lit']
  rfl

theorem r_6_eq (arg2 : Memref sig .tc .vmem S4096x256 .bf16) (arg4 : Memref sig .tc .vmem S256x256 .bf16) (arg10 : Memref sig .tc .vmem S64x128 .f32) (X2 : BufTy.Contents (Elt F) arg2.view.ty) (X4 : BufTy.Contents (Elt F) arg4.view.ty) (k : Fin k0_t1_loop.trips) : trip.sl.r_6 (F := F) arg2 arg4 arg10 X2 X4 k = pE (trip.sl.r_1 arg2 arg4 X2 X4 k) := by
  unfold trip.sl.r_6 trip.sl.r_3 trip.sl.r_4 trip.sl.r_5
  rw [r_2_eq]
  rfl

theorem r_37_eq (arg2 : Memref sig .tc .vmem S4096x256 .bf16) (arg4 : Memref sig .tc .vmem S256x256 .bf16) (arg10 : Memref sig .tc .vmem S64x128 .f32) (X2 : BufTy.Contents (Elt F) arg2.view.ty) (X4 : BufTy.Contents (Elt F) arg4.view.ty) (k : Fin k0_t1_loop.trips) : trip.sl.r_37 (F := F) arg2 arg4 arg10 X2 X4 k = pAmax (trip.sl.r_35 arg2 arg4 X2 X4 k) := by
  unfold trip.sl.r_37 trip.sl.r_36 trip.sl.v557 trip.sl.v558 trip.sl.v560 trip.sl.v562 trip.sl.v564 trip.sl.v566 trip.sl.v568 trip.sl.v570 trip.sl.H10_2
  simp (disch := decide) only [View.readCov_eq_canon', View.canon_cons_unit_lit']
  rfl

theorem exps1_eq (arg2 : Memref sig .tc .vmem S4096x256 .bf16) (arg4 : Memref sig .tc .vmem S256x256 .bf16) (arg10 : Memref sig .tc .vmem S64x128 .f32) (X2 : BufTy.Contents (Elt F) arg2.view.ty) (X4 : BufTy.Contents (Elt F) arg4.view.ty) (k : Fin k0_t1_loop.trips) :
    k0_pay71 (trip.sl.r_41 (F := F) arg2 arg4 arg10 X2 X4 k) (trip.sl.r_42 arg2 arg4 arg10 X2 X4 k) k0_pay64 = k0_pay18 (pE (trip.sl.r_35 arg2 arg4 X2 X4 k)) := by
  rw [pE, ← r_37_eq arg2 arg4 arg10]
  unfold trip.sl.r_41 trip.sl.r_42 trip.sl.r_38 trip.sl.r_39 trip.sl.r_40 trip.sl.r_37
  rfl

theorem r_14_eq (arg2 : Memref sig .tc .vmem S4096x256 .bf16) (arg4 : Memref sig .tc .vmem S256x256 .bf16) (arg10 : Memref sig .tc .vmem S64x128 .f32) (arg11 : Memref sig .tc .vmem S8x128 .f32) (X2 : BufTy.Contents (Elt F) arg2.view.ty) (X4 : BufTy.Contents (Elt F) arg4.view.ty) (k : Fin k0_t1_loop.trips) : trip.sl.r_14 (F := F) arg2 arg4 arg10 arg11 X2 X4 k = pU (trip.sl.r_1 arg2 arg4 X2 X4 k) (k0_pay19 (pE (trip.sl.r_1 arg2 arg4 X2 X4 k))) := by
  unfold trip.sl.r_14 trip.sl.r_9 trip.sl.r_10 trip.sl.r_11 trip.sl.r_12 trip.sl.r_13 trip.sl.v176 trip.sl.v184 trip.sl.v192 trip.sl.v200 trip.sl.v208 trip.sl.v216 trip.sl.v224 trip.sl.v232 trip.sl.H11_1
  simp (disch := decide) only [View.readCov_eq_canon', View.canon_cons_unit_lit']
  rw [r_6_eq]
  rfl

theorem factor1_eq (arg2 : Memref sig .tc .vmem S4096x256 .bf16) (arg4 : Memref sig .tc .vmem S256x256 .bf16) (arg10 : Memref sig .tc .vmem S64x128 .f32) (X2 : BufTy.Contents (Elt F) arg2.view.ty) (X4 : BufTy.Contents (Elt F) arg4.view.ty) (k : Fin k0_t1_loop.trips) :
    k0_pay73 (trip.sl.r_44 (F := F) arg2 arg4 arg10 X2 X4 k) trip.sl.cst_246 = k0_pay19 (pE (trip.sl.r_35 arg2 arg4 X2 X4 k)) := by
  rw [pE, ← r_37_eq arg2 arg4 arg10]
  unfold trip.sl.r_44 trip.sl.r_41 trip.sl.r_42 trip.sl.r_38 trip.sl.r_39 trip.sl.r_40 trip.sl.r_37 trip.sl.cst_246
  rfl

theorem r_53_eq (arg2 : Memref sig .tc .vmem S4096x256 .bf16) (arg4 : Memref sig .tc .vmem S256x256 .bf16) (arg10 : Memref sig .tc .vmem S64x128 .f32) (arg11 : Memref sig .tc .vmem S8x128 .f32) (X2 : BufTy.Contents (Elt F) arg2.view.ty) (X4 : BufTy.Contents (Elt F) arg4.view.ty) (k : Fin k0_t1_loop.trips) : trip.sl.r_53 (F := F) arg2 arg4 arg10 arg11 X2 X4 k = pU (trip.sl.r_35 arg2 arg4 X2 X4 k) (k0_pay19 (pE (trip.sl.r_35 arg2 arg4 X2 X4 k))) := by
  unfold trip.sl.r_53 trip.sl.r_45 trip.sl.r_46 trip.sl.r_47 trip.sl.r_48 trip.sl.r_49 trip.sl.r_50 trip.sl.r_51 trip.sl.r_52 trip.sl.v705 trip.sl.v713 trip.sl.v721 trip.sl.v729 trip.sl.v737 trip.sl.v745 trip.sl.v753 trip.sl.v761 trip.sl.H11_2
  simp (disch := decide) only [View.readCov_eq_canon', View.canon_cons_unit_lit']
  rw [factor1_eq]
  rfl

theorem codes0_eq (arg2 : Memref sig .tc .vmem S4096x256 .bf16) (arg3 : Memref sig .tc .vmem S4096x256 .i8) (arg4 : Memref sig .tc .vmem S256x256 .bf16) (arg10 : Memref sig .tc .vmem S64x128 .f32) (arg11 : Memref sig .tc .vmem S8x128 .f32) (X2 : BufTy.Contents (Elt F) arg2.view.ty) (X3 : BufTy.Contents (Elt F) arg3.view.ty) (X4 : BufTy.Contents (Elt F) arg4.view.ty) (k : Fin k0_t1_loop.trips) :
    k0_pay42 (trip.sl.r_19 (F := F) arg2 arg3 arg4 arg10 arg11 X2 X3 X4 k) (trip.sl.r_22 arg2 arg4 arg10 arg11 X2 X4 k) (trip.sl.r_23 arg2 arg4 arg10 arg11 X2 X4 k) (trip.sl.r_24 arg2 arg4 arg10 arg11 X2 X4 k) = pC (trip.sl.r_1 arg2 arg4 X2 X4 k) (trip.sl.r_15 arg3 X3 k) := by
  rw [pC, ← r_14_eq arg2 arg4 arg10 arg11]
  rfl

theorem codes1_eq (arg2 : Memref sig .tc .vmem S4096x256 .bf16) (arg3 : Memref sig .tc .vmem S4096x256 .i8) (arg4 : Memref sig .tc .vmem S256x256 .bf16) (arg10 : Memref sig .tc .vmem S64x128 .f32) (arg11 : Memref sig .tc .vmem S8x128 .f32) (X2 : BufTy.Contents (Elt F) arg2.view.ty) (X3 : BufTy.Contents (Elt F) arg3.view.ty) (X4 : BufTy.Contents (Elt F) arg4.view.ty) (k : Fin k0_t1_loop.trips) :
    trip.sl.v994 (F := F) arg2 arg3 arg4 arg10 arg11 X2 X3 X4 k = pC (trip.sl.r_35 arg2 arg4 X2 X4 k) (trip.sl.r_54 arg3 X3 k) := by
  rw [pC, ← r_53_eq arg2 arg4 arg10 arg11]
  rfl

end Cert.Proof.QuantDyIdeal

end
-- ==== Proof.DPiecesIdeal.lean ====
module

public import proofs.«01_k».proof.Proof.DPureIdeal
public import Idealize.ShloMosaic.Lib.ValueIdx

@[expose] public section
set_option maxRecDepth 8192
set_option maxHeartbeats 4000000

noncomputable section

namespace Cert.Proof.QuantDyIdeal

open Cert.QuantDyIdeal Cert.QuantDyIdeal.Gen
open Idealize.ShloMosaic Idealize.ShloMosaic.TcCoe Idealize.ShloMosaic.Tactic
open Idealize.ShloMosaic.ValueIdx hiding ix0 ix1 ix2 ix3 ix4 ix5 eq_ix0 eq_ix1 eq_ix2 eq_ix3 eq_ix4 eq_ix5

variable {F : FTy → Type} [FloatOps F]

theorem trips_eq : k0_t1_loop.trips = 16 := by decide

theorem off1 : ∀ k : Fin k0_t1_loop.trips, k0_off1 k = ![256 * k.val, 0] := by decide
theorem off2 : ∀ k : Fin k0_t1_loop.trips, k0_off2 k = ![8 * k.val, 0] := by decide
theorem off3 : ∀ k : Fin k0_t1_loop.trips, k0_off3 k = ![256 * k.val, 0] := by decide
theorem off4 : ∀ k : Fin k0_t1_loop.trips, k0_off4 k = ![0, 128 * k.val] := by decide
theorem off6 : ∀ k : Fin k0_t1_loop.trips, k0_off6 k = ![256 * k.val, 128] := by decide
theorem off7 : ∀ k : Fin k0_t1_loop.trips, k0_off7 k = ![128, 128 * k.val] := by decide
theorem off5 : ∀ k : Fin k0_t1_loop.trips, k0_off5 k = ![8 * k.val, 128] := by decide

/-- Rows `256 k` to `256 k + 255` of the block. -/
def rowsAt (x0 : Vec F S4096x256 .bf16) (k : Fin k0_t1_loop.trips) : Vec F S256x256 .bf16 :=
  fun y => x0 ((Rect.unit (s := S4096x256) (k0_off1 k) S256x256.size (k0_off1_inb k)).toLoadRect.idx y)

/-- The rotated rows of chunk `k`, the half `p` of their columns. -/
def zP (x0 : Vec F S4096x256 .bf16) (x1 : Vec F S256x256 .bf16) (k : Fin k0_t1_loop.trips) (p : ℕ) : FVec F S256x128 .f32 :=
  if p = 0 then k0_pay6 x1 (rowsAt x0 k) else k0_pay54 (k0_pay5 x1 (rowsAt x0 k))

/-- The chunk that column `n` of the codes' block comes from. -/
def chunk (n : ℕ) : Fin k0_t1_loop.trips := ⟨n % 16, by rw [trips_eq]; omega⟩

/-- The random bytes of chunk `k`, the half `p` of their columns. -/
def rP (x1 : Vec F S4096x256 .i8) (k : Fin k0_t1_loop.trips) (p : ℕ) : IVec S256x128 8 :=
  if p = 0 then k0_pay28 (F := F) (fun y => x1 ((Rect.unit (s := S4096x256) (k0_off3 k) S256x128.size (k0_off3_inb k)).toLoadRect.idx y))
  else k0_pay84 (F := F) (fun y => x1 ((Rect.unit (s := S4096x256) (k0_off6 k) S256x128.size (k0_off6_inb k)).toLoadRect.idx y))

/-- The codes the body leaves. -/
def G5 (x0 : Vec F S4096x256 .bf16) (x1 : Vec F S4096x256 .i8) (x2 : Vec F S256x256 .bf16) (y : S256x2048.Idx) : BitVec 8 :=
  pC (zP x0 x2 (chunk ((y 1).val / 128)) ((y 0).val / 128)) (rP x1 (chunk ((y 1).val / 128)) ((y 0).val / 128))
    (ix2 ⟨(y 0).val % 128, Nat.mod_lt _ (by decide)⟩ ⟨(y 1).val % 128, Nat.mod_lt _ (by decide)⟩)

/-- The biased exponents the loop leaves in their scratch. -/
def G13 (x0 : Vec F S4096x256 .bf16) (x1 : Vec F S256x256 .bf16) (y : S128x256.Idx) : BitVec 32 :=
  k0_pay18 (pE (zP x0 x1 (chunk ((y 0).val / 8)) ((y 1).val / 128)))
    (ix2 ⟨(y 0).val % 8, Nat.mod_lt _ (by decide)⟩ ⟨(y 1).val % 128, Nat.mod_lt _ (by decide)⟩)

theorem whole4 (arg4 : Memref sig .tc .vmem S256x256 .bf16) (X4 : BufTy.Contents (Elt F) arg4.view.ty) :
    arg4.view.readAt (Elt F) (Rect.unit ![0, 0] S256x256.size inb_S256x256_S256x256_0_0).toLoadRect X4 = arg4.view.read (Elt F) X4 := by
  simp (disch := decide) only [View.readAt_eq_ld, View.ld_unit_lit']

theorem r_1_eq (arg2 : Memref sig .tc .vmem S4096x256 .bf16) (arg4 : Memref sig .tc .vmem S256x256 .bf16) (X2 : BufTy.Contents (Elt F) arg2.view.ty) (X4 : BufTy.Contents (Elt F) arg4.view.ty) (k : Fin k0_t1_loop.trips) : trip.sl.r_1 (F := F) arg2 arg4 X2 X4 k = zP (arg2.view.read (Elt F) X2) (arg4.view.read (Elt F) X4) k 0 := by
  unfold trip.sl.r_1 zP rowsAt
  rw [whole4, if_pos rfl]
  rfl

theorem r_35_eq (arg2 : Memref sig .tc .vmem S4096x256 .bf16) (arg4 : Memref sig .tc .vmem S256x256 .bf16) (X2 : BufTy.Contents (Elt F) arg2.view.ty) (X4 : BufTy.Contents (Elt F) arg4.view.ty) (k : Fin k0_t1_loop.trips) : trip.sl.r_35 (F := F) arg2 arg4 X2 X4 k = zP (arg2.view.read (Elt F) X2) (arg4.view.read (Elt F) X4) k 1 := by
  unfold trip.sl.r_35 trip.sl.r zP rowsAt
  rw [whole4, if_neg (by decide)]
  rfl

theorem trip_L13 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    (trip (F := F) c i arg2 harg2 arg3 harg3 arg4 harg4 arg5 harg5 arg6 harg6 arg7 harg7 arg8 harg8 arg9 harg9 arg10 harg10 arg11 harg11 arg12 harg12 arg13 harg13 v0 X2 X3 X4 k).2.1 =
      [⟨Rect.unit (s := S128x256) (k0_off5 k) S8x128.size (k0_off5_inb k), k0_pay18 (pE (zP (arg2.view.read (Elt F) X2) (arg4.view.read (Elt F) X4) k 1))⟩,
       ⟨Rect.unit (s := S128x256) (k0_off2 k) S8x128.size (k0_off2_inb k), k0_pay18 (pE (zP (arg2.view.read (Elt F) X2) (arg4.view.read (Elt F) X4) k 0))⟩] := by
  rw [← r_1_eq, ← r_35_eq, ← exps1_eq arg2 arg4 arg10, ← r_6_eq arg2 arg4 arg10]
  unfold trip
  rfl

theorem r_15_eq (arg3 : Memref sig .tc .vmem S4096x256 .i8) (X3 : BufTy.Contents (Elt F) arg3.view.ty) (k : Fin k0_t1_loop.trips) : trip.sl.r_15 (F := F) arg3 X3 k = rP (arg3.view.read (Elt F) X3) k 0 := by
  unfold trip.sl.r_15 rP
  rw [if_pos rfl]
  rfl

theorem r_54_eq (arg3 : Memref sig .tc .vmem S4096x256 .i8) (X3 : BufTy.Contents (Elt F) arg3.view.ty) (k : Fin k0_t1_loop.trips) : trip.sl.r_54 (F := F) arg3 X3 k = rP (arg3.view.read (Elt F) X3) k 1 := by
  unfold trip.sl.r_54 rP
  rw [if_neg (by decide)]
  rfl

theorem trip_L5 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (k : Fin k0_t1_loop.trips) :
    (trip (F := F) c i arg2 harg2 arg3 harg3 arg4 harg4 arg5 harg5 arg6 harg6 arg7 harg7 arg8 harg8 arg9 harg9 arg10 harg10 arg11 harg11 arg12 harg12 arg13 harg13 v0 X2 X3 X4 k).1 =
      [⟨Rect.unit (s := S256x2048) (k0_off7 k) S128x128.size (k0_off7_inb k), pC (zP (arg2.view.read (Elt F) X2) (arg4.view.read (Elt F) X4) k 1) (rP (arg3.view.read (Elt F) X3) k 1)⟩,
       ⟨Rect.unit (s := S256x2048) (k0_off4 k) S128x128.size (k0_off4_inb k), pC (zP (arg2.view.read (Elt F) X2) (arg4.view.read (Elt F) X4) k 0) (rP (arg3.view.read (Elt F) X3) k 0)⟩] := by
  rw [← r_1_eq, ← r_35_eq, ← r_15_eq, ← r_54_eq, ← codes0_eq arg2 arg3 arg4 arg10 arg11, ← codes1_eq arg2 arg3 arg4 arg10 arg11]
  unfold trip
  rfl

theorem unit_emb_val {s : Shape} {off size : Fin s.rank → ℕ} {inb} (x : (Rect.unit (s := s) off size inb).shape.Idx) (a : Fin s.rank) :
    ((Rect.unit (s := s) off size inb).emb x a : ℕ) = off a + x a := by
  show off a + 1 * (x a : ℕ) = _
  omega

theorem G13_at (x0 : Vec F S4096x256 .bf16) (x1 : Vec F S256x256 .bf16) (k : Fin k0_t1_loop.trips) (p : ℕ)
    (x : S8x128.Idx) (y : S128x256.Idx) (h0 : (y 0 : ℕ) = 8 * k.val + x 0) (h1 : (y 1 : ℕ) = 128 * p + x 1) :
    G13 x0 x1 y = k0_pay18 (pE (F := F) (zP x0 x1 k p)) x := by
  have hx0 : (x 0 : ℕ) < 8 := (x 0).isLt
  have hx1 : (x 1 : ℕ) < 128 := (x 1).isLt
  have hk : k.val < 16 := trips_eq ▸ k.isLt
  unfold G13
  have e0 : chunk ((y 0).val / 8) = k := Fin.ext (by show (y 0).val / 8 % 16 = k.val; omega)
  have e1 : (y 1).val / 128 = p := by omega
  rw [e0, e1]
  refine congrArg _ ?_
  rw [eq_ix2 x]
  exact congrArg₂ ix2 (Fin.ext (by show (y 0).val % 8 = _; omega)) (Fin.ext (by show (y 1).val % 128 = _; omega))

theorem pcs13_G (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) : ∀ n, ∀ q ∈ pcs13 (F := F) c i arg2 harg2 arg3 harg3 arg4 harg4 arg5 harg5 arg6 harg6 arg7 harg7 arg8 harg8 arg9 harg9 arg10 harg10 arg11 harg11 arg12 harg12 arg13 harg13 v0 X2 X3 X4 n, ∀ x : q.1.shape.Idx, q.2 x = G13 (arg2.view.read (Elt F) X2) (arg4.view.read (Elt F) X4) (q.1.emb x)
  | 0 => by intro q hq; simp [pcs13] at hq
  | n + 1 => by
    intro q hq
    rw [pcs13, List.mem_append] at hq
    rcases hq with hq | hq
    · by_cases h : n < k0_t1_loop.trips
      · rw [dif_pos h, trip_L13] at hq
        simp only [List.mem_cons, List.mem_nil_iff, or_false] at hq
        rcases hq with rfl | rfl
        · intro x
          refine (G13_at _ _ ⟨n, h⟩ 1 x _ ?_ ?_).symm
          · exact congrArg₂ (· + ·) (congrFun (off5 ⟨n, h⟩) 0) (one_mul _)
          · exact congrArg₂ (· + ·) (congrFun (off5 ⟨n, h⟩) 1) (one_mul _)
        · intro x
          refine (G13_at _ _ ⟨n, h⟩ 0 x _ ?_ ?_).symm
          · exact congrArg₂ (· + ·) (congrFun (off2 ⟨n, h⟩) 0) (one_mul _)
          · exact congrArg₂ (· + ·) (congrFun (off2 ⟨n, h⟩) 1) (one_mul _)
      · rw [dif_neg h] at hq; simp at hq
    · exact pcs13_G c i arg2 harg2 arg3 harg3 arg4 harg4 arg5 harg5 arg6 harg6 arg7 harg7 arg8 harg8 arg9 harg9 arg10 harg10 arg11 harg11 arg12 harg12 arg13 harg13 v0 X2 X3 X4 n q hq

theorem pcs13_cover (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (y : S128x256.Idx) : ∀ n, n ≤ 16 → (y 0 : ℕ) < 8 * n → ∃ q ∈ pcs13 (F := F) c i arg2 harg2 arg3 harg3 arg4 harg4 arg5 harg5 arg6 harg6 arg7 harg7 arg8 harg8 arg9 harg9 arg10 harg10 arg11 harg11 arg12 harg12 arg13 harg13 v0 X2 X3 X4 n, y ∈ q.1.set
  | 0 => by intro _ h; omega
  | n + 1 => by
    intro hn hy
    have h : n < k0_t1_loop.trips := by rw [trips_eq]; omega
    have hy1 : (y 1 : ℕ) < 256 := (y 1).isLt
    by_cases hlt : (y 0 : ℕ) < 8 * n
    · obtain ⟨q, hq, hm⟩ := pcs13_cover c i arg2 harg2 arg3 harg3 arg4 harg4 arg5 harg5 arg6 harg6 arg7 harg7 arg8 harg8 arg9 harg9 arg10 harg10 arg11 harg11 arg12 harg12 arg13 harg13 v0 X2 X3 X4 y n (by omega) hlt
      exact ⟨q, by rw [pcs13]; exact List.mem_append_right _ hq, hm⟩
    · by_cases hp : (y 1 : ℕ) < 128
      · have hm : y ∈ (Rect.unit (s := S128x256) (k0_off2 ⟨n, h⟩) S8x128.size (k0_off2_inb ⟨n, h⟩)).set := by
          refine Rect.mem_set_unit.mpr (Fin.forall_fin_two.mpr ⟨?_, ?_⟩) <;> rw [off2] <;> constructor <;> dsimp <;> omega
        rw [pcs13, dif_pos h, trip_L13]
        exact ⟨_, List.mem_append_left _ (List.mem_cons_of_mem _ (List.mem_cons_self ..)), hm⟩
      · have hm : y ∈ (Rect.unit (s := S128x256) (k0_off5 ⟨n, h⟩) S8x128.size (k0_off5_inb ⟨n, h⟩)).set := by
          refine Rect.mem_set_unit.mpr (Fin.forall_fin_two.mpr ⟨?_, ?_⟩) <;> rw [off5] <;> constructor <;> dsimp <;> omega
        rw [pcs13, dif_pos h, trip_L13]
        exact ⟨_, List.mem_append_left _ (List.mem_cons_self ..), hm⟩

theorem G5_at (x0 : Vec F S4096x256 .bf16) (x1 : Vec F S4096x256 .i8) (x2 : Vec F S256x256 .bf16) (k : Fin k0_t1_loop.trips) (p : ℕ)
    (x : S128x128.Idx) (y : S256x2048.Idx) (h0 : (y 0 : ℕ) = 128 * p + x 0) (h1 : (y 1 : ℕ) = 128 * k.val + x 1) :
    G5 x0 x1 x2 y = pC (F := F) (zP x0 x2 k p) (rP x1 k p) x := by
  have hx0 : (x 0 : ℕ) < 128 := (x 0).isLt
  have hx1 : (x 1 : ℕ) < 128 := (x 1).isLt
  have hk : k.val < 16 := trips_eq ▸ k.isLt
  unfold G5
  have e0 : chunk ((y 1).val / 128) = k := Fin.ext (by show (y 1).val / 128 % 16 = k.val; omega)
  have e1 : (y 0).val / 128 = p := by omega
  rw [e0, e1]
  refine congrArg _ ?_
  rw [eq_ix2 x]
  exact congrArg₂ ix2 (Fin.ext (by show (y 0).val % 128 = _; omega)) (Fin.ext (by show (y 1).val % 128 = _; omega))

theorem pcs5_G (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) : ∀ n, ∀ q ∈ pcs5 (F := F) c i arg2 harg2 arg3 harg3 arg4 harg4 arg5 harg5 arg6 harg6 arg7 harg7 arg8 harg8 arg9 harg9 arg10 harg10 arg11 harg11 arg12 harg12 arg13 harg13 v0 X2 X3 X4 n, ∀ x : q.1.shape.Idx, q.2 x = G5 (arg2.view.read (Elt F) X2) (arg3.view.read (Elt F) X3) (arg4.view.read (Elt F) X4) (q.1.emb x)
  | 0 => by intro q hq; simp [pcs5] at hq
  | n + 1 => by
    intro q hq
    rw [pcs5, List.mem_append] at hq
    rcases hq with hq | hq
    · by_cases h : n < k0_t1_loop.trips
      · rw [dif_pos h, trip_L5] at hq
        simp only [List.mem_cons, List.mem_nil_iff, or_false] at hq
        rcases hq with rfl | rfl
        · intro x
          refine (G5_at _ _ _ ⟨n, h⟩ 1 x _ ?_ ?_).symm
          · exact congrArg₂ (· + ·) (congrFun (off7 ⟨n, h⟩) 0) (one_mul _)
          · exact congrArg₂ (· + ·) (congrFun (off7 ⟨n, h⟩) 1) (one_mul _)
        · intro x
          refine (G5_at _ _ _ ⟨n, h⟩ 0 x _ ?_ ?_).symm
          · exact congrArg₂ (· + ·) (congrFun (off4 ⟨n, h⟩) 0) (one_mul _)
          · exact congrArg₂ (· + ·) (congrFun (off4 ⟨n, h⟩) 1) (one_mul _)
      · rw [dif_neg h] at hq; simp at hq
    · exact pcs5_G c i arg2 harg2 arg3 harg3 arg4 harg4 arg5 harg5 arg6 harg6 arg7 harg7 arg8 harg8 arg9 harg9 arg10 harg10 arg11 harg11 arg12 harg12 arg13 harg13 v0 X2 X3 X4 n q hq

theorem pcs5_cover (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (y : S256x2048.Idx) : ∀ n, n ≤ 16 → (y 1 : ℕ) < 128 * n → ∃ q ∈ pcs5 (F := F) c i arg2 harg2 arg3 harg3 arg4 harg4 arg5 harg5 arg6 harg6 arg7 harg7 arg8 harg8 arg9 harg9 arg10 harg10 arg11 harg11 arg12 harg12 arg13 harg13 v0 X2 X3 X4 n, y ∈ q.1.set
  | 0 => by intro _ h; omega
  | n + 1 => by
    intro hn hy
    have h : n < k0_t1_loop.trips := by rw [trips_eq]; omega
    have hy1 : (y 0 : ℕ) < 256 := (y 0).isLt
    by_cases hlt : (y 1 : ℕ) < 128 * n
    · obtain ⟨q, hq, hm⟩ := pcs5_cover c i arg2 harg2 arg3 harg3 arg4 harg4 arg5 harg5 arg6 harg6 arg7 harg7 arg8 harg8 arg9 harg9 arg10 harg10 arg11 harg11 arg12 harg12 arg13 harg13 v0 X2 X3 X4 y n (by omega) hlt
      exact ⟨q, by rw [pcs5]; exact List.mem_append_right _ hq, hm⟩
    · by_cases hp : (y 0 : ℕ) < 128
      · have hm : y ∈ (Rect.unit (s := S256x2048) (k0_off4 ⟨n, h⟩) S128x128.size (k0_off4_inb ⟨n, h⟩)).set := by
          refine Rect.mem_set_unit.mpr (Fin.forall_fin_two.mpr ⟨?_, ?_⟩) <;> rw [off4] <;> constructor <;> dsimp <;> omega
        rw [pcs5, dif_pos h, trip_L5]
        exact ⟨_, List.mem_append_left _ (List.mem_cons_of_mem _ (List.mem_cons_self ..)), hm⟩
      · have hm : y ∈ (Rect.unit (s := S256x2048) (k0_off7 ⟨n, h⟩) S128x128.size (k0_off7_inb ⟨n, h⟩)).set := by
          refine Rect.mem_set_unit.mpr (Fin.forall_fin_two.mpr ⟨?_, ?_⟩) <;> rw [off7] <;> constructor <;> dsimp <;> omega
        rw [pcs5, dif_pos h, trip_L5]
        exact ⟨_, List.mem_append_left _ (List.mem_cons_self ..), hm⟩

/-- What the codes window reads after the loop. -/
theorem read_codes (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (f5 : BufTy.Contents (Elt F) arg5.view.ty) :
    arg5.view.read (Elt F) (arg5.view.writes (Elt F) f5 (pcs5 (F := F) c i arg2 harg2 arg3 harg3 arg4 harg4 arg5 harg5 arg6 harg6 arg7 harg7 arg8 harg8 arg9 harg9 arg10 harg10 arg11 harg11 arg12 harg12 arg13 harg13 v0 X2 X3 X4 k0_t1_loop.trips)) = G5 (arg2.view.read (Elt F) X2) (arg3.view.read (Elt F) X3) (arg4.view.read (Elt F) X4) := by
  funext y
  refine View.read_writes_apply_of_pieces _ _ _ _ (pcs5_G c i arg2 harg2 arg3 harg3 arg4 harg4 arg5 harg5 arg6 harg6 arg7 harg7 arg8 harg8 arg9 harg9 arg10 harg10 arg11 harg11 arg12 harg12 arg13 harg13 v0 X2 X3 X4 _) y (pcs5_cover c i arg2 harg2 arg3 harg3 arg4 harg4 arg5 harg5 arg6 harg6 arg7 harg7 arg8 harg8 arg9 harg9 arg10 harg10 arg11 harg11 arg12 harg12 arg13 harg13 v0 X2 X3 X4 y _ (by rw [trips_eq]) ?_)
  rw [trips_eq]; exact (y 1).isLt

/-- What the exponent scratch reads after the loop, at a load's box. -/
theorem readCov_exps (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (v0 : BitVec 1) (X2 : BufTy.Contents (Elt F) arg2.view.ty) (X3 : BufTy.Contents (Elt F) arg3.view.ty) (X4 : BufTy.Contents (Elt F) arg4.view.ty) (B : LoadRect S128x256) :
    arg13.view.readCov (pcs13 (F := F) c i arg2 harg2 arg3 harg3 arg4 harg4 arg5 harg5 arg6 harg6 arg7 harg7 arg8 harg8 arg9 harg9 arg10 harg10 arg11 harg11 arg12 harg12 arg13 harg13 v0 X2 X3 X4 k0_t1_loop.trips) B = fun j => G13 (arg2.view.read (Elt F) X2) (arg4.view.read (Elt F) X4) (B.idx j) := by
  funext j
  refine View.read_writes_apply_of_pieces _ _ _ _ (pcs13_G c i arg2 harg2 arg3 harg3 arg4 harg4 arg5 harg5 arg6 harg6 arg7 harg7 arg8 harg8 arg9 harg9 arg10 harg10 arg11 harg11 arg12 harg12 arg13 harg13 v0 X2 X3 X4 _) _ (pcs13_cover c i arg2 harg2 arg3 harg3 arg4 harg4 arg5 harg5 arg6 harg6 arg7 harg7 arg8 harg8 arg9 harg9 arg10 harg10 arg11 harg11 arg12 harg12 arg13 harg13 v0 X2 X3 X4 _ _ (by rw [trips_eq]) ?_)
  rw [trips_eq]; exact (B.idx j 0).isLt

/-- The scales the body leaves. -/
def G6 (x0 : Vec F S4096x256 .bf16) (x1 : Vec F S256x256 .bf16) (y : S256x128.Idx) : BitVec 8 :=
  (G13 x0 x1 (ix2 ⟨(y 1).val, (y 1).isLt⟩ ⟨(y 0).val, (y 0).isLt⟩)).setWidth 8

theorem pay3_at (x0 : Vec F S4096x256 .bf16) (x1 : Vec F S256x256 .bf16) (p : ℕ) (v : Vec F S128x128 .i32)
    (hv : ∀ x : S128x128.Idx, ∀ y : S128x256.Idx, (y 0 : ℕ) = x 0 → (y 1 : ℕ) = 128 * p + x 1 → v x = G13 x0 x1 y)
    (x : S128x128.Idx) (y : S256x128.Idx) (h0 : (y 0 : ℕ) = 128 * p + x 0) (h1 : (y 1 : ℕ) = x 1) :
    k0_pay3 (F := F) v x = G6 x0 x1 y := by
  unfold k0_pay3 G6
  show (transpose S128x128 [1, 0] v transposes_S128x128_p1_0_S128x128 x).setWidth 8 = _
  refine congrArg _ ?_
  have e : transpose S128x128 [1, 0] v transposes_S128x128_p1_0_S128x128 x = v (ix2 (x 1) (x 0)) := by
    refine congrArg v ?_
    funext a; fin_cases a <;> rfl
  rw [e]
  exact hv _ _ h1 h0

/-- The two stores of the scales. -/
theorem bodyRun_L6 (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (X2 : BufTy.Contents (Elt F) arg2.view.ty) (X3 : BufTy.Contents (Elt F) arg3.view.ty) (X4 : BufTy.Contents (Elt F) arg4.view.ty) : ∃ v0, (bodyRun (F := F) c i arg2 harg2 arg3 harg3 arg4 harg4 arg5 harg5 arg6 harg6 arg7 harg7 arg8 harg8 arg9 harg9 arg10 harg10 arg11 harg11 arg12 harg12 arg13 harg13 X2 X3 X4).1 =
    [⟨Rect.unit (s := S256x128) ![128, 0] S128x128.size inb_S256x128_S128x128_128_0, k0_pay4 (F := F) (arg13.view.readCov (pcs13 (F := F) c i arg2 harg2 arg3 harg3 arg4 harg4 arg5 harg5 arg6 harg6 arg7 harg7 arg8 harg8 arg9 harg9 arg10 harg10 arg11 harg11 arg12 harg12 arg13 harg13 v0 X2 X3 X4 k0_t1_loop.trips) (Rect.unit (s := S128x256) ![0, 128] S128x128.size inb_S128x256_S128x128_0_128).toLoadRect)⟩,
     ⟨Rect.unit (s := S256x128) ![0, 0] S128x128.size inb_S256x128_S128x128_0_0, k0_pay3 (F := F) (arg13.view.readCov (pcs13 (F := F) c i arg2 harg2 arg3 harg3 arg4 harg4 arg5 harg5 arg6 harg6 arg7 harg7 arg8 harg8 arg9 harg9 arg10 harg10 arg11 harg11 arg12 harg12 arg13 harg13 v0 X2 X3 X4 k0_t1_loop.trips) (Rect.unit (s := S128x256) ![0, 0] S128x128.size inb_S128x256_S128x128_0_0).toLoadRect)⟩] := by
  refine ⟨bodyRun.sl.v0 i, ?_⟩
  unfold bodyRun bodyRun.sl.v8 bodyRun.sl.v4
  rfl

/-- What the scales window reads at the end of the body. -/
theorem read_scales (c : Dev nD) (i : grid0.Coords) (arg2 : Memref sig .tc .vmem S4096x256 .bf16) (harg2 : arg2.IsWhole) (arg3 : Memref sig .tc .vmem S4096x256 .i8) (harg3 : arg3.IsWhole) (arg4 : Memref sig .tc .vmem S256x256 .bf16) (harg4 : arg4.IsWhole) (arg5 : Memref sig .tc .vmem S256x2048 .i8) (harg5 : arg5.IsWhole) (arg6 : Memref sig .tc .vmem S256x128 .i8) (harg6 : arg6.IsWhole) (arg7 : Memref sig .tc .vmem S4096x256 .fp8e5m2) (harg7 : arg7.IsWhole) (arg8 : Memref sig .tc .vmem S8x256 .i32) (harg8 : arg8.IsWhole) (arg9 : Memref sig .tc .vmem S8x256 .i32) (harg9 : arg9.IsWhole) (arg10 : Memref sig .tc .vmem S64x128 .f32) (harg10 : arg10.IsWhole) (arg11 : Memref sig .tc .vmem S8x128 .f32) (harg11 : arg11.IsWhole) (arg12 : Memref sig .tc .vmem S8x128 .i32) (harg12 : arg12.IsWhole) (arg13 : Memref sig .tc .vmem S128x256 .i32) (harg13 : arg13.IsWhole) (X2 : BufTy.Contents (Elt F) arg2.view.ty) (X3 : BufTy.Contents (Elt F) arg3.view.ty) (X4 : BufTy.Contents (Elt F) arg4.view.ty) (f6 : BufTy.Contents (Elt F) arg6.view.ty) :
    arg6.view.read (Elt F) (arg6.view.writes (Elt F) f6 (bodyRun (F := F) c i arg2 harg2 arg3 harg3 arg4 harg4 arg5 harg5 arg6 harg6 arg7 harg7 arg8 harg8 arg9 harg9 arg10 harg10 arg11 harg11 arg12 harg12 arg13 harg13 X2 X3 X4).1) = G6 (arg2.view.read (Elt F) X2) (arg4.view.read (Elt F) X4) := by
  funext y
  have hy0 : (y 0 : ℕ) < 256 := (y 0).isLt
  have hy1 : (y 1 : ℕ) < 128 := (y 1).isLt
  obtain ⟨v0, hL⟩ := bodyRun_L6 c i arg2 harg2 arg3 harg3 arg4 harg4 arg5 harg5 arg6 harg6 arg7 harg7 arg8 harg8 arg9 harg9 arg10 harg10 arg11 harg11 arg12 harg12 arg13 harg13 X2 X3 X4
  rw [hL]
  simp only [readCov_exps]
  refine View.read_writes_apply_of_pieces _ _ _ _ ?_ y ?_
  · intro q hq
    simp only [List.mem_cons, List.mem_nil_iff, or_false] at hq
    rcases hq with rfl | rfl
    · intro x
      refine pay3_at _ _ 1 _ ?_ x _ ?_ ?_
      · intro x y h0 h1
        refine congrArg (G13 _ _) ?_
        rw [eq_ix2 y]
        funext a; fin_cases a
        · refine Fin.ext ?_; show 0 + 1 * (x 0 : ℕ) = (y 0 : ℕ); omega
        · refine Fin.ext ?_; show 128 + 1 * (x 1 : ℕ) = (y 1 : ℕ); omega
      · show 128 + 1 * (x 0 : ℕ) = 128 * 1 + x 0; omega
      · show 0 + 1 * (x 1 : ℕ) = x 1; omega
    · intro x
      refine pay3_at _ _ 0 _ ?_ x _ ?_ ?_
      · intro x y h0 h1
        refine congrArg (G13 _ _) ?_
        rw [eq_ix2 y]
        funext a; fin_cases a
        · refine Fin.ext ?_; show 0 + 1 * (x 0 : ℕ) = (y 0 : ℕ); omega
        · refine Fin.ext ?_; show 0 + 1 * (x 1 : ℕ) = (y 1 : ℕ); omega
      · show 0 + 1 * (x 0 : ℕ) = 128 * 0 + x 0; omega
      · show 0 + 1 * (x 1 : ℕ) = x 1; omega
  · by_cases h : (y 0 : ℕ) < 128
    · have hm : y ∈ (Rect.unit (s := S256x128) ![0, 0] S128x128.size inb_S256x128_S128x128_0_0).set := by
        refine Rect.mem_set_unit.mpr (Fin.forall_fin_two.mpr ⟨?_, ?_⟩) <;> constructor <;> dsimp <;> omega
      exact ⟨_, List.mem_cons_of_mem _ (List.mem_cons_self ..), hm⟩
    · have hm : y ∈ (Rect.unit (s := S256x128) ![128, 0] S128x128.size inb_S256x128_S128x128_128_0).set := by
        refine Rect.mem_set_unit.mpr (Fin.forall_fin_two.mpr ⟨?_, ?_⟩) <;> constructor <;> dsimp <;> omega
      exact ⟨_, List.mem_cons_self .., hm⟩

end Cert.Proof.QuantDyIdeal

end
-- ==== Proof.DRunIdeal.lean ====
module

public import proofs.«01_k».proof.Proof.DPiecesIdeal
public import proofs.«01_k».proof.Proof.Gen.QuantDyIdeal.Frame
public import Idealize.ShloMosaic.Lib.Pipeline.Frame

@[expose] public section
set_option maxRecDepth 16384
set_option maxHeartbeats 4000000

noncomputable section

namespace Cert.Proof.QuantDyIdeal

open Cert.QuantDyIdeal Cert.QuantDyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The block of the rows that the body reads at a point. -/
def x0At (c : Dev nD) (t : Fin cfg0.N) : Vec F S4096x256 .bf16 := iblk m c 0 t
/-- The block of the random bytes that the body reads at a point. -/
def x1At (c : Dev nD) (t : Fin cfg0.N) : Vec F S4096x256 .i8 := iblk m c 1 t
/-- The rotation that the body reads at a point. -/
def x2At (c : Dev nD) (t : Fin cfg0.N) : Vec F S256x256 .bf16 := iblk m c 2 t

/-- The proof data of the pipeline: the inputs' buffers keep their blocks, the codes' and the scales' windows hold what the body computes of them; nothing is said of the other windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => G5 (x0At m c t) (x1At m c t) (x2At m c t)
    | ⟨4, _⟩ => G6 (x0At m c t) (x2At m c t)
    | ⟨5, _⟩ => iblk m c 5 t
    | ⟨6, _⟩ => iblk m c 6 t
    | ⟨7, _⟩ => iblk m c 7 t
  Φ _ := Pipeline.ΦA spec0 c
  q _ := fullShare
  owed _ := 0

/-- The windows of which nothing is said. -/
def fgt : Fin cfg0.W → Bool := fun w => decide (5 ≤ w.val)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare (G5 (x0At m c t) (x1At m c t) (x2At m c t))
    ∗ owns (c : Thread nD τ) (st0_4 t) fullShare (G6 (x0At m c t) (x2At m c t))
    ∗ (∃ X, owns (c : Thread nD τ) (st0_5 t) fullShare X)
    ∗ (∃ X, owns (c : Thread nD τ) (st0_6 t) fullShare X)
    ∗ (∃ X, owns (c : Thread nD τ) (st0_7 t) fullShare X))

theorem whole_pt (c : Dev nD) (b : Ref sig .tc) (f : Buf (Elt F) ((c : Thread nD τ).loc b)) :
    (((Memref.whole b).view.loc (c : Thread nD τ) ↦[(Memref.whole b).view.set]{fullShare} f : sProp (MT nD τ sig Unit (Elt F) ℕ (UR sig nD τ) ℕ))) = (((c : Thread nD τ).loc b) ↦{fullShare} f) := by
  simp only [View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, show (dats m 0 c).Φ t.castSucc = Pipeline.ΦA spec0 c from rfl]
  unfold Pipeline.ΦA
  rw [scopedRest0_eq]
  unfold owns
  iintro ⟨⟨⟨⟨%s0, S0⟩, ⟨%s1, S1⟩, ⟨%s2, S2⟩, ⟨%s3, S3⟩⟩, HP⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  have hb := (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2).2 f3 f4 f5 f6 f7 s0 s1 s2 s3
  iapply (wp_wand_r frame _ Set.univ)
  isplitl [H0 H1 H2 H3 H4 H5 H6 H7 S0 S1 S2 S3]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · rw [whole_pt]; iexact S0
    isplitl [S1]; · rw [whole_pt]; iexact S1
    isplitl [S2]; · rw [whole_pt]; iexact S2
    rw [whole_pt]; iexact S3
  iintro %_ ⟨H0, H1, H2, H3, H4, ⟨%g5, H5⟩, ⟨%g6, H6⟩, ⟨%g7, H7⟩, ⟨%e0, S0⟩, ⟨%e1, S1⟩, ⟨%e2, S2⟩, ⟨%e3, S3⟩⟩
  isplitl [S0 S1 S2 S3 HP]
  · isplitl [S0 S1 S2 S3]
    · isplitl [S0]; · iexists e0; rw [← whole_pt]; iexact S0
      isplitl [S1]; · iexists e1; rw [← whole_pt]; iexact S1
      isplitl [S2]; · iexists e2; rw [← whole_pt]; iexact S2
      iexists e3; rw [← whole_pt]; iexact S3
    · iexact HP
  isplitl [Ho]; · iexact Ho
  isplitl [H0]
  · iexists f0; isplitr
    swap; · iexact H0
    ipureintro; exact h0
  isplitl [H1]
  · iexists f1; isplitr
    swap; · iexact H1
    ipureintro; exact h1
  isplitl [H2]
  · iexists f2; isplitr
    swap; · iexact H2
    ipureintro; exact h2
  isplitl [H3]
  · iexists _; isplitr
    swap; · iexact H3
    ipureintro
    exact (read_codes _ _ _ _ _ _ _ _ _ _ _ _ _ _ _ _ _ _ _ _ _ _ _ _ _ _ _ _ _ _ _).trans (by rw [h0, h1, h2]; rfl)
  isplitl [H4]
  · iexists _; isplitr
    swap; · iexact H4
    ipureintro
    exact (read_scales _ _ _ _ _ _ _ _ _ _ _ _ _ _ _ _ _ _ _ _ _ _ _ _ _ _ _ _ _ _).trans (by rw [h0, h2]; rfl)
  isplitl [H5]
  · iexists _, g5; isplitr
    swap; · iexact H5
    ipureintro; rfl
  isplitl [H6]
  · iexists _, g6; isplitr
    swap; · iexact H6
    ipureintro; rfl
  · iexists _, g7; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run of the whole program: what the library computes from the proof data, and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program ends, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Proof.QuantDyIdeal

end
-- ==== Proof.DSpec.lean ====
/-
  The rows and columns of `dy`, as `XSpec` names those of `x`, and those of the random bytes.
-/
module

public import proofs.«01_k».proof.Proof.XSpec

@[expose] public section

noncomputable section

namespace Cert.Proof.DSpec

open Idealize.ShloMosaic

/-- Row `r` of the 49152 rows, column `c`, of the three-axis array. -/
def dAt (x : (⟨3, ![8, 6144, 5632]⟩ : Shape).Idx → EReal) (r c : ℕ) : EReal :=
  if h : r < 49152 ∧ c < 5632 then
    x (ValueIdx.ix3 ⟨r / 6144, by omega⟩ ⟨r % 6144, by omega⟩ ⟨c, h.2⟩) else 0
/-- The same of the random bytes. -/
def rAt (x : (⟨3, ![8, 6144, 5632]⟩ : Shape).Idx → BitVec 8) (r c : ℕ) : BitVec 8 :=
  if h : r < 49152 ∧ c < 5632 then
    x (ValueIdx.ix3 ⟨r / 6144, by omega⟩ ⟨r % 6144, by omega⟩ ⟨c, h.2⟩) else 0

end Cert.Proof.DSpec

end
-- ==== Proof.DHostIdeal.lean ====
/-
  The three arrays the host program of `quant_dy` passes to its kernel, at an index: the rotation, block-diagonal, and the
  rows of `dy` and of the random bytes.
-/
module

public import proofs.«01_k».proof.Proof.Common
public import proofs.«01_k».proof.Proof.DSpec
public import proofs.«01_k».proof.Proof.XHostIdeal
public import proofs.«01_k».proof.Proof.Gen.QuantDyIdeal.Frame
public import Idealize.ShloMosaic.Lib.StableHlo.ReadAt
public import Idealize.ShloMosaic.Lib.Pipeline.Value

@[expose] public section
set_option maxRecDepth 8192

noncomputable section

namespace Cert.Proof.QuantDyIdeal

open Cert.QuantDyIdeal Cert.QuantDyIdeal.Gen Cert.Proof.XSpec Cert.Proof.DSpec Cert.Proof.Common
open Idealize.ShloMosaic Idealize.ShloMosaic.TcCoe

variable (m : (ℓ : Loc nD τ sig) → Buf (Elt Ideal) ℓ)

/-- The arguments as arrays. -/
def dArg (c : Dev nD) : S8x6144x5632.Idx → EReal := m ((c : Thread nD τ).loc main_arg0)
def sArg (c : Dev nD) : S32.Idx → EReal := m ((c : Thread nD τ).loc main_arg1)
def rArg (c : Dev nD) : S8x6144x5632.Idx → BitVec 8 := m ((c : Thread nD τ).loc main_arg2)

/-- The rotation, the rows of `dy` and the rows of the random bytes, as passed. -/
def rotArr (c : Dev nD) : S256x256.Idx → EReal := V m c main_v24
def rowArr (c : Dev nD) : S49152x5632.Idx → EReal := V m c main_v25
def rndArr (c : Dev nD) : S49152x5632.Idx → BitVec 8 := V m c main_v26

/-- The rows of `dy` are `dy` with its first two axes taken together. -/
theorem rowArr_apply (c : Dev nD) (j : S49152x5632.Idx) : rowArr m c j = dAt (dArg m c) (j 0) (j 1) := by
  unfold rowArr
  unfold V
  after_reads_at
  have h0 : (j 0).val < 49152 := (j 0).isLt
  have h1 : (j 1).val < 5632 := (j 1).isLt
  unfold dAt
  rw [dif_pos ⟨h0, h1⟩]
  unfold dArg
  refine congrArg _ (funext fun a => ?_)
  match a with
  | ⟨0, _⟩ => rfl
  | ⟨1, _⟩ => rfl
  | ⟨2, _⟩ => rfl

/-- The rows of the random bytes likewise. -/
theorem rndArr_apply (c : Dev nD) (j : S49152x5632.Idx) : rndArr m c j = rAt (rArg m c) (j 0) (j 1) := by
  unfold rndArr
  unfold V
  after_reads_at
  have h0 : (j 0).val < 49152 := (j 0).isLt
  have h1 : (j 1).val < 5632 := (j 1).isLt
  unfold rAt
  rw [dif_pos ⟨h0, h1⟩]
  unfold rArg
  refine congrArg _ (funext fun a => ?_)
  match a with
  | ⟨0, _⟩ => rfl
  | ⟨1, _⟩ => rfl
  | ⟨2, _⟩ => rfl

/-- The rotation: each block of 32 is rotated by itself. -/
theorem rotArr_apply (c : Dev nD) (j : S256x256.Idx) :
    rotArr m c j = if (j 0).val / 32 = (j 1).val / 32 then
      had ((j 0).val % 32) ((j 1).val % 32) * sAt (sArg m c) ((j 1).val % 32) else 0 := by
  unfold rotArr
  unfold V
  after_reads_at
  have h0 : (j 0).val < 256 := (j 0).isLt
  have h1 : (j 1).val < 256 := (j 1).isLt
  have hs : sAt (sArg m c) ((j 1).val % 32)
      = m ((c : Thread nD τ).loc main_arg1) (Idealize.ShloMosaic.ix1 ⟨(j 1).val % 32, by omega⟩) := by
    unfold sAt
    rw [dif_pos (by omega)]
    unfold sArg
    refine congrArg _ (funext fun a => ?_)
    match a with
    | ⟨0, _⟩ => rfl
  rw [hs]
  generalize m ((c : Thread nD τ).loc main_arg1) = s
  show Scalar.select (IntOp.cmpi .eq (IntOp.shrsi .host (BitVec.ofNat 32 (j 0).val) 5#32)
      (IntOp.shrsi .host (BitVec.ofNat 32 (j 1).val) 5#32))
      (Scalar.select (IntOp.cmpi .eq (IntOp.andi (IntOp.ctpop (IntOp.andi (IntOp.andi (BitVec.ofNat 32 (j 0).val)
        (BitVec.ofNat 32 (j 1).val)) 31#32)) 1#32) 0#32) (Ideal.ofBits .f32 0x3F800000#32)
        (Ideal.ofBits .f32 0xBF800000#32)) (Ideal.ofBits .f32 0x00000000#32) * _ = _
  rw [Cert.Proof.QuantXIdeal.shift_five ⟨_, h0⟩, Cert.Proof.QuantXIdeal.shift_five ⟨_, h1⟩, Cert.Proof.QuantXIdeal.low_bits]
  show Scalar.select (IntOp.cmpi .eq (BitVec.ofNat 32 ((j 0).val / 32)) (BitVec.ofNat 32 ((j 1).val / 32)))
    (had ((j 0).val % 32) ((j 1).val % 32)) (Ideal.ofBits .f32 0x00000000#32) * _ = _
  have hc := Cert.Proof.QuantXIdeal.same_block ⟨(j 0).val / 32, by omega⟩ ⟨(j 1).val / 32, by omega⟩
  dsimp only at hc
  rw [hc]
  by_cases h : (j 0).val / 32 = (j 1).val / 32
  · rw [if_pos h, if_pos h]; rfl
  · rw [if_neg h, if_neg h]
    show Ideal.ofBits .f32 0x00000000#32 * _ = _
    rw [ofBits_zero, zero_mul]

end Cert.Proof.QuantDyIdeal

end
-- ==== Proof.DStoch.lean ====
/-
  Stochastic rounding to a code over the extended reals, as the kernel computes it and as the reference does. The kernel
  adds the magnitude `m` and the greater of `m` and 1, which spaces the eight magnitudes evenly in the words of the floats,
  rounds that word up, adds an offset, subtracts the random byte and takes the top bits. The reference finds the grid value
  below `m`, the fraction of the gap above it, and goes up one code if the random number is less than the fraction. Both
  give the same code.
-/
module

public import proofs.«01_k».proof.Proof.XSpec

@[expose] public section

noncomputable section

namespace Cert.Proof.DStoch

open Idealize.ShloMosaic Cert.Proof.CodesDecode Cert.Proof.XExp Cert.Proof.XNibble Cert.Proof.XSpec

/-! ### The kernel's magnitude -/

/-- The sum of a magnitude and the greater of it and 1. -/
def wK (u : EReal) : EReal := max u (-u) + max (max u (-u)) (Ideal.ofBits .f32 0x3F800000#32)

/-- The word of a float, its fraction rounded up, plus the kernel's offset, from the float's exponent field. -/
def wordK (w : EReal) (f : BitVec 32) : BitVec 32 :=
  IntOp.addi (IntOp.addi (IntOp.shli .vector f 23#32)
    (Ideal.fptosi 32 (Ideal.liftRound Int.ceil ((w * pw (IntOp.addi (IntOp.subi 127#32 f) 127#32)
      - Ideal.ofBits .f32 0x3F800000#32) * Ideal.ofBits .f32 0x4B000000#32)))) 3233800191#32

/-- The magnitude from the word and the random byte. -/
def topK (b : BitVec 32) (r : BitVec 8) : BitVec 32 :=
  IntOp.andi (IntOp.shrui .vector (IntOp.subi (IntOp.shrui .vector b 14#32) (r.setWidth 32)) 8#32) 15#32

/-- The kernel's magnitude code. -/
def magK (u : EReal) (r : BitVec 8) : BitVec 32 := topK (wordK (wK u) (field (wK u))) r

/-! ### The reference's code -/

/-- How many grid values above zero a magnitude reaches. -/
def cntR (m : EReal) : BitVec 32 :=
  cnt7 (Ideal.cmp .oge m (Ideal.ofBits .f32 0x3F000000#32)) (Ideal.cmp .oge m (Ideal.ofBits .f32 0x3F800000#32))
    (Ideal.cmp .oge m (Ideal.ofBits .f32 0x3FC00000#32)) (Ideal.cmp .oge m (Ideal.ofBits .f32 0x40000000#32))
    (Ideal.cmp .oge m (Ideal.ofBits .f32 0x40400000#32)) (Ideal.cmp .oge m (Ideal.ofBits .f32 0x40800000#32))
    (Ideal.cmp .oge m (Ideal.ofBits .f32 0x40C00000#32))

/-- The grid value of a magnitude code. -/
def gridR (k : BitVec 32) : EReal :=
  Scalar.select (IntOp.cmpi .eq k 6#32) (Ideal.ofBits .f32 0x40800000#32)
    (Scalar.select (IntOp.cmpi .eq k 5#32) (Ideal.ofBits .f32 0x40400000#32)
    (Scalar.select (IntOp.cmpi .eq k 4#32) (Ideal.ofBits .f32 0x40000000#32)
    (Scalar.select (IntOp.cmpi .eq k 3#32) (Ideal.ofBits .f32 0x3FC00000#32)
    (Scalar.select (IntOp.cmpi .eq k 2#32) (Ideal.ofBits .f32 0x3F800000#32)
    (Scalar.select (IntOp.cmpi .eq k 1#32) (Ideal.ofBits .f32 0x3F000000#32)
    (Scalar.select (IntOp.cmpi .eq k 0#32) (Ideal.ofBits .f32 0x00000000#32) (Ideal.ofBits .f32 0x40C00000#32)))))))

/-- The fraction of the gap from `lo` to `hi` that `m` lies above `lo`; zero without a gap. -/
def fracR (m lo hi : EReal) : EReal :=
  Scalar.select (Ideal.cmp .ogt hi lo) (Ideal.div (m - lo)
    (Scalar.select (Ideal.cmp .ogt hi lo) (hi - lo) (Ideal.ofBits .f32 0x3F800000#32))) (Ideal.ofBits .f32 0x00000000#32)

/-- The random number of a byte: the middle of its 256th. -/
def rndR (r : BitVec 8) : EReal :=
  (((r.setWidth 32).toInt : ℝ) + Ideal.ofBits .f32 0x3F000000#32) * Ideal.ofBits .f32 0x3B800000#32

/-- The magnitude code of a bounded magnitude. -/
def magR (m : EReal) (r : BitVec 8) : BitVec 32 :=
  IntOp.addi (cntR m) ((Ideal.cmp .olt (rndR r)
    (fracR m (gridR (cntR m)) (gridR (IntOp.minsi (IntOp.addi (cntR m) 1#32) 7#32)))).setWidth 32)

/-- The reference's code of a value. -/
def nibS (v : EReal) (r : BitVec 8) : BitVec 32 :=
  IntOp.ori (IntOp.shli .host ((IntOp.andi (Ideal.cmp .olt v (Ideal.ofBits .f32 0x00000000#32))
      (IntOp.cmpi .sgt (magR (min (max v (-v)) (Ideal.ofBits .f32 0x40C00000#32)) r) 0#32)).setWidth 32) 3#32)
    (magR (min (max v (-v)) (Ideal.ofBits .f32 0x40C00000#32)) r)

/-! ### The kernel's magnitude in real numbers -/

theorem two23 : Ideal.ofBits .f32 0x4B000000#32 = ((8388608 : ℝ) : EReal) :=
  f32_normal _ 150 0 (by decide) (by decide) (by decide) (by decide) (by decide) _ (by norm_num)
theorem two_neg8 : Ideal.ofBits .f32 0x3B800000#32 = ((1 / 256 : ℝ) : EReal) :=
  f32_normal _ 119 0 (by decide) (by decide) (by decide) (by decide) (by decide) _ (by norm_num)

/-- The top bits, when the word is `n` times `2^22` plus `C` plus the offset. -/
theorem top_spec (b : BitVec 32) (r : BitVec 8) (n C : ℕ) (hn : n ≤ 7) (hC : C ≤ 4194304) (h7 : n = 7 → C = 0)
    (hb : b.toNat = 4194304 * n + C + 4186111) :
    (topK b r).toNat = n + (if 8192 + 16384 * r.toNat < C then 1 else 0) := by
  have hr : r.toNat < 256 := r.isLt
  have e1 : (IntOp.shrui .vector b 14#32).toNat = b.toNat / 16384 := by
    show (if 14 < 32 then b >>> (14#32) else _ : BitVec 32).toNat = _
    rw [if_pos (by decide), BitVec.ushiftRight_eq', BitVec.toNat_ushiftRight, Nat.shiftRight_eq_div_pow]; rfl
  have e2 : (IntOp.subi (IntOp.shrui .vector b 14#32) (r.setWidth 32)).toNat = b.toNat / 16384 - r.toNat := by
    unfold IntOp.subi
    rw [BitVec.toNat_sub, e1, BitVec.toNat_setWidth]
    have : b.toNat / 16384 < 4194304 := by omega
    omega
  have e3 : ∀ x : BitVec 32, (IntOp.shrui .vector x 8#32).toNat = x.toNat / 256 := fun x => by
    show (if 8 < 32 then x >>> (8#32) else _ : BitVec 32).toNat = _
    rw [if_pos (by decide), BitVec.ushiftRight_eq', BitVec.toNat_ushiftRight, Nat.shiftRight_eq_div_pow]; rfl
  have e4 : ∀ x : BitVec 32, (IntOp.andi x 15#32).toNat = x.toNat % 16 := fun x => by
    unfold IntOp.andi
    rw [BitVec.toNat_and]
    exact Nat.and_two_pow_sub_one_eq_mod x.toNat 4
  unfold topK
  rw [e4, e3, e2, hb]
  split <;> omega

/-- The magnitude, when the sum lies from `2^j` up to `2^(j+1)` and is `n` and a fraction `φ` along the even scale. -/
theorem mag_core (w : ℝ) (j n : ℕ) (φ : ℝ) (r : BitVec 8) (hj : j ≤ 3) (h0 : (2 : ℝ) ^ j ≤ w) (h1 : w < (2 : ℝ) ^ (j + 1))
    (hn : n ≤ 7) (hnj : 2 * j ≤ n) (hφ0 : 0 ≤ φ) (hφ1 : φ ≤ 1) (h7 : n = 7 → φ = 0)
    (hl : 2 * (j : ℝ) + 2 * (w * (2 : ℝ) ^ (-(j : ℤ)) - 1) = n + φ) :
    (topK (wordK (w : EReal) (field (w : EReal))) r).toNat
      = n + (if ((r.toNat : ℝ) + 1 / 2) * (1 / 256) < φ then 1 else 0) := by
  have hf : field (w : EReal) = BitVec.ofNat 32 (127 + j) := field_eq w (127 + j) (by omega)
    (by rw [show ((127 + j : ℕ) : ℤ) - 127 = (j : ℤ) by push_cast; ring, zpow_natCast]; exact h0)
    (by rw [show ((127 + j : ℕ) : ℤ) + 1 - 127 = ((j + 1 : ℕ) : ℤ) by push_cast; ring, zpow_natCast]; exact h1)
  obtain ⟨C, hC⟩ : ∃ C : ℕ, (C : ℤ) = ⌈4194304 * φ⌉ :=
    ⟨⌈4194304 * φ⌉.toNat, Int.toNat_of_nonneg (Int.ceil_nonneg (by positivity))⟩
  have hC1 : C ≤ 4194304 := by
    have : (C : ℤ) ≤ 4194304 := by rw [hC, Int.ceil_le]; push_cast; linarith
    omega
  have hC7 : n = 7 → C = 0 := fun h => by
    have : (C : ℤ) = 0 := by rw [hC, h7 h]; simp
    omega
  have hB : ⌈(w * (2 : ℝ) ^ (-(j : ℤ)) - 1) * 8388608⌉ = ((4194304 * (n - 2 * j) + C : ℕ) : ℤ) := by
    have : (w * (2 : ℝ) ^ (-(j : ℤ)) - 1) * 8388608 = 4194304 * φ + ((4194304 * (n - 2 * j) : ℕ) : ℤ) := by
      push_cast [Nat.cast_sub hnj]
      linear_combination 4194304 * hl
    rw [this, Int.ceil_add_intCast, ← hC]
    push_cast; ring
  have hpw : pw (IntOp.addi (IntOp.subi 127#32 (BitVec.ofNat 32 (127 + j))) 127#32) = (((2 : ℝ) ^ (-(j : ℤ)) : ℝ) : EReal) := by
    have e : IntOp.addi (IntOp.subi 127#32 (BitVec.ofNat 32 (127 + j))) 127#32 = BitVec.ofNat 32 (127 - j) := by
      have : ∀ j : Fin 4, IntOp.addi (IntOp.subi 127#32 (BitVec.ofNat 32 (127 + j.val))) 127#32 = BitVec.ofNat 32 (127 - j.val) := by decide
      exact this ⟨j, by omega⟩
    rw [e, pw_eq _ (by omega) (by omega)]
    congr 2
    omega
  have hcond : (8192 + 16384 * r.toNat < C) ↔ ((r.toNat : ℝ) + 1 / 2) * (1 / 256) < φ := by
    have h : (8192 + 16384 * r.toNat < C) ↔ ((8192 + 16384 * r.toNat : ℕ) : ℤ) < ⌈4194304 * φ⌉ := by rw [← hC]; norm_cast
    rw [h, Int.lt_ceil]
    push_cast
    constructor <;> intro h <;> linarith
  have hw : (wordK (w : EReal) (field (w : EReal))).toNat = 4194304 * n + C + 4186111 := by
    unfold wordK
    rw [hf, hpw, one_f32, two23, ← EReal.coe_mul, ← EReal.coe_sub, ← EReal.coe_mul]
    have hfp : Ideal.fptosi 32 (Ideal.liftRound Int.ceil (((w * (2 : ℝ) ^ (-(j : ℤ)) - 1) * 8388608 : ℝ) : EReal))
        = BitVec.ofNat 32 (4194304 * (n - 2 * j) + C) := by
      show Ideal.fptosi 32 ((((⌈(w * (2 : ℝ) ^ (-(j : ℤ)) - 1) * 8388608⌉ : ℤ) : ℝ)) : EReal) = _
      rw [hB]
      generalize hN : 4194304 * (n - 2 * j) + C = N
      unfold Ideal.fptosi
      rw [← BitVec.ofInt_natCast]
      congr 1
      show max (-(2 ^ (32 - 1) : ℕ) : ℤ) (min ((2 ^ (32 - 1) : ℕ) - 1 : ℤ)
        (if 0 ≤ (((N : ℤ) : ℝ)) then ⌊((N : ℤ) : ℝ)⌋ else ⌈((N : ℤ) : ℝ)⌉)) = (N : ℤ)
      rw [Int.floor_intCast, Int.ceil_intCast, ite_self]
      norm_num
      omega
    rw [hfp]
    have hs : (IntOp.shli .vector (BitVec.ofNat 32 (127 + j)) 23#32).toNat = 8388608 * (127 + j) := by
      have : ∀ j : Fin 4, (IntOp.shli .vector (BitVec.ofNat 32 (127 + j.val)) 23#32).toNat = 8388608 * (127 + j.val) := by decide
      exact this ⟨j, by omega⟩
    unfold IntOp.addi
    rw [BitVec.toNat_add, BitVec.toNat_add, hs, BitVec.toNat_ofNat, BitVec.toNat_ofNat]
    omega
  rw [top_spec _ r n C hn hC1 hC7 hw]
  by_cases h : 8192 + 16384 * r.toNat < C
  · rw [if_pos h, if_pos (hcond.mp h)]
  · rw [if_neg h, if_neg (fun h' => h (hcond.mpr h'))]

/-! ### The reference's magnitude in real numbers -/

theorem cge (m c : ℝ) : Ideal.cmp .oge (m : EReal) (c : EReal) = if c ≤ m then 1#1 else 0#1 := by
  unfold Ideal.cmp
  by_cases h : c ≤ m
  · simp [h]
  · simp [h]
theorem clt (a b : ℝ) : Ideal.cmp .olt (a : EReal) (b : EReal) = if a < b then 1#1 else 0#1 := by
  unfold Ideal.cmp
  by_cases h : a < b
  · simp [h]
  · simp [h]

/-- The fraction between two grid values. -/
theorem frac_real (m lo hi : ℝ) (h : lo < hi) : fracR m lo hi = (((m - lo) / (hi - lo) : ℝ) : EReal) := by
  have hc : Ideal.cmp .ogt (hi : EReal) (lo : EReal) = 1#1 := by unfold Ideal.cmp; simp [h]
  have hd : hi - lo ≠ 0 := by linarith
  unfold fracR
  rw [hc]
  show Ideal.div (m - lo : EReal) (hi - lo : EReal) = _
  rw [← EReal.coe_sub, ← EReal.coe_sub]
  unfold Ideal.div
  rw [if_neg (by exact_mod_cast hd), ← EReal.coe_inv, ← EReal.coe_mul]
  rfl
theorem frac_none (m a : ℝ) : fracR m a a = ((0 : ℝ) : EReal) := by
  have hc : Ideal.cmp .ogt (a : EReal) (a : EReal) = 0#1 := by unfold Ideal.cmp; simp
  unfold fracR
  rw [hc, Common.ofBits_zero]
  rfl

theorem rnd_real (r : BitVec 8) : rndR r = ((((r.toNat : ℝ) + 1 / 2) * (1 / 256) : ℝ) : EReal) := by
  have hr : r.toNat < 256 := r.isLt
  have e : (r.setWidth 32).toInt = (r.toNat : ℤ) := by
    rw [BitVec.toInt_eq_toNat_of_lt (by rw [BitVec.toNat_setWidth]; omega), BitVec.toNat_setWidth]
    omega
  unfold rndR
  rw [e, half_f32, two_neg8]
  rw [EReal.coe_mul, EReal.coe_add]
  rfl

/-- The count of a real magnitude. -/
theorem cnt_real (m : ℝ) : cntR (m : EReal) = cnt7 (if 1 / 2 ≤ m then 1#1 else 0#1) (if 1 ≤ m then 1#1 else 0#1)
    (if 3 / 2 ≤ m then 1#1 else 0#1) (if 2 ≤ m then 1#1 else 0#1) (if 3 ≤ m then 1#1 else 0#1) (if 4 ≤ m then 1#1 else 0#1)
    (if 6 ≤ m then 1#1 else 0#1) := by
  unfold cntR
  rw [half_f32, one_f32, k3, two_f32, k5, k6, six, cge, cge, cge, cge, cge, cge, cge]

/-- The reference's magnitude, from the count and the fraction. -/
theorem magR_of (m : ℝ) (r : BitVec 8) (k : Fin 8) (φ : ℝ) (hk : cntR (m : EReal) = BitVec.ofNat 32 k.val)
    (hf : fracR m (gridR (BitVec.ofNat 32 k.val)) (gridR (IntOp.minsi (IntOp.addi (BitVec.ofNat 32 k.val) 1#32) 7#32)) = (φ : EReal)) :
    (magR (m : EReal) r).toNat = k.val + (if ((r.toNat : ℝ) + 1 / 2) * (1 / 256) < φ then 1 else 0) := by
  have h1 : ∀ k : Fin 8, (IntOp.addi (BitVec.ofNat 32 k.val) ((1#1 : BitVec 1).setWidth 32)).toNat = k.val + 1 := by decide
  have h0 : ∀ k : Fin 8, (IntOp.addi (BitVec.ofNat 32 k.val) ((0#1 : BitVec 1).setWidth 32)).toNat = k.val + 0 := by decide
  unfold magR
  rw [hk, hf, rnd_real, clt]
  split
  · exact h1 k
  · exact h0 k

/-- The sum of a real magnitude. -/
theorem wK_real (u : EReal) (m : ℝ) (h : max u (-u) = (m : EReal)) : wK u = ((m + max m 1 : ℝ) : EReal) := by
  unfold wK
  rw [h, one_f32, EReal.coe_add, EReal.coe_strictMono.monotone.map_max]

/-- One case: both magnitudes are `k`, or one more if the random number is less than the fraction. -/
theorem case_eq (u : EReal) (m w : ℝ) (r : BitVec 8) (k : Fin 8) (j : ℕ) (φ : ℝ) (hu : max u (-u) = (m : EReal))
    (hw : m + max m 1 = w) (hj : j ≤ 3) (h0 : (2 : ℝ) ^ j ≤ w) (h1 : w < (2 : ℝ) ^ (j + 1)) (hnj : 2 * j ≤ k.val)
    (hφ0 : 0 ≤ φ) (hφ1 : φ ≤ 1) (h7 : k.val = 7 → φ = 0) (hl : 2 * (j : ℝ) + 2 * (w * (2 : ℝ) ^ (-(j : ℤ)) - 1) = (k.val : ℝ) + φ)
    (hk : cntR (m : EReal) = BitVec.ofNat 32 k.val)
    (hf : fracR m (gridR (BitVec.ofNat 32 k.val)) (gridR (IntOp.minsi (IntOp.addi (BitVec.ofNat 32 k.val) 1#32) 7#32)) = (φ : EReal)) :
    (magK u r).toNat = (magR (m : EReal) r).toNat ∧ (magK u r).toNat ≤ 7 := by
  have e : (magK u r).toNat = k.val + (if ((r.toNat : ℝ) + 1 / 2) * (1 / 256) < φ then 1 else 0) := by
    unfold magK
    rw [wK_real u m hu, hw]
    exact mag_core w j k.val φ r hj h0 h1 (by omega) hnj hφ0 hφ1 h7 hl
  refine ⟨e.trans (magR_of m r k φ hk hf).symm, ?_⟩
  rw [e]
  by_cases h : k.val = 7
  · rw [if_neg (by rw [h7 h, not_lt]; positivity)]
    omega
  · split <;> omega

theorem g0 : gridR (BitVec.ofNat 32 0) = ((0 : ℝ) : EReal) := Common.ofBits_zero
theorem g1 : gridR (BitVec.ofNat 32 1) = ((1 / 2 : ℝ) : EReal) := half_f32
theorem g2 : gridR (BitVec.ofNat 32 2) = ((1 : ℝ) : EReal) := one_f32
theorem g3 : gridR (BitVec.ofNat 32 3) = ((3 / 2 : ℝ) : EReal) := k3
theorem g4 : gridR (BitVec.ofNat 32 4) = ((2 : ℝ) : EReal) := two_f32
theorem g5 : gridR (BitVec.ofNat 32 5) = ((3 : ℝ) : EReal) := k5
theorem g6 : gridR (BitVec.ofNat 32 6) = ((4 : ℝ) : EReal) := k6
theorem g7 : gridR (BitVec.ofNat 32 7) = ((6 : ℝ) : EReal) := six

theorem next : ∀ k : Fin 7, IntOp.minsi (IntOp.addi (BitVec.ofNat 32 k.val) 1#32) 7#32 = BitVec.ofNat 32 (k.val + 1) := by decide

/-- THE MAGNITUDES AGREE, for every magnitude from 0 to 6. -/
theorem mag_eq (u : EReal) (m : ℝ) (r : BitVec 8) (hu : max u (-u) = (m : EReal)) (hm0 : 0 ≤ m) (hm6 : m ≤ 6) :
    (magK u r).toNat = (magR (m : EReal) r).toNat ∧ (magK u r).toNat ≤ 7 := by
  have lo : m ≤ 1 → m + max m 1 = m + 1 := fun h => by rw [max_eq_right h]
  have hi : 1 ≤ m → m + max m 1 = 2 * m := fun h => by rw [max_eq_left h]; ring
  rcases lt_or_ge m (1 / 2) with a | a
  · refine case_eq u m (m + 1) r 0 0 (2 * m) hu (lo (by linarith)) (by norm_num) (by norm_num; linarith) (by norm_num; linarith) (by decide)
      (by linarith) (by linarith) (fun h => absurd h (by decide)) (by norm_num) ?_ ?_
    · rw [cnt_real, if_neg (by linarith), if_neg (by linarith), if_neg (by linarith), if_neg (by linarith), if_neg (by linarith), if_neg (by linarith), if_neg (by linarith)]; rfl
    · refine (congrArg₂ (fracR m) g0 ((congrArg gridR (next 0)).trans g1)).trans ((frac_real m _ _ (by norm_num)).trans ?_)
      congr 1; ring
  rcases lt_or_ge m 1 with b | b
  · refine case_eq u m (m + 1) r 1 0 (2 * m - 1) hu (lo (by linarith)) (by norm_num) (by norm_num; linarith) (by norm_num; linarith) (by decide)
      (by linarith) (by linarith) (fun h => absurd h (by decide)) (by norm_num) ?_ ?_
    · rw [cnt_real, if_pos (by linarith), if_neg (by linarith), if_neg (by linarith), if_neg (by linarith), if_neg (by linarith), if_neg (by linarith), if_neg (by linarith)]; rfl
    · refine (congrArg₂ (fracR m) g1 ((congrArg gridR (next 1)).trans g2)).trans ((frac_real m _ _ (by norm_num)).trans ?_)
      congr 1; ring
  rcases lt_or_ge m (3 / 2) with c | c
  · refine case_eq u m (2 * m) r 2 1 (2 * m - 2) hu (hi (by linarith)) (by norm_num) (by norm_num; linarith) (by norm_num; linarith) (by decide)
      (by linarith) (by linarith) (fun h => absurd h (by decide)) (by norm_num; ring) ?_ ?_
    · rw [cnt_real, if_pos (by linarith), if_pos (by linarith), if_neg (by linarith), if_neg (by linarith), if_neg (by linarith), if_neg (by linarith), if_neg (by linarith)]; rfl
    · refine (congrArg₂ (fracR m) g2 ((congrArg gridR (next 2)).trans g3)).trans ((frac_real m _ _ (by norm_num)).trans ?_)
      congr 1; ring
  rcases lt_or_ge m 2 with d | d
  · refine case_eq u m (2 * m) r 3 1 (2 * m - 3) hu (hi (by linarith)) (by norm_num) (by norm_num; linarith) (by norm_num; linarith) (by decide)
      (by linarith) (by linarith) (fun h => absurd h (by decide)) (by norm_num; ring) ?_ ?_
    · rw [cnt_real, if_pos (by linarith), if_pos (by linarith), if_pos (by linarith), if_neg (by linarith), if_neg (by linarith), if_neg (by linarith), if_neg (by linarith)]; rfl
    · refine (congrArg₂ (fracR m) g3 ((congrArg gridR (next 3)).trans g4)).trans ((frac_real m _ _ (by norm_num)).trans ?_)
      congr 1; ring
  rcases lt_or_ge m 3 with e | e
  · refine case_eq u m (2 * m) r 4 2 (m - 2) hu (hi (by linarith)) (by norm_num) (by norm_num; linarith) (by norm_num; linarith) (by decide)
      (by linarith) (by linarith) (fun h => absurd h (by decide)) (by norm_num; ring) ?_ ?_
    · rw [cnt_real, if_pos (by linarith), if_pos (by linarith), if_pos (by linarith), if_pos (by linarith), if_neg (by linarith), if_neg (by linarith), if_neg (by linarith)]; rfl
    · refine (congrArg₂ (fracR m) g4 ((congrArg gridR (next 4)).trans g5)).trans ((frac_real m _ _ (by norm_num)).trans ?_)
      congr 1; ring
  rcases lt_or_ge m 4 with f | f
  · refine case_eq u m (2 * m) r 5 2 (m - 3) hu (hi (by linarith)) (by norm_num) (by norm_num; linarith) (by norm_num; linarith) (by decide)
      (by linarith) (by linarith) (fun h => absurd h (by decide)) (by norm_num; ring) ?_ ?_
    · rw [cnt_real, if_pos (by linarith), if_pos (by linarith), if_pos (by linarith), if_pos (by linarith), if_pos (by linarith), if_neg (by linarith), if_neg (by linarith)]; rfl
    · refine (congrArg₂ (fracR m) g5 ((congrArg gridR (next 5)).trans g6)).trans ((frac_real m _ _ (by norm_num)).trans ?_)
      congr 1; ring
  rcases lt_or_ge m 6 with g | g
  · refine case_eq u m (2 * m) r 6 3 ((m - 4) / 2) hu (hi (by linarith)) (by norm_num) (by norm_num; linarith) (by norm_num; linarith) (by decide)
      (by linarith) (by linarith) (fun h => absurd h (by decide)) (by norm_num; ring) ?_ ?_
    · rw [cnt_real, if_pos (by linarith), if_pos (by linarith), if_pos (by linarith), if_pos (by linarith), if_pos (by linarith), if_pos (by linarith), if_neg (by linarith)]; rfl
    · refine (congrArg₂ (fracR m) g6 ((congrArg gridR (next 6)).trans g7)).trans ((frac_real m _ _ (by norm_num)).trans ?_)
      congr 1; norm_num
  · have h6 : m = 6 := le_antisymm hm6 g
    refine case_eq u m (2 * m) r 7 3 0 hu (hi (by linarith)) (by norm_num) (by norm_num; linarith) (by norm_num; linarith) (by decide)
      (by linarith) (by linarith) (fun _ => rfl) (by rw [h6]; norm_num) ?_ ?_
    · rw [cnt_real, if_pos (by linarith), if_pos (by linarith), if_pos (by linarith), if_pos (by linarith), if_pos (by linarith), if_pos (by linarith), if_pos (by linarith)]; rfl
    · exact (congrArg₂ (fracR m) g7 g7).trans (frac_none m 6)

/-! ### One code -/

/-- A magnitude with the sign bit of `s`, unless the magnitude is zero. -/
def sgn (k s : ℕ) : ℕ := k ||| ((s &&& (k + 7)) &&& 8)

theorem sgn_lt : ∀ (k : Fin 8) (s : Fin 16), sgn k.val s.val < 16 ∧ k.val + 7 < 16 ∧ (s.val &&& (k.val + 7)) < 16
    ∧ ((s.val &&& (k.val + 7)) &&& 8) < 16 := by decide

/-- On the truth values: the kernel's sign on a magnitude is the reference's. -/
theorem sign_eq : ∀ (k : Fin 8) (s b0 b1 b2 b3 b4 b5 b6 : BitVec 1),
    sgn k.val (Scalar.select s (IntOp.addi (cnt7 b0 b1 b2 b3 b4 b5 b6) 8#32) (cnt7 b0 b1 b2 b3 b4 b5 b6)).toNat
      = (IntOp.ori (IntOp.shli .host ((IntOp.andi s (IntOp.cmpi .sgt (BitVec.ofNat 32 k.val) 0#32)).setWidth 32) 3#32)
          (BitVec.ofNat 32 k.val)).toNat := by
  decide +kernel

theorem six_real (v : EReal) : ∃ m : ℝ, min (max v (-v)) (Ideal.ofBits .f32 0x40C00000#32) = (m : EReal) ∧ 0 ≤ m ∧ m ≤ 6 := by
  have h0 : (0 : EReal) ≤ max v (-v) := by
    rcases le_total 0 v with h | h
    · exact h.trans (le_max_left _ _)
    · exact (EReal.le_neg.mpr (by rw [neg_zero]; exact h)).trans (le_max_right _ _)
  rw [six]
  generalize max v (-v) = a at h0
  induction a with
  | bot => exact absurd h0 (not_le.mpr EReal.bot_lt_zero)
  | top => exact ⟨6, by rw [min_eq_right le_top], by norm_num, le_refl _⟩
  | coe a =>
    have ha : 0 ≤ a := by exact_mod_cast h0
    exact ⟨min a 6, (EReal.coe_strictMono.monotone.map_min).symm, le_min ha (by norm_num), min_le_right _ _⟩

/-- THE CODES AGREE, for every value and every random byte. -/
theorem nib_eq (v : EReal) (r : BitVec 8) :
    sgn (magK (clip v) r).toNat (nibK (clip v)).toNat = (nibS v r).toNat ∧ (magK (clip v) r).toNat ≤ 7 := by
  obtain ⟨m, hm, h0, h6⟩ := six_real v
  obtain ⟨e, hle⟩ := mag_eq (clip v) m r (by rw [abs_clip, hm]) h0 h6
  refine ⟨?_, hle⟩
  have hk : magR (m : EReal) r = BitVec.ofNat 32 (magK (clip v) r).toNat :=
    BitVec.eq_of_toNat_eq (by rw [BitVec.toNat_ofNat, e]; omega)
  unfold nibS nibK cnt
  rw [hm, hk, ← lt_clip v]
  generalize (magK (clip v) r).toNat = K at hle
  exact sign_eq ⟨K, Nat.lt_succ_of_le hle⟩ _ _ _ _ _ _ _ _

theorem nibS_lt (v : EReal) (r : BitVec 8) : (nibS v r).toNat < 16 := by
  obtain ⟨e, hle⟩ := nib_eq v r
  rw [← e]
  exact (sgn_lt ⟨_, Nat.lt_succ_of_le hle⟩ ⟨_, nibK_lt (clip v)⟩).1

/-- The word trick on eight codes at once: magnitudes `n` and codes `p` whose sign bits are to be taken. -/
theorem sign_word (M S : BitVec 32) (n p : ℕ → ℕ) (hn : ∀ i, n i ≤ 7) (hp : ∀ i, p i < 16) (hM : M.toNat = hex n)
    (hS : S.toNat = hex p) :
    (IntOp.ori M (IntOp.andi (IntOp.andi S (IntOp.addi M 2004318071#32)) 2290649224#32)).toNat
      = hex (fun i => sgn (n i) (p i)) := by
  have h7 : (2004318071#32 : BitVec 32).toNat = hex (fun _ => 7) := by decide
  have h8 : (2290649224#32 : BitVec 32).toNat = hex (fun _ => 8) := by decide
  have hf := fun i => sgn_lt ⟨n i, Nat.lt_succ_of_le (hn i)⟩ ⟨p i, hp i⟩
  have hn16 : ∀ i, n i < 16 := fun i => by have := hn i; omega
  have hs : hex n + hex (fun _ => 7) = hex (fun i => n i + 7) := by unfold hex; ring
  have hlt := hex_lt (fun i => n i + 7) (fun i => (hf i).2.1)
  unfold IntOp.andi IntOp.ori IntOp.addi
  rw [BitVec.toNat_or, BitVec.toNat_and, BitVec.toNat_and, BitVec.toNat_add, hM, hS, h7, h8, hs, Nat.mod_eq_of_lt hlt,
    hex_and _ _ hp (fun i => (hf i).2.1), hex_and _ _ (fun i => (hf i).2.2.1) (fun _ => by decide),
    hex_or _ _ hn16 (fun i => (hf i).2.2.2)]
  rfl

/-! ### One block -/

/-- The kernel's code of value `i` of a block with a random byte, and the reference's. -/
def codeSK (z : Fin 32 → EReal) (i : Fin 32) (r : BitVec 8) : ℕ :=
  sgn (magK (clip (z i * (kpow (eK z) * nrm))) r).toNat (nibK (clip (z i * (kpow (eK z) * nrm)))).toNat
def codeSR (z : Fin 32 → EReal) (i : Fin 32) (r : BitVec 8) : BitVec 32 := nibS (z i * rpow (eR z)) r

/-- The scaled values agree. -/
theorem scaled (z : Fin 32 → EReal) (h : InRange (amax (fun i => z i * nrm) * inv6)) (i : Fin 32) :
    z i * (kpow (eK z) * nrm) = z i * nrm * rpow (eR (fun i => z i * nrm)) := by
  obtain ⟨r, hr, hi⟩ := inv6_pos
  have h0 : amax (fun i => z i * nrm) = 0 ↔ amax (fun i => z i * nrm) * inv6 = 0 := by
    constructor
    · intro e; rw [e, zero_mul]
    · intro e
      rcases mul_eq_zero.mp e with e | e
      · exact e
      · rw [hi] at e
        exact absurd (by exact_mod_cast e) hr.ne'
  obtain ⟨n, hn0, hn1, hk, hR⟩ := exp_spec _ _ h0 h
  have he : eK z = eR (fun i => z i * nrm) := (block z h).1
  have hR' : eR (fun i => z i * nrm) = BitVec.ofInt 32 n := hR
  rw [he, hR', kpow_eq n hn0 hn1, rpow_eq n hn0 hn1, mul_comm _ nrm, mul_assoc]

/-- THE CODES OF A BLOCK AGREE. -/
theorem sblock (z : Fin 32 → EReal) (h : InRange (amax (fun i => z i * nrm) * inv6)) (i : Fin 32) (r : BitVec 8) :
    codeSK z i r = (codeSR (fun i => z i * nrm) i r).toNat := by
  unfold codeSK codeSR
  rw [scaled z h i]
  exact (nib_eq _ r).1

end Cert.Proof.DStoch

end
-- ==== Proof.DPanelIdeal.lean ====
/-
  One panel of `quant_dy` over the extended reals: block `g` of a chunk of 256 rotated rows `z`, column `l`, is `blk z g l`;
  its maximum and exponent are those `XSpec` names, its codes those `DStoch` names.
-/
module

public import proofs.«01_k».proof.Proof.DPiecesIdeal
public import proofs.«01_k».proof.Proof.XPanelIdeal
public import proofs.«01_k».proof.Proof.DStoch
public import Idealize.ShloMosaic.Lib.BitcastPair
public import Idealize.ShloMosaic.Lib.Pipeline.Value
public import Idealize.ShloMosaic.PureOps.Ideal.Laws

@[expose] public section
set_option maxRecDepth 8192

noncomputable section

namespace Cert.Proof.QuantDyIdeal

open Cert.QuantDyIdeal Cert.QuantDyIdeal.Gen Cert.Proof.XSpec Cert.Proof.XExp Cert.Proof.XNibble Cert.Proof.DStoch
open Idealize.ShloMosaic Idealize.ShloMosaic.TcCoe

/-- Block `g`, column `l`, of the rows `z`. -/
def blk (z : FVec Ideal S256x128 .f32) (g : Fin 8) (l : Fin 128) : Fin 32 → EReal :=
  fun i => z (ix2 ⟨32 * g.val + i.val, by omega⟩ l)

/-- The partial maxima. -/
theorem pMax_apply (z : FVec Ideal S256x128 .f32) (g : Fin 8) (r : ℕ) (hr : r < 8) (l : Fin 128) (p : Fin 64) (hp : p.val = 8 * g.val + r) :
    pMax z (ix2 p l) = Finset.univ.sup fun q : Fin 4 => max (blk z g l ⟨8 * q.val + r, by omega⟩) (-(blk z g l ⟨8 * q.val + r, by omega⟩)) := by
  have hb : (FloatOps.ofBits (F := Ideal) .f32 0xFF800000#32 : EReal) = ⊥ := by
    show Ideal.ofBits .f32 0xFF800000#32 = ⊥
    simp [Ideal.ofBits, Ideal.ieee]
  unfold pMax
  rw [shapeCast_self, shapeCast_apply _ _ _ (ix3 g ⟨r, hr⟩ l)
    (by rw [Shape.rowMajor_val_two, Shape.rowMajor_val_three]; show (g.val * 8 + r) * 128 + l.val = p.val * 128 + l.val; omega)]
  refine (Ideal.multiReduction_maximumf_single _ _ _ _ _ _).trans ?_
  rw [hb]
  unfold Finset.sup
  refine Finset.fold_congr fun q _ => ?_
  have hq : q.val < 4 := q.isLt
  show shapeCast S8x4x8x128 (absf z) shapeCasts_S256x128_S8x4x8x128 _ = _
  rw [shapeCast_apply _ _ _ (ix2 ⟨32 * g.val + (8 * q.val + r), by omega⟩ l)
    (by rw [Shape.rowMajor_val_two, Shape.rowMajor_val_four]; show (32 * g.val + (8 * q.val + r)) * 128 + l.val = ((g.val * 4 + q.val) * 8 + r) * 128 + l.val; omega)]
  rfl

/-- The block maxima. -/
theorem pAmax_apply (z : FVec Ideal S256x128 .f32) (g : Fin 8) (l : Fin 128) : pAmax z (ix2 g l) = amax (blk z g l) * nrm := by
  unfold amax
  rw [← Cert.Proof.QuantXIdeal.maxes (fun i => max (blk z g l i) (-(blk z g l i)))
    (fun r => if h : r < 8 then pMax z (ix2 ⟨8 * g.val + r, by omega⟩ l) else 0)
    (fun r h => by rw [dif_pos h]; exact pMax_apply z g r h l _ rfl)]
  have e : ∀ (r : ℕ) (h : r < 8) (inb : _),
      pMax z (LoadRect.idx { off := ![r, 0], size := S8x128.size, stride := ![8, 1], inb := inb : LoadRect S64x128 } (ix2 g l))
        = if h : r < 8 then pMax z (ix2 ⟨8 * g.val + r, by omega⟩ l) else 0 := by
    intro r h inb
    rw [dif_pos h]
    refine congrArg (pMax z) (funext fun a => Fin.ext ?_)
    match a with
    | ⟨0, _⟩ => show r + 8 * g.val = 8 * g.val + r; omega
    | ⟨1, _⟩ => show 0 + 1 * l.val = l.val; omega
  rw [← e 0 (by decide) inb_S64x128_S8x128_0_0_s_8_1, ← e 1 (by decide) inb_S64x128_S8x128_1_0_s_8_1,
    ← e 2 (by decide) inb_S64x128_S8x128_2_0_s_8_1, ← e 3 (by decide) inb_S64x128_S8x128_3_0_s_8_1,
    ← e 4 (by decide) inb_S64x128_S8x128_4_0_s_8_1, ← e 5 (by decide) inb_S64x128_S8x128_5_0_s_8_1,
    ← e 6 (by decide) inb_S64x128_S8x128_6_0_s_8_1, ← e 7 (by decide) inb_S64x128_S8x128_7_0_s_8_1]
  rfl

/-- One step of the search over a vector, -/
def stepV (q : FVec Ideal S8x128 .f32) (f : IVec S8x128 32) (b : BitVec 32) : IVec S8x128 32 :=
  select (cmpf .oge q (bitcastToFloat .f32 (shli (addi f (broadcast S8x128 b)) (broadcast S8x128 23#32)))) (addi f (broadcast S8x128 b)) f

/-- at an index. -/
theorem stepV_apply (q : FVec Ideal S8x128 .f32) (f : IVec S8x128 32) (b : BitVec 32) (j : S8x128.Idx) :
    stepV q f b j = step (q j) (f j) b := rfl

theorem pay10_eq (a : FVec Ideal S8x128 .f32) :
    k0_pay10 a = stepV (k0_pay9 a) (stepV (k0_pay9 a) (stepV (k0_pay9 a) (stepV (k0_pay9 a) (broadcast S8x128 0#32) 128#32) 64#32) 32#32) 16#32 := rfl
theorem pay12_eq (q : FVec Ideal S8x128 .f32) (f : IVec S8x128 32) :
    k0_pay12 q f (bitcastToFloat .f32 (shli (addi f (broadcast S8x128 8#32)) (broadcast S8x128 23#32)))
      = select (cmpf .oeq q (broadcast S8x128 (Scalar.ofBits .f32 0x00000000#32))) (broadcast S8x128 0#32)
        (subi (stepV q (stepV q (stepV q (stepV q f 8#32) 4#32) 2#32) 1#32) (broadcast S8x128 126#32)) := rfl

/-- The search at an index. -/
theorem pExp_apply (a : FVec Ideal S8x128 .f32) (j : S8x128.Idx) : pExp a j = kexp (a j * inv6) := by
  have h : pExp a = _ := pay12_eq (k0_pay9 a) (k0_pay10 a)
  rw [h]
  have h2 : ∀ (q : FVec Ideal S8x128 .f32) (g : IVec S8x128 32),
      (select (cmpf .oeq q (broadcast S8x128 (Scalar.ofBits .f32 0x00000000#32))) (broadcast S8x128 0#32)
        (subi g (broadcast S8x128 126#32))) j
      = Scalar.select (Ideal.cmp .oeq (q j) (Ideal.ofBits .f32 0x00000000#32)) 0#32 (IntOp.subi (g j) 126#32) := fun _ _ => rfl
  rw [h2, stepV_apply, stepV_apply, stepV_apply, stepV_apply, pay10_eq, stepV_apply, stepV_apply, stepV_apply, stepV_apply]
  have hq : k0_pay9 a j = a j * inv6 := rfl
  have h0 : (broadcast S8x128 0#32 : IVec S8x128 32) j = 0#32 := rfl
  rw [hq, h0]
  unfold kexp field
  rfl

/-- The exponents. -/
theorem pE_apply (z : FVec Ideal S256x128 .f32) (g : Fin 8) (l : Fin 128) : pE z (ix2 g l) = eK (blk z g l) := by
  unfold pE eK qK
  rw [pExp_apply, pAmax_apply]

/-- The biased exponents. -/
theorem biased_apply (e : IVec S8x128 32) (j : S8x128.Idx) : k0_pay18 e j = IntOp.addi (e j) 127#32 := by
  unfold k0_pay18
  rw [shapeCast_self]
  rfl

/-- The factors. -/
theorem factor_apply (e : IVec S8x128 32) (j : S8x128.Idx) : k0_pay19 (F := Ideal) e j = kpow (e j) * nrm := by
  unfold k0_pay19
  rw [shapeCast_self]
  rfl

/-- One block of scaled and clipped values. -/
theorem piece_apply (z : FVec Ideal S256x128 .f32) (o : ℕ) (ho : o + 32 ≤ 256) (hs : S256x128.Slices ![o, 0] S32x128)
    (row : FVec Ideal S1x128 .f32) (i : Fin 32) (l : Fin 128) :
    minimumf (broadcast S32x128 (Scalar.ofBits (F := Ideal) .f32 0x40C00000#32)) (maximumf (broadcast S32x128 (Scalar.ofBits (F := Ideal) .f32 0xC0C00000#32))
      (mulf (extractStridedSlice S32x128 ![o, 0] z hs) (broadcastTo S32x128 row broadcasts_S1x128_S32x128))) (ix2 i l)
      = clip (z (ix2 ⟨o + i.val, by omega⟩ l) * row (ix2 0 l)) := by
  have h1 : extractStridedSlice S32x128 ![o, 0] z hs (ix2 i l) = z (ix2 ⟨o + i.val, by omega⟩ l) :=
    extractStridedSlice_apply _ z hs _ _ (fun a => match a with
      | ⟨0, _⟩ => rfl
      | ⟨1, _⟩ => by show l.val = 0 + l.val; omega)
  have h2 : broadcastTo S32x128 row broadcasts_S1x128_S32x128 (ix2 i l) = row (ix2 0 l) :=
    broadcastTo_apply row _ _ _ (fun a => match a with
      | ⟨0, _⟩ => rfl
      | ⟨1, _⟩ => rfl)
  rw [← h1, ← h2]
  rfl

/-- A row of the factors at an index. -/
theorem pRow_apply (s : FVec Ideal S8x128 .f32) (g : Fin 8) (inb : _) (l : Fin 128) :
    pRow s (Rect.unit (s := S8x128) ![g.val, 0] S1x128.size inb) (ix2 0 l) = s (ix2 g l) := by
  refine congrArg s (funext fun a => Fin.ext ?_)
  match a with
  | ⟨0, _⟩ => show g.val + 1 * 0 = g.val; omega
  | ⟨1, _⟩ => show 0 + 1 * l.val = l.val; omega

/-- Eight blocks of 32 rows, one under the other. -/
theorem concat8 (f : Fin 8 → (S32x128.Idx → EReal)) (h : _) (g : Fin 8) (i : Fin 32) (l : Fin 128) :
    concatenate S256x128 0 [⟨S32x128, f 0⟩, ⟨S32x128, f 1⟩, ⟨S32x128, f 2⟩, ⟨S32x128, f 3⟩, ⟨S32x128, f 4⟩, ⟨S32x128, f 5⟩,
      ⟨S32x128, f 6⟩, ⟨S32x128, f 7⟩] h (ix2 ⟨32 * g.val + i.val, by omega⟩ l) = f g (ix2 i l) :=
  concatenate_ofFn_apply (t := S256x128) (s₁ := S32x128) 0 f h rfl 32 rfl _ g
    (by show (32 * g.val + i.val) / 32 = g.val; omega) (ix2 i l)
    (by show i.val = (32 * g.val + i.val) % 32; omega)
    (fun b hb => match b, hb with
      | ⟨0, _⟩, hb => absurd rfl hb
      | ⟨1, _⟩, _ => rfl)

theorem slices_ok : ∀ n : Fin 8, S256x128.Slices ![32 * n.val, 0] S32x128 := by decide
theorem row_ok : ∀ n : Fin 8, ∀ a, (![n.val, 0] : Fin 2 → ℕ) a + S1x128.size a ≤ S8x128.size a := by decide

/-- The scaled and clipped values. -/
theorem pU_apply (z : FVec Ideal S256x128 .f32) (s : FVec Ideal S8x128 .f32) (g : Fin 8) (i : Fin 32) (l : Fin 128) :
    pU z s (ix2 ⟨32 * g.val + i.val, by omega⟩ l) = clip (blk z g l i * s (ix2 g l)) :=
  (concat8 (fun n => minimumf (broadcast S32x128 (Scalar.ofBits (F := Ideal) .f32 0x40C00000#32)) (maximumf (broadcast S32x128 (Scalar.ofBits (F := Ideal) .f32 0xC0C00000#32))
      (mulf (extractStridedSlice S32x128 ![32 * n.val, 0] z (slices_ok n)) (broadcastTo S32x128 (pRow s (Rect.unit (s := S8x128) ![n.val, 0] S1x128.size (row_ok n))) broadcasts_S1x128_S32x128))))
    concatenates_S32x128_S32x128_S32x128_S32x128_S32x128_S32x128_S32x128_S32x128_S256x128_d0 g i l).trans
  ((piece_apply z (32 * g.val) (by omega) (slices_ok g) _ i l).trans (by rw [pRow_apply]; rfl))

/-- The or of eight codes, code `r` at bit `4 r`. -/
def packFn (c0 c1 c2 c3 c4 c5 c6 c7 : BitVec 32) : BitVec 32 :=
  IntOp.ori (IntOp.ori (IntOp.ori (IntOp.ori (IntOp.ori (IntOp.ori (IntOp.ori c0
      (IntOp.shli .vector c1 4#32)) (IntOp.shli .vector c2 8#32)) (IntOp.shli .vector c3 12#32))
      (IntOp.shli .vector c4 16#32)) (IntOp.shli .vector c5 20#32)) (IntOp.shli .vector c6 24#32))
      (IntOp.shli .vector c7 28#32)

theorem slice_apply (v : IVec S32x8x128 32) (k : Fin 8) (hs : S32x8x128.Slices ![0, k.val, 0] S32x1x128) (R : Fin 32) (l : Fin 128) :
    shapeCast S32x128 (extractStridedSlice S32x1x128 ![0, k.val, 0] v hs) shapeCasts_S32x1x128_S32x128 (ix2 R l) = v (ix3 R k l) := by
  rw [shapeCast_apply _ _ _ (ix3 R 0 l)
    (by rw [Shape.rowMajor_val_two, Shape.rowMajor_val_three]; show (R.val * 1 + 0) * 128 + l.val = R.val * 128 + l.val; omega)]
  exact extractStridedSlice_apply _ v hs _ _ (fun a => match a with
      | ⟨0, _⟩ => by show R.val = 0 + R.val; omega
      | ⟨1, _⟩ => rfl
      | ⟨2, _⟩ => by show l.val = 0 + l.val; omega)

theorem pPack_apply (v : IVec S32x8x128 32) (R : Fin 32) (l : Fin 128) :
    pPack v (ix2 R l) = packFn (v (ix3 R 0 l)) (v (ix3 R 1 l)) (v (ix3 R 2 l)) (v (ix3 R 3 l)) (v (ix3 R 4 l)) (v (ix3 R 5 l))
      (v (ix3 R 6 l)) (v (ix3 R 7 l)) := by
  rw [← slice_apply v 0 slices_S32x8x128_o0_0_0_S32x1x128 R l, ← slice_apply v 1 slices_S32x8x128_o0_1_0_S32x1x128 R l,
    ← slice_apply v 2 slices_S32x8x128_o0_2_0_S32x1x128 R l, ← slice_apply v 3 slices_S32x8x128_o0_3_0_S32x1x128 R l,
    ← slice_apply v 4 slices_S32x8x128_o0_4_0_S32x1x128 R l, ← slice_apply v 5 slices_S32x8x128_o0_5_0_S32x1x128 R l,
    ← slice_apply v 6 slices_S32x8x128_o0_6_0_S32x1x128 R l, ← slice_apply v 7 slices_S32x8x128_o0_7_0_S32x1x128 R l]
  rfl

/-- Words read as bytes: row `p` of the bytes is byte `p % 4` of row `p / 4` of the words. -/
theorem bytes_apply (w : IVec S32x128 32) (p l : Fin 128) :
    (bitcast S128x128 8 w bitcasts_S32x128_w32_S128x128_w8 (ix2 p l)).toNat
      = (w (ix2 ⟨p.val / 4, by omega⟩ l)).toNat / 2 ^ (8 * (p.val % 4)) % 256 := by
  have e : bitcast S128x128 8 w bitcasts_S32x128_w32_S128x128_w8 (ix2 p l)
      = (w (ix2 ⟨p.val / 4, by omega⟩ l)).extractLsb' (8 * (p.val % 4)) 8 := by
    apply BitVec.eq_of_getLsbD_eq
    intro q hq
    have h1 : (p.val * 8 + q) / 32 = p.val / 4 := by omega
    have h2 : (p.val * 8 + q) % 32 = 8 * (p.val % 4) + q := by omega
    rw [bitcast_getLsbD w _ _ q hq (by decide), BitVec.getLsbD_extractLsb']
    simp only [hq, decide_true, Bool.true_and]
    rw [← h2]
    refine congrArg (fun j => (w j).getLsbD _) ?_
    funext c
    match c with
    | ⟨0, _⟩ => exact Fin.ext ((Shape.Bitcasts.srcIdx_row _ _ _ _ ⟨0, Nat.zero_lt_two⟩ rfl).trans h1)
    | ⟨1, _⟩ => exact Fin.ext (Shape.Bitcasts.srcIdx_other _ _ _ _ ⟨1, Nat.one_lt_two⟩ (by show ¬ 1 + 2 = 2; omega))
  rw [e, BitVec.extractLsb'_toNat, Nat.shiftRight_eq_div_pow]

/-- One step of the search over a panel. -/
def stepP (q : FVec Ideal S256x128 .f32) (f : IVec S256x128 32) (b : BitVec 32) : IVec S256x128 32 :=
  select (cmpf .oge q (bitcastToFloat .f32 (shli (addi f (broadcast S256x128 b)) (broadcast S256x128 23#32)))) (addi f (broadcast S256x128 b)) f
theorem stepP_apply (q : FVec Ideal S256x128 .f32) (f : IVec S256x128 32) (b : BitVec 32) (j : S256x128.Idx) :
    stepP q f b j = step (q j) (f j) b := rfl

/-- The word from the exponent field, over a panel. -/
def wordP (w : FVec Ideal S256x128 .f32) (f : IVec S256x128 32) : IVec S256x128 32 :=
  addi (addi (shli f (broadcast S256x128 23#32)) (fptosi 32 (ceil (mulf (subf (mulf w (bitcastToFloat .f32
    (shli (addi (subi (broadcast S256x128 127#32) f) (broadcast S256x128 127#32)) (broadcast S256x128 23#32))))
    (broadcast S256x128 (Scalar.ofBits .f32 0x3F800000#32))) (broadcast S256x128 (Scalar.ofBits .f32 0x4B000000#32))))))
    (broadcast S256x128 3233800191#32)
theorem wordP_apply (w : FVec Ideal S256x128 .f32) (f : IVec S256x128 32) (j : S256x128.Idx) :
    wordP w f j = wordK (w j) (f j) := rfl

theorem pay32_eq (w : FVec Ideal S256x128 .f32) :
    k0_pay32 w k0_pay30 k0_pay31 = stepP w (stepP w (stepP w (stepP w (stepP w (broadcast S256x128 0#32) 128#32) 64#32) 32#32) 16#32) 8#32 := rfl
theorem pay34_eq (w : FVec Ideal S256x128 .f32) (f : IVec S256x128 32) :
    k0_pay34 w f k0_pay33 = wordP w (stepP w (stepP w (stepP w f 4#32) 2#32) 1#32) := rfl

theorem pW_apply (u : FVec Ideal S256x128 .f32) (j : S256x128.Idx) : pW u j = wK (u j) := rfl

/-- The words of a panel. -/
theorem pBits_apply (u : FVec Ideal S256x128 .f32) (j : S256x128.Idx) : pBits u j = wordK (wK (u j)) (field (wK (u j))) := by
  unfold pBits
  rw [pay34_eq, wordP_apply, stepP_apply, stepP_apply, stepP_apply, pay32_eq, stepP_apply, stepP_apply, stepP_apply,
    stepP_apply, stepP_apply, pW_apply]
  rfl

/-- The magnitudes of a panel. -/
theorem pMag_apply (u : FVec Ideal S256x128 .f32) (rnd : IVec S256x128 8) (j : S256x128.Idx) : pMag u rnd j = magK (u j) (rnd j) := by
  have h : pMag u rnd j = topK (pBits u j) (rnd j) := rfl
  rw [h, pBits_apply]
  rfl
theorem pCnt_apply (u : FVec Ideal S256x128 .f32) (j : S256x128.Idx) : pCnt u j = nibK (u j) := rfl

/-- The packed signs at an index. -/
theorem pSign_apply (m s : IVec S32x128 32) (j : S32x128.Idx) : pSign m s j
    = IntOp.ori (m j) (IntOp.andi (IntOp.andi (s j) (IntOp.addi (m j) 2004318071#32)) 2290649224#32) := rfl

/-- The kernel's code of a scaled value. -/
def cS (v : EReal) (r : BitVec 8) : ℕ := sgn (magK v r).toNat (nibK v).toNat

/-- The codes from the scaled values. -/
theorem pCodes_apply (u : FVec Ideal S256x128 .f32) (rnd : IVec S256x128 8) (hm : ∀ j, (magK (u j) (rnd j)).toNat ≤ 7) (l p : Fin 128) :
    pCodes u rnd (ix2 l p) = byte (cS (u (ix2 ⟨2 * p.val, by omega⟩ l)) (rnd (ix2 ⟨2 * p.val, by omega⟩ l)))
      (cS (u (ix2 ⟨2 * p.val + 1, by omega⟩ l)) (rnd (ix2 ⟨2 * p.val + 1, by omega⟩ l))) := by
  unfold pCodes
  rw [transpose_apply _ _ _ _ (ix2 p l) (fun b => match b with
    | ⟨0, _⟩ => rfl
    | ⟨1, _⟩ => rfl)]
  apply BitVec.eq_of_toNat_eq
  rw [bytes_apply, pSign_apply, pPack_apply, pPack_apply]
  have hv : ∀ (w : IVec S256x128 32) (k : Fin 8), shapeCast S32x8x128 w shapeCasts_S256x128_S32x8x128 (ix3 (⟨p.val / 4, by omega⟩ : Fin 32) k l)
      = w (ix2 ⟨8 * (p.val / 4) + k.val, by omega⟩ l) := by
    intro w k
    rw [shapeCast_apply _ _ _ (ix2 ⟨8 * (p.val / 4) + k.val, by omega⟩ l)
      (by rw [Shape.rowMajor_val_two, Shape.rowMajor_val_three]; show (8 * (p.val / 4) + k.val) * 128 + l.val = ((p.val / 4) * 8 + k.val) * 128 + l.val; omega)]
  rw [hv _ 0, hv _ 1, hv _ 2, hv _ 3, hv _ 4, hv _ 5, hv _ 6, hv _ 7, hv _ 0, hv _ 1, hv _ 2, hv _ 3, hv _ 4, hv _ 5, hv _ 6, hv _ 7]
  simp only [pMag_apply, pCnt_apply]
  let a : ℕ → BitVec 32 := fun k => if h : k < 8 then magK (u (ix2 ⟨8 * (p.val / 4) + k, by omega⟩ l)) (rnd (ix2 ⟨8 * (p.val / 4) + k, by omega⟩ l)) else 0
  let c : ℕ → BitVec 32 := fun k => if h : k < 8 then nibK (u (ix2 ⟨8 * (p.val / 4) + k, by omega⟩ l)) else 0
  have ha : ∀ i, (a i).toNat ≤ 7 := by
    intro i
    by_cases h : i < 8
    · simp only [a, dif_pos h]; exact hm _
    · simp only [a, dif_neg h]; decide
  have hc : ∀ i, (c i).toNat < 16 := by
    intro i
    by_cases h : i < 8
    · simp only [c, dif_pos h]; exact nibK_lt _
    · simp only [c, dif_neg h]; decide
  have hs : ∀ i, sgn (a i).toNat (c i).toNat < 16 := fun i => (sgn_lt ⟨_, Nat.lt_succ_of_le (ha i)⟩ ⟨_, hc i⟩).1
  have hw := sign_word (packFn (a 0) (a 1) (a 2) (a 3) (a 4) (a 5) (a 6) (a 7)) (packFn (c 0) (c 1) (c 2) (c 3) (c 4) (c 5) (c 6) (c 7))
    (fun i => (a i).toNat) (fun i => (c i).toNat) ha hc (pack_word a (fun i => by have := ha i; omega)) (pack_word c hc)
  have e : ∀ k (hk : k < 8) (q : Fin 256), q.val = 8 * (p.val / 4) + k → sgn (a k).toNat (c k).toNat = cS (u (ix2 q l)) (rnd (ix2 q l)) := by
    intro k hk q hq
    have hq' : q = ⟨8 * (p.val / 4) + k, by omega⟩ := Fin.ext hq
    simp only [a, c, dif_pos hk]
    rw [hq']
    rfl
  rw [← e (2 * (p.val % 4)) (by omega) ⟨2 * p.val, by omega⟩ (by show 2 * p.val = 8 * (p.val / 4) + 2 * (p.val % 4); omega),
    ← e (2 * (p.val % 4) + 1) (by omega) ⟨2 * p.val + 1, by omega⟩ (by show 2 * p.val + 1 = 8 * (p.val / 4) + (2 * (p.val % 4) + 1); omega)]
  refine (congrArg (fun n => n / 2 ^ (8 * (p.val % 4)) % 256) hw).trans ?_
  rw [hex_byte _ hs _ (Nat.mod_lt _ (by decide))]
  unfold byte
  rw [BitVec.toNat_ofNat]
  have := hs (2 * (p.val % 4)); have := hs (2 * (p.val % 4) + 1)
  omega

/-- THE CODES OF A PANEL. -/
theorem pC_apply (z : FVec Ideal S256x128 .f32) (rnd : IVec S256x128 8) (l p : Fin 128) :
    pC z rnd (ix2 l p)
      = byte (codeSK (blk z ⟨p.val / 16, by omega⟩ l) ⟨2 * (p.val % 16), by omega⟩ (rnd (ix2 ⟨2 * p.val, by omega⟩ l)))
        (codeSK (blk z ⟨p.val / 16, by omega⟩ l) ⟨2 * (p.val % 16) + 1, by omega⟩ (rnd (ix2 ⟨2 * p.val + 1, by omega⟩ l))) := by
  have hu : ∀ (q : Fin 256) (c : Fin 128) (g : Fin 8) (i : Fin 32), q.val = 32 * g.val + i.val →
      pU z (k0_pay19 (pE z)) (ix2 q c) = clip (blk z g c i * (kpow (eK (blk z g c)) * nrm)) := by
    intro q c g i hq
    have hq' : q = ⟨32 * g.val + i.val, by omega⟩ := Fin.ext hq
    rw [hq', pU_apply, factor_apply, pE_apply]
  unfold pC
  rw [pCodes_apply _ _ (fun j => ?_)]
  · rw [hu ⟨2 * p.val, by omega⟩ l ⟨p.val / 16, by omega⟩ ⟨2 * (p.val % 16), by omega⟩ (by show 2 * p.val = 32 * (p.val / 16) + 2 * (p.val % 16); omega),
      hu ⟨2 * p.val + 1, by omega⟩ l ⟨p.val / 16, by omega⟩ ⟨2 * (p.val % 16) + 1, by omega⟩ (by show 2 * p.val + 1 = 32 * (p.val / 16) + (2 * (p.val % 16) + 1); omega)]
    rfl
  · have h0 : (j 0).val < 256 := (j 0).isLt
    have hj : j = ix2 (j 0) (j 1) := funext fun a => match a with
      | ⟨0, _⟩ => rfl
      | ⟨1, _⟩ => rfl
    have h := hu (j 0) (j 1) ⟨(j 0).val / 32, by omega⟩ ⟨(j 0).val % 32, by omega⟩ (by show (j 0).val = 32 * ((j 0).val / 32) + (j 0).val % 32; omega)
    rw [show pU z (k0_pay19 (pE z)) j = _ from (congrArg (pU z (k0_pay19 (pE z))) hj).trans h]
    exact (Cert.Proof.DStoch.nib_eq _ _).2

end Cert.Proof.QuantDyIdeal

end
-- ==== Proof.DValueIdeal.lean ====
/-
  What `quant_dy` leaves in the arrays of its codes and of its block scales, over the extended reals, as functions of its
  arguments.
-/
module

public import proofs.«01_k».proof.Proof.DHostIdeal
public import proofs.«01_k».proof.Proof.XValueIdeal
public import proofs.«01_k».proof.Proof.DPanelIdeal
public import proofs.«01_k».proof.Proof.DRunIdeal

@[expose] public section
set_option maxRecDepth 8192

noncomputable section

namespace Cert.Proof.QuantDyIdeal

open scoped BigOperators
open Cert.QuantDyIdeal Cert.QuantDyIdeal.Gen Cert.Proof.XSpec Cert.Proof.DSpec Cert.Proof.DStoch Cert.Proof.Common
open Idealize.ShloMosaic Idealize.ShloMosaic.TcCoe

variable (m : (ℓ : Loc nD τ sig) → Buf (Elt Ideal) ℓ)

/-! ### The rotation's product -/

abbrev D : DotDims S256x256 S256x256 S256x256 := dot_S256x256_S256x256_S256x256_1_0_0_1_n_n
theorem lhs_0 (j : S256x256.Idx) (k : D.contr.Idx) : (D.lhsIdx j k 0 : ℕ) = j 0 := by
  simp [DotDims.lhsIdx, D, dot_S256x256_S256x256_S256x256_1_0_0_1_n_n]; rfl
theorem lhs_1 (j : S256x256.Idx) (k : D.contr.Idx) : (D.lhsIdx j k 1 : ℕ) = k ⟨0, by decide⟩ := by
  simp [DotDims.lhsIdx, D, dot_S256x256_S256x256_S256x256_1_0_0_1_n_n]; rfl
theorem rhs_0 (j : S256x256.Idx) (k : D.contr.Idx) : (D.rhsIdx j k 0 : ℕ) = k ⟨0, by decide⟩ := by
  simp [DotDims.rhsIdx, D, dot_S256x256_S256x256_S256x256_1_0_0_1_n_n]; rfl
theorem rhs_1 (j : S256x256.Idx) (k : D.contr.Idx) : (D.rhsIdx j k 1 : ℕ) = j 1 := by
  simp [DotDims.rhsIdx, D, dot_S256x256_S256x256_S256x256_1_0_0_1_n_n]; rfl

/-- A chunk of 256 rows rotated, at an index: row `i` of the product is row `i % 32` of its own block rotated. -/
theorem pay5_apply (R : Vec Ideal S256x256 .bf16) (W : Vec Ideal S256x256 .bf16) (s : ℕ → EReal) (X : ℕ → ℕ → EReal)
    (g0 c0 : ℕ) (hR : ∀ i : S256x256.Idx, R i = if (i 0).val / 32 = (i 1).val / 32 then
      had ((i 0).val % 32) ((i 1).val % 32) * s ((i 1).val % 32) else 0)
    (hW : ∀ i : S256x256.Idx, W i = X (32 * g0 + (i 0).val) (c0 + (i 1).val)) (j : S256x256.Idx) :
    k0_pay5 R W j = zB X s (g0 + (j 0).val / 32) (c0 + (j 1).val) ⟨(j 0).val % 32, by omega⟩ := by
  have h0 : (j 0).val < 256 := (j 0).isLt
  unfold k0_pay5
  simp only [shapeCast_self]
  have h := matmul_eq_sum D 256 rfl rfl R W (constant (F := Ideal) S256x256 .f32 0x00000000#32) j
    (fun k => (if (j 0).val / 32 = k / 32 then had ((j 0).val % 32) (k % 32) * s (k % 32) else 0)
      * X (32 * g0 + k) (c0 + (j 1).val)) (fun q => by
    rw [hR, hW, lhs_0, lhs_1, rhs_0, rhs_1])
  rw [ValueIdx.constant_apply, ofBits_zero, zero_add,
    Cert.Proof.QuantXIdeal.own_block (fun a b => had a b * s b) (fun k => X (32 * g0 + k) (c0 + (j 1).val)) _ h0] at h
  refine Eq.trans h ?_
  unfold zB
  refine Finset.sum_congr rfl fun k _ => ?_
  dsimp only
  rw [show 32 * g0 + (32 * ((j 0).val / 32) + k) = 32 * (g0 + (j 0).val / 32) + k by omega]

/-! ### The blocks a grid point reads and writes -/

theorem index_0 : ∀ t : Fin cfg0.N, win0_0.index t (0 : Fin 2) = t.val % 12 ∧ win0_0.index t (1 : Fin 2) = t.val / 12 :=
  (by decide +kernel : ∀ t : Fin grid0.N, _)
theorem index_1 : ∀ t : Fin cfg0.N, win0_1.index t (0 : Fin 2) = t.val % 12 ∧ win0_1.index t (1 : Fin 2) = t.val / 12 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = t.val / 12 ∧ win0_3.index t (1 : Fin 2) = t.val % 12 :=
  (by decide +kernel : ∀ t : Fin grid0.N, _)
theorem index_4 : ∀ t : Fin cfg0.N, win0_4.index t (0 : Fin 2) = t.val / 12 ∧ win0_4.index t (1 : Fin 2) = t.val % 12 :=
  (by decide +kernel : ∀ t : Fin grid0.N, _)

/-- Point `t` reads rows `4096 (t % 12) …`, columns `256 (t / 12) …` of the rows of `dy`, -/
theorem x0_apply (c : Dev nD) (t : Fin cfg0.N) (j : S4096x256.Idx) :
    x0At m c t j = dAt (dArg m c) (4096 * (t.val % 12) + (j 0).val) (256 * (t.val / 12) + (j 1).val) := by
  have hi := index_0 t
  unfold x0At iblk
  rw [View.read_apply]
  show rowArr m c _ = _
  rw [rowArr_apply]
  refine congrArg₂ _ ?_ ?_
  · show win0_0.index t 0 * 4096 + 1 * (j 0).val = _; rw [hi.1]; omega
  · show win0_0.index t 1 * 256 + 1 * (j 1).val = _; rw [hi.2]; omega

/-- the same of the random bytes, -/
theorem x1_apply (c : Dev nD) (t : Fin cfg0.N) (j : S4096x256.Idx) :
    x1At m c t j = rAt (rArg m c) (4096 * (t.val % 12) + (j 0).val) (256 * (t.val / 12) + (j 1).val) := by
  have hi := index_1 t
  unfold x1At iblk
  rw [View.read_apply]
  show rndArr m c _ = _
  rw [rndArr_apply]
  refine congrArg₂ _ ?_ ?_
  · show win0_1.index t 0 * 4096 + 1 * (j 0).val = _; rw [hi.1]; omega
  · show win0_1.index t 1 * 256 + 1 * (j 1).val = _; rw [hi.2]; omega

/-- and the whole rotation. -/
theorem x2_apply (c : Dev nD) (t : Fin cfg0.N) (j : S256x256.Idx) :
    x2At m c t j = if (j 0).val / 32 = (j 1).val / 32 then
      had ((j 0).val % 32) ((j 1).val % 32) * sAt (sArg m c) ((j 1).val % 32) else 0 := by
  have hi := index_2 t
  unfold x2At iblk
  rw [View.read_apply]
  show rotArr m c _ = _
  rw [show (((cfg0.win 2).blk t).view.emb j : S256x256.Idx) = j from Shape.idx_ext₂
    (by show win0_2.index t 0 * 256 + 1 * (j 0).val = _; rw [hi.1]; omega)
    (by show win0_2.index t 1 * 256 + 1 * (j 1).val = _; rw [hi.2]; omega), rotArr_apply]

/-- Chunk `k`, half `p` of point `t`, block `g` of the chunk, column `l`. -/
theorem blk_apply (c : Dev nD) (t : Fin cfg0.N) (k : Fin k0_t1_loop.trips) (p : ℕ) (hp : p < 2) (g : Fin 8) (l : Fin 128) :
    blk (zP (x0At m c t) (x2At m c t) k p) g l
      = zB (dAt (dArg m c)) (sAt (sArg m c)) (128 * (t.val % 12) + 8 * k.val + g.val)
          (256 * (t.val / 12) + 128 * p + l.val) := by
  have hg := g.isLt
  have hl := l.isLt
  have hW : ∀ i : S256x256.Idx, rowsAt (x0At m c t) k i
      = dAt (dArg m c) (32 * (128 * (t.val % 12) + 8 * k.val) + (i 0).val) (256 * (t.val / 12) + (i 1).val) := by
    intro i
    unfold rowsAt
    rw [x0_apply]
    have ho := off1 k
    refine congrArg₂ _ ?_ ?_
    · show 4096 * (t.val % 12) + (k0_off1 k 0 + 1 * (i 0).val) = _
      rw [ho]; show 4096 * (t.val % 12) + (256 * k.val + 1 * (i 0).val) = _; omega
    · show 256 * (t.val / 12) + (k0_off1 k 1 + 1 * (i 1).val) = _
      rw [ho]; show 256 * (t.val / 12) + (0 + 1 * (i 1).val) = _; omega
  have h5 := pay5_apply (x2At m c t) (rowsAt (x0At m c t) k) (sAt (sArg m c)) (dAt (dArg m c)) _ _
    (x2_apply m c t) hW
  funext i
  have hi := i.isLt
  have fin : ∀ q : S256x256.Idx, (q 0).val = 32 * g.val + i.val → (q 1).val = 128 * p + l.val →
      k0_pay5 (x2At m c t) (rowsAt (x0At m c t) k) q = zB (dAt (dArg m c)) (sAt (sArg m c))
        (128 * (t.val % 12) + 8 * k.val + g.val) (256 * (t.val / 12) + 128 * p + l.val) i := by
    intro q q0 q1
    rw [h5 q]
    have e : (⟨(q 0).val % 32, by omega⟩ : Fin 32) = i := Fin.ext (by show (q 0).val % 32 = i.val; omega)
    rw [e, show (q 0).val / 32 = g.val by omega, q1, ← Nat.add_assoc]
  unfold blk zP
  by_cases h : p = 0
  · rw [if_pos h]
    subst h
    exact fin _ (by show 0 + (32 * g.val + i.val) = _; omega) (by show 0 + l.val = _; omega)
  · rw [if_neg h]
    exact fin _ (by show 0 + (32 * g.val + i.val) = _; omega) (by show 128 + l.val = _; omega)

/-- The random bytes of chunk `k`, half `p`, of point `t`. -/
theorem rnd_apply (c : Dev nD) (t : Fin cfg0.N) (k : Fin k0_t1_loop.trips) (p : ℕ) (hp : p < 2) (q : Fin 256) (l : Fin 128) :
    rP (F := Ideal) (x1At m c t) k p (ix2 q l)
      = rAt (rArg m c) (32 * (128 * (t.val % 12) + 8 * k.val) + q.val) (256 * (t.val / 12) + 128 * p + l.val) := by
  have ho := off3 k
  have ho' := off6 k
  have hl := l.isLt
  unfold rP
  by_cases h : p = 0
  · rw [if_pos h]
    subst h
    unfold k0_pay28
    rw [shapeCast_self]
    refine (x1_apply m c t _).trans (congrArg₂ _ ?_ ?_)
    · show 4096 * (t.val % 12) + (k0_off3 k 0 + 1 * q.val) = _
      rw [ho]; show 4096 * (t.val % 12) + (256 * k.val + 1 * q.val) = _; omega
    · show 256 * (t.val / 12) + (k0_off3 k 1 + 1 * l.val) = _
      rw [ho]; show 256 * (t.val / 12) + (0 + 1 * l.val) = _; omega
  · rw [if_neg h]
    unfold k0_pay84
    rw [shapeCast_self]
    refine (x1_apply m c t _).trans (congrArg₂ _ ?_ ?_)
    · show 4096 * (t.val % 12) + (k0_off6 k 0 + 1 * q.val) = _
      rw [ho']; show 4096 * (t.val % 12) + (256 * k.val + 1 * q.val) = _; omega
    · show 256 * (t.val / 12) + (k0_off6 k 1 + 1 * l.val) = _
      rw [ho']; show 256 * (t.val / 12) + (128 + 1 * l.val) = _; omega

/-! ### The result arrays -/

/-- The code `n` of block `g` of column `r` of the rows of `dy`. -/
def codeAt (c : Dev nD) (g r : ℕ) (n : Fin 32) : ℕ :=
  codeSK (zB (dAt (dArg m c)) (sAt (sArg m c)) g r) n (rAt (rArg m c) (32 * g + n.val) r)

/-- The codes: byte `b` of row `r` holds codes `2 (b % 16)` and `2 (b % 16) + 1` of block `b / 16` of column `r`. -/
def codesArr (c : Dev nD) (i : S5632x24576.Idx) : BitVec 8 :=
  byte (codeAt m c ((i 1).val / 16) (i 0).val ⟨2 * ((i 1).val % 16), by omega⟩)
    (codeAt m c ((i 1).val / 16) (i 0).val ⟨2 * ((i 1).val % 16) + 1, by omega⟩)

theorem code_congr (c : Dev nD) (z : Fin 32 → EReal) (n n' : Fin 32) (rb : BitVec 8) (g r : ℕ)
    (hz : z = zB (dAt (dArg m c)) (sAt (sArg m c)) g r) (hn : n.val = n'.val) (hr : rb = rAt (rArg m c) (32 * g + n.val) r) :
    codeSK z n rb = codeAt m c g r n' := by
  unfold codeAt
  rw [hz, hr, Fin.ext hn]

theorem G5_apply (c : Dev nD) (t : Fin cfg0.N) (y : S256x2048.Idx) (i : S5632x24576.Idx)
    (h0 : (i 0).val = 256 * (t.val / 12) + (y 0).val) (h1 : (i 1).val = 2048 * (t.val % 12) + (y 1).val) :
    G5 (x0At m c t) (x1At m c t) (x2At m c t) y = codesArr m c i := by
  have hy0 : (y 0).val < 256 := (y 0).isLt
  have hy1 : (y 1).val < 2048 := (y 1).isLt
  have e0 : 256 * (t.val / 12) + 128 * ((y 0).val / 128) + (y 0).val % 128 = (i 0).val := by omega
  have e1 : 128 * (t.val % 12) + 8 * (chunk ((y 1).val / 128)).val + (y 1).val % 128 / 16 = (i 1).val / 16 := by
    show 128 * (t.val % 12) + 8 * ((y 1).val / 128 % 16) + (y 1).val % 128 / 16 = (i 1).val / 16
    omega
  have e2 : (y 1).val % 128 % 16 = (i 1).val % 16 := by omega
  have ek : (chunk ((y 1).val / 128)).val = (y 1).val / 128 % 16 := rfl
  unfold G5 codesArr
  rw [pC_apply, blk_apply m c t _ _ (by omega), rnd_apply m c t _ _ (by omega), rnd_apply m c t _ _ (by omega)]
  dsimp only
  rw [e0, e1]
  refine congrArg₂ byte (code_congr m c _ _ _ _ _ _ rfl ?_ ?_) (code_congr m c _ _ _ _ _ _ rfl ?_ ?_)
  · show 2 * ((y 1).val % 128 % 16) = 2 * ((i 1).val % 16); omega
  · refine congrArg (fun n => rAt (rArg m c) n (i 0).val) ?_
    show 32 * (128 * (t.val % 12) + 8 * (chunk ((y 1).val / 128)).val) + 2 * ((y 1).val % 128) = 32 * ((i 1).val / 16) + 2 * ((y 1).val % 128 % 16)
    rw [ek]; omega
  · show 2 * ((y 1).val % 128 % 16) + 1 = 2 * ((i 1).val % 16) + 1; omega
  · refine congrArg (fun n => rAt (rArg m c) n (i 0).val) ?_
    show 32 * (128 * (t.val % 12) + 8 * (chunk ((y 1).val / 128)).val) + (2 * ((y 1).val % 128) + 1) = 32 * ((i 1).val / 16) + (2 * ((y 1).val % 128 % 16) + 1)
    rw [ek]; omega

/-- What point `t` writes back of the codes is its block of them. -/
theorem flushed3_eq (c : Dev nD) (t : Fin cfg0.N) :
    (dats m 0 c).flushed 3 t = ((cfg0.win 3).blk t).view.read (Elt Ideal) (codesArr m c) := by
  have hi := index_3 t
  show (cfg0.win 3).cut (grid0.coords t) ((dats m 0 c).after 3 t) = _
  rw [show (dats m 0 c).after 3 t = G5 (x0At m c t) (x1At m c t) (x2At m c t) by dsimp only [dats]]
  funext y
  rw [View.read_apply]
  refine G5_apply m c t _ _ ?_ ?_
  · show win0_3.index t 0 * 256 + 1 * (y 0).val = 256 * (t.val / 12) + (y 0).val; rw [hi.1]; omega
  · show win0_3.index t 1 * 2048 + 1 * (y 1).val = 2048 * (t.val % 12) + (y 1).val; rw [hi.2]; omega

theorem mem_blk3 (t : Fin cfg0.N) (i : S5632x24576.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v27_0).slice (win0_3.rect t)).set ↔ _
  rw [View.set_slice_whole, Rect.mem_set_unit]
  exact Iff.rfl

/-- The blocks of the codes fill the array, so it ends as `codesArr`. -/
theorem final3 (c : Dev nD) : (dats m 0 c).arrAt 3 cfg0.N = codesArr m c :=
  (dats m 0 c).arrAt_eq_of_cover 3 _ (fun t _ => flushed3_eq m c t) (fun i => by
    have h0 : (i 0).val < 5632 := (i 0).isLt
    have h1 : (i 1).val < 24576 := (i 1).isLt
    have ht : 12 * ((i 0).val / 256) + (i 1).val / 2048 < cfg0.N := by
      show _ < grid0.N; rw [N_0]; omega
    refine ⟨⟨_, ht⟩, flush0_3 _, ?_⟩
    rw [mem_blk3]
    have hi := index_3 ⟨_, ht⟩
    dsimp only at hi
    intro a
    match a with
    | ⟨0, _⟩ =>
      show win0_3.index _ (0 : Fin 2) * 256 ≤ (i 0).val ∧ (i 0).val < win0_3.index _ (0 : Fin 2) * 256 + 256
      rw [hi.1]; omega
    | ⟨1, _⟩ =>
      show win0_3.index _ (1 : Fin 2) * 2048 ≤ (i 1).val ∧ (i 1).val < win0_3.index _ (1 : Fin 2) * 2048 + 2048
      rw [hi.2]; omega)

/-- The scales: the biased exponent of block `b` of column `r`. -/
def scalesArr (c : Dev nD) (i : S5632x1536.Idx) : BitVec 8 :=
  (IntOp.addi (eK (zB (dAt (dArg m c)) (sAt (sArg m c)) (i 1).val (i 0).val)) 127#32).setWidth 8

theorem G6_apply (c : Dev nD) (t : Fin cfg0.N) (y : S256x128.Idx) (i : S5632x1536.Idx)
    (h0 : (i 0).val = 256 * (t.val / 12) + (y 0).val) (h1 : (i 1).val = 128 * (t.val % 12) + (y 1).val) :
    G6 (x0At m c t) (x2At m c t) y = scalesArr m c i := by
  have hy0 : (y 0).val < 256 := (y 0).isLt
  have hy1 : (y 1).val < 128 := (y 1).isLt
  unfold G6 G13 scalesArr
  rw [biased_apply, pE_apply, blk_apply m c t _ _ (by show (y 0).val / 128 < 2; omega)]
  have e0 : 256 * (t.val / 12) + 128 * ((y 0).val / 128) + (y 0).val % 128 = (i 0).val := by omega
  have e1 : 128 * (t.val % 12) + 8 * (chunk ((y 1).val / 8)).val + (y 1).val % 8 = (i 1).val := by
    show 128 * (t.val % 12) + 8 * ((y 1).val / 8 % 16) + (y 1).val % 8 = (i 1).val
    omega
  show (IntOp.addi (eK (zB _ _ (128 * (t.val % 12) + 8 * (chunk ((y 1).val / 8)).val + (y 1).val % 8)
    (256 * (t.val / 12) + 128 * ((y 0).val / 128) + (y 0).val % 128))) 127#32).setWidth 8 = _
  rw [e0, e1]

/-- What point `t` writes back of the scales is its block of them. -/
theorem flushed4_eq (c : Dev nD) (t : Fin cfg0.N) :
    (dats m 0 c).flushed 4 t = ((cfg0.win 4).blk t).view.read (Elt Ideal) (scalesArr m c) := by
  have hi := index_4 t
  show (cfg0.win 4).cut (grid0.coords t) ((dats m 0 c).after 4 t) = _
  rw [show (dats m 0 c).after 4 t = G6 (x0At m c t) (x2At m c t) by dsimp only [dats]]
  funext y
  rw [View.read_apply]
  refine G6_apply m c t _ _ ?_ ?_
  · show win0_4.index t 0 * 256 + 1 * (y 0).val = 256 * (t.val / 12) + (y 0).val; rw [hi.1]; omega
  · show win0_4.index t 1 * 128 + 1 * (y 1).val = 128 * (t.val % 12) + (y 1).val; rw [hi.2]; omega

theorem mem_blk4 (t : Fin cfg0.N) (i : S5632x1536.Idx) :
    i ∈ ((cfg0.win 4).blk t).view.set ↔ ∀ a : Fin 2, win0_4.index t a * S256x128.size a ≤ (i a).val
      ∧ (i a).val < win0_4.index t a * S256x128.size a + S256x128.size a := by
  show i ∈ ((View.whole main_v27_1).slice (win0_4.rect t)).set ↔ _
  rw [View.set_slice_whole, Rect.mem_set_unit]
  exact Iff.rfl

/-- The blocks of the scales fill the array, so it ends as `scalesArr`. -/
theorem final4 (c : Dev nD) : (dats m 0 c).arrAt 4 cfg0.N = scalesArr m c :=
  (dats m 0 c).arrAt_eq_of_cover 4 _ (fun t _ => flushed4_eq m c t) (fun i => by
    have h0 : (i 0).val < 5632 := (i 0).isLt
    have h1 : (i 1).val < 1536 := (i 1).isLt
    have ht : 12 * ((i 0).val / 256) + (i 1).val / 128 < cfg0.N := by
      show _ < grid0.N; rw [N_0]; omega
    refine ⟨⟨_, ht⟩, flush0_4 _, ?_⟩
    rw [mem_blk4]
    have hi := index_4 ⟨_, ht⟩
    dsimp only at hi
    intro a
    match a with
    | ⟨0, _⟩ =>
      show win0_4.index _ (0 : Fin 2) * 256 ≤ (i 0).val ∧ (i 0).val < win0_4.index _ (0 : Fin 2) * 256 + 256
      rw [hi.1]; omega
    | ⟨1, _⟩ =>
      show win0_4.index _ (1 : Fin 2) * 128 ≤ (i 1).val ∧ (i 1).val < win0_4.index _ (1 : Fin 2) * 128 + 128
      rw [hi.2]; omega)

end Cert.Proof.QuantDyIdeal

end
-- ==== Proof.DRef.lean ====
/-
  The reference of `quant_dy` at an index: its codes and its block scales, from the rotated blocks and the random bytes.
-/
module

public import proofs.«01_k».proof.Proof.DSpec
public import proofs.«01_k».proof.Proof.DStoch
public import proofs.«01_k».proof.Proof.Gen.QuantDyRefIdeal.Read
public import proofs.«01_k».proof.Proof.Gen.Pre_dy_in_range

@[expose] public section

set_option maxRecDepth 8192

noncomputable section

namespace Cert.Proof.DRef

open Cert.QuantDyRefIdeal Cert.QuantDyRefIdeal.Read Cert.Proof.Common Cert.Proof.CodesDecode Cert.Proof.XSpec Cert.Proof.DSpec Cert.Proof.XExp
open Cert.Proof.XNibble Cert.Proof.DStoch
open Cert.QuantDyRefIdeal.Gen Cert.QuantDyRefIdeal.Facts
open Idealize.ShloMosaic Idealize.ShloMosaic.TcCoe Idealize.SL.Sem
open scoped BigOperators

variable (x0 : S8x6144x5632.Idx → EReal) (x1 : S32.Idx → EReal) (x2 : S8x6144x5632.Idx → BitVec 8)

/-- The rotation matrix, with the signs and the constant; -/
theorem rot_apply (i : S32x32.Idx) : val_main_v16 (F := Ideal) x1 i = had (i 0) (i 1) * sAt x1 (i 1) * nrm := by
  have h1 : (i 1).val < 32 := (i 1).isLt
  rw [val_main_v16_apply, val_main_v14_apply, val_main_v13_apply, val_main_v12_apply]
  unfold sAt
  rw [dif_pos h1]
  refine congrArg₂ (· * ·) (congrArg₂ (· * ·) rfl (congrArg x1 ?_)) rfl
  funext a
  match a with
  | ⟨0, _⟩ => rfl

/-- the array's blocks; -/
theorem x_apply (i : S1536x32x5632.Idx) :
    val_main_v18 (F := Ideal) x0 i = dAt x0 (32 * (i 0).val + (i 1).val) (i 2) := by
  have h0 : (i 0).val < 1536 := (i 0).isLt
  have h1 : (i 1).val < 32 := (i 1).isLt
  have h2 : (i 2).val < 5632 := (i 2).isLt
  rw [val_main_v18_apply]
  unfold dAt
  rw [dif_pos (by omega)]
  refine congrArg x0 ?_
  funext a
  match a with
  | ⟨0, _⟩ => refine Fin.ext ?_; show (((i 0).val * 32 + (i 1).val) * 5632 + (i 2).val) / 34603008 = (32 * (i 0).val + (i 1).val) / 6144; omega
  | ⟨1, _⟩ => refine Fin.ext ?_; show (((i 0).val * 32 + (i 1).val) * 5632 + (i 2).val) / 5632 % 6144 = (32 * (i 0).val + (i 1).val) % 6144; omega
  | ⟨2, _⟩ => refine Fin.ext ?_; show (((i 0).val * 32 + (i 1).val) * 5632 + (i 2).val) % 5632 = (i 2).val; omega

/-- the rotated blocks. -/
theorem z_apply (i : S1536x32x5632.Idx) :
    val_main_v20 (F := Ideal) x0 x1 i = zN (dAt x0) (sAt x1) (i 0) (i 2) (i 1) := by
  obtain ⟨r, hr, hn⟩ := nrm_pos
  rw [val_main_v20_apply, val_main_v19_apply]
  unfold zN zB
  rw [sum_mul_of_finite _ _ _ (by rw [hn]; exact_mod_cast hr.le) (by rw [hn]; exact EReal.coe_ne_top r), Finset.sum_range]
  refine Finset.sum_congr rfl fun k _ => ?_
  rw [x_apply, rot_apply, mul_comm]
  show had (i 1) k * sAt x1 k * nrm * dAt x0 (32 * (i 0).val + k.val) (i 2) = had (i 1) k * sAt x1 k * dAt x0 (32 * (i 0).val + k.val) (i 2) * nrm
  rw [mul_assoc, mul_comm nrm, ← mul_assoc]

/-- The greatest magnitude of each block. -/
theorem amax_apply (i : S1536x5632.Idx) :
    val_main_v22 (F := Ideal) x0 x1 i = amax (zN (dAt x0) (sAt x1) (i 0) (i 1)) := by
  have hR : S1536x32x5632.Reduces [1] S1536x5632 := by decide
  unfold val_main_v22
  rw [Host.reduce_eq_fold_single _ _ _ _ hR]
  unfold amax Finset.sup
  have hb : ∀ j, val_main_cst_3 (F := Ideal) j = ⊥ := fun j => by
    show Ideal.ofBits .f32 0xFF800000#32 = ⊥
    simp [Ideal.ofBits, Ideal.ieee]
  rw [hb]
  refine Finset.fold_congr fun k _ => ?_
  show (max (val_main_v20 (F := Ideal) x0 x1 (hR.lift i k)) (-(val_main_v20 (F := Ideal) x0 x1 (hR.lift i k))) : EReal) = _
  rw [z_apply]
  rfl

/-- The block exponents. -/
theorem exp_apply (i : S1536x5632.Idx) :
    val_main_v35 (F := Ideal) x0 x1 i = eR (zN (dAt x0) (sAt x1) (i 0) (i 1)) := by
  rw [val_main_v35_apply, val_main_v30_apply, val_main_v34_apply, val_main_v33_apply, val_main_v31_apply,
    val_main_v28_apply, val_main_v25_apply, val_main_v24_apply, amax_apply, val_main_v23_apply, val_main_v27_apply,
    val_main_v29_apply, val_main_v32_apply]
  unfold eR
  generalize amax (zN (dAt x0) (sAt x1) (i 0) (i 1)) = a
  rfl

/-- THE REFERENCE'S BLOCK SCALES. -/
theorem scales_apply (i : S5632x1536.Idx) :
    val_main_v160 (F := Ideal) x0 x1 i
      = (IntOp.addi (eR (zN (dAt x0) (sAt x1) (i 1) (i 0))) 127#32).setWidth 8 := by
  rw [val_main_v160_apply, val_main_v159_apply, val_main_v158_apply, exp_apply]
  rfl

theorem cnt_apply (i : S1536x32x5632.Idx) : val_main_v72 (F := Ideal) x0 x1 i = cntR (val_main_v45 (F := Ideal) x0 x1 i) := rfl
theorem lo_apply (i : S1536x32x5632.Idx) : val_main_v94 (F := Ideal) x0 x1 i = gridR (val_main_v72 (F := Ideal) x0 x1 i) := rfl
theorem hi_apply (i : S1536x32x5632.Idx) : val_main_v120 (F := Ideal) x0 x1 i
    = gridR (IntOp.minsi (IntOp.addi (val_main_v72 (F := Ideal) x0 x1 i) 1#32) 7#32) := rfl
theorem frac_apply (i : S1536x32x5632.Idx) : val_main_v126 (F := Ideal) x0 x1 i
    = fracR (val_main_v45 (F := Ideal) x0 x1 i) (val_main_v94 (F := Ideal) x0 x1 i) (val_main_v120 (F := Ideal) x0 x1 i) := by
  rw [val_main_v126_apply, val_main_v125_apply, val_main_v124_apply, val_main_v123_apply, val_main_v122_apply,
    val_main_v121_apply]
  generalize val_main_v45 (F := Ideal) x0 x1 i = m
  generalize val_main_v94 (F := Ideal) x0 x1 i = lo
  generalize val_main_v120 (F := Ideal) x0 x1 i = hi
  rfl
theorem rnd_apply (i : S1536x32x5632.Idx) : val_main_v133 (F := Ideal) x2 i = rndR (val_main_v127 (F := Ideal) x2 i) := by
  rw [val_main_v133_apply, val_main_v131_apply, val_main_v129_apply, val_main_v128_apply]
  generalize val_main_v127 (F := Ideal) x2 i = b
  rfl
theorem up_apply (i : S1536x32x5632.Idx) : val_main_v136 (F := Ideal) x0 x1 x2 i = IntOp.addi (val_main_v72 (F := Ideal) x0 x1 i)
    ((Ideal.cmp .olt (val_main_v133 (F := Ideal) x2 i) (val_main_v126 (F := Ideal) x0 x1 i)).setWidth 32) := by
  rw [val_main_v136_apply, val_main_v135_apply, val_main_v134_apply]
  rfl

/-- The magnitude codes, from the bounded magnitudes and the random bytes. -/
theorem mag_apply (i : S1536x32x5632.Idx) : val_main_v136 (F := Ideal) x0 x1 x2 i
    = magR (val_main_v45 (F := Ideal) x0 x1 i) (val_main_v127 (F := Ideal) x2 i) := by
  rw [up_apply, frac_apply, lo_apply, hi_apply, rnd_apply, cnt_apply]
  rfl

theorem bound_apply (i : S1536x32x5632.Idx) : val_main_v45 (F := Ideal) x0 x1 i
    = min (max (val_main_v42 (F := Ideal) x0 x1 i) (-(val_main_v42 (F := Ideal) x0 x1 i))) (Ideal.ofBits .f32 0x40C00000#32) := rfl
theorem join_apply (i : S1536x32x5632.Idx) : val_main_v145 (F := Ideal) x0 x1 x2 i
    = IntOp.ori (IntOp.shli .host ((IntOp.andi (Ideal.cmp .olt (val_main_v42 (F := Ideal) x0 x1 i) (Ideal.ofBits .f32 0x00000000#32))
      (IntOp.cmpi .sgt (val_main_v136 (F := Ideal) x0 x1 x2 i) 0#32)).setWidth 32) 3#32) (val_main_v136 (F := Ideal) x0 x1 x2 i) := rfl

/-- The scaled values. -/
theorem scaled_apply (i : S1536x32x5632.Idx) : val_main_v42 (F := Ideal) x0 x1 i
    = zN (dAt x0) (sAt x1) (i 0) (i 2) (i 1) * rpow (eR (zN (dAt x0) (sAt x1) (i 0) (i 2))) := by
  rw [val_main_v42_apply, z_apply, val_main_v41_apply, val_main_v40_apply]
  refine congrArg₂ (· * ·) rfl ?_
  show rpow (val_main_v35 (F := Ideal) x0 x1 _) = _
  rw [exp_apply]

/-- The random bytes' blocks. -/
theorem byte_apply (i : S1536x32x5632.Idx) :
    val_main_v127 (F := Ideal) x2 i = rAt x2 (32 * (i 0).val + (i 1).val) (i 2) := by
  have h0 : (i 0).val < 1536 := (i 0).isLt
  have h1 : (i 1).val < 32 := (i 1).isLt
  have h2 : (i 2).val < 5632 := (i 2).isLt
  rw [val_main_v127_apply]
  unfold rAt
  rw [dif_pos (by omega)]
  refine congrArg x2 ?_
  funext a
  match a with
  | ⟨0, _⟩ => refine Fin.ext ?_; show (((i 0).val * 32 + (i 1).val) * 5632 + (i 2).val) / 34603008 = (32 * (i 0).val + (i 1).val) / 6144; omega
  | ⟨1, _⟩ => refine Fin.ext ?_; show (((i 0).val * 32 + (i 1).val) * 5632 + (i 2).val) / 5632 % 6144 = (32 * (i 0).val + (i 1).val) % 6144; omega
  | ⟨2, _⟩ => refine Fin.ext ?_; show (((i 0).val * 32 + (i 1).val) * 5632 + (i 2).val) % 5632 = (i 2).val; omega

/-- Code `k` of block `g`, column `c`. -/
def cd (g c : ℕ) (k : Fin 32) : BitVec 32 := codeSR (zN (dAt x0) (sAt x1) g c) k (rAt x2 (32 * g + k.val) c)

/-- The codes before they are joined. -/
theorem nib_apply (i : S1536x32x5632.Idx) :
    val_main_v145 (F := Ideal) x0 x1 x2 i = cd x0 x1 x2 (i 0) (i 2) (i 1) := by
  unfold cd codeSR nibS
  rw [join_apply, mag_apply, bound_apply, scaled_apply, byte_apply]

theorem cd_congr {g g' c c' : ℕ} {k k' : Fin 32} (hg : g = g') (hc : c = c') (hk : k.val = k'.val) :
    cd x0 x1 x2 g c k = cd x0 x1 x2 g' c' k' := by
  rw [hg, hc, Fin.ext hk]

/-- The codes in pairs; -/
theorem pair_apply (i : S1536x16x2x5632.Idx) :
    val_main_v146 (F := Ideal) x0 x1 x2 i = cd x0 x1 x2 (i 0) (i 3)
      ⟨2 * (i 1).val + (i 2).val, by have h1 : (i 1).val < 16 := (i 1).isLt; have h2 : (i 2).val < 2 := (i 2).isLt; omega⟩ := by
  have h0 : (i 0).val < 1536 := (i 0).isLt
  have h1 : (i 1).val < 16 := (i 1).isLt
  have h2 : (i 2).val < 2 := (i 2).isLt
  have h3 : (i 3).val < 5632 := (i 3).isLt
  rw [val_main_v146_apply, nib_apply]
  refine cd_congr x0 x1 x2 ?_ ?_ ?_
  · show ((((i 0).val * 16 + (i 1).val) * 2 + (i 2).val) * 5632 + (i 3).val) / 180224 = (i 0).val; omega
  · show ((((i 0).val * 16 + (i 1).val) * 2 + (i 2).val) * 5632 + (i 3).val) % 5632 = (i 3).val; omega
  · show ((((i 0).val * 16 + (i 1).val) * 2 + (i 2).val) * 5632 + (i 3).val) / 5632 % 32 = 2 * (i 1).val + (i 2).val; omega

/-- the even codes, -/
theorem even_apply (i : S1536x16x5632.Idx) :
    val_main_v148 (F := Ideal) x0 x1 x2 i = cd x0 x1 x2 (i 0) (i 2)
      ⟨2 * (i 1).val, by have h1 : (i 1).val < 16 := (i 1).isLt; omega⟩ := by
  have h0 : (i 0).val < 1536 := (i 0).isLt
  have h1 : (i 1).val < 16 := (i 1).isLt
  have h2 : (i 2).val < 5632 := (i 2).isLt
  rw [val_main_v148_apply, val_main_v147_apply, pair_apply]
  refine cd_congr x0 x1 x2 ?_ ?_ ?_
  · show (((i 0).val * 16 + (i 1).val) * 5632 + (i 2).val) / 90112 = (i 0).val; omega
  · show (((i 0).val * 16 + (i 1).val) * 5632 + (i 2).val) % 5632 = (i 2).val; omega
  · show 2 * ((((i 0).val * 16 + (i 1).val) * 5632 + (i 2).val) / 5632 % 16) + 0 = 2 * (i 1).val; omega

/-- and the odd codes. -/
theorem odd_apply (i : S1536x16x5632.Idx) :
    val_main_v150 (F := Ideal) x0 x1 x2 i = cd x0 x1 x2 (i 0) (i 2)
      ⟨2 * (i 1).val + 1, by have h1 : (i 1).val < 16 := (i 1).isLt; omega⟩ := by
  have h0 : (i 0).val < 1536 := (i 0).isLt
  have h1 : (i 1).val < 16 := (i 1).isLt
  have h2 : (i 2).val < 5632 := (i 2).isLt
  rw [val_main_v150_apply, val_main_v149_apply, pair_apply]
  refine cd_congr x0 x1 x2 ?_ ?_ ?_
  · show (((i 0).val * 16 + (i 1).val) * 5632 + (i 2).val) / 90112 = (i 0).val; omega
  · show (((i 0).val * 16 + (i 1).val) * 5632 + (i 2).val) % 5632 = (i 2).val; omega
  · show 2 * ((((i 0).val * 16 + (i 1).val) * 5632 + (i 2).val) / 5632 % 16) + (1 + 0) = 2 * (i 1).val + 1; omega

/-- THE REFERENCE'S CODES. -/
theorem codes_apply (i : S5632x24576.Idx) :
    val_main_v156 (F := Ideal) x0 x1 x2 i
      = byte (cd x0 x1 x2 ((i 1).val / 16) (i 0) ⟨2 * ((i 1).val % 16), by omega⟩).toNat
          (cd x0 x1 x2 ((i 1).val / 16) (i 0) ⟨2 * ((i 1).val % 16) + 1, by omega⟩).toNat := by
  have h0 : (i 0).val < 5632 := (i 0).isLt
  have h1 : (i 1).val < 24576 := (i 1).isLt
  have e0 : val_main_v148 (F := Ideal) x0 x1 x2 (idx_main_v154 (idx_main_v155 i))
      = cd x0 x1 x2 ((i 1).val / 16) (i 0) ⟨2 * ((i 1).val % 16), by omega⟩ := by
    rw [even_apply]
    refine cd_congr x0 x1 x2 ?_ ?_ ?_
    · show ((i 0).val * 24576 + (i 1).val) / 16 % 1536 = (i 1).val / 16; omega
    · show ((i 0).val * 24576 + (i 1).val) / 24576 = (i 0).val; omega
    · show 2 * (((i 0).val * 24576 + (i 1).val) % 16) = 2 * ((i 1).val % 16); omega
  have e1 : val_main_v150 (F := Ideal) x0 x1 x2 (idx_main_v154 (idx_main_v155 i))
      = cd x0 x1 x2 ((i 1).val / 16) (i 0) ⟨2 * ((i 1).val % 16) + 1, by omega⟩ := by
    rw [odd_apply]
    refine cd_congr x0 x1 x2 ?_ ?_ ?_
    · show ((i 0).val * 24576 + (i 1).val) / 16 % 1536 = (i 1).val / 16; omega
    · show ((i 0).val * 24576 + (i 1).val) / 24576 = (i 0).val; omega
    · show 2 * (((i 0).val * 24576 + (i 1).val) % 16) + 1 = 2 * ((i 1).val % 16) + 1; omega
  rw [val_main_v156_apply, val_main_v155_apply, val_main_v154_apply, val_main_v153_apply, val_main_v152_apply, e0, e1]
  apply BitVec.eq_of_toNat_eq
  have e := or_shift (cd x0 x1 x2 ((i 1).val / 16) (i 0) ⟨2 * ((i 1).val % 16), by omega⟩)
    (cd x0 x1 x2 ((i 1).val / 16) (i 0) ⟨2 * ((i 1).val % 16) + 1, by omega⟩) 4 (by decide)
    (nibS_lt _ _) (nibS_lt _ _) (by decide)
  unfold byte
  rw [BitVec.toNat_setWidth, BitVec.toNat_ofNat]
  exact congrArg (· % 2 ^ 8) e

/-- The quotients from the rotation and the blocks. -/
def quot (w : FVec Ideal S32x32 .f32) (v : FVec Ideal S1536x32x5632 .f32) : FVec Ideal S1536x5632 .f32 :=
  mulf (Host.reduce FloatOps.maximumf (Host.absf (transpose S1536x32x5632 [0, 2, 1]
      (Host.dotGeneral dot_S1536x32x5632_S32x32_S1536x5632x32_1_1_02_0_n_n (some .fp32) v w)
      transposes_S1536x5632x32_S1536x32x5632_0_2_1)) (constant S_ .f32 0xFF800000#32)
      reducesTo_S1536x32x5632_S1536x5632_d1 h_S_)
    (broadcastInDim S1536x5632 ![] bcast_S_S1536x5632 (constant S_ .f32 0x3E2AAAAB#32))

theorem quot_eq : quot (val_main_v16 (F := Ideal) x1) (val_main_v18 (F := Ideal) x0) = val_main_v24 (F := Ideal) x0 x1 := by
  unfold quot val_main_v24 val_main_v23 val_main_cst_4 val_main_v22 val_main_cst_3 val_main_v21 val_main_v20 val_main_v19
  rfl

/-- The precondition's test of a quotient, -/
def test (q : FVec Ideal S1536x5632 .f32) : IVec S1536x5632 1 :=
  ori (cmpf .oeq q (broadcastInDim S1536x5632 ![] bcast_S_S1536x5632 (constant S_ .f32 0x00000000#32)))
    (andi (cmpf .oge q (broadcastInDim S1536x5632 ![] bcast_S_S1536x5632 (constant S_ .f32 0x00800000#32)))
      (cmpf .olt q (broadcastInDim S1536x5632 ![] bcast_S_S1536x5632 (constant S_ .f32 0x7E800000#32))))

/-- at an index. -/
theorem test_apply (q : FVec Ideal S1536x5632 .f32) (i : S1536x5632.Idx) :
    test q i = IntOp.ori (Ideal.cmp .oeq (q i) (Ideal.ofBits .f32 0x00000000#32))
        (IntOp.andi (Ideal.cmp .oge (q i) (Ideal.ofBits .f32 0x00800000#32))
          (Ideal.cmp .olt (q i) (Ideal.ofBits .f32 0x7E800000#32))) := rfl

/-- Where the precondition holds, every quotient passes. -/
theorem part_read (w : FVec Ideal S32x32 .f32) (v : FVec Ideal S1536x32x5632 .f32)
    (h : Cert.Pre_dy_in_range.fn_part1 (F := Ideal) w v = fun _ => 1#1) (i : S1536x5632.Idx) :
    test (quot w v) i = 1#1 := by
  have h := congrFun h (fun a => a.elim0)
  unfold Cert.Pre_dy_in_range.fn_part1 at h
  have e1 := reduce_and_forall (test (quot w v)) _ _ _ _ (fun i => funext fun a => a.elim0) h i
  exact e1

theorem fn_eq : Cert.Pre_dy_in_range.fn (F := Ideal) x0 x1 x2
    = Cert.Pre_dy_in_range.fn_part1 (F := Ideal) (val_main_v16 (F := Ideal) x1) (val_main_v18 (F := Ideal) x0) := by
  unfold val_main_v18 val_main_v17 val_main_v16 val_main_v15 val_main_v14 val_main_v13 val_main_v12 val_main_v11
    val_main_cst_2 val_main_call0_v1 val_main_call0_v0 val_main_cst_1 val_main_cst val_main_v10 val_main_v9 val_main_v8
    val_main_v7 val_main_v6 val_main_v5 val_main_v4 val_main_v3 val_main_v2 val_main_v1 val_main_v0 val_main_c val_main_c_0
  rfl

/-- THE PRECONDITION, read: the quotient of every block is zero or in range. -/
theorem pre_read (h : Cert.Pre_dy_in_range.fn (F := Ideal) x0 x1 x2 = fun _ => 1#1) (g c : ℕ) (hg : g < 1536) (hc : c < 5632) :
    InRange (amax (zN (dAt x0) (sAt x1) g c) * inv6) := by
  rw [fn_eq] at h
  have e1 := part_read _ _ h (ValueIdx.ix2 ⟨g, hg⟩ ⟨c, hc⟩)
  rw [quot_eq, test_apply] at e1
  have hq : val_main_v24 (F := Ideal) x0 x1 (ValueIdx.ix2 ⟨g, hg⟩ ⟨c, hc⟩) = amax (zN (dAt x0) (sAt x1) g c) * inv6 := by
    rw [val_main_v24_apply, amax_apply]
    rfl
  rw [hq] at e1
  generalize amax (zN (dAt x0) (sAt x1) g c) * inv6 = q at e1
  have lo : Ideal.ofBits .f32 0x00800000#32 = (((2 : ℝ) ^ (-126 : ℤ) : ℝ) : EReal) :=
    f32_normal _ 1 0 (by decide) (by decide) (by decide) (by decide) (by decide) _ (two_zpow 1)
  have hi : Ideal.ofBits .f32 0x7E800000#32 = (((2 : ℝ) ^ (126 : ℤ) : ℝ) : EReal) :=
    f32_normal _ 253 0 (by decide) (by decide) (by decide) (by decide) (by decide) _ (two_zpow 253)
  have h3 : ∀ p q r : Bool, IntOp.ori (BitVec.ofBool p) (IntOp.andi (BitVec.ofBool q) (BitVec.ofBool r)) = 1#1 →
      p = true ∨ (q = true ∧ r = true) := by unfold IntOp.ori IntOp.andi; decide
  rw [ofBits_zero, lo, hi] at e1
  rcases h3 _ _ _ e1 with h0 | ⟨h1, h2⟩
  · exact Or.inl (of_decide_eq_true h0)
  · have h1 := of_decide_eq_true h1
    have h2 := of_decide_eq_true h2
    induction q with
    | bot => exact absurd h1 (not_le.mpr (EReal.bot_lt_coe _))
    | top => exact absurd h2 (not_lt.mpr le_top)
    | coe r => exact Or.inr ⟨r, rfl, EReal.coe_le_coe_iff.mp h1, EReal.coe_lt_coe_iff.mp h2⟩

end Cert.Proof.DRef

end
-- ==== Proof.DClaim.lean ====
/-
  `quant_dy` against its reference: where every block of rotated values is zero or within the range of normal scales, the
  codes and the block scales the kernel leaves are the reference's.
-/
module

public import proofs.«01_k».proof.Defs
public import proofs.«01_k».proof.Proof.DValueIdeal
public import proofs.«01_k».proof.Proof.DRef
public import proofs.«01_k».proof.Proof.Gen.QuantDyRefIdeal.Run
public import proofs.«01_k».proof.Proof.Gen.QuantDyRefIdeal.Read
public import proofs.«01_k».proof.Proof.Gen.Pre_dy_in_range
public import Idealize.ShloMosaic.Lib.Quiescent

@[expose] public section
set_option maxRecDepth 8192

noncomputable section

namespace Cert.Proof.DClaim

open Cert.QuantDyIdeal Cert.QuantDyIdeal.Gen Cert.Proof.QuantDyIdeal Cert.Proof.XSpec Cert.Proof.DSpec Cert.Proof.XExp Cert.Proof.DStoch
open Idealize.ShloMosaic Idealize.ShloMosaic.TcCoe Idealize.SL.Sem

variable (m : (ℓ : Loc nD τ sig) → Buf (Elt Ideal) ℓ)

/-- THE EQUATIONS: the codes the kernel leaves are the reference's, -/
theorem codes_eq_ref (c : Dev nD)
    (h : ∀ g r : ℕ, g < 1536 → r < 5632 → InRange (amax (zN (dAt (dArg m c)) (sAt (sArg m c)) g r) * inv6)) :
    codesArr m c = Cert.QuantDyRefIdeal.Read.val_main_v156 (F := Ideal) (dArg m c) (sArg m c) (rArg m c) := by
  funext i
  have hi0 : (i 0).val < 5632 := (i 0).isLt
  have hi1 : (i 1).val < 24576 := (i 1).isLt
  refine Eq.trans ?_ (Cert.Proof.DRef.codes_apply (dArg m c) (sArg m c) (rArg m c) i).symm
  have hb := sblock (zB (dAt (dArg m c)) (sAt (sArg m c)) ((i 1).val / 16) (i 0).val)
    (h ((i 1).val / 16) (i 0).val (by omega) hi0)
  unfold codesArr codeAt
  rw [hb, hb]
  rfl
/-- and so are the block scales. -/
theorem scales_eq_ref (c : Dev nD)
    (h : ∀ g r : ℕ, g < 1536 → r < 5632 → InRange (amax (zN (dAt (dArg m c)) (sAt (sArg m c)) g r) * inv6)) :
    scalesArr m c = Cert.QuantDyRefIdeal.Read.val_main_v160 (F := Ideal) (dArg m c) (sArg m c) := by
  funext i
  have hi0 : (i 0).val < 5632 := (i 0).isLt
  have hi1 : (i 1).val < 1536 := (i 1).isLt
  refine Eq.trans ?_ (Cert.Proof.DRef.scales_apply (dArg m c) (sArg m c) i).symm
  have hb := (block (zB (dAt (dArg m c)) (sAt (sArg m c)) (i 1).val (i 0).val) (h (i 1).val (i 0).val hi1 hi0)).1
  unfold scalesArr
  rw [hb]
  rfl

/-- What the kernel's program leaves: both result arrays, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v27_0) = codesArr m c
      ∧ r.2.mem ((c.tc : Thread nD τ).loc main_v27_1) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      (((dats m 0 c).toRForget_arrAt_iff (w := 3) (fgt := fgt) (by decide) _ _).mp ((h.1 c).1 3)).trans (final3 m c),
      (((dats m 0 c).toRForget_arrAt_iff (w := 4) (fgt := fgt) (by decide) _ _).mp ((h.1 c).1 4)).trans (final4 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main_quiescent m ρ)

/-- The claim: both run, and end with equal codes and equal block scales, arguments unchanged. -/
theorem algebraic : Cert.algebraic_QuantDyIdeal_QuantDyRefIdeal_pre_dy_in_range (hQuantDyIdeal := Cert.QuantDyIdeal.Gen.facts)
    (hQuantDyRefIdeal := Cert.QuantDyRefIdeal.Gen.facts) (hPre_dy_in_range := Cert.Pre_dy_in_range.Gen.facts) := by
  intro m g m' g' hpre hargs
  refine ⟨fun c => codesArr m c, fun c => scalesArr m c, run m g, ?_⟩
  refine (θ_run _ _ _).mono (fun r h c => ?_) (Cert.QuantDyRefIdeal.Value.run m' g')
  obtain ⟨h0, h1, h2⟩ := h c
  obtain ⟨a0, a1, a2⟩ := hargs c
  have hin := Cert.Proof.DRef.pre_read (dArg m c) (sArg m c) _ (hpre c)
  refine ⟨h0.trans ((Cert.QuantDyRefIdeal.Read.val_main_v156_eq _).trans ?_),
    h1.trans ((Cert.QuantDyRefIdeal.Read.val_main_v160_eq _).trans ?_), h2⟩
  · have key : ∀ (y0 : S8x6144x5632.Idx → EReal) (y1 : S32.Idx → EReal) (y2 : S8x6144x5632.Idx → BitVec 8),
        y0 = dArg m c → y1 = sArg m c → y2 = rArg m c →
        Cert.QuantDyRefIdeal.Read.val_main_v156 (F := Ideal) y0 y1 y2 = codesArr m c := by
      rintro _ _ _ rfl rfl rfl
      exact (codes_eq_ref m c hin).symm
    exact key _ _ _ a0 a1 a2
  · have key : ∀ (y0 : S8x6144x5632.Idx → EReal) (y1 : S32.Idx → EReal), y0 = dArg m c → y1 = sArg m c →
        Cert.QuantDyRefIdeal.Read.val_main_v160 (F := Ideal) y0 y1 = scalesArr m c := by
      rintro _ _ rfl rfl
      exact (scales_eq_ref m c hin).symm
    exact key _ _ a0 a1

/-- The reference's frame: its run leaves the arguments, and a program with no semaphore has no counter. -/
theorem ref_frame : Cert.quiescent_QuantDyRefIdeal (hQuantDyRefIdeal := Cert.QuantDyRefIdeal.Gen.facts) := fun m g _ =>
  (θ_run _ _ _).mono (fun _ h => ⟨fun c => (h c).2.2, sem_eq_zero_of_no_sems (by decide) _⟩) (Cert.QuantDyRefIdeal.Value.run m g)

end Cert.Proof.DClaim

end
-- ==== Proof.lean ====
/-
  The proof of `Cert.Claim`: the frames are the generated runs', `CodesClaim.ref_frame`, the two of `quant_x` in `XRun`
  and `XRunIdeal`, `XClaim.ref_frame`, the two of `quant_dy` in `DRun` and `DRunIdeal`, and `DClaim.ref_frame`; the value
  claims are `WgradClaim.algebraic`, `CodesClaim.algebraic`, `XClaim.algebraic` and `DClaim.algebraic`.
-/
module

public import proofs.«01_k».proof.Defs
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradRefIdeal
public import proofs.«01_k».proof.Proof.Gen.WgradRefIdeal.Skeleton
public import proofs.«01_k».proof.Proof.Gen.WgradRefIdeal.Launch
public import proofs.«01_k».proof.Proof.Gen.WgradRefIdeal.Points
public import proofs.«01_k».proof.Proof.Gen.WgradRefIdeal.Frame
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Frame
public import proofs.«01_k».proof.Proof.Gen.CodesIdeal
public import proofs.«01_k».proof.Proof.Gen.CodesIdeal.Skeleton
public import proofs.«01_k».proof.Proof.Gen.CodesIdeal.Launch
public import proofs.«01_k».proof.Proof.Gen.CodesIdeal.Points
public import proofs.«01_k».proof.Proof.Gen.CodesIdeal.Frame
public import proofs.«01_k».proof.Proof.Gen.CodesRefIdeal
public import proofs.«01_k».proof.Proof.Gen.Pre_scales_finite
public import proofs.«01_k».proof.Proof.Gen.Pre_scales_normal
public import proofs.«01_k».proof.Proof.Gen.WgradIdeal.Value
public import proofs.«01_k».proof.Proof.Gen.WgradRefIdeal.Value
public import proofs.«01_k».proof.Proof.Gen.CodesIdeal.Value
public import proofs.«01_k».proof.Proof.Gen.CodesRefIdeal.Run
public import proofs.«01_k».proof.Proof.WgradClaim
public import proofs.«01_k».proof.Proof.CodesClaim
public import proofs.«01_k».proof.Proof.Gen.QuantX
public import proofs.«01_k».proof.Proof.Gen.QuantX.Skeleton
public import proofs.«01_k».proof.Proof.Gen.QuantX.Loops
public import proofs.«01_k».proof.Proof.Gen.QuantX.Launch
public import proofs.«01_k».proof.Proof.Gen.QuantX.Points
public import proofs.«01_k».proof.Proof.Gen.QuantX.Frame
public import proofs.«01_k».proof.Proof.Gen.QuantXIdeal
public import proofs.«01_k».proof.Proof.Gen.QuantXIdeal.Skeleton
public import proofs.«01_k».proof.Proof.Gen.QuantXIdeal.Loops
public import proofs.«01_k».proof.Proof.Gen.QuantXIdeal.Launch
public import proofs.«01_k».proof.Proof.Gen.QuantXIdeal.Points
public import proofs.«01_k».proof.Proof.Gen.QuantXIdeal.Frame
public import proofs.«01_k».proof.Proof.Gen.QuantXRefIdeal
public import proofs.«01_k».proof.Proof.Gen.Pre_x_in_range
public import proofs.«01_k».proof.Proof.Gen.QuantXRefIdeal.Run
public import proofs.«01_k».proof.Proof.XRun
public import proofs.«01_k».proof.Proof.XRunIdeal
public import proofs.«01_k».proof.Proof.XClaim
public import proofs.«01_k».proof.Proof.Gen.QuantDy
public import proofs.«01_k».proof.Proof.Gen.QuantDy.Skeleton
public import proofs.«01_k».proof.Proof.Gen.QuantDy.Loops
public import proofs.«01_k».proof.Proof.Gen.QuantDy.Launch
public import proofs.«01_k».proof.Proof.Gen.QuantDy.Points
public import proofs.«01_k».proof.Proof.Gen.QuantDy.Frame
public import proofs.«01_k».proof.Proof.Gen.QuantDyIdeal
public import proofs.«01_k».proof.Proof.Gen.QuantDyIdeal.Skeleton
public import proofs.«01_k».proof.Proof.Gen.QuantDyIdeal.Loops
public import proofs.«01_k».proof.Proof.Gen.QuantDyIdeal.Launch
public import proofs.«01_k».proof.Proof.Gen.QuantDyIdeal.Points
public import proofs.«01_k».proof.Proof.Gen.QuantDyIdeal.Frame
public import proofs.«01_k».proof.Proof.Gen.QuantDyRefIdeal
public import proofs.«01_k».proof.Proof.Gen.Pre_dy_in_range
public import proofs.«01_k».proof.Proof.Gen.QuantDyRefIdeal.Run
public import proofs.«01_k».proof.Proof.DRun
public import proofs.«01_k».proof.Proof.DRunIdeal
public import proofs.«01_k».proof.Proof.DClaim
public import Idealize.ShloMosaic.Adequacy
public import Idealize.ShloMosaic.Init

@[expose] public section

noncomputable section

namespace Cert.Proof

open Idealize.ShloMosaic Idealize.SL.Sem Cert.Wgrad

theorem claim : Cert.Claim := ⟨Cert.Wgrad.Gen.facts, Cert.WgradIdeal.Gen.facts, Cert.WgradRefIdeal.Gen.facts, Cert.Codes.Gen.facts, Cert.CodesIdeal.Gen.facts, Cert.CodesRefIdeal.Gen.facts, Cert.QuantX.Gen.facts, Cert.QuantXIdeal.Gen.facts, Cert.QuantXRefIdeal.Gen.facts, Cert.QuantDy.Gen.facts, Cert.QuantDyIdeal.Gen.facts, Cert.QuantDyRefIdeal.Gen.facts, Cert.Pre_scales_finite.Gen.facts, Cert.Pre_scales_normal.Gen.facts, Cert.Pre_x_in_range.Gen.facts, Cert.Pre_dy_in_range.Gen.facts,
  fun m ρ _ => Cert.Wgrad.Gen.frame m ρ, fun m ρ _ => Cert.WgradIdeal.Gen.frame m ρ, fun m ρ _ => Cert.WgradIdeal.Gen.frame m ρ,
  fun m ρ _ => Cert.WgradRefIdeal.Gen.frame m ρ, fun m ρ _ => Cert.WgradRefIdeal.Gen.frame m ρ,
  fun m ρ _ => Cert.Codes.Gen.frame m ρ, fun m ρ _ => Cert.CodesIdeal.Gen.frame m ρ, fun m ρ _ => Cert.CodesIdeal.Gen.frame m ρ,
  Cert.Proof.CodesClaim.ref_frame, fun m ρ _ => Cert.Proof.CodesClaim.ref_frame m ρ trivial,
  fun m ρ _ => Cert.Proof.QuantX.frame m ρ, fun m ρ _ => Cert.Proof.QuantXIdeal.frame m ρ,
  fun m ρ _ => Cert.Proof.QuantXIdeal.frame m ρ,
  Cert.Proof.XClaim.ref_frame, fun m ρ _ => Cert.Proof.XClaim.ref_frame m ρ trivial,
  fun m ρ _ => Cert.Proof.QuantDy.frame m ρ, fun m ρ _ => Cert.Proof.QuantDyIdeal.frame m ρ,
  fun m ρ _ => Cert.Proof.QuantDyIdeal.frame m ρ,
  Cert.Proof.DClaim.ref_frame, fun m ρ _ => Cert.Proof.DClaim.ref_frame m ρ trivial,
  trivial, Cert.Proof.WgradClaim.algebraic, trivial, Cert.Proof.CodesClaim.algebraic, trivial, Cert.Proof.XClaim.algebraic,
  trivial, Cert.Proof.DClaim.algebraic⟩

end Cert.Proof

end
